-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormBwdX (m : (ℓ : Loc Cert.NormBwdX.nD Cert.NormBwdX.τ Cert.NormBwdX.sig) → Buf (Elt Bits) ℓ) : Prop :=
  True

def Pre_NormBwdXIdeal (m : (ℓ : Loc Cert.NormBwdXIdeal.nD Cert.NormBwdXIdeal.τ Cert.NormBwdXIdeal.sig) → Buf (Elt Ideal) ℓ) : Prop :=
  True

def Pre_NormBwdXRefIdeal (m : (ℓ : Loc Cert.NormBwdXRefIdeal.nD Cert.NormBwdXRefIdeal.τ Cert.NormBwdXRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdIdeal_values_finite [hPre_values_finite : Cert.Pre_values_finite.Facts] (m : (ℓ : Loc Cert.MixerFwdIdeal.nD Cert.MixerFwdIdeal.τ Cert.MixerFwdIdeal.sig) → Buf (Elt Ideal) ℓ) : Prop :=
  ∀ c : Dev Cert.MixerFwdIdeal.nD,
    (Cert.Pre_values_finite.fn (F := Ideal) (m ((c.tc : Thread Cert.MixerFwdIdeal.nD Cert.MixerFwdIdeal.τ).loc Cert.MixerFwdIdeal.main_arg0)) (m ((c.tc : Thread Cert.MixerFwdIdeal.nD Cert.MixerFwdIdeal.τ).loc Cert.MixerFwdIdeal.main_arg1)) (m ((c.tc : Thread Cert.MixerFwdIdeal.nD Cert.MixerFwdIdeal.τ).loc Cert.MixerFwdIdeal.main_arg2)) (m ((c.tc : Thread Cert.MixerFwdIdeal.nD Cert.MixerFwdIdeal.τ).loc Cert.MixerFwdIdeal.main_arg3))) = (fun _ => 1#1)

def Pre_MixerFwdRefIdeal (m : (ℓ : Loc Cert.MixerFwdRefIdeal.nD Cert.MixerFwdRefIdeal.τ Cert.MixerFwdRefIdeal.sig) → Buf (Elt Ideal) ℓ) : Prop :=
  True

def Pre_MixerFwdRefIdeal_values_finite [hPre_values_finite : Cert.Pre_values_finite.Facts] (m : (ℓ : Loc Cert.MixerFwdRefIdeal.nD Cert.MixerFwdRefIdeal.τ Cert.MixerFwdRefIdeal.sig) → Buf (Elt Ideal) ℓ) : Prop :=
  ∀ c : Dev Cert.MixerFwdRefIdeal.nD,
    (Cert.Pre_values_finite.fn (F := Ideal) (m ((c.tc : Thread Cert.MixerFwdRefIdeal.nD Cert.MixerFwdRefIdeal.τ).loc Cert.MixerFwdRefIdeal.main_arg0)) (m ((c.tc : Thread Cert.MixerFwdRefIdeal.nD Cert.MixerFwdRefIdeal.τ).loc Cert.MixerFwdRefIdeal.main_arg1)) (m ((c.tc : Thread Cert.MixerFwdRefIdeal.nD Cert.MixerFwdRefIdeal.τ).loc Cert.MixerFwdRefIdeal.main_arg2)) (m ((c.tc : Thread Cert.MixerFwdRefIdeal.nD Cert.MixerFwdRefIdeal.τ).loc Cert.MixerFwdRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdX [hNormBwdX : Cert.NormBwdX.Facts] : Prop :=
  ∀ (m : (ℓ : Loc Cert.NormBwdX.nD Cert.NormBwdX.τ Cert.NormBwdX.sig) → Buf (Elt Bits) ℓ) (g : Dev Cert.NormBwdX.nD → PrngReg), Pre_NormBwdX m →
    θ_run (Cert.NormBwdX.defs (F := Bits)) (onTc (τ := Cert.NormBwdX.τ) (Cert.NormBwdX.main (F := Bits))) ⟨m, fun _ => 0, g⟩ (fun r => (∀ c : Dev Cert.NormBwdX.nD,
      r.2.mem ((c.tc : Thread Cert.NormBwdX.nD Cert.NormBwdX.τ).loc Cert.NormBwdX.main_arg0) = m ((c.tc : Thread Cert.NormBwdX.nD Cert.NormBwdX.τ).loc Cert.NormBwdX.main_arg0)
      ∧ r.2.mem ((c.tc : Thread Cert.NormBwdX.nD Cert.NormBwdX.τ).loc Cert.NormBwdX.main_arg1) = m ((c.tc : Thread Cert.NormBwdX.nD Cert.NormBwdX.τ).loc Cert.NormBwdX.main_arg1)
      ∧ r.2.mem ((c.tc : Thread Cert.NormBwdX.nD Cert.NormBwdX.τ).loc Cert.NormBwdX.main_arg2) = m ((c.tc : Thread Cert.NormBwdX.nD Cert.NormBwdX.τ).loc Cert.NormBwdX.main_arg2)
      ∧ r.2.mem ((c.tc : Thread Cert.NormBwdX.nD Cert.NormBwdX.τ).loc Cert.NormBwdX.main_arg3) = m ((c.tc : Thread Cert.NormBwdX.nD Cert.NormBwdX.τ).loc Cert.NormBwdX.main_arg3))
      ∧ r.2.sem = fun _ => 0)

def quiescent_NormBwdXIdeal [hNormBwdXIdeal : Cert.NormBwdXIdeal.Facts] : Prop :=
  ∀ (m : (ℓ : Loc Cert.NormBwdXIdeal.nD Cert.NormBwdXIdeal.τ Cert.NormBwdXIdeal.sig) → Buf (Elt Ideal) ℓ) (g : Dev Cert.NormBwdXIdeal.nD → PrngReg), Pre_NormBwdXIdeal m →
    θ_run (Cert.NormBwdXIdeal.defs (F := Ideal)) (onTc (τ := Cert.NormBwdXIdeal.τ) (Cert.NormBwdXIdeal.main (F := Ideal))) ⟨m, fun _ => 0, g⟩ (fun r => (∀ c : Dev Cert.NormBwdXIdeal.nD,
      r.2.mem ((c.tc : Thread Cert.NormBwdXIdeal.nD Cert.NormBwdXIdeal.τ).loc Cert.NormBwdXIdeal.main_arg0) = m ((c.tc : Thread Cert.NormBwdXIdeal.nD Cert.NormBwdXIdeal.τ).loc Cert.NormBwdXIdeal.main_arg0)
      ∧ r.2.mem ((c.tc : Thread Cert.NormBwdXIdeal.nD Cert.NormBwdXIdeal.τ).loc Cert.NormBwdXIdeal.main_arg1) = m ((c.tc : Thread Cert.NormBwdXIdeal.nD Cert.NormBwdXIdeal.τ).loc Cert.NormBwdXIdeal.main_arg1)
      ∧ r.2.mem ((c.tc : Thread Cert.NormBwdXIdeal.nD Cert.NormBwdXIdeal.τ).loc Cert.NormBwdXIdeal.main_arg2) = m ((c.tc : Thread Cert.NormBwdXIdeal.nD Cert.NormBwdXIdeal.τ).loc Cert.NormBwdXIdeal.main_arg2)
      ∧ r.2.mem ((c.tc : Thread Cert.NormBwdXIdeal.nD Cert.NormBwdXIdeal.τ).loc Cert.NormBwdXIdeal.main_arg3) = m ((c.tc : Thread Cert.NormBwdXIdeal.nD Cert.NormBwdXIdeal.τ).loc Cert.NormBwdXIdeal.main_arg3))
      ∧ r.2.sem = fun _ => 0)

def quiescent_NormBwdXRefIdeal [hNormBwdXRefIdeal : Cert.NormBwdXRefIdeal.Facts] : Prop :=
  ∀ (m : (ℓ : Loc Cert.NormBwdXRefIdeal.nD Cert.NormBwdXRefIdeal.τ Cert.NormBwdXRefIdeal.sig) → Buf (Elt Ideal) ℓ) (g : Dev Cert.NormBwdXRefIdeal.nD → PrngReg), Pre_NormBwdXRefIdeal m →
    θ_run (Cert.NormBwdXRefIdeal.defs (F := Ideal)) (onTc (τ := Cert.NormBwdXRefIdeal.τ) (Cert.NormBwdXRefIdeal.main (F := Ideal))) ⟨m, fun _ => 0, g⟩ (fun r => (∀ c : Dev Cert.NormBwdXRefIdeal.nD,
      r.2.mem ((c.tc : Thread Cert.NormBwdXRefIdeal.nD Cert.NormBwdXRefIdeal.τ).loc Cert.NormBwdXRefIdeal.main_arg0) = m ((c.tc : Thread Cert.NormBwdXRefIdeal.nD Cert.NormBwdXRefIdeal.τ).loc Cert.NormBwdXRefIdeal.main_arg0)
      ∧ r.2.mem ((c.tc : Thread Cert.NormBwdXRefIdeal.nD Cert.NormBwdXRefIdeal.τ).loc Cert.NormBwdXRefIdeal.main_arg1) = m ((c.tc : Thread Cert.NormBwdXRefIdeal.nD Cert.NormBwdXRefIdeal.τ).loc Cert.NormBwdXRefIdeal.main_arg1)
      ∧ r.2.mem ((c.tc : Thread Cert.NormBwdXRefIdeal.nD Cert.NormBwdXRefIdeal.τ).loc Cert.NormBwdXRefIdeal.main_arg2) = m ((c.tc : Thread Cert.NormBwdXRefIdeal.nD Cert.NormBwdXRefIdeal.τ).loc Cert.NormBwdXRefIdeal.main_arg2)
      ∧ r.2.mem ((c.tc : Thread Cert.NormBwdXRefIdeal.nD Cert.NormBwdXRefIdeal.τ).loc Cert.NormBwdXRefIdeal.main_arg3) = m ((c.tc : Thread Cert.NormBwdXRefIdeal.nD Cert.NormBwdXRefIdeal.τ).loc Cert.NormBwdXRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3))
      ∧ r.2.sem = fun _ => 0)

def quiescent_MixerFwdIdeal_pre_values_finite [hMixerFwdIdeal : Cert.MixerFwdIdeal.Facts] [hPre_values_finite : Cert.Pre_values_finite.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal_values_finite m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3))
      ∧ r.2.sem = fun _ => 0)

def quiescent_MixerFwdRefIdeal_pre_values_finite [hMixerFwdRefIdeal : Cert.MixerFwdRefIdeal.Facts] [hPre_values_finite : Cert.Pre_values_finite.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal_values_finite m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_v227) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v241) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v18) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v8) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v7) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v9) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v5) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v4) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v6) = v0 c
          ∧ r.2.mem ((c.tc : Thread Cert.UpFwdRefIdeal.nD Cert.UpFwdRefIdeal.τ).loc Cert.UpFwdRefIdeal.main_v8) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v1) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v4) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v40) = v0 c
          ∧ r.2.mem ((c.tc : Thread Cert.NormBwdRefIdeal.nD Cert.NormBwdRefIdeal.τ).loc Cert.NormBwdRefIdeal.main_v41) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormBwdX_NormBwdXIdeal : Prop :=
  True

def algebraic_NormBwdXIdeal_NormBwdXRefIdeal [hNormBwdXIdeal : Cert.NormBwdXIdeal.Facts] [hNormBwdXRefIdeal : Cert.NormBwdXRefIdeal.Facts] : Prop :=
  ∀ (m : (ℓ : Loc Cert.NormBwdXIdeal.nD Cert.NormBwdXIdeal.τ Cert.NormBwdXIdeal.sig) → Buf (Elt Ideal) ℓ) (g : Dev Cert.NormBwdXIdeal.nD → PrngReg)
    (m' : (ℓ : Loc Cert.NormBwdXRefIdeal.nD Cert.NormBwdXRefIdeal.τ Cert.NormBwdXRefIdeal.sig) → Buf (Elt Ideal) ℓ) (g' : Dev Cert.NormBwdXRefIdeal.nD → PrngReg), Pre_NormBwdXIdeal m →
    (∀ c : Dev Cert.NormBwdXIdeal.nD,
      m' ((c.tc : Thread Cert.NormBwdXRefIdeal.nD Cert.NormBwdXRefIdeal.τ).loc Cert.NormBwdXRefIdeal.main_arg0) = m ((c.tc : Thread Cert.NormBwdXIdeal.nD Cert.NormBwdXIdeal.τ).loc Cert.NormBwdXIdeal.main_arg0)
      ∧ m' ((c.tc : Thread Cert.NormBwdXRefIdeal.nD Cert.NormBwdXRefIdeal.τ).loc Cert.NormBwdXRefIdeal.main_arg1) = m ((c.tc : Thread Cert.NormBwdXIdeal.nD Cert.NormBwdXIdeal.τ).loc Cert.NormBwdXIdeal.main_arg1)
      ∧ m' ((c.tc : Thread Cert.NormBwdXRefIdeal.nD Cert.NormBwdXRefIdeal.τ).loc Cert.NormBwdXRefIdeal.main_arg2) = m ((c.tc : Thread Cert.NormBwdXIdeal.nD Cert.NormBwdXIdeal.τ).loc Cert.NormBwdXIdeal.main_arg2)
      ∧ m' ((c.tc : Thread Cert.NormBwdXRefIdeal.nD Cert.NormBwdXRefIdeal.τ).loc Cert.NormBwdXRefIdeal.main_arg3) = m ((c.tc : Thread Cert.NormBwdXIdeal.nD Cert.NormBwdXIdeal.τ).loc Cert.NormBwdXIdeal.main_arg3)) →
    ∃ (v0 : (c : Dev Cert.NormBwdXIdeal.nD) → Buf (Elt Ideal) ((c.tc : Thread Cert.NormBwdXIdeal.nD Cert.NormBwdXIdeal.τ).loc Cert.NormBwdXIdeal.main_v1_0)) (v1 : (c : Dev Cert.NormBwdXIdeal.nD) → Buf (Elt Ideal) ((c.tc : Thread Cert.NormBwdXIdeal.nD Cert.NormBwdXIdeal.τ).loc Cert.NormBwdXIdeal.main_v1_1)),
      θ_run (Cert.NormBwdXIdeal.defs (F := Ideal)) (onTc (τ := Cert.NormBwdXIdeal.τ) (Cert.NormBwdXIdeal.main (F := Ideal))) ⟨m, fun _ => 0, g⟩ (fun r => ∀ c : Dev Cert.NormBwdXIdeal.nD,
          r.2.mem ((c.tc : Thread Cert.NormBwdXIdeal.nD Cert.NormBwdXIdeal.τ).loc Cert.NormBwdXIdeal.main_v1_0) = v0 c
          ∧ r.2.mem ((c.tc : Thread Cert.NormBwdXIdeal.nD Cert.NormBwdXIdeal.τ).loc Cert.NormBwdXIdeal.main_v1_1) = v1 c
          ∧ r.2.mem ((c.tc : Thread Cert.NormBwdXIdeal.nD Cert.NormBwdXIdeal.τ).loc Cert.NormBwdXIdeal.main_arg0) = m ((c.tc : Thread Cert.NormBwdXIdeal.nD Cert.NormBwdXIdeal.τ).loc Cert.NormBwdXIdeal.main_arg0)
          ∧ r.2.mem ((c.tc : Thread Cert.NormBwdXIdeal.nD Cert.NormBwdXIdeal.τ).loc Cert.NormBwdXIdeal.main_arg1) = m ((c.tc : Thread Cert.NormBwdXIdeal.nD Cert.NormBwdXIdeal.τ).loc Cert.NormBwdXIdeal.main_arg1)
          ∧ r.2.mem ((c.tc : Thread Cert.NormBwdXIdeal.nD Cert.NormBwdXIdeal.τ).loc Cert.NormBwdXIdeal.main_arg2) = m ((c.tc : Thread Cert.NormBwdXIdeal.nD Cert.NormBwdXIdeal.τ).loc Cert.NormBwdXIdeal.main_arg2)
          ∧ r.2.mem ((c.tc : Thread Cert.NormBwdXIdeal.nD Cert.NormBwdXIdeal.τ).loc Cert.NormBwdXIdeal.main_arg3) = m ((c.tc : Thread Cert.NormBwdXIdeal.nD Cert.NormBwdXIdeal.τ).loc Cert.NormBwdXIdeal.main_arg3))
      ∧ θ_run (Cert.NormBwdXRefIdeal.defs (F := Ideal)) (onTc (τ := Cert.NormBwdXRefIdeal.τ) (Cert.NormBwdXRefIdeal.main (F := Ideal))) ⟨m', fun _ => 0, g'⟩ (fun r => ∀ c : Dev Cert.NormBwdXRefIdeal.nD,
          r.2.mem ((c.tc : Thread Cert.NormBwdXRefIdeal.nD Cert.NormBwdXRefIdeal.τ).loc Cert.NormBwdXRefIdeal.main_v39) = v0 c
          ∧ r.2.mem ((c.tc : Thread Cert.NormBwdXRefIdeal.nD Cert.NormBwdXRefIdeal.τ).loc Cert.NormBwdXRefIdeal.main_v40) = v1 c
          ∧ r.2.mem ((c.tc : Thread Cert.NormBwdXRefIdeal.nD Cert.NormBwdXRefIdeal.τ).loc Cert.NormBwdXRefIdeal.main_arg0) = m' ((c.tc : Thread Cert.NormBwdXRefIdeal.nD Cert.NormBwdXRefIdeal.τ).loc Cert.NormBwdXRefIdeal.main_arg0)
          ∧ r.2.mem ((c.tc : Thread Cert.NormBwdXRefIdeal.nD Cert.NormBwdXRefIdeal.τ).loc Cert.NormBwdXRefIdeal.main_arg1) = m' ((c.tc : Thread Cert.NormBwdXRefIdeal.nD Cert.NormBwdXRefIdeal.τ).loc Cert.NormBwdXRefIdeal.main_arg1)
          ∧ r.2.mem ((c.tc : Thread Cert.NormBwdXRefIdeal.nD Cert.NormBwdXRefIdeal.τ).loc Cert.NormBwdXRefIdeal.main_arg2) = m' ((c.tc : Thread Cert.NormBwdXRefIdeal.nD Cert.NormBwdXRefIdeal.τ).loc Cert.NormBwdXRefIdeal.main_arg2)
          ∧ r.2.mem ((c.tc : Thread Cert.NormBwdXRefIdeal.nD Cert.NormBwdXRefIdeal.τ).loc Cert.NormBwdXRefIdeal.main_arg3) = m' ((c.tc : Thread Cert.NormBwdXRefIdeal.nD Cert.NormBwdXRefIdeal.τ).loc Cert.NormBwdXRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_v14) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MixerFwd_MixerFwdIdeal : Prop :=
  True

def algebraic_MixerFwdIdeal_MixerFwdRefIdeal_pre_values_finite [hMixerFwdIdeal : Cert.MixerFwdIdeal.Facts] [hMixerFwdRefIdeal : Cert.MixerFwdRefIdeal.Facts] [hPre_values_finite : Cert.Pre_values_finite.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal_values_finite m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)) →
    ∃ (v0 : (c : Dev Cert.MixerFwdIdeal.nD) → Buf (Elt Ideal) ((c.tc : Thread Cert.MixerFwdIdeal.nD Cert.MixerFwdIdeal.τ).loc Cert.MixerFwdIdeal.main_v2)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v2) = v0 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v110) = v0 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hOutDx : Cert.OutDx.Facts) (hOutDxIdeal : Cert.OutDxIdeal.Facts) (hOutDxRefIdeal : Cert.OutDxRefIdeal.Facts) (hInDx : Cert.InDx.Facts) (hInDxIdeal : Cert.InDxIdeal.Facts) (hInDxRefIdeal : Cert.InDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hNormBwd : Cert.NormBwd.Facts) (hNormBwdIdeal : Cert.NormBwdIdeal.Facts) (hNormBwdRefIdeal : Cert.NormBwdRefIdeal.Facts) (hNormBwdX : Cert.NormBwdX.Facts) (hNormBwdXIdeal : Cert.NormBwdXIdeal.Facts) (hNormBwdXRefIdeal : Cert.NormBwdXRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hMixerFwd : Cert.MixerFwd.Facts) (hMixerFwdIdeal : Cert.MixerFwdIdeal.Facts) (hMixerFwdRefIdeal : Cert.MixerFwdRefIdeal.Facts) (hPre_pool_finite : Cert.Pre_pool_finite.Facts) (hPre_values_finite : Cert.Pre_values_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormBwdX (hNormBwdX := hNormBwdX)
    ∧ quiescent_NormBwdXIdeal (hNormBwdXIdeal := hNormBwdXIdeal)
    ∧ quiescent_NormBwdXRefIdeal (hNormBwdXRefIdeal := hNormBwdXRefIdeal)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_MixerFwd (hMixerFwd := hMixerFwd)
    ∧ quiescent_MixerFwdIdeal (hMixerFwdIdeal := hMixerFwdIdeal)
    ∧ quiescent_MixerFwdIdeal_pre_values_finite (hMixerFwdIdeal := hMixerFwdIdeal) (hPre_values_finite := hPre_values_finite)
    ∧ quiescent_MixerFwdRefIdeal (hMixerFwdRefIdeal := hMixerFwdRefIdeal)
    ∧ quiescent_MixerFwdRefIdeal_pre_values_finite (hMixerFwdRefIdeal := hMixerFwdRefIdeal) (hPre_values_finite := hPre_values_finite)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_DownDx_DownDxIdeal
    ∧ algebraic_DownDxIdeal_DownDxRefIdeal (hDownDxIdeal := hDownDxIdeal) (hDownDxRefIdeal := hDownDxRefIdeal)
    ∧ preserves_UpDx_UpDxIdeal
    ∧ algebraic_UpDxIdeal_UpDxRefIdeal (hUpDxIdeal := hUpDxIdeal) (hUpDxRefIdeal := hUpDxRefIdeal)
    ∧ preserves_OutDx_OutDxIdeal
    ∧ algebraic_OutDxIdeal_OutDxRefIdeal (hOutDxIdeal := hOutDxIdeal) (hOutDxRefIdeal := hOutDxRefIdeal)
    ∧ preserves_InDx_InDxIdeal
    ∧ algebraic_InDxIdeal_InDxRefIdeal (hInDxIdeal := hInDxIdeal) (hInDxRefIdeal := hInDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormBwdX_NormBwdXIdeal
    ∧ algebraic_NormBwdXIdeal_NormBwdXRefIdeal (hNormBwdXIdeal := hNormBwdXIdeal) (hNormBwdXRefIdeal := hNormBwdXRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_MixerFwd_MixerFwdIdeal
    ∧ algebraic_MixerFwdIdeal_MixerFwdRefIdeal_pre_values_finite (hMixerFwdIdeal := hMixerFwdIdeal) (hMixerFwdRefIdeal := hMixerFwdRefIdeal) (hPre_values_finite := hPre_values_finite)
-- ==== Pre_pool_finite.lean ====
abbrev S4096x4096 : Shape := ⟨2, ![4096, 4096]⟩
abbrev S4096x2048 : Shape := ⟨2, ![4096, 2048]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩

class Facts : Prop where
  slices_S4096x4096_S4096x1024_0_3072 : S4096x4096.Slices ![0, 3072] S4096x1024
  bitsLt_bf16_f32 : FTy.bits .bf16 < FTy.bits .f32
  bcast_S_S4096x1024 : S_.BroadcastsInDim S4096x1024 (![] : Fin 0 → Fin S4096x1024.rank)
  slices_S4096x2048_S4096x1024_0_1024 : S4096x2048.Slices ![0, 1024] S4096x1024
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S4096x4096 .bf16) (main_arg1 : FVec F S4096x2048 .bf16) (main_arg2 : FVec F S3x1024 .f32) (main_arg3 : FVec F S4x256x256 .f32) (main_arg4 : FVec F S1024 .f32) : IVec S4096x1024 1 × IVec S4096x1024 1 × IVec S4x256x256 1 × IVec S1024 1 :=
  let main_v0 : FVec F S4096x1024 .bf16 := (extractStridedSlice S4096x1024 ![0, 3072] · slices_S4096x4096_S4096x1024_0_3072) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .bf16 := (extractStridedSlice S4096x1024 ![0, 1024] · slices_S4096x2048_S4096x1024_0_1024) main_arg1
  let main_v6 : FVec F S4096x1024 .f32 := (extf .f32 · bitsLt_bf16_f32) main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_v10 : FVec F S4x256x256 .f32 := Host.absf main_arg3
  let main_cst_1 : FVec F S_ .f32 := constant S_ .f32 0x7F800000#32
  let main_v11 : FVec F S4x256x256 .f32 := broadcastInDim S4x256x256 ![] bcast_S_S4x256x256 main_cst_1
  let main_v12 : IVec S4x256x256 1 := cmpf .olt main_v10 main_v11
  let main_v13 : FVec F S1024 .f32 := Host.absf main_arg4
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  (main_v4, main_v9, main_v12, main_v15)
-- ==== Pre_values_finite.lean ====
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩

class Facts : Prop where
  slices_S4096x4096_S4096x1024_0_3072 : S4096x4096.Slices ![0, 3072] S4096x1024
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x4096 .bf16) (main_arg1 : FVec F S3x1024 .f32) (main_arg2 : FVec F S4x256x256 .f32) (main_arg3 : FVec F S1024 .f32) : IVec S4096x1024 1 :=
  let main_v0 : FVec F S4096x1024 .bf16 := (extractStridedSlice S4096x1024 ![0, 3072] · slices_S4096x4096_S4096x1024_0_3072) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  main_v4
-- ==== Kernel.lean ====
abbrev S4096x4096 : Shape := ⟨2, ![4096, 4096]⟩
abbrev S4096x2048 : Shape := ⟨2, ![4096, 2048]⟩
abbrev S3x1024 : Shape := ⟨2, ![3, 1024]⟩
abbrev S4x256x256 : Shape := ⟨3, ![4, 256, 256]⟩
abbrev S1024 : Shape := ⟨1, ![1024]⟩
abbrev S1x1024 : Shape := ⟨2, ![1, 1024]⟩
abbrev S512x4096 : Shape := ⟨2, ![512, 4096]⟩
abbrev S16x4096 : Shape := ⟨2, ![16, 4096]⟩
abbrev S512x2048 : Shape := ⟨2, ![512, 2048]⟩
abbrev S16x2048 : Shape := ⟨2, ![16, 2048]⟩
abbrev S512x256 : Shape := ⟨2, ![512, 256]⟩
abbrev S16x256 : Shape := ⟨2, ![16, 256]⟩
abbrev S528x256 : Shape := ⟨2, ![528, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S3x1024, .f32⟩
  | .hbm, ⟨3, _⟩ => ⟨S4x256x256, .f32⟩
  | .hbm, ⟨4, _⟩ => ⟨S1024, .f32⟩
  | .hbm, ⟨5, _⟩ => ⟨S4x256x256, .bf16⟩
  | .hbm, ⟨6, _⟩ => ⟨S1x1024, .f32⟩
  | .hbm, ⟨7, _⟩ => ⟨S4096x4096, .bf16⟩
  | .hbm, ⟨8, _⟩ => ⟨S3x1024, .f32⟩
  | .hbm, ⟨9, _⟩ => ⟨S4x256x256, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S16x4096, .bf16⟩
  | .local _ .vmem, ⟨3, _⟩ => ⟨S16x4096, .bf16⟩
  | .local _ .vmem, ⟨4, _⟩ => ⟨S16x4096, .bf16⟩
  | .local _ .vmem, ⟨5, _⟩ => ⟨S16x4096, .bf16⟩
  | .local _ .vmem, ⟨6, _⟩ => ⟨S512x2048, .bf16⟩
  | .local _ .vmem, ⟨7, _⟩ => ⟨S512x2048, .bf16⟩
  | .local _ .vmem, ⟨8, _⟩ => ⟨S16x2048, .bf16⟩
  | .local _ .vmem, ⟨9, _⟩ => ⟨S16x2048, .bf16⟩
  | .local _ .vmem, ⟨10, _⟩ => ⟨S3x1024, .f32⟩
  | .local _ .vmem, ⟨11, _⟩ => ⟨S4x256x256, .bf16⟩
  | .local _ .vmem, ⟨12, _⟩ => ⟨S1x1024, .f32⟩
  | .local _ .vmem, ⟨13, _⟩ => ⟨S512x4096, .bf16⟩
  | .local _ .vmem, ⟨14, _⟩ => ⟨S512x4096, .bf16⟩
  | .local _ .vmem, ⟨15, _⟩ => ⟨S3x1024, .f32⟩
  | .local _ .vmem, ⟨16, _⟩ => ⟨S4x256x256, .f32⟩
  | .local _ .vmem, ⟨17, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x4096 : Shape := ⟨2, ![4096, 4096]⟩
abbrev S4096x2048 : Shape := ⟨2, ![4096, 2048]⟩
abbrev S3x1024 : Shape := ⟨2, ![3, 1024]⟩
abbrev S4x256x256 : Shape := ⟨3, ![4, 256, 256]⟩
abbrev S1024 : Shape := ⟨1, ![1024]⟩
abbrev S1x4096x2048 : Shape := ⟨3, ![1, 4096, 2048]⟩
abbrev S1x4096x4096 : Shape := ⟨3, ![1, 4096, 4096]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1x1x1024 : Shape := ⟨3, ![1, 1, 1024]⟩
abbrev S1x4096x4x256 : Shape := ⟨4, ![1, 4096, 4, 256]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S4x1x4096x256 : Shape := ⟨4, ![4, 1, 4096, 256]⟩

abbrev nBuf : Space → Nat
  | .hbm => 299
  | .vmem => 0
  | .smem => 0
  | _ => 0

abbrev hbmTy0_0 (i : Nat) : BufTy := match i % 128 with
  | 0 => ⟨S4096x4096, .bf16⟩
  | 1 => ⟨S4096x2048, .bf16⟩
  | 2 => ⟨S3x1024, .f32⟩
  | 3 => ⟨S4x256x256, .f32⟩
  | 4 => ⟨S1024, .f32⟩
  | 5 => ⟨S4096x2048, .f32⟩
  | 6 => ⟨S1x4096x2048, .f32⟩
  | 7 => ⟨S4096x4096, .f32⟩
  | 8 => ⟨S1x4096x4096, .f32⟩
  | 9 => ⟨S1x4096x1024, .f32⟩
  | 10 => ⟨S1x4096x1024, .f32⟩
  | 11 => ⟨S1x4096x1024, .f32⟩
  | 12 => ⟨S1x4096x1024, .f32⟩
  | 13 => ⟨S1x4096x1024, .f32⟩
  | 14 => ⟨S_, .f32⟩
  | 15 => ⟨S1x2x1024, .f32⟩
  | 16 => ⟨S1x4098x1024, .f32⟩
  | 17 => ⟨S_, .f32⟩
  | 18 => ⟨S1x2x1024, .f32⟩
  | 19 => ⟨S1x1024, .f32⟩
  | 20 => ⟨S1024, .f32⟩
  | 21 => ⟨S1x4096x1024, .f32⟩
  | 22 => ⟨S1x1x1024, .f32⟩
  | 23 => ⟨S1x4096x1024, .f32⟩
  | 24 => ⟨S1x4096x1024, .f32⟩
  | 25 => ⟨S1x1024, .f32⟩
  | 26 => ⟨S1024, .f32⟩
  | 27 => ⟨S1x4096x1024, .f32⟩
  | 28 => ⟨S1x1x1024, .f32⟩
  | 29 => ⟨S1x4096x1024, .f32⟩
  | 30 => ⟨S1x4096x1024, .f32⟩
  | 31 => ⟨S1x4096x1024, .f32⟩
  | 32 => ⟨S1x1024, .f32⟩
  | 33 => ⟨S1024, .f32⟩
  | 34 => ⟨S1x4096x1024, .f32⟩
  | 35 => ⟨S1x1x1024, .f32⟩
  | 36 => ⟨S1x4096x1024, .f32⟩
  | 37 => ⟨S1x4096x1024, .f32⟩
  | 38 => ⟨S1x4096x1024, .f32⟩
  | 39 => ⟨S1x4096x1024, .f32⟩
  | 40 => ⟨S1x4096x4x256, .f32⟩
  | 41 => ⟨S_, .f32⟩
  | 42 => ⟨S_, .f32⟩
  | 43 => ⟨S1x4096x4x256, .f32⟩
  | 44 => ⟨S4096, .f32⟩
  | 45 => ⟨S1x4096x1x256, .f32⟩
  | 46 => ⟨S1x4096x256, .f32⟩
  | 47 => ⟨S_, .f32⟩
  | 48 => ⟨S1x2x256, .f32⟩
  | 49 => ⟨S1x4094x256, .f32⟩
  | 50 => ⟨S1x4096x256, .f32⟩
  | 51 => ⟨S_, .f32⟩
  | 52 => ⟨S1x2x256, .f32⟩
  | 53 => ⟨S_, .f32⟩
  | 54 => ⟨S4096, .f32⟩
  | 55 => ⟨S4096, .f32⟩
  | 56 => ⟨S_, .f32⟩
  | 57 => ⟨S4096, .f32⟩
  | 58 => ⟨S4096, .f32⟩
  | 59 => ⟨S1x4096x1, .f32⟩
  | 60 => ⟨S1x4096x256, .f32⟩
  | 61 => ⟨S1x4096x256, .f32⟩
  | 62 => ⟨S1x4096x256, .f32⟩
  | 63 => ⟨S1x4096x1x256, .f32⟩
  | 64 => ⟨S1x4096x256, .f32⟩
  | 65 => ⟨S1x4096x256, .f32⟩
  | 66 => ⟨S1x4096x1x256, .f32⟩
  | 67 => ⟨S1x4096x256, .f32⟩
  | 68 => ⟨S_, .f32⟩
  | 69 => ⟨S1x4x256, .f32⟩
  | 70 => ⟨S1x4092x256, .f32⟩
  | 71 => ⟨S1x4096x256, .f32⟩
  | 72 => ⟨S_, .f32⟩
  | 73 => ⟨S1x4x256, .f32⟩
  | 74 => ⟨S_, .f32⟩
  | 75 => ⟨S4096, .f32⟩
  | 76 => ⟨S4096, .f32⟩
  | 77 => ⟨S_, .f32⟩
  | 78 => ⟨S4096, .f32⟩
  | 79 => ⟨S4096, .f32⟩
  | 80 => ⟨S1x4096x1, .f32⟩
  | 81 => ⟨S1x4096x256, .f32⟩
  | 82 => ⟨S1x4096x256, .f32⟩
  | 83 => ⟨S1x4096x256, .f32⟩
  | 84 => ⟨S1x4096x1x256, .f32⟩
  | 85 => ⟨S1x4096x256, .f32⟩
  | 86 => ⟨S1x4096x256, .f32⟩
  | 87 => ⟨S1x4096x1x256, .f32⟩
  | 88 => ⟨S1x4096x256, .f32⟩
  | 89 => ⟨S_, .f32⟩
  | 90 => ⟨S1x8x256, .f32⟩
  | 91 => ⟨S1x4088x256, .f32⟩
  | 92 => ⟨S1x4096x256, .f32⟩
  | 93 => ⟨S_, .f32⟩
  | 94 => ⟨S1x8x256, .f32⟩
  | 95 => ⟨S_, .f32⟩
  | 96 => ⟨S4096, .f32⟩
  | 97 => ⟨S4096, .f32⟩
  | 98 => ⟨S_, .f32⟩
  | 99 => ⟨S4096, .f32⟩
  | 100 => ⟨S4096, .f32⟩
  | 101 => ⟨S1x4096x1, .f32⟩
  | 102 => ⟨S1x4096x256, .f32⟩
  | 103 => ⟨S1x4096x256, .f32⟩
  | 104 => ⟨S1x4096x256, .f32⟩
  | 105 => ⟨S1x4096x1x256, .f32⟩
  | 106 => ⟨S1x4096x256, .f32⟩
  | 107 => ⟨S1x4096x256, .f32⟩
  | 108 => ⟨S1x4096x1x256, .f32⟩
  | 109 => ⟨S1x4096x256, .f32⟩
  | 110 => ⟨S_, .f32⟩
  | 111 => ⟨S1x16x256, .f32⟩
  | 112 => ⟨S1x4080x256, .f32⟩
  | 113 => ⟨S1x4096x256, .f32⟩
  | 114 => ⟨S_, .f32⟩
  | 115 => ⟨S1x16x256, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S1x4096x1, .f32⟩
  | 123 => ⟨S1x4096x256, .f32⟩
  | 124 => ⟨S1x4096x256, .f32⟩
  | 125 => ⟨S1x4096x256, .f32⟩
  | 126 => ⟨S1x4096x1x256, .f32⟩
  | 127 => ⟨S1x4096x256, .f32⟩
  | _ => ⟨S4096x4096, .bf16⟩

abbrev hbmTy0_1 (i : Nat) : BufTy := match i % 128 with
  | 0 => ⟨S1x4096x256, .f32⟩
  | 1 => ⟨S1x4096x1x256, .f32⟩
  | 2 => ⟨S1x4096x1x256, .f32⟩
  | 3 => ⟨S1x4096x1x256, .f32⟩
  | 4 => ⟨S1x4096x1x256, .f32⟩
  | 5 => ⟨S1x4096x4x256, .f32⟩
  | 6 => ⟨S4x256x1x4096, .f32⟩
  | 7 => ⟨S1x4096x4x256, .f32⟩
  | 8 => ⟨S1x4096x1024, .f32⟩
  | 9 => ⟨S1x1x1024, .f32⟩
  | 10 => ⟨S1x4096x1024, .f32⟩
  | 11 => ⟨S1x4096x1024, .f32⟩
  | 12 => ⟨S1x4096x2048, .f32⟩
  | 13 => ⟨S1x4096x1024, .f32⟩
  | 14 => ⟨S1x4096x1024, .f32⟩
  | 15 => ⟨S1x4096x1024, .f32⟩
  | 16 => ⟨S_, .f32⟩
  | 17 => ⟨S1x1024, .f32⟩
  | 18 => ⟨S1x1x1024, .f32⟩
  | 19 => ⟨S1x4096x1024, .f32⟩
  | 20 => ⟨S1x4096x1024, .f32⟩
  | 21 => ⟨S_, .f32⟩
  | 22 => ⟨S1024, .f32⟩
  | 23 => ⟨S1x4096x4x256, .f32⟩
  | 24 => ⟨S4x256x1x4096, .f32⟩
  | 25 => ⟨S4x1x4096x256, .f32⟩
  | 26 => ⟨S1x4096x4x256, .f32⟩
  | 27 => ⟨S4x256x256, .f32⟩
  | 28 => ⟨S4x256x256, .f32⟩
  | 29 => ⟨S1x4096x1x256, .f32⟩
  | 30 => ⟨S1x4096x256, .f32⟩
  | 31 => ⟨S1x4096x1x256, .f32⟩
  | 32 => ⟨S1x4096x256, .f32⟩
  | 33 => ⟨S1x4096x1x256, .f32⟩
  | 34 => ⟨S1x4096x256, .f32⟩
  | 35 => ⟨S1x4096x1x256, .f32⟩
  | 36 => ⟨S1x4096x256, .f32⟩
  | 37 => ⟨S1x4096x256, .f32⟩
  | 38 => ⟨S1x4096x1x256, .f32⟩
  | 39 => ⟨S_, .f32⟩
  | 40 => ⟨S1x4096x4x256, .f32⟩
  | 41 => ⟨S1x4096x256, .f32⟩
  | 42 => ⟨S1x4096x256, .f32⟩
  | 43 => ⟨S1x4096x256, .f32⟩
  | 44 => ⟨S1x16x256, .f32⟩
  | 45 => ⟨S1x4080x256, .f32⟩
  | 46 => ⟨S_, .f32⟩
  | 47 => ⟨S1x4096x256, .f32⟩
  | 48 => ⟨S1x4096x256, .f32⟩
  | 49 => ⟨S1x4096x1x256, .f32⟩
  | 50 => ⟨S_, .f32⟩
  | 51 => ⟨S1x4096x4x256, .f32⟩
  | 52 => ⟨S1x4096x256, .f32⟩
  | 53 => ⟨S1x4096x1x256, .f32⟩
  | 54 => ⟨S_, .f32⟩
  | 55 => ⟨S1x4096x4x256, .f32⟩
  | 56 => ⟨S1x4096x4x256, .f32⟩
  | 57 => ⟨S1x4096x256, .f32⟩
  | 58 => ⟨S1x4096x256, .f32⟩
  | 59 => ⟨S1x4096x256, .f32⟩
  | 60 => ⟨S1x8x256, .f32⟩
  | 61 => ⟨S1x4088x256, .f32⟩
  | 62 => ⟨S_, .f32⟩
  | 63 => ⟨S1x4096x256, .f32⟩
  | 64 => ⟨S1x4096x256, .f32⟩
  | 65 => ⟨S1x4096x1x256, .f32⟩
  | 66 => ⟨S_, .f32⟩
  | 67 => ⟨S1x4096x4x256, .f32⟩
  | 68 => ⟨S1x4096x4x256, .f32⟩
  | 69 => ⟨S1x4096x256, .f32⟩
  | 70 => ⟨S1x4096x1x256, .f32⟩
  | 71 => ⟨S_, .f32⟩
  | 72 => ⟨S1x4096x4x256, .f32⟩
  | 73 => ⟨S1x4096x4x256, .f32⟩
  | 74 => ⟨S1x4096x256, .f32⟩
  | 75 => ⟨S1x4096x256, .f32⟩
  | 76 => ⟨S1x4096x256, .f32⟩
  | 77 => ⟨S1x4x256, .f32⟩
  | 78 => ⟨S1x4092x256, .f32⟩
  | 79 => ⟨S_, .f32⟩
  | 80 => ⟨S1x4096x256, .f32⟩
  | 81 => ⟨S1x4096x256, .f32⟩
  | 82 => ⟨S1x4096x1x256, .f32⟩
  | 83 => ⟨S_, .f32⟩
  | 84 => ⟨S1x4096x4x256, .f32⟩
  | 85 => ⟨S1x4096x4x256, .f32⟩
  | 86 => ⟨S1x4096x256, .f32⟩
  | 87 => ⟨S1x4096x1x256, .f32⟩
  | 88 => ⟨S_, .f32⟩
  | 89 => ⟨S1x4096x4x256, .f32⟩
  | 90 => ⟨S1x4096x4x256, .f32⟩
  | 91 => ⟨S1x4096x256, .f32⟩
  | 92 => ⟨S1x4096x256, .f32⟩
  | 93 => ⟨S1x4096x256, .f32⟩
  | 94 => ⟨S1x2x256, .f32⟩
  | 95 => ⟨S1x4094x256, .f32⟩
  | 96 => ⟨S_, .f32⟩
  | 97 => ⟨S1x4096x256, .f32⟩
  | 98 => ⟨S1x4096x256, .f32⟩
  | 99 => ⟨S1x4096x1x256, .f32⟩
  | 100 => ⟨S_, .f32⟩
  | 101 => ⟨S1x4096x4x256, .f32⟩
  | 102 => ⟨S1x4096x4x256, .f32⟩
  | 103 => ⟨S_, .f32⟩
  | 104 => ⟨S_, .f32⟩
  | 105 => ⟨S1x4096x4x256, .f32⟩
  | 106 => ⟨S1x4096x4x256, .f32⟩
  | 107 => ⟨S1x4096x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S_, .f32⟩
  | 114 => ⟨S1x1024, .f32⟩
  | 115 => ⟨S1x1x1024, .f32⟩
  | 116 => ⟨S_, .f32⟩
  | 117 => ⟨S1024, .f32⟩
  | 118 => ⟨S_, .f32⟩
  | 119 => ⟨S1x4098x1024, .f32⟩
  | 120 => ⟨S1x1024, .f32⟩
  | 121 => ⟨S_, .f32⟩
  | 122 => ⟨S3x1024, .f32⟩
  | 123 => ⟨S1x4096x1024, .f32⟩
  | 124 => ⟨S1x4096x1024, .f32⟩
  | 125 => ⟨S1x4096x1024, .f32⟩
  | 126 => ⟨S_, .f32⟩
  | 127 => ⟨S1x1024, .f32⟩
  | _ => ⟨S4096x4096, .bf16⟩

abbrev hbmTy0_2 (i : Nat) : BufTy := match i % 128 with
  | 0 => ⟨S1x1x1024, .f32⟩
  | 1 => ⟨S_, .f32⟩
  | 2 => ⟨S1024, .f32⟩
  | 3 => ⟨S_, .f32⟩
  | 4 => ⟨S1x4098x1024, .f32⟩
  | 5 => ⟨S1x4098x1024, .f32⟩
  | 6 => ⟨S1x1024, .f32⟩
  | 7 => ⟨S_, .f32⟩
  | 8 => ⟨S3x1024, .f32⟩
  | 9 => ⟨S3x1024, .f32⟩
  | 10 => ⟨S1x4096x1024, .f32⟩
  | 11 => ⟨S1x4096x1024, .f32⟩
  | 12 => ⟨S1x4096x1024, .f32⟩
  | 13 => ⟨S_, .f32⟩
  | 14 => ⟨S1x1024, .f32⟩
  | 15 => ⟨S1x1x1024, .f32⟩
  | 16 => ⟨S_, .f32⟩
  | 17 => ⟨S1024, .f32⟩
  | 18 => ⟨S_, .f32⟩
  | 19 => ⟨S1x4098x1024, .f32⟩
  | 20 => ⟨S1x4098x1024, .f32⟩
  | 21 => ⟨S1x1024, .f32⟩
  | 22 => ⟨S_, .f32⟩
  | 23 => ⟨S3x1024, .f32⟩
  | 24 => ⟨S3x1024, .f32⟩
  | 25 => ⟨S1x2x1024, .f32⟩
  | 26 => ⟨S1x4096x1024, .f32⟩
  | 27 => ⟨S1x4096x1024, .f32⟩
  | 28 => ⟨S1x4096x1024, .f32⟩
  | 29 => ⟨S_, .f32⟩
  | 30 => ⟨S1x4096x4096, .f32⟩
  | 31 => ⟨S_, .f32⟩
  | 32 => ⟨S1x4096x4096, .f32⟩
  | 33 => ⟨S1x4096x4096, .f32⟩
  | 34 => ⟨S_, .f32⟩
  | 35 => ⟨S1x4096x4096, .f32⟩
  | 36 => ⟨S1x4096x4096, .f32⟩
  | 37 => ⟨S_, .f32⟩
  | 38 => ⟨S1x4096x4096, .f32⟩
  | 39 => ⟨S1x4096x4096, .f32⟩
  | 40 => ⟨S4096x4096, .f32⟩
  | 41 => ⟨S4096x4096, .bf16⟩
  | 42 => ⟨S1x1024, .f32⟩
  | _ => ⟨S4096x4096, .bf16⟩

abbrev hbmTy (i : Nat) : BufTy := match i / 128 with
  | 0 => hbmTy0_0 i
  | 1 => hbmTy0_1 i
  | 2 => hbmTy0_2 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_call0_cst : Ref sig .tc := ⟨.hbm, 41, rfl⟩
abbrev main_call0_call0_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_cst_15 : Ref sig .tc := ⟨.hbm, 116, rfl⟩
abbrev main_v93 : Ref sig .tc := ⟨.hbm, 117, rfl⟩
abbrev main_v94 : Ref sig .tc := ⟨.hbm, 118, rfl⟩
abbrev main_cst_16 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_17 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_18 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_19 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_20 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_21 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_22 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_cst_23 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_24 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_25 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_cst_26 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_27 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_28 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_29 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_30 : Ref sig .tc := ⟨.hbm, 228, rfl⟩
abbrev main_v190 : Ref sig .tc := ⟨.hbm, 229, rfl⟩
abbrev main_v191 : Ref sig .tc := ⟨.hbm, 230, rfl⟩
abbrev main_call1_call0_cst : Ref sig .tc := ⟨.hbm, 231, rfl⟩
abbrev main_call1_call0_v0 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_31 : Ref sig .tc := ⟨.hbm, 241, rfl⟩
abbrev main_v200 : Ref sig .tc := ⟨.hbm, 242, rfl⟩
abbrev main_v201 : Ref sig .tc := ⟨.hbm, 243, rfl⟩
abbrev main_cst_32 : Ref sig .tc := ⟨.hbm, 244, rfl⟩
abbrev main_v202 : Ref sig .tc := ⟨.hbm, 245, rfl⟩
abbrev main_cst_33 : Ref sig .tc := ⟨.hbm, 246, rfl⟩
abbrev main_v203 : Ref sig .tc := ⟨.hbm, 247, rfl⟩
abbrev main_v204 : Ref sig .tc := ⟨.hbm, 248, rfl⟩
abbrev main_cst_34 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_cst_35 : Ref sig .tc := ⟨.hbm, 254, rfl⟩
abbrev main_v209 : Ref sig .tc := ⟨.hbm, 255, rfl⟩
abbrev main_v210 : Ref sig .tc := ⟨.hbm, 256, rfl⟩
abbrev main_cst_36 : Ref sig .tc := ⟨.hbm, 257, rfl⟩
abbrev main_v211 : Ref sig .tc := ⟨.hbm, 258, rfl⟩
abbrev main_cst_37 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_cst_38 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_cst_39 : Ref sig .tc := ⟨.hbm, 269, rfl⟩
abbrev main_v220 : Ref sig .tc := ⟨.hbm, 270, rfl⟩
abbrev main_v221 : Ref sig .tc := ⟨.hbm, 271, rfl⟩
abbrev main_cst_40 : Ref sig .tc := ⟨.hbm, 272, rfl⟩
abbrev main_v222 : Ref sig .tc := ⟨.hbm, 273, rfl⟩
abbrev main_cst_41 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_cst_42 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_cst_43 : Ref sig .tc := ⟨.hbm, 285, rfl⟩
abbrev main_v232 : Ref sig .tc := ⟨.hbm, 286, rfl⟩
abbrev main_cst_44 : Ref sig .tc := ⟨.hbm, 287, rfl⟩
abbrev main_v233 : Ref sig .tc := ⟨.hbm, 288, rfl⟩
abbrev main_v234 : Ref sig .tc := ⟨.hbm, 289, rfl⟩
abbrev main_cst_45 : Ref sig .tc := ⟨.hbm, 290, rfl⟩
abbrev main_v235 : Ref sig .tc := ⟨.hbm, 291, rfl⟩
abbrev main_v236 : Ref sig .tc := ⟨.hbm, 292, rfl⟩
abbrev main_cst_46 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩

abbrev nD : Nat := 1
abbrev τ : Topo := Topo.v7x

variable {F : FTy → Type} [FloatOps F]
-- ==== DownDx.lean ====
abbrev S4096x2048 : Shape := ⟨2, ![4096, 2048]⟩
abbrev S8x1024x2048 : Shape := ⟨3, ![8, 1024, 2048]⟩
abbrev S4096x8192 : Shape := ⟨2, ![4096, 8192]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x1024x2048, .bf16⟩
  | .hbm, ⟨2, _⟩ => ⟨S4096x8192, .bf16⟩
  | .hbm, ⟨3, _⟩ => ⟨S1x8192x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x2048 : Shape := ⟨2, ![4096, 2048]⟩
abbrev S8x1024x2048 : Shape := ⟨3, ![8, 1024, 2048]⟩
abbrev S4096x8192 : Shape := ⟨2, ![4096, 8192]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x2048, .bf16⟩
  | .hbm, ⟨2, _⟩ => ⟨S4096x8192, .bf16⟩
  | .hbm, ⟨3, _⟩ => ⟨S8x1024x2048, .f32⟩
  | .hbm, ⟨4, _⟩ => ⟨S8192x2048, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .i1⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== UpDx.lean ====
abbrev S4096x8192 : Shape := ⟨2, ![4096, 8192]⟩
abbrev S8x2048x1024 : Shape := ⟨3, ![8, 2048, 1024]⟩
abbrev S4096x2048 : Shape := ⟨2, ![4096, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_2 : BitVec 32 := 3#32
  let v6 : BitVec 1 := Scalar.cmpi .eq arg2 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S8x2048x1024, .f32⟩
  | .hbm, ⟨3, _⟩ => ⟨S2048x8x1024, .f32⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDx.lean ====
abbrev S4096x2048 : Shape := ⟨2, ![4096, 2048]⟩
abbrev S8x256x2048 : Shape := ⟨3, ![8, 256, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S1x2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S8x256x2048 : Shape := ⟨3, ![8, 256, 2048]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S8x256x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InDx.lean ====
abbrev S4096x4096 : Shape := ⟨2, ![4096, 4096]⟩
abbrev S8x2048x512 : Shape := ⟨3, ![8, 2048, 512]⟩
abbrev S4096x2048 : Shape := ⟨2, ![4096, 2048]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x4096 : Shape := ⟨2, ![4096, 4096]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S8x2048x512, .f32⟩
  | .hbm, ⟨3, _⟩ => ⟨S2048x8x512, .f32⟩
  | .hbm, ⟨4, _⟩ => ⟨S2048x4096, .f32⟩
  | .hbm, ⟨5, _⟩ => ⟨S_, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S1x8192x2048 : Shape := ⟨3, ![1, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | .hbm, ⟨10, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDw.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | .hbm, ⟨13, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InDw.lean ====
abbrev S4096x2048 : Shape := ⟨2, ![4096, 2048]⟩
abbrev S4096x4096 : Shape := ⟨2, ![4096, 4096]⟩
abbrev S8x2048x512 : Shape := ⟨3, ![8, 2048, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InFwd.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S2x2048x512 : Shape := ⟨3, ![2, 2048, 512]⟩
abbrev S1024x1024 : Shape := ⟨2, ![1024, 1024]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S4096x4096, .f32⟩
  | .hbm, ⟨7, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutFwd.lean ====
abbrev S4096x2048 : Shape := ⟨2, ![4096, 2048]⟩
abbrev S8x256x2048 : Shape := ⟨3, ![8, 256, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S1x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S4096x2048 : Shape := ⟨2, ![4096, 2048]⟩
abbrev S8x256x2048 : Shape := ⟨3, ![8, 256, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S4096x2048, .f32⟩
  | .hbm, ⟨4, _⟩ => ⟨S8x256x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpFwd.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownFwd.lean ====
abbrev S4096x8192 : Shape := ⟨2, ![4096, 8192]⟩
abbrev S8x1024x2048 : Shape := ⟨3, ![8, 1024, 2048]⟩
abbrev S4096x2048 : Shape := ⟨2, ![4096, 2048]⟩
abbrev S1x8192x2048 : Shape := ⟨3, ![1, 8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8x1024x2048, .bf16⟩
  | .hbm, ⟨2, _⟩ => ⟨S4096x2048, .f32⟩
  | .hbm, ⟨3, _⟩ => ⟨S1x8192x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_2 : BitVec 32 := 3#32
  let v6 : BitVec 1 := Scalar.cmpi .eq arg2 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4096x8192 : Shape := ⟨2, ![4096, 8192]⟩
abbrev S8x1024x2048 : Shape := ⟨3, ![8, 1024, 2048]⟩
abbrev S4096x2048 : Shape := ⟨2, ![4096, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x1024x2048, .bf16⟩
  | .hbm, ⟨2, _⟩ => ⟨S4096x2048, .f32⟩
  | .hbm, ⟨3, _⟩ => ⟨S4096x8192, .f32⟩
  | .hbm, ⟨4, _⟩ => ⟨S8x1024x2048, .f32⟩
  | .hbm, ⟨5, _⟩ => ⟨S8192x2048, .f32⟩
  | .hbm, ⟨6, _⟩ => ⟨S4096x2048, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .f32⟩
  | .hbm, ⟨3, _⟩ => ⟨S4096x2048, .bf16⟩
  | .hbm, ⟨4, _⟩ => ⟨S1x2048, .f32⟩
  | .hbm, ⟨5, _⟩ => ⟨S4096x2048, .bf16⟩
  | .hbm, ⟨6, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== NormBwdX.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .f32⟩
  | .hbm, ⟨3, _⟩ => ⟨S4096x2048, .bf16⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdXRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_17 : BitVec 32 := 0#32
  let v47 : BitVec 1 := Scalar.cmpi .ne v46 c0_i32_17
  v47

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_14 : BitVec 32 := 0#32
  let v41 : BitVec 1 := Scalar.cmpi .ne v40 c0_i32_14
  v41

def k0_cond2 (i : grid0.Coords) : BitVec 1 :=
  let arg0 : BitVec 32 := BitVec.ofNat 32 (i 0).val
  let c0_i32_15 : BitVec 32 := 0#32
  let v42 : BitVec 1 := Scalar.cmpi .sgt arg0 c0_i32_15
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MixerFwd.lean ====
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S1x1024 : Shape := ⟨2, ![1, 1024]⟩
abbrev S4096x2048 : Shape := ⟨2, ![4096, 2048]⟩
abbrev S512x4096 : Shape := ⟨2, ![512, 4096]⟩
abbrev S16x4096 : Shape := ⟨2, ![16, 4096]⟩
abbrev S512x2048 : Shape := ⟨2, ![512, 2048]⟩
abbrev S512x256 : Shape := ⟨2, ![512, 256]⟩
abbrev S16x256 : Shape := ⟨2, ![16, 256]⟩
abbrev S528x256 : Shape := ⟨2, ![528, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4x256x256, .f32⟩
  | .hbm, ⟨3, _⟩ => ⟨S1024, .f32⟩
  | .hbm, ⟨4, _⟩ => ⟨S4x256x256, .bf16⟩
  | .hbm, ⟨5, _⟩ => ⟨S1x1024, .f32⟩
  | .hbm, ⟨6, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S16x4096, .bf16⟩
  | .local _ .vmem, ⟨3, _⟩ => ⟨S16x4096, .bf16⟩
  | .local _ .vmem, ⟨4, _⟩ => ⟨S3x1024, .f32⟩
  | .local _ .vmem, ⟨5, _⟩ => ⟨S4x256x256, .bf16⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixerFwdRefIdeal.lean ====
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S1x4096x4096 : Shape := ⟨3, ![1, 4096, 4096]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1x1x1024 : Shape := ⟨3, ![1, 1, 1024]⟩
abbrev S1x4096x4x256 : Shape := ⟨4, ![1, 4096, 4, 256]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S1x4096x2048 : Shape := ⟨3, ![1, 4096, 2048]⟩
abbrev S4096x2048 : Shape := ⟨2, ![4096, 2048]⟩

abbrev nBuf : Space → Nat
  | .hbm => 130
  | .vmem => 0
  | .smem => 0
  | _ => 0

abbrev hbmTy0_0 (i : Nat) : BufTy := match i % 128 with
  | 0 => ⟨S4096x4096, .bf16⟩
  | 1 => ⟨S3x1024, .f32⟩
  | 2 => ⟨S4x256x256, .f32⟩
  | 3 => ⟨S1024, .f32⟩
  | 4 => ⟨S4096x4096, .f32⟩
  | 5 => ⟨S1x4096x4096, .f32⟩
  | 6 => ⟨S1x4096x1024, .f32⟩
  | 7 => ⟨S1x4096x1024, .f32⟩
  | 8 => ⟨S1x4096x1024, .f32⟩
  | 9 => ⟨S1x4096x1024, .f32⟩
  | 10 => ⟨S1x4096x1024, .f32⟩
  | 11 => ⟨S_, .f32⟩
  | 12 => ⟨S1x2x1024, .f32⟩
  | 13 => ⟨S1x4098x1024, .f32⟩
  | 14 => ⟨S1x1024, .f32⟩
  | 15 => ⟨S1024, .f32⟩
  | 16 => ⟨S1x4096x1024, .f32⟩
  | 17 => ⟨S1x1x1024, .f32⟩
  | 18 => ⟨S1x4096x1024, .f32⟩
  | 19 => ⟨S1x4096x1024, .f32⟩
  | 20 => ⟨S1x1024, .f32⟩
  | 21 => ⟨S1024, .f32⟩
  | 22 => ⟨S1x4096x1024, .f32⟩
  | 23 => ⟨S1x1x1024, .f32⟩
  | 24 => ⟨S1x4096x1024, .f32⟩
  | 25 => ⟨S1x4096x1024, .f32⟩
  | 26 => ⟨S1x4096x1024, .f32⟩
  | 27 => ⟨S1x1024, .f32⟩
  | 28 => ⟨S1024, .f32⟩
  | 29 => ⟨S1x4096x1024, .f32⟩
  | 30 => ⟨S1x1x1024, .f32⟩
  | 31 => ⟨S1x4096x1024, .f32⟩
  | 32 => ⟨S1x4096x1024, .f32⟩
  | 33 => ⟨S1x4096x1024, .f32⟩
  | 34 => ⟨S1x4096x1024, .f32⟩
  | 35 => ⟨S1x4096x4x256, .f32⟩
  | 36 => ⟨S_, .f32⟩
  | 37 => ⟨S_, .f32⟩
  | 38 => ⟨S1x4096x4x256, .f32⟩
  | 39 => ⟨S4096, .f32⟩
  | 40 => ⟨S1x4096x1x256, .f32⟩
  | 41 => ⟨S1x4096x256, .f32⟩
  | 42 => ⟨S_, .f32⟩
  | 43 => ⟨S1x2x256, .f32⟩
  | 44 => ⟨S1x4094x256, .f32⟩
  | 45 => ⟨S1x4096x256, .f32⟩
  | 46 => ⟨S_, .f32⟩
  | 47 => ⟨S4096, .f32⟩
  | 48 => ⟨S4096, .f32⟩
  | 49 => ⟨S_, .f32⟩
  | 50 => ⟨S4096, .f32⟩
  | 51 => ⟨S4096, .f32⟩
  | 52 => ⟨S1x4096x1, .f32⟩
  | 53 => ⟨S1x4096x256, .f32⟩
  | 54 => ⟨S1x4096x256, .f32⟩
  | 55 => ⟨S1x4096x256, .f32⟩
  | 56 => ⟨S1x4096x1x256, .f32⟩
  | 57 => ⟨S1x4096x256, .f32⟩
  | 58 => ⟨S1x4096x256, .f32⟩
  | 59 => ⟨S1x4096x1x256, .f32⟩
  | 60 => ⟨S1x4096x256, .f32⟩
  | 61 => ⟨S_, .f32⟩
  | 62 => ⟨S1x4x256, .f32⟩
  | 63 => ⟨S1x4092x256, .f32⟩
  | 64 => ⟨S1x4096x256, .f32⟩
  | 65 => ⟨S_, .f32⟩
  | 66 => ⟨S4096, .f32⟩
  | 67 => ⟨S4096, .f32⟩
  | 68 => ⟨S_, .f32⟩
  | 69 => ⟨S4096, .f32⟩
  | 70 => ⟨S4096, .f32⟩
  | 71 => ⟨S1x4096x1, .f32⟩
  | 72 => ⟨S1x4096x256, .f32⟩
  | 73 => ⟨S1x4096x256, .f32⟩
  | 74 => ⟨S1x4096x256, .f32⟩
  | 75 => ⟨S1x4096x1x256, .f32⟩
  | 76 => ⟨S1x4096x256, .f32⟩
  | 77 => ⟨S1x4096x256, .f32⟩
  | 78 => ⟨S1x4096x1x256, .f32⟩
  | 79 => ⟨S1x4096x256, .f32⟩
  | 80 => ⟨S_, .f32⟩
  | 81 => ⟨S1x8x256, .f32⟩
  | 82 => ⟨S1x4088x256, .f32⟩
  | 83 => ⟨S1x4096x256, .f32⟩
  | 84 => ⟨S_, .f32⟩
  | 85 => ⟨S4096, .f32⟩
  | 86 => ⟨S4096, .f32⟩
  | 87 => ⟨S_, .f32⟩
  | 88 => ⟨S4096, .f32⟩
  | 89 => ⟨S4096, .f32⟩
  | 90 => ⟨S1x4096x1, .f32⟩
  | 91 => ⟨S1x4096x256, .f32⟩
  | 92 => ⟨S1x4096x256, .f32⟩
  | 93 => ⟨S1x4096x256, .f32⟩
  | 94 => ⟨S1x4096x1x256, .f32⟩
  | 95 => ⟨S1x4096x256, .f32⟩
  | 96 => ⟨S1x4096x256, .f32⟩
  | 97 => ⟨S1x4096x1x256, .f32⟩
  | 98 => ⟨S1x4096x256, .f32⟩
  | 99 => ⟨S_, .f32⟩
  | 100 => ⟨S1x16x256, .f32⟩
  | 101 => ⟨S1x4080x256, .f32⟩
  | 102 => ⟨S1x4096x256, .f32⟩
  | 103 => ⟨S_, .f32⟩
  | 104 => ⟨S4096, .f32⟩
  | 105 => ⟨S4096, .f32⟩
  | 106 => ⟨S_, .f32⟩
  | 107 => ⟨S4096, .f32⟩
  | 108 => ⟨S4096, .f32⟩
  | 109 => ⟨S1x4096x1, .f32⟩
  | 110 => ⟨S1x4096x256, .f32⟩
  | 111 => ⟨S1x4096x256, .f32⟩
  | 112 => ⟨S1x4096x256, .f32⟩
  | 113 => ⟨S1x4096x1x256, .f32⟩
  | 114 => ⟨S1x4096x256, .f32⟩
  | 115 => ⟨S1x4096x256, .f32⟩
  | 116 => ⟨S1x4096x1x256, .f32⟩
  | 117 => ⟨S1x4096x1x256, .f32⟩
  | 118 => ⟨S1x4096x1x256, .f32⟩
  | 119 => ⟨S1x4096x1x256, .f32⟩
  | 120 => ⟨S1x4096x4x256, .f32⟩
  | 121 => ⟨S4x256x1x4096, .f32⟩
  | 122 => ⟨S1x4096x4x256, .f32⟩
  | 123 => ⟨S1x4096x1024, .f32⟩
  | 124 => ⟨S1x1x1024, .f32⟩
  | 125 => ⟨S1x4096x1024, .f32⟩
  | 126 => ⟨S1x4096x1024, .f32⟩
  | 127 => ⟨S1x4096x2048, .f32⟩
  | _ => ⟨S4096x4096, .bf16⟩

abbrev hbmTy0_1 (i : Nat) : BufTy := match i % 128 with
  | 0 => ⟨S4096x2048, .f32⟩
  | 1 => ⟨S4096x2048, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_call0_cst : Ref sig .tc := ⟨.hbm, 36, rfl⟩
abbrev main_call0_call0_v0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_1 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_7 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]
-- ==== Proof.MixVoc.lean ====
/-
  The names of what one grid point's body computes, over any float operations: the blocks it loads, the tiles it makes of
  them, and the pieces it stores. The body's own stores are these lists by unfolding.
-/
module

public import proofs.«01_k».proof.Proof.Gen.KernelIdeal.Frame.RunB

@[expose] public section

set_option maxRecDepth 65536

noncomputable section

open Idealize.ShloMosaic Idealize.ShloMosaic.TcCoe Idealize.SL.Sem

namespace Cert.KernelIdeal.Mix

open Cert.KernelIdeal Cert.KernelIdeal.Gen

variable {F : FTy → Type} [FloatOps F]

/-- What a grid point loads: 256 columns from column `lo` of each of its blocks, one of the weights' rows, one of the
    pools' matrices. -/
structure Loads (F : FTy → Type) where
  /-- the projection's rows of this point -/
  p : ∀ lo, lo + 256 ≤ 4096 → Vec F S512x256 .bf16
  /-- the projection's sixteen rows before them -/
  q : ∀ lo, lo + 256 ≤ 4096 → Vec F S16x256 .bf16
  /-- the projection's sixteen rows after them -/
  n : ∀ lo, lo + 256 ≤ 4096 → Vec F S16x256 .bf16
  /-- the cotangent's rows of this point -/
  y : ∀ lo, lo + 256 ≤ 2048 → Vec F S512x256 .bf16
  /-- the cotangent's sixteen rows after them -/
  yn : ∀ lo, lo + 256 ≤ 2048 → Vec F S16x256 .bf16
  /-- the weights of tap `r` -/
  w : ∀ r lo, r + 1 ≤ 3 → lo + 256 ≤ 1024 → Vec F S1x256 .f32
  /-- the matrix of group `g` -/
  m : ∀ g, g + 1 ≤ 4 → Vec F S1x256x256 .bf16
  /-- the pools' scales -/
  s : ∀ lo, lo + 256 ≤ 1024 → Vec F S1x256 .f32

/-- `k` rows from row `r` and 256 columns from column `lo` lie inside a matrix that has as many. -/
theorem inb2 {R C : ℕ} (r lo k : ℕ) (hr : r + k ≤ R) (h : lo + 256 ≤ C) :
    ∀ a, (![r, lo] : Fin 2 → ℕ) a + (⟨2, ![k, 256]⟩ : Shape).size a ≤ (⟨2, ![R, C]⟩ : Shape).size a := by
  intro a; fin_cases a
  · exact hr
  · exact h

/-- One of the four matrices lies inside their array. -/
theorem inb3 (g : ℕ) (hg : g + 1 ≤ 4) : ∀ a, (![g, 0, 0] : Fin 3 → ℕ) a + S1x256x256.size a ≤ S4x256x256.size a := by
  intro a; fin_cases a
  · exact hg
  · exact Nat.le_refl 256
  · exact Nat.le_refl 256

/-- The rectangle of `k` rows from row `r` and 256 columns from column `lo`. -/
abbrev rect2 {R C : ℕ} (r lo k : ℕ) (hr : r + k ≤ R) (h : lo + 256 ≤ C) : Rect (⟨2, ![R, C]⟩ : Shape) :=
  Rect.unit (s := ⟨2, ![R, C]⟩) ![r, lo] (⟨2, ![k, 256]⟩ : Shape).size (inb2 r lo k hr h)

/-- The rectangle of one of the four matrices. -/
abbrev rect3 (g : ℕ) (hg : g + 1 ≤ 4) : Rect S4x256x256 := Rect.unit (s := S4x256x256) ![g, 0, 0] S1x256x256.size (inb3 g hg)

/-- The loads from the buffers that hold the point's blocks. -/
def loads (arg1 : Memref sig .tc .vmem S512x4096 .bf16) (harg1 : arg1.IsWhole) (arg2 : Memref sig .tc .vmem S16x4096 .bf16) (harg2 : arg2.IsWhole)
    (arg3 : Memref sig .tc .vmem S16x4096 .bf16) (harg3 : arg3.IsWhole) (arg4 : Memref sig .tc .vmem S512x2048 .bf16) (harg4 : arg4.IsWhole)
    (arg5 : Memref sig .tc .vmem S16x2048 .bf16) (harg5 : arg5.IsWhole) (arg6 : Memref sig .tc .vmem S3x1024 .f32) (harg6 : arg6.IsWhole)
    (arg7 : Memref sig .tc .vmem S4x256x256 .bf16) (harg7 : arg7.IsWhole) (arg8 : Memref sig .tc .vmem S1x1024 .f32) (harg8 : arg8.IsWhole)
    (x0 : Vec F S512x4096 .bf16) (x1 : Vec F S16x4096 .bf16) (x2 : Vec F S16x4096 .bf16) (x3 : Vec F S512x2048 .bf16) (x4 : Vec F S16x2048 .bf16)
    (x5 : Vec F S3x1024 .f32) (x6 : Vec F S4x256x256 .bf16) (x7 : Vec F S1x1024 .f32) : Loads F where
  p lo h := View.readAt (Elt F) arg1.view (rect2 0 lo 512 (by decide) h).toLoadRect (harg1.unread x0)
  q lo h := View.readAt (Elt F) arg2.view (rect2 0 lo 16 (by decide) h).toLoadRect (harg2.unread x1)
  n lo h := View.readAt (Elt F) arg3.view (rect2 0 lo 16 (by decide) h).toLoadRect (harg3.unread x2)
  y lo h := View.readAt (Elt F) arg4.view (rect2 0 lo 512 (by decide) h).toLoadRect (harg4.unread x3)
  yn lo h := View.readAt (Elt F) arg5.view (rect2 0 lo 16 (by decide) h).toLoadRect (harg5.unread x4)
  w r lo hr h := View.readAt (Elt F) arg6.view (rect2 r lo 1 hr h).toLoadRect (harg6.unread x5)
  m g h := View.readAt (Elt F) arg7.view (rect3 g h).toLoadRect (harg7.unread x6)
  s lo h := View.readAt (Elt F) arg8.view (rect2 0 lo 1 (by decide) h).toLoadRect (harg8.unread x7)

/-! ## Tiles -/

/-- Whether this is the first point. -/
def isFirst (i : grid0.Coords) : BitVec 1 := Scalar.cmpi .eq (BitVec.ofNat 32 (i 0).val) 0#32
/-- Whether this is the last point. -/
def isLast (i : grid0.Coords) : BitVec 1 := Scalar.cmpi .eq (BitVec.ofNat 32 (i 0).val) 7#32

/-- A tile widened. -/
def wide (X : Vec F S512x256 .bf16) : FVec F S512x256 .f32 := extf .f32 X bitsLt_bf16_f32
/-- Sixteen neighbouring rows, zero where the neighbour is past the sequence's end. -/
def halo (b : BitVec 1) (X : Vec F S16x256 .bf16) : FVec F S16x256 .f32 :=
  Scalar.select b (broadcast S16x256 (Scalar.ofBits .f32 0x00000000#32)) (extf .f32 X bitsLt_bf16_f32)
/-- Sixteen rows and below them a tile. -/
def above (H : FVec F S16x256 .f32) (X : FVec F S512x256 .f32) : FVec F S528x256 .f32 :=
  concatenate S528x256 0 [⟨S16x256, H⟩, ⟨S512x256, X⟩] concatenates_S16x256_S512x256_S528x256_d0
/-- A tile and below it sixteen rows. -/
def below (X : FVec F S512x256 .f32) (H : FVec F S16x256 .f32) : FVec F S528x256 .f32 :=
  concatenate S528x256 0 [⟨S512x256, X⟩, ⟨S16x256, H⟩] concatenates_S512x256_S16x256_S528x256_d0
/-- The extended tile rotated by `s` rows. -/
def rot (s : BitVec 32) (E : FVec F S528x256 .f32) : FVec F S528x256 .f32 := dynamicRotate 0 s none E rotates_S528x256_d0
/-- The extended tile without its first sixteen rows. -/
def tail (E : FVec F S528x256 .f32) : FVec F S512x256 .f32 := extractStridedSlice S512x256 ![16, 0] E slices_S528x256_o16_0_S512x256
/-- The extended tile without its last sixteen rows. -/
def head (E : FVec F S528x256 .f32) : FVec F S512x256 .f32 := extractStridedSlice S512x256 ![0, 0] E slices_S528x256_o0_0_S512x256
/-- One row repeated over a tile. -/
def rows (W : FVec F S1x256 .f32) : FVec F S512x256 .f32 := broadcastTo S512x256 W broadcasts_S1x256_S512x256
/-- Doubling windows: for each of the shifts in turn, the tile plus itself rotated. -/
def windows : List (BitVec 32) → FVec F S528x256 .f32 → FVec F S528x256 .f32
  | [], E => E
  | s :: l, E => windows l (addf E (rot s E))
/-- How many rows each row's window holds. -/
def count (i : grid0.Coords) (w : BitVec 32) : FVec F S512x256 .f32 :=
  sitofp .f32 (minsi (addi (addi (broadcast S512x256 (Scalar.muli (BitVec.ofNat 32 (i 0).val) 512#32)) (iota .tc S512x256 32 [0] iota_S512x256_d0_w32))
    (broadcast S512x256 1#32)) (broadcast S512x256 w))
/-- A row plus the sum of a tile's rows. -/
def colAcc (A : FVec F S1x256 .f32) (V : FVec F S512x256 .f32) : FVec F S1x256 .f32 :=
  addf (shapeCast S1x256 A shapeCasts_S1x256_S1x256)
    (shapeCast S1x256 (multiReduction .add [0] S256 V 0x00000000#32 reduces_S512x256_S256 (.inl rfl) rfl) shapeCasts_S256_S1x256)

variable (l : Loads F) (i : grid0.Coords)

/-! ## The convolution's branch, 256 columns from column `lo` -/

/-- The convolved product. -/
def cU (lo : ℕ) (h : lo + 256 ≤ 1024) : FVec F S512x256 .f32 :=
  mulf (wide (l.p (1024 + lo) (by omega))) (wide (l.p (2048 + lo) (by omega)))
/-- The convolved product with its sixteen rows before. -/
def cExt (lo : ℕ) (h : lo + 256 ≤ 1024) : FVec F S528x256 .f32 :=
  above (mulf (halo (isFirst i) (l.q (1024 + lo) (by omega))) (halo (isFirst i) (l.q (2048 + lo) (by omega)))) (cU l lo h)
/-- The convolved product moved down `s` rows. -/
def cDn (s : BitVec 32) (lo : ℕ) (h : lo + 256 ≤ 1024) : FVec F S512x256 .f32 := tail (rot s (cExt l i lo h))
/-- The gradient of `b`. -/
def cDb (lo : ℕ) (h : lo + 256 ≤ 1024) : FVec F S512x256 .bf16 :=
  truncf .bf16 (mulf (wide (l.y lo (by omega)))
    (addf (addf (mulf (rows (l.w 0 lo (by decide) h)) (cDn l i 2#32 lo h)) (mulf (rows (l.w 1 lo (by decide) h)) (cDn l i 1#32 lo h)))
      (mulf (rows (l.w 2 lo (by decide) h)) (cU l lo h)))) bitsLt_bf16_f32
/-- The cotangent of the convolution. -/
def cDv (lo : ℕ) (h : lo + 256 ≤ 1024) : FVec F S512x256 .f32 := mulf (wide (l.y lo (by omega))) (wide (l.p lo (by omega)))
/-- The cotangent of the convolution with its sixteen rows after. -/
def cDext (lo : ℕ) (h : lo + 256 ≤ 1024) : FVec F S528x256 .f32 :=
  below (cDv l lo h) (mulf (halo (isLast i) (l.yn lo (by omega))) (halo (isLast i) (l.n lo (by omega))))
/-- The gradient of the convolved product. -/
def cDu (lo : ℕ) (h : lo + 256 ≤ 1024) : FVec F S512x256 .f32 :=
  addf (addf (mulf (rows (l.w 2 lo (by decide) h)) (cDv l lo h)) (mulf (rows (l.w 1 lo (by decide) h)) (head (rot 527#32 (cDext l i lo h)))))
    (mulf (rows (l.w 0 lo (by decide) h)) (head (rot 526#32 (cDext l i lo h))))
/-- The gradient of `c`. -/
def cDc (lo : ℕ) (h : lo + 256 ≤ 1024) : FVec F S512x256 .bf16 := truncf .bf16 (mulf (cDu l i lo h) (wide (l.p (2048 + lo) (by omega)))) bitsLt_bf16_f32
/-- The gradient of `x`. -/
def cDx (lo : ℕ) (h : lo + 256 ≤ 1024) : FVec F S512x256 .bf16 := truncf .bf16 (mulf (cDu l i lo h) (wide (l.p (1024 + lo) (by omega)))) bitsLt_bf16_f32

/-! ## The pools' branch, group `g` with its window and its shifts -/

/-- The window's mean less the value. -/
def pD (w : BitVec 32) (ss : List (BitVec 32)) (g : ℕ) (hg : g + 1 ≤ 4) : FVec F S512x256 .bf16 :=
  truncf .bf16 (subf (divf (tail (windows ss (above (halo (isFirst i) (l.q (3072 + 256 * g) (by omega))) (wide (l.p (3072 + 256 * g) (by omega))))))
    (count i w)) (wide (l.p (3072 + 256 * g) (by omega)))) bitsLt_bf16_f32
/-- The group's matrix. -/
def pM (g : ℕ) (hg : g + 1 ≤ 4) : FVec F S256x256 .bf16 := shapeCast S256x256 (l.m g hg) shapeCasts_S1x256x256_S256x256
/-- The group's scale. -/
def pS (g : ℕ) (hg : g + 1 ≤ 4) : FVec F S1x256 .f32 := shapeCast S1x256 (l.s (256 * g) (by omega)) shapeCasts_S1x256_S1x256
/-- The cotangent times the group's product. -/
def pYz (w : BitVec 32) (ss : List (BitVec 32)) (g : ℕ) (hg : g + 1 ≤ 4) : FVec F S512x256 .f32 :=
  mulf (wide (l.y (1024 + 256 * g) (by omega)))
    (matmul dot_S512x256_S256x256_S512x256_1_0_0_1_n_n none (pD l i w ss g hg) (pM l g hg) (constant S512x256 .f32 0x00000000#32))
/-- The cotangent of the group's product. -/
def pDz (g : ℕ) (hg : g + 1 ≤ 4) : FVec F S512x256 .bf16 :=
  truncf .bf16 (mulf (wide (l.y (1024 + 256 * g) (by omega))) (rows (pS l g hg))) bitsLt_bf16_f32
/-- The cotangent of the mean less the value. -/
def pDd (g : ℕ) (hg : g + 1 ≤ 4) : FVec F S512x256 .f32 :=
  matmul dot_S512x256_S256x256_S512x256_1_1_0_0_n_n none (pDz l g hg) (pM l g hg) (constant S512x256 .f32 0x00000000#32)
/-- The same at the sixteen rows after. -/
def pDdn (g : ℕ) (hg : g + 1 ≤ 4) : FVec F S16x256 .f32 :=
  matmul dot_S16x256_S256x256_S16x256_1_1_0_0_n_n none
    (truncf .bf16 (mulf (halo (isLast i) (l.yn (1024 + 256 * g) (by omega))) (broadcastTo S16x256 (pS l g hg) broadcasts_S1x256_S16x256)) bitsLt_bf16_f32)
    (pM l g hg) (constant S16x256 .f32 0x00000000#32)
/-- The gradient of the group's values. -/
def pDv (w wf : BitVec 32) (ss : List (BitVec 32)) (g : ℕ) (hg : g + 1 ≤ 4) : FVec F S512x256 .bf16 :=
  truncf .bf16 (subf (head (windows ss (below (divf (pDd l g hg) (count i w)) (divf (pDdn l i g hg) (broadcast S16x256 (Scalar.ofBits .f32 wf))))))
    (pDd l g hg)) bitsLt_bf16_f32
/-- The group's matrix's sum, with this point's product added. -/
def pAcc (A : FVec F S1x256x256 .f32) (w : BitVec 32) (ss : List (BitVec 32)) (g : ℕ) (hg : g + 1 ≤ 4) : FVec F S1x256x256 .f32 :=
  shapeCast S1x256x256 (addf (shapeCast S256x256 A shapeCasts_S1x256x256_S256x256)
    (matmul dot_S512x256_S512x256_S256x256_0_0_1_1_n_n none (pD l i w ss g hg) (pDz l g hg) (constant S256x256 .f32 0x00000000#32)))
    shapeCasts_S256x256_S1x256x256

/-! ## What the point stores -/

/-- 256 columns from column `lo` of the gradient of the projection. -/
def at8 (lo : ℕ) (h : lo + 256 ≤ 4096) (X : FVec F S512x256 .bf16) : View.Piece (Elt F) S512x4096 .bf16 := ⟨rect2 0 lo 512 (by decide) h, X⟩

/-- The convolution's stores over 256 columns, the last first. -/
def conv8 (lo : ℕ) (h : lo + 256 ≤ 1024) (L : List (View.Piece (Elt F) S512x4096 .bf16)) : List (View.Piece (Elt F) S512x4096 .bf16) :=
  at8 (2048 + lo) (by omega) (cDx l i lo h) :: at8 (1024 + lo) (by omega) (cDc l i lo h) :: at8 lo (by omega) (cDb l i lo h) :: L

/-- The gradient of the projection's stores, the last first. -/
def pieces8 : List (View.Piece (Elt F) S512x4096 .bf16) :=
  at8 (3072 + 256 * 3) (by omega) (pDv l i 16#32 0x41800000#32 [527#32, 526#32, 524#32, 520#32] 3 (by decide)) ::
  at8 (3072 + 256 * 2) (by omega) (pDv l i 8#32 0x41000000#32 [527#32, 526#32, 524#32] 2 (by decide)) ::
  at8 (3072 + 256 * 1) (by omega) (pDv l i 4#32 0x40800000#32 [527#32, 526#32] 1 (by decide)) ::
  at8 (3072 + 256 * 0) (by omega) (pDv l i 2#32 0x40000000#32 [527#32] 0 (by decide)) ::
  conv8 l i 768 (by decide) (conv8 l i 512 (by decide) (conv8 l i 256 (by decide) (conv8 l i 0 (by decide) [])))

/-- One row's 256 columns of the weights' gradient, from what was there. -/
def at9 (A : Vec F S1x256 .f32) (r lo : ℕ) (hr : r + 1 ≤ 3) (h : lo + 256 ≤ 1024) (V : FVec F S512x256 .f32) : View.Piece (Elt F) S3x1024 .f32 :=
  ⟨rect2 r lo 1 hr h, colAcc A V⟩

/-- The weights' gradient's stores over 256 columns, the last first, from what was there before each. -/
def conv9 (A : List (View.Piece (Elt F) S3x1024 .f32) → ∀ r lo, r + 1 ≤ 3 → lo + 256 ≤ 1024 → Vec F S1x256 .f32) (lo : ℕ) (h : lo + 256 ≤ 1024)
    (L : List (View.Piece (Elt F) S3x1024 .f32)) : List (View.Piece (Elt F) S3x1024 .f32) :=
  let L0 := at9 (A L 0 lo (by decide) h) 0 lo (by decide) h (mulf (cDv l lo h) (cDn l i 2#32 lo h)) :: L
  let L1 := at9 (A L0 1 lo (by decide) h) 1 lo (by decide) h (mulf (cDv l lo h) (cDn l i 1#32 lo h)) :: L0
  at9 (A L1 2 lo (by decide) h) 2 lo (by decide) h (mulf (cDv l lo h) (cU l lo h)) :: L1

/-- The weights' gradient's stores over those of the list. -/
def pieces9 (A : List (View.Piece (Elt F) S3x1024 .f32) → ∀ r lo, r + 1 ≤ 3 → lo + 256 ≤ 1024 → Vec F S1x256 .f32)
    (L : List (View.Piece (Elt F) S3x1024 .f32)) : List (View.Piece (Elt F) S3x1024 .f32) :=
  conv9 l i A 768 (by decide) (conv9 l i A 512 (by decide) (conv9 l i A 256 (by decide) (conv9 l i A 0 (by decide) L)))

/-- The pools' matrices' gradient's stores over those of the list. -/
def pieces10 (A : List (View.Piece (Elt F) S4x256x256 .f32) → ∀ g, g + 1 ≤ 4 → Vec F S1x256x256 .f32)
    (L : List (View.Piece (Elt F) S4x256x256 .f32)) : List (View.Piece (Elt F) S4x256x256 .f32) :=
  let L0 := ⟨rect3 0 (by decide), pAcc l i (A L 0 (by decide)) 2#32 [1#32] 0 (by decide)⟩ :: L
  let L1 := ⟨rect3 1 (by decide), pAcc l i (A L0 1 (by decide)) 4#32 [1#32, 2#32] 1 (by decide)⟩ :: L0
  let L2 := ⟨rect3 2 (by decide), pAcc l i (A L1 2 (by decide)) 8#32 [1#32, 2#32, 4#32] 2 (by decide)⟩ :: L1
  ⟨rect3 3 (by decide), pAcc l i (A L2 3 (by decide)) 16#32 [1#32, 2#32, 4#32, 8#32] 3 (by decide)⟩ :: L2

/-- 256 columns of the scales' gradient, from what was there. -/
def at11 (A : Vec F S1x256 .f32) (lo : ℕ) (h : lo + 256 ≤ 1024) (V : FVec F S512x256 .f32) : View.Piece (Elt F) S1x1024 .f32 :=
  ⟨rect2 0 lo 1 (by decide) h, colAcc A V⟩

/-- The scales' gradient's stores over those of the list. -/
def pieces11 (A : List (View.Piece (Elt F) S1x1024 .f32) → ∀ lo, lo + 256 ≤ 1024 → Vec F S1x256 .f32)
    (L : List (View.Piece (Elt F) S1x1024 .f32)) : List (View.Piece (Elt F) S1x1024 .f32) :=
  let L0 := at11 (A L (256 * 0) (by decide)) (256 * 0) (by decide) (pYz l i 2#32 [1#32] 0 (by decide)) :: L
  let L1 := at11 (A L0 (256 * 1) (by decide)) (256 * 1) (by decide) (pYz l i 4#32 [1#32, 2#32] 1 (by decide)) :: L0
  let L2 := at11 (A L1 (256 * 2) (by decide)) (256 * 2) (by decide) (pYz l i 8#32 [1#32, 2#32, 4#32] 2 (by decide)) :: L1
  at11 (A L2 (256 * 3) (by decide)) (256 * 3) (by decide) (pYz l i 16#32 [1#32, 2#32, 4#32, 8#32] 3 (by decide)) :: L2

end Cert.KernelIdeal.Mix

end
-- ==== Proof.MixRun.lean ====
/-
  A grid point's stores are the lists of its tiles' names: the first point's over the fills of its three sums, a later
  point's over what the points before left there.
-/
module

public import proofs.«01_k».proof.Proof.MixVoc

@[expose] public section

set_option maxRecDepth 65536

noncomputable section

open Idealize.ShloMosaic Idealize.ShloMosaic.TcCoe Idealize.SL.Sem

namespace Cert.KernelIdeal.Mix

open Cert.KernelIdeal Cert.KernelIdeal.Gen

variable {F : FTy → Type} [FloatOps F]

attribute [local irreducible] View.readAt View.readCov extf truncf mulf addf divf subf broadcastTo concatenate dynamicRotate extractStridedSlice multiReduction shapeCast constant sitofp broadcast

variable (c : Dev nD) (i : grid0.Coords)
variable (arg1 : Memref sig .tc .vmem S512x4096 .bf16) (harg1 : arg1.IsWhole)
variable (arg2 : Memref sig .tc .vmem S16x4096 .bf16) (harg2 : arg2.IsWhole)
variable (arg3 : Memref sig .tc .vmem S16x4096 .bf16) (harg3 : arg3.IsWhole)
variable (arg4 : Memref sig .tc .vmem S512x2048 .bf16) (harg4 : arg4.IsWhole)
variable (arg5 : Memref sig .tc .vmem S16x2048 .bf16) (harg5 : arg5.IsWhole)
variable (arg6 : Memref sig .tc .vmem S3x1024 .f32) (harg6 : arg6.IsWhole)
variable (arg7 : Memref sig .tc .vmem S4x256x256 .bf16) (harg7 : arg7.IsWhole)
variable (arg8 : Memref sig .tc .vmem S1x1024 .f32) (harg8 : arg8.IsWhole)
variable (arg9 : Memref sig .tc .vmem S512x4096 .bf16) (harg9 : arg9.IsWhole)
variable (arg10 : Memref sig .tc .vmem S3x1024 .f32) (harg10 : arg10.IsWhole)
variable (arg11 : Memref sig .tc .vmem S4x256x256 .f32) (harg11 : arg11.IsWhole)
variable (arg12 : Memref sig .tc .vmem S1x1024 .f32) (harg12 : arg12.IsWhole)
variable (x0 : Vec F S512x4096 .bf16)
variable (x1 : Vec F S16x4096 .bf16)
variable (x2 : Vec F S16x4096 .bf16)
variable (x3 : Vec F S512x2048 .bf16)
variable (x4 : Vec F S16x2048 .bf16)
variable (x5 : Vec F S3x1024 .f32)
variable (x6 : Vec F S4x256x256 .bf16)
variable (x7 : Vec F S1x1024 .f32)
variable (xo9 : Vec F S3x1024 .f32) (xo10 : Vec F S4x256x256 .f32) (xo11 : Vec F S1x1024 .f32)

/-- What the first point stores in the gradient of the projection. -/
theorem runA_8 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1
      = pieces8 (loads arg1 harg1 arg2 harg2 arg3 harg3 arg4 harg4 arg5 harg5 arg6 harg6 arg7 harg7 arg8 harg8 x0 x1 x2 x3 x4 x5 x6 x7) i := rfl

/-- What the first point stores in the weights' gradient. -/
theorem runA_9 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1
      = pieces9 (loads arg1 harg1 arg2 harg2 arg3 harg3 arg4 harg4 arg5 harg5 arg6 harg6 arg7 harg7 arg8 harg8 x0 x1 x2 x3 x4 x5 x6 x7) i (fun L r lo hr h => arg10.view.readCov L (rect2 r lo 1 hr h).toLoadRect) [⟨Rect.unit (s := S3x1024) ![0, 0] S3x1024.size inb_S3x1024_S3x1024_0_0, k0_pay2⟩] := rfl

/-- What the first point stores in the pools' matrices' gradient. -/
theorem runA_10 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1
      = pieces10 (loads arg1 harg1 arg2 harg2 arg3 harg3 arg4 harg4 arg5 harg5 arg6 harg6 arg7 harg7 arg8 harg8 x0 x1 x2 x3 x4 x5 x6 x7) i (fun L g h => arg11.view.readCov L (rect3 g h).toLoadRect) [⟨Rect.unit (s := S4x256x256) ![0, 0, 0] S4x256x256.size inb_S4x256x256_S4x256x256_0_0_0, k0_pay3⟩] := rfl

/-- What the first point stores in the scales' gradient. -/
theorem runA_11 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1
      = pieces11 (loads arg1 harg1 arg2 harg2 arg3 harg3 arg4 harg4 arg5 harg5 arg6 harg6 arg7 harg7 arg8 harg8 x0 x1 x2 x3 x4 x5 x6 x7) i (fun L lo h => arg12.view.readCov L (rect2 0 lo 1 (by decide) h).toLoadRect) [⟨Rect.unit (s := S1x1024) ![0, 0] S1x1024.size inb_S1x1024_S1x1024_0_0, k0_pay4⟩] := rfl

/-- What a later point stores in the gradient of the projection. -/
theorem runB_8 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11).1
      = pieces8 (loads arg1 harg1 arg2 harg2 arg3 harg3 arg4 harg4 arg5 harg5 arg6 harg6 arg7 harg7 arg8 harg8 x0 x1 x2 x3 x4 x5 x6 x7) i := rfl

/-- What a later point stores in the weights' gradient. -/
theorem runB_9 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11).2.1
      = pieces9 (loads arg1 harg1 arg2 harg2 arg3 harg3 arg4 harg4 arg5 harg5 arg6 harg6 arg7 harg7 arg8 harg8 x0 x1 x2 x3 x4 x5 x6 x7) i (fun _ r lo hr h => View.readAt (Elt F) arg10.view (rect2 r lo 1 hr h).toLoadRect (harg10.unread xo9)) [] := rfl

/-- What a later point stores in the pools' matrices' gradient. -/
theorem runB_10 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11).2.2.1
      = pieces10 (loads arg1 harg1 arg2 harg2 arg3 harg3 arg4 harg4 arg5 harg5 arg6 harg6 arg7 harg7 arg8 harg8 x0 x1 x2 x3 x4 x5 x6 x7) i (fun _ g h => View.readAt (Elt F) arg11.view (rect3 g h).toLoadRect (harg11.unread xo10)) [] := rfl

/-- What a later point stores in the scales' gradient. -/
theorem runB_11 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11).2.2.2.1
      = pieces11 (loads arg1 harg1 arg2 harg2 arg3 harg3 arg4 harg4 arg5 harg5 arg6 harg6 arg7 harg7 arg8 harg8 x0 x1 x2 x3 x4 x5 x6 x7) i (fun _ lo h => View.readAt (Elt F) arg12.view (rect2 0 lo 1 (by decide) h).toLoadRect (harg12.unread xo11)) [] := rfl

end Cert.KernelIdeal.Mix

end
-- ==== Proof.MixSpec.lean ====
/-
  What the mixer's gradient is, element by element, over the extended reals. Every array is read as a function of natural
  numbers that is zero outside its extents (`nat2`, `nat3`), so a row before the first or past the last needs no case of its
  own. The kernel's and the reference's results are both read as the functions of this module.
-/
module

public import Idealize.ShloMosaic.Lib.ValueIdx
public import Idealize.ShloMosaic.PureOps.Ideal.Laws

@[expose] public section

noncomputable section

namespace Cert.Mix

open Idealize.ShloMosaic Idealize.ShloMosaic.ValueIdx
open scoped BigOperators

/-- A matrix as a function of two natural numbers, zero outside its extents. -/
def nat2 {n m : ℕ} (X : (⟨2, ![n, m]⟩ : Shape).Idx → EReal) (r c : ℕ) : EReal :=
  if h : r < n ∧ c < m then X (ix2 ⟨r, h.1⟩ ⟨c, h.2⟩) else 0

/-- At an index inside the extents it is the matrix's element. -/
theorem nat2_idx {n m : ℕ} (X : (⟨2, ![n, m]⟩ : Shape).Idx → EReal) (y : (⟨2, ![n, m]⟩ : Shape).Idx) (r c : ℕ)
    (hr : r = (y 0).val) (hc : c = (y 1).val) : nat2 X r c = X y := by
  subst hr; subst hc
  unfold nat2
  rw [dif_pos ⟨(y 0).isLt, (y 1).isLt⟩]
  exact congrArg X (eq_ix2 y).symm

/-- Past the last row it is zero. -/
theorem nat2_row {n m : ℕ} (X : (⟨2, ![n, m]⟩ : Shape).Idx → EReal) (r c : ℕ) (h : n ≤ r) : nat2 X r c = 0 := by
  unfold nat2; rw [dif_neg (by omega)]

/-- A rank-three array as a function of three natural numbers, zero outside its extents. -/
def nat3 {l n m : ℕ} (X : (⟨3, ![l, n, m]⟩ : Shape).Idx → EReal) (g r c : ℕ) : EReal :=
  if h : g < l ∧ r < n ∧ c < m then X (ix3 ⟨g, h.1⟩ ⟨r, h.2.1⟩ ⟨c, h.2.2⟩) else 0

/-- At an index inside the extents it is the array's element. -/
theorem nat3_idx {l n m : ℕ} (X : (⟨3, ![l, n, m]⟩ : Shape).Idx → EReal) (y : (⟨3, ![l, n, m]⟩ : Shape).Idx) (g r c : ℕ)
    (hg : g = (y 0).val) (hr : r = (y 1).val) (hc : c = (y 2).val) : nat3 X g r c = X y := by
  subst hg; subst hr; subst hc
  unfold nat3
  rw [dif_pos ⟨(y 0).isLt, (y 1).isLt, (y 2).isLt⟩]
  exact congrArg X (eq_ix3 y).symm

/-- A vector as a function of a natural number, zero outside its extent. -/
def nat1 {n : ℕ} (X : (⟨1, ![n]⟩ : Shape).Idx → EReal) (k : ℕ) : EReal := if h : k < n then X (ix1 ⟨k, h⟩) else 0

/-- At an index inside the extent it is the vector's element. -/
theorem nat1_idx {n : ℕ} (X : (⟨1, ![n]⟩ : Shape).Idx → EReal) (y : (⟨1, ![n]⟩ : Shape).Idx) (k : ℕ) (hk : k = (y 0).val) : nat1 X k = X y := by
  subst hk
  unfold nat1
  have h : (y 0).val < n := (y 0).isLt
  rw [dif_pos h]
  exact congrArg X (funext fun a => by fin_cases a; rfl)

/-- A column of rows moved down by `s`: row `n` reads row `n - s`, and the first `s` rows are zero. -/
def shDown (s : ℕ) (f : ℕ → ℕ → EReal) (n c : ℕ) : EReal := if n < s then 0 else f (n - s) c

/-- Moving down twice is moving down by the sum. -/
theorem shDown_shDown (s t : ℕ) (f : ℕ → ℕ → EReal) : shDown s (shDown t f) = shDown (t + s) f := by
  funext n c
  unfold shDown
  by_cases h : n < s
  · rw [if_pos h, if_pos (by omega)]
  · rw [if_neg h]
    by_cases h' : n - s < t
    · rw [if_pos h', if_pos (by omega)]
    · rw [if_neg h', if_neg (by omega), Nat.sub_sub, Nat.add_comm]

/-- Sixteen rows of zeros in front only move the row number. -/
theorem shDown_front (s : ℕ) (f : ℕ → ℕ → EReal) (n c : ℕ) : shDown s (shDown 16 f) (n + 16) c = shDown s f n c := by
  rw [shDown_shDown]
  unfold shDown
  by_cases h : n < s
  · rw [if_pos h, if_pos (by omega)]
  · rw [if_neg h, if_neg (by omega)]; congr 1; omega

/-- The sum of the last `w` rows up to row `n`. -/
def winDown (w : ℕ) (f : ℕ → ℕ → EReal) (n c : ℕ) : EReal := ∑ i ∈ Finset.range w, shDown i f n c

/-- The sum of the next `w` rows from row `n`. -/
def winUp (w : ℕ) (f : ℕ → ℕ → EReal) (n c : ℕ) : EReal := ∑ i ∈ Finset.range w, f (n + i) c

/-- A window of one row is the row. -/
theorem winDown_one (f : ℕ → ℕ → EReal) : winDown 1 f = f := by
  funext n c; unfold winDown shDown; simp

/-- A window of one row is the row. -/
theorem winUp_one (f : ℕ → ℕ → EReal) : winUp 1 f = f := by
  funext n c; unfold winUp; simp

/-- A window twice as long is the window plus the window moved down by its length. -/
theorem winDown_add (w w' : ℕ) (f : ℕ → ℕ → EReal) (n c : ℕ) :
    winDown (w + w') f n c = winDown w f n c + shDown w (winDown w' f) n c := by
  unfold winDown
  rw [Finset.sum_range_add]
  congr 1
  unfold shDown
  by_cases h : n < w
  · rw [if_pos h]
    exact Finset.sum_eq_zero fun i _ => if_pos (by omega)
  · rw [if_neg h]
    refine Finset.sum_congr rfl fun i _ => ?_
    by_cases h' : n - w < i
    · rw [if_pos h', if_pos (by omega)]
    · rw [if_neg h', if_neg (by omega), Nat.sub_sub]

/-- A window twice as long is the window plus the window from its end. -/
theorem winUp_add (w w' : ℕ) (f : ℕ → ℕ → EReal) (n c : ℕ) :
    winUp (w + w') f n c = winUp w f n c + winUp w' f (n + w) c := by
  unfold winUp
  rw [Finset.sum_range_add]
  congr 1
  exact Finset.sum_congr rfl fun i _ => by rw [Nat.add_assoc]

/-- The call's arguments as functions of natural numbers: the projection, the cotangent of the mixer's output, the
    convolution's weights, the pools' matrices and the pools' scales. -/
structure Args where
  /-- the projection: columns 0… `b`, 1024… `c`, 2048… `x`, 3072… the pools' values -/
  pj : ℕ → ℕ → EReal
  /-- the cotangent of the output: columns 0… the convolution's, 1024… the pools' -/
  dy : ℕ → ℕ → EReal
  /-- the convolution's weights: tap, column -/
  w : ℕ → ℕ → EReal
  /-- the pools' matrices: group, row, column -/
  pw : ℕ → ℕ → ℕ → EReal
  /-- the pools' scales: group, column -/
  ps : ℕ → ℕ → EReal

/-- The arguments' arrays so read. -/
def argsOf (P : (⟨2, ![4096, 4096]⟩ : Shape).Idx → EReal) (Y : (⟨2, ![4096, 2048]⟩ : Shape).Idx → EReal) (W : (⟨2, ![3, 1024]⟩ : Shape).Idx → EReal)
    (M : (⟨3, ![4, 256, 256]⟩ : Shape).Idx → EReal) (S : (⟨1, ![1024]⟩ : Shape).Idx → EReal) : Args where
  pj := nat2 P
  dy := nat2 Y
  w := nat2 W
  pw := nat3 M
  ps g k := nat1 S (256 * g + k)

namespace Args

variable (a : Args)

/-! ## The convolution's branch -/

/-- The convolved product `c · x`. -/
def u (n c : ℕ) : EReal := a.pj n (1024 + c) * a.pj n (2048 + c)
/-- The cotangent of the convolution: the output's times `b`. -/
def dv (n c : ℕ) : EReal := a.dy n c * a.pj n c
/-- The gradient of `b`: the output's cotangent times the convolution. -/
def db (n c : ℕ) : EReal := a.dy n c * ((a.w 0 c * shDown 2 a.u n c + a.w 1 c * shDown 1 a.u n c) + a.w 2 c * a.u n c)
/-- The gradient of the convolved product. -/
def du (n c : ℕ) : EReal := (a.w 2 c * a.dv n c + a.w 1 c * a.dv (n + 1) c) + a.w 0 c * a.dv (n + 2) c
/-- One row's term of the gradient of tap `k`. -/
def dwRow (k n c : ℕ) : EReal := a.dv n c * shDown (2 - k) a.u n c

/-! ## The pools' branch: group `g` has the window `2 ^ (g + 1)` -/

/-- The group's values. -/
def v (g n c : ℕ) : EReal := a.pj n (3072 + 256 * g + c)
/-- The group's cotangents. -/
def yp (g n c : ℕ) : EReal := a.dy n (1024 + 256 * g + c)
/-- How many rows the window holds at row `n`. -/
def cnt (g n : ℕ) : EReal := ((min (n + 1) (2 ^ (g + 1)) : ℕ) : ℝ)
/-- The window's mean less the value. -/
def d (g n c : ℕ) : EReal := Ideal.div (winDown (2 ^ (g + 1)) (a.v g) n c) (cnt g n) - a.v g n c
/-- Its product with the group's matrix. -/
def z (g n k : ℕ) : EReal := ∑ c : Fin 256, a.d g n c.val * a.pw g c.val k
/-- The cotangent of that product. -/
def dz (g n k : ℕ) : EReal := a.yp g n k * a.ps g k
/-- The cotangent of the mean less the value. -/
def dd (g n c : ℕ) : EReal := ∑ k : Fin 256, a.dz g n k.val * a.pw g c k.val
/-- Its share to each row of the window. -/
def q (g n c : ℕ) : EReal := Ideal.div (a.dd g n c) (cnt g n)
/-- The gradient of the group's values. -/
def dvp (g n c : ℕ) : EReal := winUp (2 ^ (g + 1)) (a.q g) n c - a.dd g n c
/-- One row's term of the gradient of the group's scale. -/
def dsRow (g n k : ℕ) : EReal := a.yp g n k * a.z g n k
/-- One row's term of the gradient of the group's matrix. -/
def dpRow (g n c k : ℕ) : EReal := a.d g n c * a.dz g n k

/-! ## The call's four results -/

/-- The gradient of the projection, by its column's branch. -/
def dproj (n c : ℕ) : EReal :=
  if c < 1024 then a.db n c
  else if c < 2048 then a.du n (c - 1024) * a.pj n (2048 + (c - 1024))
  else if c < 3072 then a.du n (c - 2048) * a.pj n (1024 + (c - 2048))
  else a.dvp ((c - 3072) / 256) n ((c - 3072) % 256)

end Args

end Cert.Mix

end
-- ==== Proof.MixRead.lean ====
/-
  The tiles of a grid point's body read at an index, over the extended reals: each is a block, from row `512 t`, of one of
  the functions of the specification.
-/
module

public import proofs.«01_k».proof.Proof.MixSpec
public import proofs.«01_k».proof.Proof.MixVoc
public import Idealize.ShloMosaic.Lib.Pipeline.Value
public import Idealize.ShloMosaic.Lib.KernelVsHost
public import Idealize.ShloMosaic.Lib.MatmulPlain
public import Idealize.ShloMosaic.Lib.PlanTiles.Rows
public import Idealize.ShloMosaic.Lib.Pointwise.Reshape

@[expose] public section

set_option maxRecDepth 65536

noncomputable section

open Idealize.ShloMosaic Idealize.ShloMosaic.TcCoe Idealize.ShloMosaic.ValueIdx
open scoped BigOperators

namespace Cert.KernelIdeal.Mix

open Cert.KernelIdeal Cert.KernelIdeal.Gen Cert.Mix

/-- A matrix of 256 columns is the function's block from row `b`. -/
def T {R : ℕ} (X : (⟨2, ![R, 256]⟩ : Shape).Idx → EReal) (b : ℕ) (f : ℕ → ℕ → EReal) : Prop :=
  ∀ y, X y = f (b + (y 0).val) (y 1).val

/-- The same on the rows from `lo` to `hi` only. -/
def E (lo hi : ℕ) (X : S528x256.Idx → EReal) (b : ℕ) (f : ℕ → ℕ → EReal) : Prop :=
  ∀ y, lo ≤ (y 0).val → (y 0).val < hi → X y = f (b + (y 0).val) (y 1).val

/-- A block of a function is a block of an equal one. -/
theorem T.of {R b : ℕ} {X : (⟨2, ![R, 256]⟩ : Shape).Idx → EReal} {f g : ℕ → ℕ → EReal} (h : T X b f) (e : ∀ n c, f n c = g n c) : T X b g :=
  fun y => (h y).trans (e _ _)

/-! ## The points' tests -/

/-- At point zero the first-point test holds. -/
theorem isFirst_zero (i : grid0.Coords) (h : (i 0).val = 0) : isFirst i = 1#1 := by unfold isFirst; rw [h]; rfl
/-- At any other point it does not. -/
theorem isFirst_ne (i : grid0.Coords) (h : (i 0).val ≠ 0) : isFirst i = 0#1 := by
  unfold isFirst
  have hi : (i 0).val < 8 := (i 0).isLt
  generalize (i 0).val = v at h hi ⊢
  interval_cases v <;> first | exact absurd rfl h | rfl
/-- At point seven the last-point test holds. -/
theorem isLast_seven (i : grid0.Coords) (h : (i 0).val = 7) : isLast i = 1#1 := by unfold isLast; rw [h]; rfl
/-- At any other point it does not. -/
theorem isLast_ne (i : grid0.Coords) (h : (i 0).val ≠ 7) : isLast i = 0#1 := by
  unfold isLast
  have hi : (i 0).val < 8 := (i 0).isLt
  generalize (i 0).val = v at h hi ⊢
  interval_cases v <;> first | exact absurd rfl h | rfl

/-! ## Halos, extended tiles, rotations -/

variable {i : grid0.Coords} {t : ℕ} {f g : ℕ → ℕ → EReal}

/-- The rows before the tile are the function's moved down sixteen rows, the tile's first row being its first. -/
theorem halo_down {Q : Vec Ideal S16x256 .bf16} (hi : (i 0).val = t) (hQ : t ≠ 0 → ∀ y : S16x256.Idx, Q y = f (512 * t - 16 + (y 0).val) (y 1).val) :
    T (R := 16) (halo (isFirst i) Q) (512 * t) (shDown 16 f) := by
  intro y
  have hy : (y 0).val < 16 := (y 0).isLt
  unfold halo shDown
  by_cases h : t = 0
  · rw [isFirst_zero i (by omega), select_one, if_pos (by omega)]
    exact Ideal.ofBits_zero_f32
  · rw [isFirst_ne i (by omega), select_zero, if_neg (by omega)]
    refine (hQ h y).trans ?_
    congr 1; omega

/-- The rows after the tile are the function's from there, a function with no row past the last tile. -/
theorem halo_up {N : Vec Ideal S16x256 .bf16} (hi : (i 0).val = t) (hz : ∀ n c, 4096 ≤ n → f n c = 0)
    (hN : t ≠ 7 → ∀ y : S16x256.Idx, N y = f (512 * t + 512 + (y 0).val) (y 1).val) :
    T (R := 16) (halo (isLast i) N) (512 * t + 512) f := by
  intro y
  unfold halo
  by_cases h : t = 7
  · rw [isLast_seven i (by omega), select_one, hz _ _ (by omega)]
    exact Ideal.ofBits_zero_f32
  · rw [isLast_ne i (by omega), select_zero]
    exact hN h y

/-- A tile under its sixteen rows before. -/
theorem above_read {b : ℕ} {H : FVec Ideal S16x256 .f32} {X : FVec Ideal S512x256 .f32} (hH : T (R := 16) H b (shDown 16 f)) (hX : T (R := 512) X b f) :
    E 0 528 (above H X) b (shDown 16 f) := by
  intro y _ _
  unfold above
  have h1 : (y 1).val < 256 := (y 1).isLt
  have h0 : (y 0).val < 528 := (y 0).isLt
  by_cases hy : (y 0).val < 16
  · rw [concatenate_pair_apply_left (0 : Fin S528x256.rank) H X _ y rfl (ValueIdx.ix2 ⟨(y 0).val, hy⟩ ⟨(y 1).val, h1⟩) (fun a => by fin_cases a <;> rfl)]
    exact hH _
  · rw [concatenate_pair_apply_right (0 : Fin S528x256.rank) H X _ y rfl rfl (ValueIdx.ix2 ⟨(y 0).val - 16, by omega⟩ ⟨(y 1).val, h1⟩)
      (fun a ha => by fin_cases a <;> first | exact absurd rfl ha | rfl) (Nat.sub_add_cancel (by omega))]
    refine (hX _).trans ?_
    unfold shDown
    rw [if_neg (by omega)]
    show f (b + ((y 0).val - 16)) (y 1).val = _
    congr 1; omega

/-- A tile over its sixteen rows after. -/
theorem below_read {b : ℕ} {H : FVec Ideal S16x256 .f32} {X : FVec Ideal S512x256 .f32} (hX : T (R := 512) X b f) (hH : T (R := 16) H (b + 512) f) :
    E 0 528 (below X H) b f := by
  intro y _ _
  unfold below
  have h1 : (y 1).val < 256 := (y 1).isLt
  have h0 : (y 0).val < 528 := (y 0).isLt
  by_cases hy : (y 0).val < 512
  · rw [concatenate_pair_apply_left (0 : Fin S528x256.rank) X H _ y rfl (ValueIdx.ix2 ⟨(y 0).val, hy⟩ ⟨(y 1).val, h1⟩) (fun a => by fin_cases a <;> rfl)]
    exact hX _
  · rw [concatenate_pair_apply_right (0 : Fin S528x256.rank) X H _ y rfl rfl (ValueIdx.ix2 ⟨(y 0).val - 512, by omega⟩ ⟨(y 1).val, h1⟩)
      (fun a ha => by fin_cases a <;> first | exact absurd rfl ha | rfl) (Nat.sub_add_cancel (by omega))]
    refine (hH _).trans ?_
    show f (b + 512 + ((y 0).val - 512)) (y 1).val = _
    congr 1; omega

/-- Rotated by `s`, each row from row `s` on is the row `s` above it. -/
theorem rot_down {lo b s : ℕ} {X : FVec Ideal S528x256 .f32} (sb : BitVec 32) (hs : sb.toNat = s) (hs' : s < 528) (hX : E lo 528 X b f) :
    E (lo + s) 528 (rot sb X) b (shDown s f) := by
  intro y hl hh
  have h1 : (y 1).val < 256 := (y 1).isLt
  unfold rot shDown
  rw [dynamicRotate_apply (0 : Fin S528x256.rank) sb X _ y (ValueIdx.ix2 ⟨(y 0).val - s, by omega⟩ ⟨(y 1).val, h1⟩) (fun a => by
    fin_cases a
    · show (y 0).val - s = ((y 0).val + 528 - sb.toNat % 528) % 528
      rw [hs]; omega
    · rfl), if_neg (by omega)]
  refine (hX _ (by show lo ≤ (y 0).val - s; omega) (by show (y 0).val - s < 528; omega)).trans ?_
  show f (b + ((y 0).val - s)) (y 1).val = _
  congr 1; omega

/-- Rotated by `528 - s`, each of the rows before the last `s` is the row `s` below it. -/
theorem rot_up {hi b s : ℕ} {X : FVec Ideal S528x256 .f32} (sb : BitVec 32) (hs : sb.toNat = 528 - s) (hs0 : 0 < s) (hh' : hi ≤ 528) (hX : E 0 hi X b f) :
    E 0 (hi - s) (rot sb X) b (fun n c => f (n + s) c) := by
  intro y hl hh
  have h1 : (y 1).val < 256 := (y 1).isLt
  unfold rot
  rw [dynamicRotate_apply (0 : Fin S528x256.rank) sb X _ y (ValueIdx.ix2 ⟨(y 0).val + s, by omega⟩ ⟨(y 1).val, h1⟩) (fun a => by
    fin_cases a
    · show (y 0).val + s = ((y 0).val + 528 - sb.toNat % 528) % 528
      rw [hs]; omega
    · rfl)]
  refine (hX _ (Nat.zero_le _) (by show (y 0).val + s < hi; omega)).trans ?_
  show f (b + ((y 0).val + s)) (y 1).val = _
  congr 1; omega

/-- The rows from the seventeenth. -/
theorem tail_read {lo b : ℕ} {X : FVec Ideal S528x256 .f32} (hl : lo ≤ 16) (hX : E lo 528 X b f) : T (R := 512) (tail X) b (fun n c => f (n + 16) c) := by
  intro y
  have h1 : (y 1).val < 256 := (y 1).isLt
  have h0 : (y 0).val < 512 := (y 0).isLt
  unfold tail
  rw [extractStridedSlice_apply _ X _ y (ValueIdx.ix2 ⟨16 + (y 0).val, by omega⟩ ⟨(y 1).val, h1⟩) (fun a => by
    fin_cases a
    · rfl
    · show (y 1).val = 0 + (y 1).val; omega)]
  refine (hX _ (by show lo ≤ 16 + (y 0).val; omega) (by show 16 + (y 0).val < 528; omega)).trans ?_
  show f (b + (16 + (y 0).val)) (y 1).val = f (b + (y 0).val + 16) _
  congr 1; omega

/-- The rows before the last sixteen. -/
theorem head_read {hi b : ℕ} {X : FVec Ideal S528x256 .f32} (hh : 512 ≤ hi) (hX : E 0 hi X b f) : T (R := 512) (head X) b f := by
  intro y
  have h1 : (y 1).val < 256 := (y 1).isLt
  have h0 : (y 0).val < 512 := (y 0).isLt
  unfold head
  rw [extractStridedSlice_apply _ X _ y (ValueIdx.ix2 ⟨(y 0).val, by omega⟩ ⟨(y 1).val, h1⟩) (fun a => by
    fin_cases a
    · show (y 0).val = 0 + (y 0).val; omega
    · show (y 1).val = 0 + (y 1).val; omega)]
  exact hX _ (Nat.zero_le _) (by show (y 0).val < hi; omega)

/-- A window of `w` rows plus itself `w` rows down is a window of `2 w`. -/
theorem win_down {lo b w : ℕ} {X : FVec Ideal S528x256 .f32} (sb : BitVec 32) (hs : sb.toNat = w) (hw : w < 528) (hX : E lo 528 X b (winDown w f)) :
    E (lo + w) 528 (addf X (rot sb X)) b (winDown (w + w) f) := by
  intro y hl hh
  rw [winDown_add]
  exact congrArg₂ (· + ·) (hX y (by omega) hh) (rot_down sb hs hw hX y hl hh)

/-- A window of `w` rows plus itself `w` rows up is a window of `2 w`. -/
theorem win_up {hi b w : ℕ} {X : FVec Ideal S528x256 .f32} (sb : BitVec 32) (hs : sb.toNat = 528 - w) (hw : 0 < w) (hh' : hi ≤ 528) (hX : E 0 hi X b (winUp w f)) :
    E 0 (hi - w) (addf X (rot sb X)) b (winUp (w + w) f) := by
  intro y hl hh
  rw [winUp_add]
  exact congrArg₂ (· + ·) (hX y (by omega) (by omega)) (rot_up sb hs hw hh' hX y hl hh)

/-- The shifts that double a window down to `2 ^ (g + 1)` rows. -/
inductive Downs : ℕ → List (BitVec 32) → ℕ → Prop
  | nil (w : ℕ) : Downs w [] w
  | cons (w : ℕ) (sb : BitVec 32) (l : List (BitVec 32)) (W : ℕ) (hs : sb.toNat = w) (hw : w < 528) (hl : Downs (w + w) l W) : Downs w (sb :: l) W

/-- The shifts that double a window up. -/
inductive Ups : ℕ → List (BitVec 32) → ℕ → Prop
  | nil (w : ℕ) : Ups w [] w
  | cons (w : ℕ) (sb : BitVec 32) (l : List (BitVec 32)) (W : ℕ) (hs : sb.toNat = 528 - w) (hw : 0 < w) (hl : Ups (w + w) l W) : Ups w (sb :: l) W

/-- Doubling down leaves the window's sum on the rows that see their whole window. -/
theorem windows_down {w W : ℕ} {l : List (BitVec 32)} (hl : Downs w l W) : ∀ {lo b : ℕ} {X : FVec Ideal S528x256 .f32}, lo + 1 = w →
    E lo 528 X b (winDown w f) → E (W - 1) 528 (windows l X) b (winDown W f) := by
  induction hl with
  | nil w => intro lo b X hlo hX; rw [← hlo, Nat.add_sub_cancel]; rw [← hlo] at hX; exact hX
  | cons w sb l W hs hw _ ih => intro lo b X hlo hX; exact ih (by omega) (win_down sb hs hw hX)

/-- Doubling up likewise. -/
theorem windows_up {w W : ℕ} {l : List (BitVec 32)} (hl : Ups w l W) : ∀ {hi b : ℕ} {X : FVec Ideal S528x256 .f32}, hi = 529 - w →
    E 0 hi X b (winUp w f) → E 0 (529 - W) (windows l X) b (winUp W f) := by
  induction hl with
  | nil w => intro hi b X hh hX; rw [hh] at hX; exact hX
  | cons w sb l W hs hw _ ih => intro hi b X hh hX; exact ih (by omega) (win_up sb hs hw (by omega) hX)

/-- A window of the rows before, cut out of the extended tile. -/
theorem window_tail {b W : ℕ} {l : List (BitVec 32)} (hl : Downs 1 l W) (hW : W ≤ 16) {X : FVec Ideal S528x256 .f32} (hX : E 0 528 X b (shDown 16 f)) :
    T (R := 512) (tail (windows l X)) b (winDown W f) := by
  refine (tail_read (by omega) (windows_down (f := shDown 16 f) hl rfl (by rw [winDown_one]; exact hX))).of fun n c => ?_
  unfold winDown
  exact Finset.sum_congr rfl fun j _ => shDown_front j f n c

/-- A window of the rows after, cut out of the extended tile. -/
theorem window_head {b W : ℕ} {l : List (BitVec 32)} (hl : Ups 1 l W) (hW : W ≤ 16) {X : FVec Ideal S528x256 .f32} (hX : E 0 528 X b f) :
    T (R := 512) (head (windows l X)) b (winUp W f) :=
  head_read (by omega) (windows_up hl rfl (by rw [winUp_one]; exact hX))

/-- The extended tile moved down `s` rows and cut. -/
theorem down_tail {b s : ℕ} (sb : BitVec 32) (hs : sb.toNat = s) (hs' : s ≤ 16) {X : FVec Ideal S528x256 .f32} (hX : E 0 528 X b (shDown 16 f)) :
    T (R := 512) (tail (rot sb X)) b (shDown s f) :=
  (tail_read (by omega) (rot_down sb hs (by omega) hX)).of fun n c => shDown_front s f n c

/-- The extended tile moved up `s` rows and cut. -/
theorem up_head {b s : ℕ} (sb : BitVec 32) (hs : sb.toNat = 528 - s) (hs0 : 0 < s) (hs' : s ≤ 16) {X : FVec Ideal S528x256 .f32} (hX : E 0 528 X b f) :
    T (R := 512) (head (rot sb X)) b (fun n c => f (n + s) c) :=
  head_read (by omega) (rot_up sb hs hs0 (Nat.le_refl _) hX)

/-! ## Repeated rows, counts, sums of rows, products -/

/-- A row repeated over a tile. -/
theorem rows_read {W : FVec Ideal S1x256 .f32} {w : ℕ → EReal} (hW : ∀ y : S1x256.Idx, W y = w (y 1).val) (y : S512x256.Idx) : rows W y = w (y 1).val := by
  unfold rows
  have h1 : (y 1).val < 256 := (y 1).isLt
  rw [broadcastTo_apply W _ y (ValueIdx.ix2 (0 : Fin 1) ⟨(y 1).val, h1⟩) (fun a => by fin_cases a <;> rfl)]
  exact hW _

/-- A row repeated over sixteen. -/
theorem rows16_read {W : FVec Ideal S1x256 .f32} {w : ℕ → EReal} (hW : ∀ y : S1x256.Idx, W y = w (y 1).val) (y : S16x256.Idx) :
    broadcastTo S16x256 W broadcasts_S1x256_S16x256 y = w (y 1).val := by
  have h1 : (y 1).val < 256 := (y 1).isLt
  rw [broadcastTo_apply W _ y (ValueIdx.ix2 (0 : Fin 1) ⟨(y 1).val, h1⟩) (fun a => by fin_cases a <;> rfl)]
  exact hW _

/-- How many rows the window of `w` rows holds at each row. -/
theorem count_read {w : ℕ} (hi : (i 0).val = t) (ht : t < 8) (hw : w ≤ 16) :
    T (R := 512) (count (F := Ideal) i (BitVec.ofNat 32 w)) (512 * t) (fun n _ => (((min (n + 1) w : ℕ) : ℝ) : EReal)) := by
  intro y
  have h0 : (y 0).val < 512 := (y 0).isLt
  have e : addi (addi (broadcast S512x256 (Scalar.muli (BitVec.ofNat 32 (i 0).val) 512#32)) (iota .tc S512x256 32 [0] iota_S512x256_d0_w32))
      (broadcast S512x256 1#32) y = BitVec.ofNat 32 (512 * t + (y 0).val + 1) := by
    show BitVec.ofNat 32 (i 0).val * 512#32 + BitVec.ofNat 32 (0 * 512 + (y 0).val) + 1#32 = _
    apply BitVec.eq_of_toNat_eq
    rw [hi]
    simp only [BitVec.toNat_add, BitVec.toNat_mul, BitVec.toNat_ofNat]
    omega
  show FloatOps.sitofp (F := Ideal) .f32 (IntOp.minsi (addi (addi (broadcast S512x256 (Scalar.muli (BitVec.ofNat 32 (i 0).val) 512#32))
    (iota .tc S512x256 32 [0] iota_S512x256_d0_w32)) (broadcast S512x256 1#32) y) (BitVec.ofNat 32 w)) = _
  rw [e, PlanTiles.minsi_word (by omega) (by omega)]
  show (((BitVec.ofNat 32 (min w (512 * t + (y 0).val + 1))).toInt : ℝ) : EReal) = (((min (512 * t + (y 0).val + 1) w : ℕ) : ℝ) : EReal)
  rw [Nat.min_comm]
  have hm : min (512 * t + (y 0).val + 1) w ≤ 16 := by omega
  generalize min (512 * t + (y 0).val + 1) w = m at hm ⊢
  have hi : (BitVec.ofNat 32 m).toInt = (m : ℤ) := by interval_cases m <;> rfl
  rw [hi, Int.cast_natCast]

/-- A row plus the sum of a tile's rows. -/
theorem colAcc_read {b : ℕ} {A : FVec Ideal S1x256 .f32} {V : FVec Ideal S512x256 .f32} (hV : T (R := 512) V b f) (y : S1x256.Idx) :
    colAcc A V y = A y + ∑ r : Fin 512, f (b + r.val) (y 1).val := by
  have h1 : (y 1).val < 256 := (y 1).isLt
  have h0 : (y 0).val < 1 := (y 0).isLt
  unfold colAcc
  rw [addf_apply, shapeCast_self, shapeCast_apply _ _ y (ValueIdx.ix1 ⟨(y 1).val, h1⟩) (by
    rw [rowMajor_val1, rowMajor_val2 _ _ rfl]
    show (y 1).val = (y 0).val * 256 + (y 1).val
    omega)]
  refine congrArg (A y + ·) ?_
  exact (Ideal.multiReduction_add_single V _ _ _ _ _).trans (Finset.sum_congr rfl fun r _ => hV _)

/-- The product with a matrix of the pools. -/
theorem dot_read (prec : Option ContractPrecision) (L : FVec Ideal S512x256 .bf16) (R : FVec Ideal S256x256 .bf16) (y : S512x256.Idx) :
    matmul dot_S512x256_S256x256_S512x256_1_0_0_1_n_n prec L R (constant S512x256 .f32 0x00000000#32) y
      = ∑ k : Fin 256, L (ValueIdx.ix2 (y 0) k) * R (ValueIdx.ix2 k (y 1)) := by
  rw [ValueIdx.eq_ix2 y]
  refine (Ideal.matmul_plain_apply (M := 512) (K := 256) (N := 256) prec L R _ (y 0) (y 1)).trans ?_
  rw [constant_apply, Ideal.ofBits_zero_f32, zero_add]

/-- The product with its transpose. -/
theorem dotT_read (prec : Option ContractPrecision) (L : FVec Ideal S512x256 .bf16) (R : FVec Ideal S256x256 .bf16) (y : S512x256.Idx) :
    matmul dot_S512x256_S256x256_S512x256_1_1_0_0_n_n prec L R (constant S512x256 .f32 0x00000000#32) y
      = ∑ k : Fin 256, L (ValueIdx.ix2 (y 0) k) * R (ValueIdx.ix2 (y 1) k) := by
  rw [ValueIdx.eq_ix2 y]
  refine (Ideal.matmul_transposedRhs_apply (M := 512) (K := 256) (N := 256) prec L R _ (y 0) (y 1)).trans ?_
  rw [constant_apply, Ideal.ofBits_zero_f32, zero_add]

/-- The product of sixteen rows with its transpose. -/
theorem dotT16_read (prec : Option ContractPrecision) (L : FVec Ideal S16x256 .bf16) (R : FVec Ideal S256x256 .bf16) (y : S16x256.Idx) :
    matmul dot_S16x256_S256x256_S16x256_1_1_0_0_n_n prec L R (constant S16x256 .f32 0x00000000#32) y
      = ∑ k : Fin 256, L (ValueIdx.ix2 (y 0) k) * R (ValueIdx.ix2 (y 1) k) := by
  rw [ValueIdx.eq_ix2 y]
  refine (Ideal.matmul_transposedRhs_apply (M := 16) (K := 256) (N := 256) prec L R _ (y 0) (y 1)).trans ?_
  rw [constant_apply, Ideal.ofBits_zero_f32, zero_add]

/-- The product of two tiles over their rows. -/
theorem dotR_read (prec : Option ContractPrecision) (L R : FVec Ideal S512x256 .bf16) (y : S256x256.Idx) :
    matmul dot_S512x256_S512x256_S256x256_0_0_1_1_n_n prec L R (constant S256x256 .f32 0x00000000#32) y
      = ∑ k : Fin 512, L (ValueIdx.ix2 k (y 0)) * R (ValueIdx.ix2 k (y 1)) := by
  refine (Ideal.matmul_constant_zero_apply _ prec L R y).trans ?_
  rw [← Equiv.sum_comp (contrEquiv1 dot_S512x256_S512x256_S256x256_0_0_1_1_n_n 512 rfl rfl).symm]
  refine Finset.sum_congr rfl fun k _ => ?_
  have hk := contrEquiv1_symm_val dot_S512x256_S512x256_S256x256_0_0_1_1_n_n 512 rfl rfl k
  refine congrArg₂ (· * ·) (congrArg L (funext fun a => Fin.ext ?_)) (congrArg R (funext fun a => Fin.ext ?_))
  · match a with
    | ⟨0, _⟩ => exact hk
    | ⟨1, _⟩ => rfl
  · match a with
    | ⟨0, _⟩ => exact hk
    | ⟨1, _⟩ => rfl

end Cert.KernelIdeal.Mix

end
-- ==== Proof.MixTile.lean ====
/-
  What a grid point's body stores, element by element: every piece is a block of the specification's functions, the sums'
  pieces on top of what the buffer held before.
-/
module

public import proofs.«01_k».proof.Proof.MixRead
public import Idealize.ShloMosaic.Lib.Pipeline.ReadBack

@[expose] public section

set_option maxRecDepth 65536

noncomputable section

open Idealize.ShloMosaic Idealize.ShloMosaic.TcCoe Idealize.ShloMosaic.ValueIdx Idealize.SL.Sem
open scoped BigOperators

namespace Cert.KernelIdeal.Mix

open Cert.KernelIdeal Cert.KernelIdeal.Gen Cert.Mix

/-- The loads of point `t` are blocks of the call's arguments. -/
structure Reads (l : Loads Ideal) (i : grid0.Coords) (t : ℕ) (a : Args) : Prop where
  hi : (i 0).val = t
  ht : t < 8
  p : ∀ lo h (y : S512x256.Idx), l.p lo h y = a.pj (512 * t + (y 0).val) (lo + (y 1).val)
  q : t ≠ 0 → ∀ lo h (y : S16x256.Idx), l.q lo h y = a.pj (512 * t - 16 + (y 0).val) (lo + (y 1).val)
  n : t ≠ 7 → ∀ lo h (y : S16x256.Idx), l.n lo h y = a.pj (512 * t + 512 + (y 0).val) (lo + (y 1).val)
  y : ∀ lo h (y : S512x256.Idx), l.y lo h y = a.dy (512 * t + (y 0).val) (lo + (y 1).val)
  yn : t ≠ 7 → ∀ lo h (y : S16x256.Idx), l.yn lo h y = a.dy (512 * t + 512 + (y 0).val) (lo + (y 1).val)
  w : ∀ r lo hr h (y : S1x256.Idx), l.w r lo hr h y = a.w r (lo + (y 1).val)
  m : ∀ g h (y : S1x256x256.Idx), l.m g h y = a.pw g (y 1).val (y 2).val
  s : ∀ g h (y : S1x256.Idx), l.s (256 * g) h y = a.ps g (y 1).val
  pz : ∀ n c, 4096 ≤ n → a.pj n c = 0
  yz : ∀ n c, 4096 ≤ n → a.dy n c = 0

/-- An element's place in a matrix and in an array of one matrix. -/
theorem place2 (y : S256x256.Idx) : (S256x256.rowMajor y : ℕ) = (y 0).val * 256 + (y 1).val := rowMajor_val2 y 256 (by decide)
theorem place3 (y : S1x256x256.Idx) : (S1x256x256.rowMajor y : ℕ) = (y 0).val * 65536 + (y 1).val * 256 + (y 2).val :=
  rowMajor_val3 y 65536 256 (by decide) (by decide)

section Tiles

variable {l : Loads Ideal} {i : grid0.Coords} {t : ℕ} {a : Args} (H : Reads l i t a)
include H

/-! ## The convolution's branch -/

theorem cU_read (lo : ℕ) (h : lo + 256 ≤ 1024) : T (R := 512) (cU l lo h) (512 * t) (fun n c => a.u n (lo + c)) := by
  intro y
  refine (congrArg₂ (· * ·) (H.p (1024 + lo) _ y) (H.p (2048 + lo) _ y)).trans ?_
  unfold Args.u; rw [Nat.add_assoc 1024, Nat.add_assoc 2048]

theorem cExt_read (lo : ℕ) (h : lo + 256 ≤ 1024) : E 0 528 (cExt l i lo h) (512 * t) (shDown 16 fun n c => a.u n (lo + c)) := by
  refine above_read (fun y => ?_) (cU_read H lo h)
  refine (congrArg₂ (· * ·) (halo_down (f := fun n c => a.pj n (1024 + lo + c)) H.hi (fun h0 y => H.q h0 _ _ y) y)
    (halo_down (f := fun n c => a.pj n (2048 + lo + c)) H.hi (fun h0 y => H.q h0 _ _ y) y)).trans ?_
  unfold shDown Args.u
  by_cases hn : 512 * t + (y 0).val < 16
  · simp only [if_pos hn, mul_zero]
  · simp only [if_neg hn, Nat.add_assoc]

theorem cDn_read (sb : BitVec 32) (s : ℕ) (hs : sb.toNat = s) (hs' : s ≤ 16) (lo : ℕ) (h : lo + 256 ≤ 1024) :
    T (R := 512) (cDn l i sb lo h) (512 * t) (fun n c => shDown s a.u n (lo + c)) :=
  (down_tail sb hs hs' (cExt_read H lo h)).of fun n c => by unfold shDown; rfl

theorem cRow_read (r lo : ℕ) (hr : r + 1 ≤ 3) (h : lo + 256 ≤ 1024) (y : S512x256.Idx) : rows (F := Ideal) (l.w r lo hr h) y = a.w r (lo + (y 1).val) :=
  rows_read (w := fun c => a.w r (lo + c)) (fun y => H.w r lo hr h y) y

theorem cDb_read (lo : ℕ) (h : lo + 256 ≤ 1024) : T (R := 512) (cDb l i lo h) (512 * t) (fun n c => a.db n (lo + c)) := by
  intro y
  unfold Args.db
  exact congrArg₂ (· * ·) (H.y lo _ y) (congrArg₂ (· + ·) (congrArg₂ (· + ·)
    (congrArg₂ (· * ·) (cRow_read H 0 lo _ h y) (cDn_read H 2#32 2 rfl (by decide) lo h y))
    (congrArg₂ (· * ·) (cRow_read H 1 lo _ h y) (cDn_read H 1#32 1 rfl (by decide) lo h y)))
    (congrArg₂ (· * ·) (cRow_read H 2 lo _ h y) (cU_read H lo h y)))

theorem cDv_read (lo : ℕ) (h : lo + 256 ≤ 1024) : T (R := 512) (cDv l lo h) (512 * t) (fun n c => a.dv n (lo + c)) := fun y =>
  congrArg₂ (· * ·) (H.y lo _ y) (H.p lo _ y)

theorem cDext_read (lo : ℕ) (h : lo + 256 ≤ 1024) : E 0 528 (cDext l i lo h) (512 * t) (fun n c => a.dv n (lo + c)) :=
  below_read (cDv_read H lo h) fun y =>
    congrArg₂ (· * ·) (halo_up (f := fun n c => a.dy n (lo + c)) H.hi (fun n c hn => H.yz _ _ hn) (fun h0 y => H.yn h0 _ _ y) y)
      (halo_up (f := fun n c => a.pj n (lo + c)) H.hi (fun n c hn => H.pz _ _ hn) (fun h0 y => H.n h0 _ _ y) y)

theorem cDu_read (lo : ℕ) (h : lo + 256 ≤ 1024) : T (R := 512) (cDu l i lo h) (512 * t) (fun n c => a.du n (lo + c)) := by
  intro y
  unfold Args.du
  exact congrArg₂ (· + ·) (congrArg₂ (· + ·)
    (congrArg₂ (· * ·) (cRow_read H 2 lo _ h y) (cDv_read H lo h y))
    (congrArg₂ (· * ·) (cRow_read H 1 lo _ h y) (up_head 527#32 (s := 1) rfl (by decide) (by decide) (cDext_read H lo h) y)))
    (congrArg₂ (· * ·) (cRow_read H 0 lo _ h y) (up_head 526#32 (s := 2) rfl (by decide) (by decide) (cDext_read H lo h) y))

/-! ## The pools' branch -/

variable {g : ℕ}

theorem pV_read (hg : g + 1 ≤ 4) : T (R := 512) (wide (l.p (3072 + 256 * g) (by omega))) (512 * t) (a.v g) := fun y => H.p _ _ y

theorem pCnt_read (w : BitVec 32) (hw : w = BitVec.ofNat 32 (2 ^ (g + 1))) (hg : g + 1 ≤ 4) :
    T (R := 512) (count (F := Ideal) i w) (512 * t) (fun n _ => Args.cnt g n) := by
  subst hw
  exact count_read H.hi H.ht ((Nat.pow_le_pow_right (by decide) hg).trans (by decide))

theorem pD_read (w : BitVec 32) (ss : List (BitVec 32)) (hw : w = BitVec.ofNat 32 (2 ^ (g + 1))) (hd : Downs 1 ss (2 ^ (g + 1))) (hg : g + 1 ≤ 4) :
    T (R := 512) (pD l i w ss g hg) (512 * t) (a.d g) := by
  intro y
  unfold Args.d
  exact congrArg₂ (· - ·) (congrArg₂ Ideal.div
    (window_tail hd ((Nat.pow_le_pow_right (by decide) hg).trans (by decide)) (above_read
      (halo_down (f := a.v g) H.hi (fun h0 y => H.q h0 _ _ y)) (pV_read H hg)) y)
    (pCnt_read H w hw hg y)) (pV_read H hg y)

theorem pM_read (hg : g + 1 ≤ 4) (y : S256x256.Idx) : pM l g hg y = a.pw g (y 0).val (y 1).val := by
  have h0 : (y 0).val < 256 := (y 0).isLt
  have h1 : (y 1).val < 256 := (y 1).isLt
  unfold pM
  rw [shapeCast_apply _ _ y (ValueIdx.ix3 (0 : Fin 1) ⟨(y 0).val, h0⟩ ⟨(y 1).val, h1⟩) (by
    rw [place2, place3]
    show 0 * 65536 + (y 0).val * 256 + (y 1).val = (y 0).val * 256 + (y 1).val
    omega)]
  exact H.m g hg _

theorem pS_read (hg : g + 1 ≤ 4) (y : S1x256.Idx) : pS l g hg y = a.ps g (y 1).val := by
  unfold pS; rw [shapeCast_self]; exact H.s g _ y

theorem pYz_read (w : BitVec 32) (ss : List (BitVec 32)) (hw : w = BitVec.ofNat 32 (2 ^ (g + 1))) (hd : Downs 1 ss (2 ^ (g + 1))) (hg : g + 1 ≤ 4) :
    T (R := 512) (pYz l i w ss g hg) (512 * t) (a.dsRow g) := by
  intro y
  unfold Args.dsRow Args.z
  refine congrArg₂ (· * ·) ((H.y _ _ y).trans rfl) ((dot_read none _ _ y).trans (Finset.sum_congr rfl fun k _ => ?_))
  exact congrArg₂ (· * ·) (pD_read H w ss hw hd hg _) (pM_read H hg _)

theorem pDz_read (hg : g + 1 ≤ 4) : T (R := 512) (pDz l g hg) (512 * t) (a.dz g) := fun y =>
  congrArg₂ (· * ·) ((H.y _ _ y).trans rfl) (rows_read (w := a.ps g) (fun y => pS_read H hg y) y)

theorem pDd_read (hg : g + 1 ≤ 4) : T (R := 512) (pDd l g hg) (512 * t) (a.dd g) := by
  intro y
  unfold Args.dd
  refine (dotT_read none _ _ y).trans (Finset.sum_congr rfl fun k _ => ?_)
  exact congrArg₂ (· * ·) (pDz_read H hg _) (pM_read H hg _)

theorem pDdn_read (hg : g + 1 ≤ 4) : T (R := 16) (pDdn l i g hg) (512 * t + 512) (a.dd g) := by
  intro y
  unfold Args.dd
  refine (dotT16_read none _ _ y).trans (Finset.sum_congr rfl fun k _ => ?_)
  refine congrArg₂ (· * ·) ?_ (pM_read H hg _)
  exact congrArg₂ (· * ·) (halo_up (f := fun n c => a.dy n (1024 + 256 * g + c)) H.hi (fun n c hn => H.yz _ _ hn) (fun h0 y => H.yn h0 _ _ y) _)
    (rows16_read (w := a.ps g) (fun y => pS_read H hg y) _)

theorem pDv_read (w wf : BitVec 32) (ss : List (BitVec 32)) (hw : w = BitVec.ofNat 32 (2 ^ (g + 1)))
    (hf : Ideal.ofBits .f32 wf = (((2 ^ (g + 1) : ℕ) : ℝ) : EReal)) (hd : Ups 1 ss (2 ^ (g + 1))) (hg : g + 1 ≤ 4) :
    T (R := 512) (pDv l i w wf ss g hg) (512 * t) (a.dvp g) := by
  have h16 : 2 ^ (g + 1) ≤ 16 := (Nat.pow_le_pow_right (by decide) hg).trans (by decide)
  intro y
  unfold Args.dvp
  refine congrArg₂ (· - ·) (window_head hd h16 (below_read (f := a.q g) (fun y => ?_) (fun y => ?_)) y) (pDd_read H hg y)
  · exact congrArg₂ Ideal.div (pDd_read H hg y) (pCnt_read H w hw hg y)
  · unfold Args.q
    refine congrArg₂ Ideal.div (pDdn_read H hg y) (hf.trans ?_)
    unfold Args.cnt
    rw [Nat.min_eq_right (by omega)]

end Tiles

/-! ## The four stores -/

theorem two_bits : Ideal.ofBits .f32 0x40000000#32 = (((2 ^ (0 + 1) : ℕ) : ℝ) : EReal) := by
  simp [Ideal.ofBits, Ideal.ieee, -EReal.coe_mul]; norm_num
theorem four_bits : Ideal.ofBits .f32 0x40800000#32 = (((2 ^ (1 + 1) : ℕ) : ℝ) : EReal) := by
  simp [Ideal.ofBits, Ideal.ieee, -EReal.coe_mul]; norm_num
theorem eight_bits : Ideal.ofBits .f32 0x41000000#32 = (((2 ^ (2 + 1) : ℕ) : ℝ) : EReal) := by
  simp [Ideal.ofBits, Ideal.ieee, -EReal.coe_mul]; norm_num
theorem sixteen_bits : Ideal.ofBits .f32 0x41800000#32 = (((2 ^ (3 + 1) : ℕ) : ℝ) : EReal) := by
  simp [Ideal.ofBits, Ideal.ieee, -EReal.coe_mul]; norm_num

theorem downs0 : Downs 1 [1#32] (2 ^ (0 + 1)) := .cons _ _ _ _ rfl (by decide) (.nil _)
theorem downs1 : Downs 1 [1#32, 2#32] (2 ^ (1 + 1)) := .cons _ _ _ _ rfl (by decide) (.cons _ _ _ _ rfl (by decide) (.nil _))
theorem downs2 : Downs 1 [1#32, 2#32, 4#32] (2 ^ (2 + 1)) :=
  .cons _ _ _ _ rfl (by decide) (.cons _ _ _ _ rfl (by decide) (.cons _ _ _ _ rfl (by decide) (.nil _)))
theorem downs3 : Downs 1 [1#32, 2#32, 4#32, 8#32] (2 ^ (3 + 1)) :=
  .cons _ _ _ _ rfl (by decide) (.cons _ _ _ _ rfl (by decide) (.cons _ _ _ _ rfl (by decide) (.cons _ _ _ _ rfl (by decide) (.nil _))))
theorem ups0 : Ups 1 [527#32] (2 ^ (0 + 1)) := .cons _ _ _ _ rfl (by decide) (.nil _)
theorem ups1 : Ups 1 [527#32, 526#32] (2 ^ (1 + 1)) := .cons _ _ _ _ rfl (by decide) (.cons _ _ _ _ rfl (by decide) (.nil _))
theorem ups2 : Ups 1 [527#32, 526#32, 524#32] (2 ^ (2 + 1)) :=
  .cons _ _ _ _ rfl (by decide) (.cons _ _ _ _ rfl (by decide) (.cons _ _ _ _ rfl (by decide) (.nil _)))
theorem ups3 : Ups 1 [527#32, 526#32, 524#32, 520#32] (2 ^ (3 + 1)) :=
  .cons _ _ _ _ rfl (by decide) (.cons _ _ _ _ rfl (by decide) (.cons _ _ _ _ rfl (by decide) (.cons _ _ _ _ rfl (by decide) (.nil _))))

variable {l : Loads Ideal} {i : grid0.Coords} {t : ℕ} {a : Args}

/-- Point `t`'s block of the gradient of the projection. -/
def G8 (a : Args) (t : ℕ) (y : S512x4096.Idx) : EReal := a.dproj (512 * t + (y 0).val) (y 1).val

/-- A piece of 256 columns is a block of it. -/
theorem at8_read (lo : ℕ) (h : lo + 256 ≤ 4096) {X : FVec Ideal S512x256 .bf16} {f : ℕ → ℕ → EReal} (hX : T (R := 512) X (512 * t) f)
    (hf : ∀ n c, c < 256 → f n c = a.dproj n (lo + c)) (x : (at8 lo h X).1.shape.Idx) : (at8 lo h X).2 x = G8 a t ((at8 lo h X).1.emb x) := by
  refine (hX x).trans ((hf _ _ (x 1).isLt).trans ?_)
  unfold G8
  refine congrArg₂ a.dproj ?_ ?_
  · show 512 * t + (x 0).val = 512 * t + (0 + 1 * (x 0).val); omega
  · show lo + (x 1).val = lo + 1 * (x 1).val; omega

theorem conv8_read (H : Reads l i t a) (lo : ℕ) (h : lo + 256 ≤ 1024) {L : List (View.Piece (Elt Ideal) S512x4096 .bf16)} (hL : View.PiecesOf (G8 a t) L) :
    View.PiecesOf (G8 a t) (conv8 l i lo h L) := by
  refine ⟨at8_read (f := fun n c => a.du n (lo + c) * a.pj n (1024 + (lo + c))) _ _ (fun y => ?_) ?_,
    at8_read (f := fun n c => a.du n (lo + c) * a.pj n (2048 + (lo + c))) _ _ (fun y => ?_) ?_, at8_read _ _ (cDb_read H lo h) ?_, hL⟩
  · exact congrArg₂ (· * ·) (cDu_read H lo h y) ((H.p _ _ y).trans (by rw [Nat.add_assoc]))
  · intro n c hc
    unfold Args.dproj
    rw [if_neg (by omega), if_neg (by omega), if_pos (by omega), show 2048 + lo + c - 2048 = lo + c by omega]
  · exact congrArg₂ (· * ·) (cDu_read H lo h y) ((H.p _ _ y).trans (by rw [Nat.add_assoc]))
  · intro n c hc
    unfold Args.dproj
    rw [if_neg (by omega), if_pos (by omega), show 1024 + lo + c - 1024 = lo + c by omega]
  · intro n c hc
    unfold Args.dproj
    rw [if_pos (by omega)]

theorem pool8 (g : ℕ) (hg : g + 1 ≤ 4) (n c : ℕ) (hc : c < 256) : a.dvp g n c = a.dproj n (3072 + 256 * g + c) := by
  unfold Args.dproj
  rw [if_neg (by omega), if_neg (by omega), if_neg (by omega), show 3072 + 256 * g + c - 3072 = 256 * g + c by omega,
    show (256 * g + c) / 256 = g by omega, show (256 * g + c) % 256 = c by omega]

/-- The gradient of the projection's stores are blocks of it. -/
theorem pieces8_read (H : Reads l i t a) : View.PiecesOf (G8 a t) (pieces8 l i) :=
  ⟨at8_read _ _ (pDv_read H _ _ _ rfl sixteen_bits ups3 _) (pool8 3 (by decide)),
   at8_read _ _ (pDv_read H _ _ _ rfl eight_bits ups2 _) (pool8 2 (by decide)),
   at8_read _ _ (pDv_read H _ _ _ rfl four_bits ups1 _) (pool8 1 (by decide)),
   at8_read _ _ (pDv_read H _ _ _ rfl two_bits ups0 _) (pool8 0 (by decide)),
   conv8_read H _ _ (conv8_read H _ _ (conv8_read H _ _ (conv8_read H _ _ trivial)))⟩

/-- The weights' gradient after point `t`, from what was there. -/
def G9 (a : Args) (t : ℕ) (Z : S3x1024.Idx → EReal) (y : S3x1024.Idx) : EReal := Z y + ∑ r : Fin 512, a.dwRow (y 0).val (512 * t + r.val) (y 1).val

/-- What a row's columns were before. -/
def was9 (Z : Vec Ideal S3x1024 .f32) (_ : List (View.Piece (Elt Ideal) S3x1024 .f32)) (r lo : ℕ) (hr : r + 1 ≤ 3) (h : lo + 256 ≤ 1024) : Vec Ideal S1x256 .f32 :=
  View.ld Z (rect2 r lo 1 hr h)

theorem at9_read (Z : Vec Ideal S3x1024 .f32) (L : List (View.Piece (Elt Ideal) S3x1024 .f32)) (r lo : ℕ) (hr : r + 1 ≤ 3) (h : lo + 256 ≤ 1024)
    {V : FVec Ideal S512x256 .f32} (hV : T (R := 512) V (512 * t) fun n c => a.dwRow r n (lo + c))
    (x : (at9 (was9 Z L r lo hr h) r lo hr h V).1.shape.Idx) :
    (at9 (was9 Z L r lo hr h) r lo hr h V).2 x = G9 a t Z ((at9 (was9 Z L r lo hr h) r lo hr h V).1.emb x) := by
  refine (colAcc_read hV x).trans ?_
  unfold G9
  refine congrArg₂ (· + ·) rfl (Finset.sum_congr rfl fun k _ => ?_)
  have h0 : (x 0).val < 1 := (x 0).isLt
  refine congrArg₂ (fun u v => a.dwRow u _ v) ?_ ?_
  · show r = r + 1 * (x 0).val; omega
  · show lo + (x 1).val = lo + 1 * (x 1).val; omega

theorem conv9_read (H : Reads l i t a) (Z : Vec Ideal S3x1024 .f32) (lo : ℕ) (h : lo + 256 ≤ 1024) {L : List (View.Piece (Elt Ideal) S3x1024 .f32)}
    (hL : View.PiecesOf (G9 a t Z) L) : View.PiecesOf (G9 a t Z) (conv9 l i (was9 Z) lo h L) :=
  ⟨at9_read Z _ _ _ _ _ fun y => congrArg₂ (· * ·) (cDv_read H lo h y) ((cU_read H lo h y).trans (by unfold shDown; rfl)),
   at9_read Z _ _ _ _ _ fun y => congrArg₂ (· * ·) (cDv_read H lo h y) (cDn_read H 1#32 1 rfl (by decide) lo h y),
   at9_read Z _ _ _ _ _ fun y => congrArg₂ (· * ·) (cDv_read H lo h y) (cDn_read H 2#32 2 rfl (by decide) lo h y), hL⟩

/-- The weights' gradient's stores are blocks of it. -/
theorem pieces9_read (H : Reads l i t a) (Z : Vec Ideal S3x1024 .f32) : View.PiecesOf (G9 a t Z) (pieces9 l i (was9 Z) []) :=
  conv9_read H Z _ _ (conv9_read H Z _ _ (conv9_read H Z _ _ (conv9_read H Z _ _ trivial)))

/-- The pools' matrices' gradient after point `t`, from what was there. -/
def G10 (a : Args) (t : ℕ) (Z : S4x256x256.Idx → EReal) (y : S4x256x256.Idx) : EReal :=
  Z y + ∑ r : Fin 512, a.dpRow (y 0).val (512 * t + r.val) (y 1).val (y 2).val

/-- What a group's matrix was before. -/
def was10 (Z : Vec Ideal S4x256x256 .f32) (_ : List (View.Piece (Elt Ideal) S4x256x256 .f32)) (g : ℕ) (h : g + 1 ≤ 4) : Vec Ideal S1x256x256 .f32 :=
  View.ld Z (rect3 g h)

theorem at10_read (H : Reads l i t a) (Z : Vec Ideal S4x256x256 .f32) (L : List (View.Piece (Elt Ideal) S4x256x256 .f32)) (w : BitVec 32) (ss : List (BitVec 32))
    (g : ℕ) (hw : w = BitVec.ofNat 32 (2 ^ (g + 1))) (hd : Downs 1 ss (2 ^ (g + 1))) (hg : g + 1 ≤ 4) (x : S1x256x256.Idx) :
    pAcc l i (was10 Z L g hg) w ss g hg x = G10 a t Z ((rect3 g hg).emb x) := by
  have h0 : (x 0).val < 1 := (x 0).isLt
  have h1 : (x 1).val < 256 := (x 1).isLt
  have h2 : (x 2).val < 256 := (x 2).isLt
  unfold pAcc
  rw [shapeCast_apply _ _ x (ValueIdx.ix2 ⟨(x 1).val, h1⟩ ⟨(x 2).val, h2⟩) (by
    rw [place2, place3]
    show (x 1).val * 256 + (x 2).val = (x 0).val * 65536 + (x 1).val * 256 + (x 2).val
    omega), ValueIdx.addf_apply, shapeCast_apply _ _ (ValueIdx.ix2 ⟨(x 1).val, h1⟩ ⟨(x 2).val, h2⟩) x (by
    rw [place2, place3]
    show (x 0).val * 65536 + (x 1).val * 256 + (x 2).val = (x 1).val * 256 + (x 2).val
    omega)]
  unfold G10
  refine congrArg₂ (· + ·) rfl ((dotR_read none _ _ _).trans (Finset.sum_congr rfl fun k _ => ?_))
  refine (congrArg₂ (· * ·) (pD_read H w ss hw hd hg _) (pDz_read H hg _)).trans ?_
  unfold Args.dpRow
  have e0 : (((rect3 g hg).emb x) 0).val = g := by show g + 1 * (x 0).val = g; omega
  have e1 : (((rect3 g hg).emb x) 1).val = (x 1).val := by show 0 + 1 * (x 1).val = (x 1).val; omega
  have e2 : (((rect3 g hg).emb x) 2).val = (x 2).val := by show 0 + 1 * (x 2).val = (x 2).val; omega
  rw [e0, e1, e2]

/-- The pools' matrices' gradient's stores are blocks of it. -/
theorem pieces10_read (H : Reads l i t a) (Z : Vec Ideal S4x256x256 .f32) : View.PiecesOf (G10 a t Z) (pieces10 l i (was10 Z) []) :=
  ⟨at10_read H Z _ _ _ 3 rfl downs3 _, at10_read H Z _ _ _ 2 rfl downs2 _, at10_read H Z _ _ _ 1 rfl downs1 _, at10_read H Z _ _ _ 0 rfl downs0 _, trivial⟩

/-- The scales' gradient after point `t`, from what was there. -/
def G11 (a : Args) (t : ℕ) (Z : S1x1024.Idx → EReal) (y : S1x1024.Idx) : EReal :=
  Z y + ∑ r : Fin 512, a.dsRow ((y 1).val / 256) (512 * t + r.val) ((y 1).val % 256)

/-- What a group's scales were before. -/
def was11 (Z : Vec Ideal S1x1024 .f32) (_ : List (View.Piece (Elt Ideal) S1x1024 .f32)) (lo : ℕ) (h : lo + 256 ≤ 1024) : Vec Ideal S1x256 .f32 :=
  View.ld Z (rect2 0 lo 1 (by decide) h)

theorem at11_read (Z : Vec Ideal S1x1024 .f32) (L : List (View.Piece (Elt Ideal) S1x1024 .f32)) (g : ℕ) (h : 256 * g + 256 ≤ 1024)
    {V : FVec Ideal S512x256 .f32} (hV : T (R := 512) V (512 * t) (a.dsRow g))
    (x : (at11 (was11 Z L (256 * g) h) (256 * g) h V).1.shape.Idx) :
    (at11 (was11 Z L (256 * g) h) (256 * g) h V).2 x = G11 a t Z ((at11 (was11 Z L (256 * g) h) (256 * g) h V).1.emb x) := by
  refine (colAcc_read hV x).trans ?_
  unfold G11
  refine congrArg₂ (· + ·) rfl (Finset.sum_congr rfl fun k _ => ?_)
  have h1 : (x 1).val < 256 := (x 1).isLt
  refine congrArg₂ (fun u v => a.dsRow u _ v) ?_ ?_
  · show g = (256 * g + 1 * (x 1).val) / 256; omega
  · show (x 1).val = (256 * g + 1 * (x 1).val) % 256; omega

/-- The scales' gradient's stores are blocks of it. -/
theorem pieces11_read (H : Reads l i t a) (Z : Vec Ideal S1x1024 .f32) : View.PiecesOf (G11 a t Z) (pieces11 l i (was11 Z) []) :=
  ⟨at11_read Z _ 3 _ (pYz_read H _ _ rfl downs3 _), at11_read Z _ 2 _ (pYz_read H _ _ rfl downs2 _),
   at11_read Z _ 1 _ (pYz_read H _ _ rfl downs1 _), at11_read Z _ 0 _ (pYz_read H _ _ rfl downs0 _), trivial⟩

end Cert.KernelIdeal.Mix

end
-- ==== Proof.MixPoint.lean ====
/-
  One grid point: from blocks of the call's arguments, and what the carried outputs held, what the four output blocks hold
  after the body.
-/
module

public import proofs.«01_k».proof.Proof.MixRun
public import proofs.«01_k».proof.Proof.MixTile
public import proofs.«01_k».proof.Proof.Gen.KernelIdeal.Value
public import Idealize.ShloMosaic.Lib.Pipeline.ValueKit.Tiles
public import Idealize.ShloMosaic.Lib.Tactic

@[expose] public section

set_option maxRecDepth 65536

noncomputable section

open Idealize.ShloMosaic Idealize.ShloMosaic.TcCoe Idealize.SL.Sem
open scoped BigOperators

namespace Cert.KernelIdeal.Mix

open Cert.KernelIdeal Cert.KernelIdeal.Gen Cert.Mix

/-- The blocks of point `t` are blocks of the call's arguments. -/
structure Blocks (i : grid0.Coords) (t : ℕ) (a : Args) (x0 : Vec Ideal S512x4096 .bf16) (x1 x2 : Vec Ideal S16x4096 .bf16)
    (x3 : Vec Ideal S512x2048 .bf16) (x4 : Vec Ideal S16x2048 .bf16) (x5 : Vec Ideal S3x1024 .f32) (x6 : Vec Ideal S4x256x256 .bf16)
    (x7 : Vec Ideal S1x1024 .f32) : Prop where
  hi : (i 0).val = t
  ht : t < 8
  h0 : ∀ y : S512x4096.Idx, x0 y = a.pj (512 * t + (y 0).val) (y 1).val
  h1 : t ≠ 0 → ∀ y : S16x4096.Idx, x1 y = a.pj (512 * t - 16 + (y 0).val) (y 1).val
  h2 : t ≠ 7 → ∀ y : S16x4096.Idx, x2 y = a.pj (512 * t + 512 + (y 0).val) (y 1).val
  h3 : ∀ y : S512x2048.Idx, x3 y = a.dy (512 * t + (y 0).val) (y 1).val
  h4 : t ≠ 7 → ∀ y : S16x2048.Idx, x4 y = a.dy (512 * t + 512 + (y 0).val) (y 1).val
  h5 : ∀ y : S3x1024.Idx, x5 y = a.w (y 0).val (y 1).val
  h6 : ∀ y : S4x256x256.Idx, x6 y = a.pw (y 0).val (y 1).val (y 2).val
  h7 : ∀ y : S1x1024.Idx, x7 y = a.ps ((y 1).val / 256) ((y 1).val % 256)
  pz : ∀ n c, 4096 ≤ n → a.pj n c = 0
  yz : ∀ n c, 4096 ≤ n → a.dy n c = 0

variable (c : Dev nD) (i : grid0.Coords)
variable (arg1 : Memref sig .tc .vmem S512x4096 .bf16) (harg1 : arg1.IsWhole)
variable (arg2 : Memref sig .tc .vmem S16x4096 .bf16) (harg2 : arg2.IsWhole)
variable (arg3 : Memref sig .tc .vmem S16x4096 .bf16) (harg3 : arg3.IsWhole)
variable (arg4 : Memref sig .tc .vmem S512x2048 .bf16) (harg4 : arg4.IsWhole)
variable (arg5 : Memref sig .tc .vmem S16x2048 .bf16) (harg5 : arg5.IsWhole)
variable (arg6 : Memref sig .tc .vmem S3x1024 .f32) (harg6 : arg6.IsWhole)
variable (arg7 : Memref sig .tc .vmem S4x256x256 .bf16) (harg7 : arg7.IsWhole)
variable (arg8 : Memref sig .tc .vmem S1x1024 .f32) (harg8 : arg8.IsWhole)
variable (arg9 : Memref sig .tc .vmem S512x4096 .bf16) (harg9 : arg9.IsWhole)
variable (arg10 : Memref sig .tc .vmem S3x1024 .f32) (harg10 : arg10.IsWhole)
variable (arg11 : Memref sig .tc .vmem S4x256x256 .f32) (harg11 : arg11.IsWhole)
variable (arg12 : Memref sig .tc .vmem S1x1024 .f32) (harg12 : arg12.IsWhole)
variable (x0 : Vec Ideal S512x4096 .bf16) (x1 x2 : Vec Ideal S16x4096 .bf16) (x3 : Vec Ideal S512x2048 .bf16) (x4 : Vec Ideal S16x2048 .bf16)
  (x5 : Vec Ideal S3x1024 .f32) (x6 : Vec Ideal S4x256x256 .bf16) (x7 : Vec Ideal S1x1024 .f32)
variable (xo9 : Vec Ideal S3x1024 .f32) (xo10 : Vec Ideal S4x256x256 .f32) (xo11 : Vec Ideal S1x1024 .f32)

/-- A load of a staging buffer that was filled reads what it was filled with. -/
theorem load_read {s : Shape} {e : EltTy} {arg : Memref sig .tc .vmem s e} (harg : arg.IsWhole) (X : Vec Ideal s e) (r : Rect s) :
    View.readAt (Elt Ideal) arg.view r.toLoadRect (harg.unread X) = View.ld X r := by
  rw [View.readAt_eq_ld, harg.read_unread]

variable {t : ℕ} {a : Args}

/-- So its loads are. -/
theorem reads_of_blocks (B : Blocks i t a x0 x1 x2 x3 x4 x5 x6 x7) : Reads (loads arg1 harg1 arg2 harg2 arg3 harg3 arg4 harg4 arg5 harg5 arg6 harg6 arg7 harg7 arg8 harg8 x0 x1 x2 x3 x4 x5 x6 x7) i t a where
  hi := B.hi
  ht := B.ht
  p lo h y := (congrFun (load_read harg1 x0 (rect2 0 lo 512 (by decide) h)) y).trans ((B.h0 _).trans (congrArg₂ a.pj
    (show 512 * t + (0 + 1 * (y 0).val) = 512 * t + (y 0).val by omega) (show lo + 1 * (y 1).val = lo + (y 1).val by omega)))
  q h0 lo h y := (congrFun (load_read harg2 x1 (rect2 0 lo 16 (by decide) h)) y).trans ((B.h1 h0 _).trans (congrArg₂ a.pj
    (show 512 * t - 16 + (0 + 1 * (y 0).val) = 512 * t - 16 + (y 0).val by omega) (show lo + 1 * (y 1).val = lo + (y 1).val by omega)))
  n h0 lo h y := (congrFun (load_read harg3 x2 (rect2 0 lo 16 (by decide) h)) y).trans ((B.h2 h0 _).trans (congrArg₂ a.pj
    (show 512 * t + 512 + (0 + 1 * (y 0).val) = 512 * t + 512 + (y 0).val by omega) (show lo + 1 * (y 1).val = lo + (y 1).val by omega)))
  y lo h y := (congrFun (load_read harg4 x3 (rect2 0 lo 512 (by decide) h)) y).trans ((B.h3 _).trans (congrArg₂ a.dy
    (show 512 * t + (0 + 1 * (y 0).val) = 512 * t + (y 0).val by omega) (show lo + 1 * (y 1).val = lo + (y 1).val by omega)))
  yn h0 lo h y := (congrFun (load_read harg5 x4 (rect2 0 lo 16 (by decide) h)) y).trans ((B.h4 h0 _).trans (congrArg₂ a.dy
    (show 512 * t + 512 + (0 + 1 * (y 0).val) = 512 * t + 512 + (y 0).val by omega) (show lo + 1 * (y 1).val = lo + (y 1).val by omega)))
  w r lo hr h y := (congrFun (load_read harg6 x5 (rect2 r lo 1 hr h)) y).trans ((B.h5 _).trans (congrArg₂ a.w
    (show r + 1 * (y 0).val = r by have h0 : (y 0).val < 1 := (y 0).isLt; omega) (show lo + 1 * (y 1).val = lo + (y 1).val by omega)))
  m g h y := by
    have h0 : (y 0).val < 1 := (y 0).isLt
    refine (congrFun (load_read harg7 x6 (rect3 g h)) y).trans ((B.h6 _).trans ?_)
    exact congr (congrArg₂ a.pw (show g + 1 * (y 0).val = g by omega) (show 0 + 1 * (y 1).val = (y 1).val by omega))
      (show 0 + 1 * (y 2).val = (y 2).val by omega)
  s g h y := by
    have h1 : (y 1).val < 256 := (y 1).isLt
    refine (congrFun (load_read harg8 x7 (rect2 0 (256 * g) 1 (by decide) h)) y).trans ((B.h7 _).trans ?_)
    exact congrArg₂ a.ps (show (256 * g + 1 * (y 1).val) / 256 = g by omega) (show (256 * g + 1 * (y 1).val) % 256 = (y 1).val by omega)
  pz := B.pz
  yz := B.yz

/-! ## The first point reads back the zeros it filled the carried outputs with -/

/-- Row `r`'s columns from `lo`, and those after, are as the buffer was. -/
def Was9 (A : List (View.Piece (Elt Ideal) S3x1024 .f32) → ∀ r lo, r + 1 ≤ 3 → lo + 256 ≤ 1024 → Vec Ideal S1x256 .f32) (Z : Vec Ideal S3x1024 .f32)
    (L : List (View.Piece (Elt Ideal) S3x1024 .f32)) (r lo : ℕ) : Prop :=
  ∀ r' lo' hr h, lo + 256 ≤ lo' ∨ lo = lo' ∧ r ≤ r' → A L r' lo' hr h = was9 Z [] r' lo' hr h

/-- A store of earlier columns, or of an earlier row of these, leaves a load as it was. -/
def Skips9 (A : List (View.Piece (Elt Ideal) S3x1024 .f32) → ∀ r lo, r + 1 ≤ 3 → lo + 256 ≤ 1024 → Vec Ideal S1x256 .f32) : Prop :=
  ∀ L r lo hr h A' V r' lo' hr' h', lo + 256 ≤ lo' ∨ lo = lo' ∧ r < r' → A (at9 A' r lo hr h V :: L) r' lo' hr' h' = A L r' lo' hr' h'

theorem skips9 (v : View sig .tc .vmem S3x1024 .f32) : Skips9 fun L r lo hr h => v.readCov L (rect2 r lo 1 hr h).toLoadRect := by
  intro L r lo hr h A' V r' lo' hr' h' hk
  refine View.readCov_skip v _ _ L _ (LoadRect.disj_of_disjP ?_)
  rcases hk with hk | hk
  · exact ⟨1, .inr (.inr (.inl (show lo + 1 * (256 - 1) < lo' by omega)))⟩
  · exact ⟨0, .inr (.inr (.inl (show r + 1 * (1 - 1) < r' by omega)))⟩

section

variable {A : List (View.Piece (Elt Ideal) S3x1024 .f32) → ∀ r lo, r + 1 ≤ 3 → lo + 256 ≤ 1024 → Vec Ideal S1x256 .f32}
  {Z : Vec Ideal S3x1024 .f32} {L : List (View.Piece (Elt Ideal) S3x1024 .f32)} (S : Skips9 A)
include S

theorem Was9.step {r lo : ℕ} (W : Was9 A Z L r lo) (A' : Vec Ideal S1x256 .f32) (hr : r + 1 ≤ 3) (h : lo + 256 ≤ 1024) (V : FVec Ideal S512x256 .f32) :
    Was9 A Z (at9 A' r lo hr h V :: L) (r + 1) lo := fun r' lo' hr' h' hk =>
  (S L r lo hr h A' V r' lo' hr' h' (by omega)).trans (W r' lo' hr' h' (by omega))

theorem conv9_was (l : Loads Ideal) {lo : ℕ} (h : lo + 256 ≤ 1024) (W : Was9 A Z L 0 lo) :
    conv9 l i A lo h L = conv9 l i (was9 Z) lo h L ∧ Was9 A Z (conv9 l i (was9 Z) lo h L) 0 (lo + 256) := by
  unfold conv9
  dsimp only
  have W1 := Was9.step S W (was9 Z [] 0 lo (by decide) h) (by decide) h (mulf (cDv l lo h) (cDn l i 2#32 lo h))
  have W2 := Was9.step S W1 (was9 Z [] 1 lo (by decide) h) (by decide) h (mulf (cDv l lo h) (cDn l i 1#32 lo h))
  have W3 := Was9.step S W2 (was9 Z [] 2 lo (by decide) h) (by decide) h (mulf (cDv l lo h) (cU l lo h))
  refine ⟨?_, fun r lo' hr h' hk => W3 r lo' hr h' (by omega)⟩
  rw [W 0 lo (by decide) h (.inr ⟨rfl, le_refl 0⟩), W1 1 lo (by decide) h (.inr ⟨rfl, le_refl 1⟩), W2 2 lo (by decide) h (.inr ⟨rfl, le_refl 2⟩)]
  rfl

theorem pieces9_was (l : Loads Ideal) (W : Was9 A Z L 0 0) : pieces9 l i A L = pieces9 l i (was9 Z) [] ++ L := by
  have h0 := conv9_was i S l (by decide) W
  have h1 := conv9_was i S l (by decide) h0.2
  have h2 := conv9_was i S l (by decide) h1.2
  have h3 := conv9_was i S l (by decide) h2.2
  unfold pieces9
  rw [h0.1]
  refine (congrArg (fun L => conv9 l i A 768 _ (conv9 l i A 512 _ L)) h1.1).trans ?_
  refine (congrArg (fun L => conv9 l i A 768 _ L) h2.1).trans ?_
  exact h3.1

end

/-- Group `g`'s matrix, and those after, are as the buffer was. -/
def Was10 (A : List (View.Piece (Elt Ideal) S4x256x256 .f32) → ∀ g, g + 1 ≤ 4 → Vec Ideal S1x256x256 .f32) (Z : Vec Ideal S4x256x256 .f32)
    (L : List (View.Piece (Elt Ideal) S4x256x256 .f32)) (g : ℕ) : Prop :=
  ∀ g' h, g ≤ g' → A L g' h = was10 Z [] g' h

/-- A store of an earlier group's matrix leaves a load as it was. -/
def Skips10 (A : List (View.Piece (Elt Ideal) S4x256x256 .f32) → ∀ g, g + 1 ≤ 4 → Vec Ideal S1x256x256 .f32) : Prop :=
  ∀ L g h (V : Vec Ideal S1x256x256 .f32) g' h', g < g' → A (⟨rect3 g h, V⟩ :: L) g' h' = A L g' h'

theorem skips10 (v : View sig .tc .vmem S4x256x256 .f32) : Skips10 fun L g h => v.readCov L (rect3 g h).toLoadRect := by
  intro L g h V g' h' hk
  refine View.readCov_skip v _ _ L _ (LoadRect.disj_of_disjP ?_)
  exact ⟨0, .inr (.inr (.inl (show g + 1 * (1 - 1) < g' by omega)))⟩

section

variable {A : List (View.Piece (Elt Ideal) S4x256x256 .f32) → ∀ g, g + 1 ≤ 4 → Vec Ideal S1x256x256 .f32}
  {Z : Vec Ideal S4x256x256 .f32} {L : List (View.Piece (Elt Ideal) S4x256x256 .f32)} (S : Skips10 A)
include S

theorem Was10.step {g : ℕ} (W : Was10 A Z L g) (h : g + 1 ≤ 4) (V : Vec Ideal S1x256x256 .f32) : Was10 A Z (⟨rect3 g h, V⟩ :: L) (g + 1) :=
  fun g' h' hk => (S L g h V g' h' (by omega)).trans (W g' h' (by omega))

theorem pieces10_was (l : Loads Ideal) (W : Was10 A Z L 0) : pieces10 l i A L = pieces10 l i (was10 Z) [] ++ L := by
  have W1 := Was10.step S W (by decide) (pAcc l i (was10 Z [] 0 (by decide)) 2#32 [1#32] 0 (by decide))
  have W2 := Was10.step S W1 (by decide) (pAcc l i (was10 Z [] 1 (by decide)) 4#32 [1#32, 2#32] 1 (by decide))
  have W3 := Was10.step S W2 (by decide) (pAcc l i (was10 Z [] 2 (by decide)) 8#32 [1#32, 2#32, 4#32] 2 (by decide))
  unfold pieces10
  dsimp only
  rw [W 0 (by decide) (le_refl 0), W1 1 (by decide) (le_refl 1), W2 2 (by decide) (le_refl 2), W3 3 (by decide) (le_refl 3)]
  rfl

end

/-- The scales from `lo` are as the buffer was. -/
def Was11 (A : List (View.Piece (Elt Ideal) S1x1024 .f32) → ∀ lo, lo + 256 ≤ 1024 → Vec Ideal S1x256 .f32) (Z : Vec Ideal S1x1024 .f32)
    (L : List (View.Piece (Elt Ideal) S1x1024 .f32)) (lo : ℕ) : Prop :=
  ∀ lo' h, lo ≤ lo' → A L lo' h = was11 Z [] lo' h

/-- A store of earlier scales leaves a load as it was. -/
def Skips11 (A : List (View.Piece (Elt Ideal) S1x1024 .f32) → ∀ lo, lo + 256 ≤ 1024 → Vec Ideal S1x256 .f32) : Prop :=
  ∀ L lo h A' V lo' h', lo + 256 ≤ lo' → A (at11 A' lo h V :: L) lo' h' = A L lo' h'

theorem skips11 (v : View sig .tc .vmem S1x1024 .f32) : Skips11 fun L lo h => v.readCov L (rect2 0 lo 1 (by decide) h).toLoadRect := by
  intro L lo h A' V lo' h' hk
  refine View.readCov_skip v _ _ L _ (LoadRect.disj_of_disjP ?_)
  exact ⟨1, .inr (.inr (.inl (show lo + 1 * (256 - 1) < lo' by omega)))⟩

section

variable {A : List (View.Piece (Elt Ideal) S1x1024 .f32) → ∀ lo, lo + 256 ≤ 1024 → Vec Ideal S1x256 .f32}
  {Z : Vec Ideal S1x1024 .f32} {L : List (View.Piece (Elt Ideal) S1x1024 .f32)} (S : Skips11 A)
include S

theorem Was11.step {lo : ℕ} (W : Was11 A Z L lo) (A' : Vec Ideal S1x256 .f32) (h : lo + 256 ≤ 1024) (V : FVec Ideal S512x256 .f32) :
    Was11 A Z (at11 A' lo h V :: L) (lo + 256) := fun lo' h' hk => (S L lo h A' V lo' h' (by omega)).trans (W lo' h' (by omega))

theorem pieces11_was (l : Loads Ideal) (W : Was11 A Z L (256 * 0)) : pieces11 l i A L = pieces11 l i (was11 Z) [] ++ L := by
  have W1 := Was11.step S W (was11 Z [] (256 * 0) (by decide)) (by decide) (pYz l i 2#32 [1#32] 0 (by decide))
  have W2 := Was11.step S W1 (was11 Z [] (256 * 1) (by decide)) (by decide) (pYz l i 4#32 [1#32, 2#32] 1 (by decide))
  have W3 := Was11.step S W2 (was11 Z [] (256 * 2) (by decide)) (by decide) (pYz l i 8#32 [1#32, 2#32, 4#32] 2 (by decide))
  unfold pieces11
  dsimp only
  rw [W (256 * 0) (by decide) (by decide), W1 (256 * 1) (by decide) (by decide), W2 (256 * 2) (by decide) (by decide), W3 (256 * 3) (by decide) (by decide)]
  rfl

end

/-! ## What the point leaves in the output blocks -/

/-- The pieces cover each output's block. -/
theorem cover8 (l : Loads Ideal) (y : S512x4096.Idx) : ∃ p ∈ pieces8 l i, y ∈ p.1.set := View.cover_of_tiledL (pieces8 l i) S512x256.size (by sl_kernel_rfl) y
theorem cover9 (l : Loads Ideal) (Z : Vec Ideal S3x1024 .f32) (y : S3x1024.Idx) : ∃ p ∈ pieces9 l i (was9 Z) [], y ∈ p.1.set :=
  View.cover_of_tiledL (pieces9 l i (was9 Z) []) S1x256.size (by sl_kernel_rfl) y
theorem cover10 (l : Loads Ideal) (Z : Vec Ideal S4x256x256 .f32) (y : S4x256x256.Idx) : ∃ p ∈ pieces10 l i (was10 Z) [], y ∈ p.1.set :=
  View.cover_of_tiledL (pieces10 l i (was10 Z) []) S1x256x256.size (by sl_kernel_rfl) y
theorem cover11 (l : Loads Ideal) (Z : Vec Ideal S1x1024 .f32) (y : S1x1024.Idx) : ∃ p ∈ pieces11 l i (was11 Z) [], y ∈ p.1.set :=
  View.cover_of_tiledL (pieces11 l i (was11 Z) []) S1x256.size (by sl_kernel_rfl) y

theorem outA_8 (hc0 : cond0_0 i) (B : Blocks i t a x0 x1 x2 x3 x4 x5 x6 x7) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = G8 a t := by
  unfold out0_A_8
  rw [runA_8, View.read_writes_junk_eq_canon]
  funext y
  have h := View.canon_append_of_piecesOf (G8 a t) [] _ (pieces8_read (reads_of_blocks i arg1 harg1 arg2 harg2 arg3 harg3 arg4 harg4 arg5 harg5 arg6 harg6 arg7 harg7 arg8 harg8 x0 x1 x2 x3 x4 x5 x6 x7 B)) y (cover8 i _ y)
  rwa [List.append_nil] at h

theorem outA_9 (hc0 : cond0_0 i) (B : Blocks i t a x0 x1 x2 x3 x4 x5 x6 x7) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = G9 a t (k0_pay2 (F := Ideal)) := by
  unfold out0_A_9
  rw [runA_9, View.read_writes_junk_eq_canon]
  funext y
  refine (congrArg (fun L => View.canon L y) (pieces9_was i (skips9 arg10.view) _ (fun r lo hr h _ => View.readCov_fill _ _ _ _ _ (by intro a; fin_cases a <;> rfl)))).trans ?_
  exact View.canon_append_of_piecesOf (G9 a t (k0_pay2 (F := Ideal))) _ _ (pieces9_read (reads_of_blocks i arg1 harg1 arg2 harg2 arg3 harg3 arg4 harg4 arg5 harg5 arg6 harg6 arg7 harg7 arg8 harg8 x0 x1 x2 x3 x4 x5 x6 x7 B) (k0_pay2 (F := Ideal))) y (cover9 i _ _ y)

theorem outA_10 (hc0 : cond0_0 i) (B : Blocks i t a x0 x1 x2 x3 x4 x5 x6 x7) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = G10 a t (k0_pay3 (F := Ideal)) := by
  unfold out0_A_10
  rw [runA_10, View.read_writes_junk_eq_canon]
  funext y
  refine (congrArg (fun L => View.canon L y) (pieces10_was i (skips10 arg11.view) _ (fun g h _ => View.readCov_fill _ _ _ _ _ (by intro a; fin_cases a <;> rfl)))).trans ?_
  exact View.canon_append_of_piecesOf (G10 a t (k0_pay3 (F := Ideal))) _ _ (pieces10_read (reads_of_blocks i arg1 harg1 arg2 harg2 arg3 harg3 arg4 harg4 arg5 harg5 arg6 harg6 arg7 harg7 arg8 harg8 x0 x1 x2 x3 x4 x5 x6 x7 B) (k0_pay3 (F := Ideal))) y (cover10 i _ _ y)

theorem outA_11 (hc0 : cond0_0 i) (B : Blocks i t a x0 x1 x2 x3 x4 x5 x6 x7) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = G11 a t (k0_pay4 (F := Ideal)) := by
  unfold out0_A_11
  rw [runA_11, View.read_writes_junk_eq_canon]
  funext y
  refine (congrArg (fun L => View.canon L y) (pieces11_was i (skips11 arg12.view) _ (fun lo h _ => View.readCov_fill _ _ _ _ _ (by intro a; fin_cases a <;> rfl)))).trans ?_
  exact View.canon_append_of_piecesOf (G11 a t (k0_pay4 (F := Ideal))) _ _ (pieces11_read (reads_of_blocks i arg1 harg1 arg2 harg2 arg3 harg3 arg4 harg4 arg5 harg5 arg6 harg6 arg7 harg7 arg8 harg8 x0 x1 x2 x3 x4 x5 x6 x7 B) (k0_pay4 (F := Ideal))) y (cover11 i _ _ y)

theorem outB_8 (hc0 : ¬cond0_0 i) (B : Blocks i t a x0 x1 x2 x3 x4 x5 x6 x7) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = G8 a t := by
  unfold out0_B_8
  rw [runB_8, View.read_writes_junk_eq_canon]
  funext y
  have h := View.canon_append_of_piecesOf (G8 a t) [] _ (pieces8_read (reads_of_blocks i arg1 harg1 arg2 harg2 arg3 harg3 arg4 harg4 arg5 harg5 arg6 harg6 arg7 harg7 arg8 harg8 x0 x1 x2 x3 x4 x5 x6 x7 B)) y (cover8 i _ y)
  rwa [List.append_nil] at h

theorem outB_9 (hc0 : ¬cond0_0 i) (B : Blocks i t a x0 x1 x2 x3 x4 x5 x6 x7) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = G9 a t xo9 := by
  unfold out0_B_9
  rw [runB_9, View.read_writes_junk_eq_canon]
  funext y
  have h := View.canon_append_of_piecesOf (G9 a t xo9) [] _ (pieces9_read (reads_of_blocks i arg1 harg1 arg2 harg2 arg3 harg3 arg4 harg4 arg5 harg5 arg6 harg6 arg7 harg7 arg8 harg8 x0 x1 x2 x3 x4 x5 x6 x7 B) xo9) y (cover9 i _ _ y)
  rw [List.append_nil] at h
  refine Eq.trans (congrArg (fun A => View.canon (pieces9 _ i A []) y) ?_) h
  funext _ r lo hr h
  exact load_read harg10 xo9 _

theorem outB_10 (hc0 : ¬cond0_0 i) (B : Blocks i t a x0 x1 x2 x3 x4 x5 x6 x7) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = G10 a t xo10 := by
  unfold out0_B_10
  rw [runB_10, View.read_writes_junk_eq_canon]
  funext y
  have h := View.canon_append_of_piecesOf (G10 a t xo10) [] _ (pieces10_read (reads_of_blocks i arg1 harg1 arg2 harg2 arg3 harg3 arg4 harg4 arg5 harg5 arg6 harg6 arg7 harg7 arg8 harg8 x0 x1 x2 x3 x4 x5 x6 x7 B) xo10) y (cover10 i _ _ y)
  rw [List.append_nil] at h
  refine Eq.trans (congrArg (fun A => View.canon (pieces10 _ i A []) y) ?_) h
  funext _ g h
  exact load_read harg11 xo10 _

theorem outB_11 (hc0 : ¬cond0_0 i) (B : Blocks i t a x0 x1 x2 x3 x4 x5 x6 x7) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = G11 a t xo11 := by
  unfold out0_B_11
  rw [runB_11, View.read_writes_junk_eq_canon]
  funext y
  have h := View.canon_append_of_piecesOf (G11 a t xo11) [] _ (pieces11_read (reads_of_blocks i arg1 harg1 arg2 harg2 arg3 harg3 arg4 harg4 arg5 harg5 arg6 harg6 arg7 harg7 arg8 harg8 x0 x1 x2 x3 x4 x5 x6 x7 B) xo11) y (cover11 i _ _ y)
  rw [List.append_nil] at h
  refine Eq.trans (congrArg (fun A => View.canon (pieces11 _ i A []) y) ?_) h
  funext _ lo h
  exact load_read harg12 xo11 _

end Cert.KernelIdeal.Mix

end
-- ==== Proof.MixArr.lean ====
/-
  The kernel's run: from the launched arguments, what each of the four result arrays ends holding, element by element, as the
  specification's functions of the arguments.
-/
module

public import proofs.«01_k».proof.Proof.MixPoint
public import Idealize.ShloMosaic.Lib.Pipeline.Value

@[expose] public section

set_option maxRecDepth 65536

noncomputable section

open Idealize.ShloMosaic Idealize.ShloMosaic.TcCoe Idealize.SL.Sem
open Idealize.ShloMosaic.Pipeline (Dat Cfg Window)
open scoped BigOperators

namespace Cert.KernelIdeal.Mix

open Cert.KernelIdeal Cert.KernelIdeal.Gen Cert.KernelIdeal.Value Cert.Mix

variable (m : (ℓ : Loc nD τ sig) → Buf (Elt Ideal) ℓ) (ρ : Dev nD → PrngReg)

/-- The call's arguments. -/
def args (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4))

/-- The pools' matrices, as the kernel is given them. -/
theorem V_v0 (c : Dev nD) : V m c main_v0 = (m ((c : Thread nD τ).loc main_arg3) : S4x256x256.Idx → EReal) := rfl

/-- The pools' scales, as the kernel is given them. -/
theorem V_v1 (c : Dev nD) : V m c main_v1 = shapeCast S1x1024 (m ((c : Thread nD τ).loc main_arg4) : FVec Ideal S1024 .f32) shapeCasts_S1024_S1x1024 := rfl

section

variable (t : Fin cfg0.N)

theorem coord : (grid0.coords t 0).val = t.val := by rcases fin_N0 t with rfl | rfl | rfl | rfl | rfl | rfl | rfl | rfl <;> decide
theorem lt8 : t.val < 8 := lt_of_lt_of_eq t.isLt N_0
theorem ix0 : win0_0.index t 0 = t.val ∧ win0_0.index t 1 = 0 := by rcases fin_N0 t with rfl | rfl | rfl | rfl | rfl | rfl | rfl | rfl <;> decide
theorem ix1 : win0_1.index t 0 = 32 * t.val - 1 ∧ win0_1.index t 1 = 0 := by rcases fin_N0 t with rfl | rfl | rfl | rfl | rfl | rfl | rfl | rfl <;> decide
theorem ix2 : win0_2.index t 0 = min (32 * t.val + 32) 255 ∧ win0_2.index t 1 = 0 := by rcases fin_N0 t with rfl | rfl | rfl | rfl | rfl | rfl | rfl | rfl <;> decide
theorem ix3 : win0_3.index t 0 = t.val ∧ win0_3.index t 1 = 0 := by rcases fin_N0 t with rfl | rfl | rfl | rfl | rfl | rfl | rfl | rfl <;> decide
theorem ix4 : win0_4.index t 0 = min (32 * t.val + 32) 255 ∧ win0_4.index t 1 = 0 := by rcases fin_N0 t with rfl | rfl | rfl | rfl | rfl | rfl | rfl | rfl <;> decide
theorem ix5 : win0_5.index t 0 = 0 ∧ win0_5.index t 1 = 0 := by rcases fin_N0 t with rfl | rfl | rfl | rfl | rfl | rfl | rfl | rfl <;> decide
theorem ix6 : win0_6.index t 0 = 0 ∧ win0_6.index t 1 = 0 ∧ win0_6.index t 2 = 0 := by rcases fin_N0 t with rfl | rfl | rfl | rfl | rfl | rfl | rfl | rfl <;> decide
theorem ix7 : win0_7.index t 0 = 0 ∧ win0_7.index t 1 = 0 := by rcases fin_N0 t with rfl | rfl | rfl | rfl | rfl | rfl | rfl | rfl <;> decide

end

theorem blk0 (c : Dev nD) (t : Fin cfg0.N) (y : S512x4096.Idx) : (iblk m c 0 t : Vec Ideal S512x4096 .bf16) y = (args m c).pj (512 * t.val + (y 0).val) (y 1).val := by
  refine (nat2_idx (n := 4096) (m := 4096) (m ((c : Thread nD τ).loc main_arg0)) _ _ _ ?_ ?_).symm
  · show 512 * t.val + (y 0).val = win0_0.index t 0 * 512 + 1 * (y 0).val; rw [(ix0 t).1]; omega
  · show (y 1).val = win0_0.index t 1 * 4096 + 1 * (y 1).val; rw [(ix0 t).2]; omega

theorem blk1 (c : Dev nD) (t : Fin cfg0.N) (h : t.val ≠ 0) (y : S16x4096.Idx) : (iblk m c 1 t : Vec Ideal S16x4096 .bf16) y = (args m c).pj (512 * t.val - 16 + (y 0).val) (y 1).val := by
  refine (nat2_idx (n := 4096) (m := 4096) (m ((c : Thread nD τ).loc main_arg0)) _ _ _ ?_ ?_).symm
  · show 512 * t.val - 16 + (y 0).val = win0_1.index t 0 * 16 + 1 * (y 0).val; rw [(ix1 t).1]; omega
  · show (y 1).val = win0_1.index t 1 * 4096 + 1 * (y 1).val; rw [(ix1 t).2]; omega

theorem blk2 (c : Dev nD) (t : Fin cfg0.N) (h : t.val ≠ 7) (y : S16x4096.Idx) : (iblk m c 2 t : Vec Ideal S16x4096 .bf16) y = (args m c).pj (512 * t.val + 512 + (y 0).val) (y 1).val := by
  have := lt8 t
  refine (nat2_idx (n := 4096) (m := 4096) (m ((c : Thread nD τ).loc main_arg0)) _ _ _ ?_ ?_).symm
  · show 512 * t.val + 512 + (y 0).val = win0_2.index t 0 * 16 + 1 * (y 0).val; rw [(ix2 t).1]; omega
  · show (y 1).val = win0_2.index t 1 * 4096 + 1 * (y 1).val; rw [(ix2 t).2]; omega

theorem blk3 (c : Dev nD) (t : Fin cfg0.N) (y : S512x2048.Idx) : (iblk m c 3 t : Vec Ideal S512x2048 .bf16) y = (args m c).dy (512 * t.val + (y 0).val) (y 1).val := by
  refine (nat2_idx (n := 4096) (m := 2048) (m ((c : Thread nD τ).loc main_arg1)) _ _ _ ?_ ?_).symm
  · show 512 * t.val + (y 0).val = win0_3.index t 0 * 512 + 1 * (y 0).val; rw [(ix3 t).1]; omega
  · show (y 1).val = win0_3.index t 1 * 2048 + 1 * (y 1).val; rw [(ix3 t).2]; omega

theorem blk4 (c : Dev nD) (t : Fin cfg0.N) (h : t.val ≠ 7) (y : S16x2048.Idx) : (iblk m c 4 t : Vec Ideal S16x2048 .bf16) y = (args m c).dy (512 * t.val + 512 + (y 0).val) (y 1).val := by
  have := lt8 t
  refine (nat2_idx (n := 4096) (m := 2048) (m ((c : Thread nD τ).loc main_arg1)) _ _ _ ?_ ?_).symm
  · show 512 * t.val + 512 + (y 0).val = win0_4.index t 0 * 16 + 1 * (y 0).val; rw [(ix4 t).1]; omega
  · show (y 1).val = win0_4.index t 1 * 2048 + 1 * (y 1).val; rw [(ix4 t).2]; omega

theorem blk5 (c : Dev nD) (t : Fin cfg0.N) (y : S3x1024.Idx) : (iblk m c 5 t : Vec Ideal S3x1024 .f32) y = (args m c).w (y 0).val (y 1).val := by
  refine (nat2_idx (n := 3) (m := 1024) (m ((c : Thread nD τ).loc main_arg2)) _ _ _ ?_ ?_).symm
  · show (y 0).val = win0_5.index t 0 * 3 + 1 * (y 0).val; rw [(ix5 t).1]; omega
  · show (y 1).val = win0_5.index t 1 * 1024 + 1 * (y 1).val; rw [(ix5 t).2]; omega

theorem blk6 (c : Dev nD) (t : Fin cfg0.N) (y : S4x256x256.Idx) : (iblk m c 6 t : Vec Ideal S4x256x256 .bf16) y = (args m c).pw (y 0).val (y 1).val (y 2).val := by
  refine (nat3_idx (l := 4) (n := 256) (m := 256) (m ((c : Thread nD τ).loc main_arg3)) _ _ _ _ ?_ ?_ ?_).symm
  · show (y 0).val = win0_6.index t 0 * 4 + 1 * (y 0).val; rw [(ix6 t).1]; omega
  · show (y 1).val = win0_6.index t 1 * 256 + 1 * (y 1).val; rw [(ix6 t).2.1]; omega
  · show (y 2).val = win0_6.index t 2 * 256 + 1 * (y 2).val; rw [(ix6 t).2.2]; omega

theorem blk7 (c : Dev nD) (t : Fin cfg0.N) (y : S1x1024.Idx) : (iblk m c 7 t : Vec Ideal S1x1024 .f32) y = (args m c).ps ((y 1).val / 256) ((y 1).val % 256) := by
  have h1 : (y 1).val < 1024 := (y 1).isLt
  have h0 : (y 0).val < 1 := (y 0).isLt
  refine Eq.trans (b := V m c main_v1 (ValueIdx.ix2 (0 : Fin 1) ⟨(y 1).val, h1⟩)) ?_ ?_
  · refine congrArg (V m c main_v1) (funext fun a => Fin.ext ?_)
    fin_cases a
    · show win0_7.index t 0 * 1 + 1 * (y 0).val = 0; rw [(ix7 t).1]; omega
    · show win0_7.index t 1 * 1024 + 1 * (y 1).val = (y 1).val; rw [(ix7 t).2]; omega
  · rw [V_v1, shapeCast_apply _ _ _ (ValueIdx.ix1 ⟨(y 1).val, h1⟩) (by
      rw [rowMajor_val1, rowMajor_val2 _ 1024 (by decide)]
      show (y 1).val = 0 * 1024 + (y 1).val
      omega)]
    refine (nat1_idx (n := 1024) (m ((c : Thread nD τ).loc main_arg4)) _ _ ?_).symm
    show 256 * ((y 1).val / 256) + (y 1).val % 256 = (y 1).val
    omega

/-- The blocks of point `t`. -/
theorem blocks (c : Dev nD) (t : Fin cfg0.N) :
    Blocks (grid0.coords t) t.val (args m c) (iblk m c 0 t) (iblk m c 1 t) (iblk m c 2 t) (iblk m c 3 t) (iblk m c 4 t) (iblk m c 5 t) (iblk m c 6 t) (iblk m c 7 t) where
  hi := coord t
  ht := lt8 t
  h0 := blk0 m c t
  h1 := blk1 m c t
  h2 := blk2 m c t
  h3 := blk3 m c t
  h4 := blk4 m c t
  h5 := blk5 m c t
  h6 := blk6 m c t
  h7 := blk7 m c t
  pz n _ h := nat2_row (n := 4096) (m := 4096) (m ((c : Thread nD τ).loc main_arg0)) n _ h
  yz n _ h := nat2_row (n := 4096) (m := 2048) (m ((c : Thread nD τ).loc main_arg1)) n _ h

/-! ## The sums over the points -/

/-- The sums of the rows of the points up to `n`. -/
def acc9 (a : Args) (n : ℕ) (y : S3x1024.Idx) : EReal := ∑ r ∈ Finset.range (512 * (n + 1)), a.dwRow (y 0).val r (y 1).val
def acc10 (a : Args) (n : ℕ) (y : S4x256x256.Idx) : EReal := ∑ r ∈ Finset.range (512 * (n + 1)), a.dpRow (y 0).val r (y 1).val (y 2).val
def acc11 (a : Args) (n : ℕ) (y : S1x1024.Idx) : EReal := ∑ r ∈ Finset.range (512 * (n + 1)), a.dsRow ((y 1).val / 256) r ((y 1).val % 256)

/-- A further block of 512 rows. -/
theorem more (f : ℕ → EReal) (n : ℕ) : ∑ r ∈ Finset.range (512 * (n + 1)), f r + ∑ r : Fin 512, f (512 * (n + 1) + r.val) = ∑ r ∈ Finset.range (512 * (n + 1 + 1)), f r := by
  rw [show 512 * (n + 1 + 1) = 512 * (n + 1) + 512 by omega, Finset.sum_range_add, Fin.sum_univ_eq_sum_range (fun r => f (512 * (n + 1) + r))]

/-- The first block of 512 rows. -/
theorem first (f : ℕ → EReal) : (0 : EReal) + ∑ r : Fin 512, f (512 * 0 + r.val) = ∑ r ∈ Finset.range (512 * (0 + 1)), f r := by
  rw [zero_add, Fin.sum_univ_eq_sum_range (fun r => f (512 * 0 + r))]
  exact Finset.sum_congr rfl fun r _ => congrArg f (by omega)

/-- What the output blocks hold after point `n`. -/
theorem outs (c : Dev nD) : ∀ (n : ℕ) (hn : n < cfg0.N),
    outsAt0 m c n hn = (G8 (args m c) n, acc9 (args m c) n, acc10 (args m c) n, acc11 (args m c) n)
  | 0, hn => by
    rw [outsAt0_A m c ⟨0, hn⟩ rfl, outA_8 (B := blocks m c ⟨0, hn⟩), outA_9 (B := blocks m c ⟨0, hn⟩), outA_10 (B := blocks m c ⟨0, hn⟩),
      outA_11 (B := blocks m c ⟨0, hn⟩)]
    refine Prod.ext rfl (Prod.ext (funext fun y => ?_) (Prod.ext (funext fun y => ?_) (funext fun y => ?_)))
    · exact (congrArg (· + _) Ideal.ofBits_zero_f32).trans (first fun r => (args m c).dwRow (y 0).val r (y 1).val)
    · exact (congrArg (· + _) Ideal.ofBits_zero_f32).trans (first fun r => (args m c).dpRow (y 0).val r (y 1).val (y 2).val)
    · exact (congrArg (· + _) Ideal.ofBits_zero_f32).trans (first fun r => (args m c).dsRow ((y 1).val / 256) r ((y 1).val % 256))
  | n + 1, hn => by
    have hN := lt8 ⟨n + 1, hn⟩
    have hB : ¬(⟨n + 1, hn⟩ : Fin cfg0.N).val % 8 = 0 := by dsimp only at hN ⊢; omega
    rw [outsAt0_B m c ⟨n + 1, hn⟩ hB, outB_8 (B := blocks m c ⟨n + 1, hn⟩), outB_9 (B := blocks m c ⟨n + 1, hn⟩), outB_10 (B := blocks m c ⟨n + 1, hn⟩),
      outB_11 (B := blocks m c ⟨n + 1, hn⟩)]
    have ih := outs c n (Nat.lt_of_succ_lt hn)
    show (_, G9 _ _ (outsAt0 m c n _).2.1, G10 _ _ (outsAt0 m c n _).2.2.1, G11 _ _ (outsAt0 m c n _).2.2.2) = _
    rw [ih]
    refine Prod.ext rfl (Prod.ext (funext fun y => ?_) (Prod.ext (funext fun y => ?_) (funext fun y => ?_)))
    · exact more (fun r => (args m c).dwRow (y 0).val r (y 1).val) n
    · exact more (fun r => (args m c).dpRow (y 0).val r (y 1).val (y 2).val) n
    · exact more (fun r => (args m c).dsRow ((y 1).val / 256) r ((y 1).val % 256)) n

/-! ## The result arrays -/

/-- The gradients, element by element. -/
def res8 (a : Args) (y : S4096x4096.Idx) : EReal := a.dproj (y 0).val (y 1).val
def res9 (a : Args) (y : S3x1024.Idx) : EReal := ∑ r ∈ Finset.range 4096, a.dwRow (y 0).val r (y 1).val
def res10 (a : Args) (y : S4x256x256.Idx) : EReal := ∑ r ∈ Finset.range 4096, a.dpRow (y 0).val r (y 1).val (y 2).val
def res11 (a : Args) (y : S1x1024.Idx) : EReal := ∑ r ∈ Finset.range 4096, a.dsRow ((y 1).val / 256) r ((y 1).val % 256)

theorem ix8 (t : Fin cfg0.N) : win0_8.index t 0 = t.val ∧ win0_8.index t 1 = 0 := by rcases fin_N0 t with rfl | rfl | rfl | rfl | rfl | rfl | rfl | rfl <;> decide

theorem final8 (c : Dev nD) : (dats m 0 c).arrAt 8 cfg0.N = res8 (args m c) := by
  refine (dats m 0 c).arrAt_eq_of_cover 8 (res8 (args m c)) (fun t _ => ?_) fun i => ?_
  · rw [flushed8, outs]
    funext y
    show (args m c).dproj (512 * t.val + (y 0).val) (y 1).val = (args m c).dproj _ _
    refine congrArg₂ (args m c).dproj ?_ ?_
    · show _ = win0_8.index t 0 * 512 + 1 * (y 0).val; rw [(ix8 t).1]; omega
    · show _ = win0_8.index t 1 * 4096 + 1 * (y 1).val; rw [(ix8 t).2]; omega
  · have h0 : (i 0 : ℕ) < 4096 := (i 0).isLt
    have h1 : (i 1 : ℕ) < 4096 := (i 1).isLt
    have ht : (i 0 : ℕ) / 512 < cfg0.N := by rw [show cfg0.N = 8 from N_0]; omega
    refine ⟨⟨(i 0 : ℕ) / 512, ht⟩, flush0_8 _, ?_⟩
    show i ∈ ((View.whole main_v2_0).slice (win0_8.rect ⟨(i 0 : ℕ) / 512, ht⟩)).set
    rw [View.set_slice_whole, Rect.mem_set_unit]
    intro a
    fin_cases a
    · show win0_8.index ⟨(i 0 : ℕ) / 512, ht⟩ 0 * 512 ≤ (i 0 : ℕ) ∧ (i 0 : ℕ) < win0_8.index ⟨(i 0 : ℕ) / 512, ht⟩ 0 * 512 + 512
      rw [(ix8 _).1]; dsimp only; omega
    · show win0_8.index ⟨(i 0 : ℕ) / 512, ht⟩ 1 * 4096 ≤ (i 1 : ℕ) ∧ (i 1 : ℕ) < win0_8.index ⟨(i 0 : ℕ) / 512, ht⟩ 1 * 4096 + 4096
      rw [(ix8 _).2]; omega

/-- The sums' arrays are written back after the last point. -/
theorem last (t : Fin cfg0.N) (h : t.val % 8 = 7) : t = t0_7 := Fin.ext (by have := lt8 t; show t.val = 7; omega)

theorem final9 (c : Dev nD) : (dats m 0 c).arrAt 9 cfg0.N = res9 (args m c) := by
  refine (dats m 0 c).arrAt_eq_of_cover 9 (res9 (args m c)) (fun t hf => ?_) fun i => ⟨t0_7, (flush0_9 t0_7).mpr rfl, ?_⟩
  · obtain rfl := last t ((flush0_9 t).mp hf)
    rw [flushed9, outs]
    have hz : (fun a => win0_9.index t0_7 a * main_v2_1.ty.shape.size a) = fun _ => 0 := funext fun a => by fin_cases a <;> decide
    exact (Memref.read_access_unit_zero (Elt Ideal) main_v2_1 hz (fun a => by rw [congrFun hz a]; simp) (res9 (args m c))).symm
  · show i ∈ ((View.whole main_v2_1).slice (win0_9.rect t0_7)).set
    rw [View.set_slice_whole, Rect.mem_set_unit]
    have h0 : (i 0 : ℕ) < 3 := (i 0).isLt
    have h1 : (i 1 : ℕ) < 1024 := (i 1).isLt
    intro a
    fin_cases a
    · show win0_9.index t0_7 0 * 3 ≤ (i 0 : ℕ) ∧ (i 0 : ℕ) < win0_9.index t0_7 0 * 3 + 3
      rw [show win0_9.index t0_7 0 = 0 from by decide]; omega
    · show win0_9.index t0_7 1 * 1024 ≤ (i 1 : ℕ) ∧ (i 1 : ℕ) < win0_9.index t0_7 1 * 1024 + 1024
      rw [show win0_9.index t0_7 1 = 0 from by decide]; omega

theorem final10 (c : Dev nD) : (dats m 0 c).arrAt 10 cfg0.N = res10 (args m c) := by
  refine (dats m 0 c).arrAt_eq_of_cover 10 (res10 (args m c)) (fun t hf => ?_) fun i => ⟨t0_7, (flush0_10 t0_7).mpr rfl, ?_⟩
  · obtain rfl := last t ((flush0_10 t).mp hf)
    rw [flushed10, outs]
    have hz : (fun a => win0_10.index t0_7 a * main_v2_2.ty.shape.size a) = fun _ => 0 := funext fun a => by fin_cases a <;> decide
    exact (Memref.read_access_unit_zero (Elt Ideal) main_v2_2 hz (fun a => by rw [congrFun hz a]; simp) (res10 (args m c))).symm
  · show i ∈ ((View.whole main_v2_2).slice (win0_10.rect t0_7)).set
    rw [View.set_slice_whole, Rect.mem_set_unit]
    have h0 : (i 0 : ℕ) < 4 := (i 0).isLt
    have h1 : (i 1 : ℕ) < 256 := (i 1).isLt
    have h2 : (i 2 : ℕ) < 256 := (i 2).isLt
    intro a
    fin_cases a
    · show win0_10.index t0_7 0 * 4 ≤ (i 0 : ℕ) ∧ (i 0 : ℕ) < win0_10.index t0_7 0 * 4 + 4
      rw [show win0_10.index t0_7 0 = 0 from by decide]; omega
    · show win0_10.index t0_7 1 * 256 ≤ (i 1 : ℕ) ∧ (i 1 : ℕ) < win0_10.index t0_7 1 * 256 + 256
      rw [show win0_10.index t0_7 1 = 0 from by decide]; omega
    · show win0_10.index t0_7 2 * 256 ≤ (i 2 : ℕ) ∧ (i 2 : ℕ) < win0_10.index t0_7 2 * 256 + 256
      rw [show win0_10.index t0_7 2 = 0 from by decide]; omega

theorem final11 (c : Dev nD) : (dats m 0 c).arrAt 11 cfg0.N = res11 (args m c) := by
  refine (dats m 0 c).arrAt_eq_of_cover 11 (res11 (args m c)) (fun t hf => ?_) fun i => ⟨t0_7, (flush0_11 t0_7).mpr rfl, ?_⟩
  · obtain rfl := last t ((flush0_11 t).mp hf)
    rw [flushed11, outs]
    have hz : (fun a => win0_11.index t0_7 a * main_v2_3.ty.shape.size a) = fun _ => 0 := funext fun a => by fin_cases a <;> decide
    exact (Memref.read_access_unit_zero (Elt Ideal) main_v2_3 hz (fun a => by rw [congrFun hz a]; simp) (res11 (args m c))).symm
  · show i ∈ ((View.whole main_v2_3).slice (win0_11.rect t0_7)).set
    rw [View.set_slice_whole, Rect.mem_set_unit]
    have h0 : (i 0 : ℕ) < 1 := (i 0).isLt
    have h1 : (i 1 : ℕ) < 1024 := (i 1).isLt
    intro a
    fin_cases a
    · show win0_11.index t0_7 0 * 1 ≤ (i 0 : ℕ) ∧ (i 0 : ℕ) < win0_11.index t0_7 0 * 1 + 1
      rw [show win0_11.index t0_7 0 = 0 from by decide]; omega
    · show win0_11.index t0_7 1 * 1024 ≤ (i 1 : ℕ) ∧ (i 1 : ℕ) < win0_11.index t0_7 1 * 1024 + 1024
      rw [show win0_11.index t0_7 1 = 0 from by decide]; omega

/-- The kernel's run leaves the four gradients in its result arrays and its arguments as they were. -/
theorem run : θ_run defs (onTc (τ := τ) (main (F := Ideal))) ⟨m, fun _ => 0, ρ⟩ fun r => ∀ c : Dev nD,
      r.2.mem ((c : Thread nD τ).loc main_v2_0) = res8 (args m c)
      ∧ r.2.mem ((c : Thread nD τ).loc main_v2_1) = res9 (args m c)
      ∧ r.2.mem ((c : Thread nD τ).loc main_v2_2) = res10 (args m c)
      ∧ r.2.mem ((c : Thread nD τ).loc main_v2_3) = res11 (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final8 m c), (h c).2.1.trans (final9 m c), (h c).2.2.1.trans (final10 m c),
      (h c).2.2.2.1.trans (final11 m c), (h c).2.2.2.2⟩)
    (run_blocks m ρ)

end Cert.KernelIdeal.Mix

end
-- ==== Proof.MixHost.lean ====
/-
  The reference's host operations that move rows or groups, each read at an index: rows joined below rows of zeros, running
  sums along the rows from the top and from the bottom, and pads by zeros along rows, groups and columns. Every operand is
  read as a function of natural numbers, and so is the result.
-/
module

public import proofs.«01_k».proof.Proof.MixSpec
public import Idealize.ShloMosaic.Lib.Pipeline.Value
public import Idealize.ShloMosaic.Lib.KernelVsHost
public import Idealize.ShloMosaic.Lib.IdealHost
public import Idealize.ShloMosaic.Lib.TwoAxisContraction

@[expose] public section

noncomputable section

namespace Cert.Mix

open Idealize.ShloMosaic Idealize.ShloMosaic.ValueIdx
open scoped BigOperators

/-- Rows joined below `w` rows of zeros are the rows moved down by `w`. -/
theorem join_rows {w m n C : ℕ} (hw : w + m = n) (z : (⟨3, ![1, w, C]⟩ : Shape).Idx → EReal) (x : (⟨3, ![1, m, C]⟩ : Shape).Idx → EReal)
    (h : Shape.Concatenates [(⟨3, ![1, w, C]⟩ : Shape), ⟨3, ![1, m, C]⟩] ⟨3, ![1, n, C]⟩ 1) (f : ℕ → ℕ → EReal) (hz : ∀ i, z i = 0)
    (hx : ∀ i, x i = f (i 1).val (i 2).val) (i : (⟨3, ![1, n, C]⟩ : Shape).Idx) :
    concatenate (⟨3, ![1, n, C]⟩ : Shape) 1 [⟨(⟨3, ![1, w, C]⟩ : Shape), z⟩, ⟨(⟨3, ![1, m, C]⟩ : Shape), x⟩] h i = shDown w f (i 1).val (i 2).val := by
  have h1 : (i 1).val < n := (i 1).isLt
  unfold shDown
  by_cases hlt : (i 1).val < w
  · rw [if_pos hlt]
    exact (concatenate_pair_apply_left 1 z x h i rfl (ix3 (i 0) ⟨(i 1).val, hlt⟩ (i 2)) (fun b => by
      match b with
      | ⟨0, _⟩ => rfl
      | ⟨1, _⟩ => rfl
      | ⟨2, _⟩ => rfl)).trans (hz _)
  · rw [if_neg hlt]
    exact (concatenate_pair_apply_right 1 z x h i rfl rfl (ix3 (i 0) ⟨(i 1).val - w, by omega⟩ (i 2)) (fun b hb => by
      match b, hb with
      | ⟨0, _⟩, _ => rfl
      | ⟨1, _⟩, hb => exact absurd rfl hb
      | ⟨2, _⟩, _ => rfl) (by show (i 1).val - w + w = (i 1).val; omega)).trans (hx _)

/-- A fold that adds is the start plus the sum. -/
theorem foldl_add_eq_sum {N : ℕ} (G : Fin N → EReal) (v : EReal) :
    (List.finRange N).foldl (fun r n => r + G n) v = v + ∑ n : Fin N, G n := by
  have H : ∀ (l : List (Fin N)) (r : EReal), l.foldl (fun r n => r + G n) r = r + (l.map G).sum := by
    intro l
    induction l with
    | nil => intro r; simp
    | cons a l ih => intro r; rw [List.foldl_cons, ih, List.map_cons, List.sum_cons, add_assoc]
  rw [H, ← List.ofFn_eq_map, List.sum_ofFn]

/-- The places of a window that is one row long on every axis but the rows' are its rows. -/
def rowsEquiv (n : ℕ) : Fin n ≃ (⟨4, ![1, n, 1, 1]⟩ : Shape).Idx where
  toFun k := ix4 0 k 0 0
  invFun i := i 1
  left_inv k := rfl
  right_inv i := funext fun a => Fin.ext (by
    match a with
    | ⟨0, _⟩ => have h : (i 0).val < 1 := (i 0).isLt; show 0 = (i 0).val; omega
    | ⟨1, _⟩ => rfl
    | ⟨2, _⟩ => have h : (i 2).val < 1 := (i 2).isLt; show 0 = (i 2).val; omega
    | ⟨3, _⟩ => have h : (i 3).val < 1 := (i 3).isLt; show 0 = (i 3).val; omega)

/-- A sum over windows of rows of an array of groups, read as the sum over the window's places: the operand where the place is
    a row of it, zero where it is padding. -/
theorem window_rows {n G C : ℕ} (lo hi : ℕ) (x : (⟨4, ![1, n, G, C]⟩ : Shape).Idx → EReal)
    (h : (⟨4, ![1, n, G, C]⟩ : Shape).ReduceWindows (![1, n, 1, 1] : Fin 4 → ℕ) ![1, 1, 1, 1] ![0, lo, 0, 0] ![0, hi, 0, 0] ⟨4, ![1, n, G, C]⟩)
    (f : ℕ → ℕ → ℕ → EReal) (hx : ∀ i, x i = f (i 2).val (i 1).val (i 3).val) (i : (⟨4, ![1, n, G, C]⟩ : Shape).Idx) :
    Ideal.hostReduceWindowAdd ![1, n, 1, 1] ![1, 1, 1, 1] ![0, lo, 0, 0] ![0, hi, 0, 0] h x 0 i
      = ∑ k ∈ Finset.range n, if lo ≤ (i 1).val + k ∧ (i 1).val + k - lo < n then f (i 2).val ((i 1).val + k - lo) (i 3).val else 0 := by
  have h0 : (i 0).val < 1 := (i 0).isLt
  have h2 : (i 2).val < G := (i 2).isLt
  have h3 : (i 3).val < C := (i 3).isLt
  unfold Ideal.hostReduceWindowAdd Host.reduceWindow
  refine (foldl_add_eq_sum _ _).trans ((zero_add _).trans ?_)
  rw [← Fin.sum_univ_eq_sum_range (fun k => if lo ≤ (i 1).val + k ∧ (i 1).val + k - lo < n then f (i 2).val ((i 1).val + k - lo) (i 3).val else 0) n,
    ← Equiv.sum_comp ((rowsEquiv n).trans (⟨4, ![1, n, 1, 1]⟩ : Shape).rowMajor)]
  refine Finset.sum_congr rfl fun k _ => ?_
  have hp : (⟨4, ![1, n, 1, 1]⟩ : Shape).rowMajor.symm (((rowsEquiv n).trans (⟨4, ![1, n, 1, 1]⟩ : Shape).rowMajor) k) = ix4 0 k 0 0 :=
    (Equiv.symm_apply_apply _ _)
  have e0 : ((⟨4, ![1, n, 1, 1]⟩ : Shape).rowMajor.symm (((rowsEquiv n).trans (⟨4, ![1, n, 1, 1]⟩ : Shape).rowMajor) k) 0).val = 0 := by rw [hp]; rfl
  have e1 : ((⟨4, ![1, n, 1, 1]⟩ : Shape).rowMajor.symm (((rowsEquiv n).trans (⟨4, ![1, n, 1, 1]⟩ : Shape).rowMajor) k) 1).val = k.val := by rw [hp]; rfl
  have e2 : ((⟨4, ![1, n, 1, 1]⟩ : Shape).rowMajor.symm (((rowsEquiv n).trans (⟨4, ![1, n, 1, 1]⟩ : Shape).rowMajor) k) 2).val = 0 := by rw [hp]; rfl
  have e3 : ((⟨4, ![1, n, 1, 1]⟩ : Shape).rowMajor.symm (((rowsEquiv n).trans (⟨4, ![1, n, 1, 1]⟩ : Shape).rowMajor) k) 3).val = 0 := by rw [hp]; rfl
  generalize ((rowsEquiv n).trans (⟨4, ![1, n, 1, 1]⟩ : Shape).rowMajor) k = p at e0 e1 e2 e3
  dsimp only
  split
  · next hin =>
    have hr := hin 1
    change lo ≤ (i 1).val * 1 + ((⟨4, ![1, n, 1, 1]⟩ : Shape).rowMajor.symm p 1).val
      ∧ (i 1).val * 1 + ((⟨4, ![1, n, 1, 1]⟩ : Shape).rowMajor.symm p 1).val - lo < n at hr
    rw [e1, Nat.mul_one] at hr
    rw [if_pos hr, hx]
    show f ((i 2).val * 1 + ((⟨4, ![1, n, 1, 1]⟩ : Shape).rowMajor.symm p 2).val - 0)
      ((i 1).val * 1 + ((⟨4, ![1, n, 1, 1]⟩ : Shape).rowMajor.symm p 1).val - lo)
      ((i 3).val * 1 + ((⟨4, ![1, n, 1, 1]⟩ : Shape).rowMajor.symm p 3).val - 0) = _
    rw [e1, e2, e3]
    simp only [Nat.mul_one, Nat.add_zero, Nat.sub_zero]
  · next hin =>
    refine (if_neg fun hr => hin fun a => ?_).symm
    match a with
    | ⟨0, _⟩ =>
      show 0 ≤ (i 0).val * 1 + ((⟨4, ![1, n, 1, 1]⟩ : Shape).rowMajor.symm p 0).val
        ∧ (i 0).val * 1 + ((⟨4, ![1, n, 1, 1]⟩ : Shape).rowMajor.symm p 0).val - 0 < 1
      rw [e0]; omega
    | ⟨1, _⟩ =>
      show lo ≤ (i 1).val * 1 + ((⟨4, ![1, n, 1, 1]⟩ : Shape).rowMajor.symm p 1).val
        ∧ (i 1).val * 1 + ((⟨4, ![1, n, 1, 1]⟩ : Shape).rowMajor.symm p 1).val - lo < n
      rw [e1, Nat.mul_one]; exact hr
    | ⟨2, _⟩ =>
      show 0 ≤ (i 2).val * 1 + ((⟨4, ![1, n, 1, 1]⟩ : Shape).rowMajor.symm p 2).val
        ∧ (i 2).val * 1 + ((⟨4, ![1, n, 1, 1]⟩ : Shape).rowMajor.symm p 2).val - 0 < G
      rw [e2]; omega
    | ⟨3, _⟩ =>
      show 0 ≤ (i 3).val * 1 + ((⟨4, ![1, n, 1, 1]⟩ : Shape).rowMajor.symm p 3).val
        ∧ (i 3).val * 1 + ((⟨4, ![1, n, 1, 1]⟩ : Shape).rowMajor.symm p 3).val - 0 < C
      rw [e3]; omega

/-- The running sum from the top: row `j` of the result is the sum of a window of all the rows up to `j`. -/
theorem sum_from_top {n m G C : ℕ} (hn : m + 1 = n) (x : (⟨4, ![1, n, G, C]⟩ : Shape).Idx → EReal)
    (h : (⟨4, ![1, n, G, C]⟩ : Shape).ReduceWindows (![1, n, 1, 1] : Fin 4 → ℕ) ![1, 1, 1, 1] ![0, m, 0, 0] ![0, 0, 0, 0] ⟨4, ![1, n, G, C]⟩)
    (f : ℕ → ℕ → ℕ → EReal) (hx : ∀ i, x i = f (i 2).val (i 1).val (i 3).val) (i : (⟨4, ![1, n, G, C]⟩ : Shape).Idx) :
    Ideal.hostReduceWindowAdd ![1, n, 1, 1] ![1, 1, 1, 1] ![0, m, 0, 0] ![0, 0, 0, 0] h x 0 i
      = winDown n (f (i 2).val) (i 1).val (i 3).val := by
  have h1 : (i 1).val < n := (i 1).isLt
  rw [window_rows m 0 x h f hx i]
  unfold winDown shDown
  rw [← Finset.sum_range_reflect]
  refine Finset.sum_congr rfl fun k hk => ?_
  have hk := Finset.mem_range.1 hk
  by_cases hlt : (i 1).val < k
  · rw [if_pos hlt, if_neg (by omega)]
  · rw [if_neg hlt, if_pos (by omega)]
    exact congrArg (fun r => f (i 2).val r (i 3).val) (by omega)

/-- So stated of the host's operation from an initial value that is zero. -/
theorem host_sum_from_top {n m G C : ℕ} (hn : m + 1 = n) (x : FVec Ideal ⟨4, ![1, n, G, C]⟩ .f32) (v : FVec Ideal ⟨0, ![]⟩ .f32)
    (h : (⟨4, ![1, n, G, C]⟩ : Shape).ReduceWindows (![1, n, 1, 1] : Fin 4 → ℕ) ![1, 1, 1, 1] ![0, m, 0, 0] ![0, 0, 0, 0] ⟨4, ![1, n, G, C]⟩)
    (hu : 0 < (⟨0, ![]⟩ : Shape).numel) (hv : ∀ i, v i = (0 : EReal)) (f : ℕ → ℕ → ℕ → EReal) (hx : ∀ i, x i = f (i 2).val (i 1).val (i 3).val)
    (i : (⟨4, ![1, n, G, C]⟩ : Shape).Idx) :
    Host.reduceWindowAdd ![1, n, 1, 1] ![1, 1, 1, 1] ![0, m, 0, 0] ![0, 0, 0, 0] x v h hu i = winDown n (f (i 2).val) (i 1).val (i 3).val := by
  show Ideal.hostReduceWindowAdd ![1, n, 1, 1] ![1, 1, 1, 1] ![0, m, 0, 0] ![0, 0, 0, 0] h x (v (Shape.Idx.first hu)) i = _
  rw [hv]
  exact sum_from_top hn x h f hx i

/-- The running sum from the bottom: row `j` of the result is the sum of the rows from `j` on. -/
theorem sum_from_bottom {n m G C : ℕ} (x : (⟨4, ![1, n, G, C]⟩ : Shape).Idx → EReal)
    (h : (⟨4, ![1, n, G, C]⟩ : Shape).ReduceWindows (![1, n, 1, 1] : Fin 4 → ℕ) ![1, 1, 1, 1] ![0, 0, 0, 0] ![0, m, 0, 0] ⟨4, ![1, n, G, C]⟩)
    (f : ℕ → ℕ → ℕ → EReal) (hx : ∀ i, x i = f (i 2).val (i 1).val (i 3).val) (h0 : ∀ g r c, n ≤ r → f g r c = 0)
    (i : (⟨4, ![1, n, G, C]⟩ : Shape).Idx) :
    Ideal.hostReduceWindowAdd ![1, n, 1, 1] ![1, 1, 1, 1] ![0, 0, 0, 0] ![0, m, 0, 0] h x 0 i
      = winUp n (f (i 2).val) (i 1).val (i 3).val := by
  rw [window_rows 0 m x h f hx i]
  unfold winUp
  refine Finset.sum_congr rfl fun k _ => ?_
  rw [Nat.sub_zero]
  by_cases hlt : (i 1).val + k < n
  · rw [if_pos ⟨Nat.zero_le _, hlt⟩]
  · rw [if_neg (by omega), h0 _ _ _ (by omega)]

/-- So stated of the host's operation from an initial value that is zero. -/
theorem host_sum_from_bottom {n m G C : ℕ} (x : FVec Ideal ⟨4, ![1, n, G, C]⟩ .f32) (v : FVec Ideal ⟨0, ![]⟩ .f32)
    (h : (⟨4, ![1, n, G, C]⟩ : Shape).ReduceWindows (![1, n, 1, 1] : Fin 4 → ℕ) ![1, 1, 1, 1] ![0, 0, 0, 0] ![0, m, 0, 0] ⟨4, ![1, n, G, C]⟩)
    (hu : 0 < (⟨0, ![]⟩ : Shape).numel) (hv : ∀ i, v i = (0 : EReal)) (f : ℕ → ℕ → ℕ → EReal) (hx : ∀ i, x i = f (i 2).val (i 1).val (i 3).val)
    (h0 : ∀ g r c, n ≤ r → f g r c = 0) (i : (⟨4, ![1, n, G, C]⟩ : Shape).Idx) :
    Host.reduceWindowAdd ![1, n, 1, 1] ![1, 1, 1, 1] ![0, 0, 0, 0] ![0, m, 0, 0] x v h hu i = winUp n (f (i 2).val) (i 1).val (i 3).val := by
  show Ideal.hostReduceWindowAdd ![1, n, 1, 1] ![1, 1, 1, 1] ![0, 0, 0, 0] ![0, m, 0, 0] h x (v (Shape.Idx.first hu)) i = _
  rw [hv]
  exact sum_from_bottom x h f hx h0 i

/-- Rows padded by `lo` rows above and some below are the rows moved down by `lo`, where the function is zero past the last row. -/
theorem pad_rows {lo hi m n C : ℕ} (x : (⟨3, ![1, m, C]⟩ : Shape).Idx → EReal) {u : Shape} (v : u.Idx → EReal)
    (h : (⟨3, ![1, m, C]⟩ : Shape).Pads (![0, lo, 0] : Fin 3 → ℕ) ![0, hi, 0] ![0, 0, 0] ⟨3, ![1, n, C]⟩) (hu : 0 < u.numel) (hv : ∀ i, v i = 0)
    (f : ℕ → ℕ → EReal) (hx : ∀ i, x i = f (i 1).val (i 2).val) (h0 : ∀ r c, m ≤ r → f r c = 0) (i : (⟨3, ![1, n, C]⟩ : Shape).Idx) :
    pad (⟨3, ![1, n, C]⟩ : Shape) ![0, lo, 0] ![0, hi, 0] ![0, 0, 0] x v h hu i = shDown lo f (i 1).val (i 2).val := by
  unfold shDown
  by_cases hlt : (i 1).val < lo
  · rw [if_pos hlt]
    exact (pad_apply_of_not_inside _ _ _ x v h hu i 1 (fun hin => absurd (show lo ≤ (i 1).val from hin.1) (by omega))).trans (hv _)
  · rw [if_neg hlt]
    by_cases hm : (i 1).val - lo < m
    · exact (pad_apply_of_inside _ _ _ x v h hu i (ix3 (i 0) ⟨(i 1).val - lo, hm⟩ (i 2)) (fun a => by
        match a with
        | ⟨0, _⟩ => show (i 0).val = 0 + (i 0).val * 1; omega
        | ⟨1, _⟩ => show (i 1).val = lo + ((i 1).val - lo) * 1; omega
        | ⟨2, _⟩ => show (i 2).val = 0 + (i 2).val * 1; omega)).trans (hx _)
    · rw [h0 _ _ (by omega)]
      refine (pad_apply_of_not_inside _ _ _ x v h hu i 1 (fun hin => ?_)).trans (hv _)
      have := hin.2.2
      change ((i 1).val - lo) / 1 < m at this
      rw [Nat.div_one] at this
      exact hm this

/-- Columns padded by `lo` columns before and some after: the operand's between, zero elsewhere. -/
theorem pad_cols {lo hi n m C : ℕ} (x : (⟨3, ![1, n, m]⟩ : Shape).Idx → EReal) {u : Shape} (v : u.Idx → EReal)
    (h : (⟨3, ![1, n, m]⟩ : Shape).Pads (![0, 0, lo] : Fin 3 → ℕ) ![0, 0, hi] ![0, 0, 0] ⟨3, ![1, n, C]⟩) (hu : 0 < u.numel) (hv : ∀ i, v i = 0)
    (f : ℕ → ℕ → EReal) (hx : ∀ i, x i = f (i 1).val (i 2).val) (i : (⟨3, ![1, n, C]⟩ : Shape).Idx) :
    pad (⟨3, ![1, n, C]⟩ : Shape) ![0, 0, lo] ![0, 0, hi] ![0, 0, 0] x v h hu i
      = if lo ≤ (i 2).val ∧ (i 2).val < lo + m then f (i 1).val ((i 2).val - lo) else 0 := by
  by_cases hin : lo ≤ (i 2).val ∧ (i 2).val < lo + m
  · rw [if_pos hin]
    exact (pad_apply_of_inside _ _ _ x v h hu i (ix3 (i 0) (i 1) ⟨(i 2).val - lo, by omega⟩) (fun a => by
      match a with
      | ⟨0, _⟩ => show (i 0).val = 0 + (i 0).val * 1; omega
      | ⟨1, _⟩ => show (i 1).val = 0 + (i 1).val * 1; omega
      | ⟨2, _⟩ => show (i 2).val = lo + ((i 2).val - lo) * 1; omega)).trans (hx _)
  · rw [if_neg hin]
    refine (pad_apply_of_not_inside _ _ _ x v h hu i 2 (fun hq => hin ?_)).trans (hv _)
    have h1 := hq.1
    have h2 := hq.2.2
    change lo ≤ (i 2).val at h1
    change ((i 2).val - lo) / 1 < m at h2
    rw [Nat.div_one] at h2
    omega

/-- One group padded to be group `lo` of many: it in its place, zero in the others. -/
theorem pad_group {lo hi n G C : ℕ} (x : (⟨4, ![1, n, 1, C]⟩ : Shape).Idx → EReal) {u : Shape} (v : u.Idx → EReal)
    (h : (⟨4, ![1, n, 1, C]⟩ : Shape).Pads (![0, 0, lo, 0] : Fin 4 → ℕ) ![0, 0, hi, 0] ![0, 0, 0, 0] ⟨4, ![1, n, G, C]⟩) (hu : 0 < u.numel)
    (hv : ∀ i, v i = 0) (f : ℕ → ℕ → EReal) (hx : ∀ i, x i = f (i 1).val (i 3).val) (i : (⟨4, ![1, n, G, C]⟩ : Shape).Idx) :
    pad (⟨4, ![1, n, G, C]⟩ : Shape) ![0, 0, lo, 0] ![0, 0, hi, 0] ![0, 0, 0, 0] x v h hu i
      = if (i 2).val = lo then f (i 1).val (i 3).val else 0 := by
  by_cases hin : (i 2).val = lo
  · rw [if_pos hin]
    exact (pad_apply_of_inside _ _ _ x v h hu i (ix4 (i 0) (i 1) 0 (i 3)) (fun a => by
      match a with
      | ⟨0, _⟩ => show (i 0).val = 0 + (i 0).val * 1; omega
      | ⟨1, _⟩ => show (i 1).val = 0 + (i 1).val * 1; omega
      | ⟨2, _⟩ => show (i 2).val = lo + 0 * 1; omega
      | ⟨3, _⟩ => show (i 3).val = 0 + (i 3).val * 1; omega)).trans (hx _)
  · rw [if_neg hin]
    refine (pad_apply_of_not_inside _ _ _ x v h hu i 2 (fun hq => hin ?_)).trans (hv _)
    have h1 := hq.1
    have h2 := hq.2.2
    change lo ≤ (i 2).val at h1
    change ((i 2).val - lo) / 1 < 1 at h2
    rw [Nat.div_one] at h2
    omega

/-- One row padded to be row `lo` of three: it in its place, zero in the others. -/
theorem pad_tap {lo hi n C : ℕ} (x : (⟨2, ![1, C]⟩ : Shape).Idx → EReal) {u : Shape} (v : u.Idx → EReal)
    (h : (⟨2, ![1, C]⟩ : Shape).Pads (![lo, 0] : Fin 2 → ℕ) ![hi, 0] ![0, 0] ⟨2, ![n, C]⟩) (hu : 0 < u.numel)
    (hv : ∀ i, v i = 0) (f : ℕ → EReal) (hx : ∀ i, x i = f (i 1).val) (i : (⟨2, ![n, C]⟩ : Shape).Idx) :
    pad (⟨2, ![n, C]⟩ : Shape) ![lo, 0] ![hi, 0] ![0, 0] x v h hu i = if (i 0).val = lo then f (i 1).val else 0 := by
  by_cases hin : (i 0).val = lo
  · rw [if_pos hin]
    exact (pad_apply_of_inside _ _ _ x v h hu i (ix2 0 (i 1)) (fun a => by
      match a with
      | ⟨0, _⟩ => show (i 0).val = lo + 0 * 1; omega
      | ⟨1, _⟩ => show (i 1).val = 0 + (i 1).val * 1; omega)).trans (hx _)
  · rw [if_neg hin]
    refine (pad_apply_of_not_inside _ _ _ x v h hu i 0 (fun hq => hin ?_)).trans (hv _)
    have h1 := hq.1
    have h2 := hq.2.2
    change lo ≤ (i 0).val at h1
    change ((i 0).val - lo) / 1 < 1 at h2
    rw [Nat.div_one] at h2
    omega

/-- Four groups joined: group `g` of the result is operand `g`. -/
theorem join_groups {n C : ℕ} (a b c d : (⟨4, ![1, n, 1, C]⟩ : Shape).Idx → EReal)
    (h : Shape.Concatenates [(⟨4, ![1, n, 1, C]⟩ : Shape), ⟨4, ![1, n, 1, C]⟩, ⟨4, ![1, n, 1, C]⟩, ⟨4, ![1, n, 1, C]⟩] ⟨4, ![1, n, 4, C]⟩ 2)
    (f : ℕ → ℕ → ℕ → EReal) (ha : ∀ i, a i = f 0 (i 1).val (i 3).val) (hb : ∀ i, b i = f 1 (i 1).val (i 3).val)
    (hc : ∀ i, c i = f 2 (i 1).val (i 3).val) (hd : ∀ i, d i = f 3 (i 1).val (i 3).val) (i : (⟨4, ![1, n, 4, C]⟩ : Shape).Idx) :
    concatenate (⟨4, ![1, n, 4, C]⟩ : Shape) 2 [⟨(⟨4, ![1, n, 1, C]⟩ : Shape), a⟩, ⟨(⟨4, ![1, n, 1, C]⟩ : Shape), b⟩,
      ⟨(⟨4, ![1, n, 1, C]⟩ : Shape), c⟩, ⟨(⟨4, ![1, n, 1, C]⟩ : Shape), d⟩] h i = f (i 2).val (i 1).val (i 3).val := by
  have h2 : (i 2).val < 4 := (i 2).isLt
  refine (concatenate_ofFn_unit_apply (t := (⟨4, ![1, n, 4, C]⟩ : Shape)) (s₁ := (⟨4, ![1, n, 1, C]⟩ : Shape)) 2
    (![a, b, c, d] : Fin 4 → _) h rfl rfl i ⟨(i 2).val, h2⟩ rfl (ix4 (i 0) (i 1) 0 (i 3)) (fun q hq => ?_)).trans ?_
  · match q, hq with
    | ⟨0, _⟩, _ => rfl
    | ⟨1, _⟩, _ => rfl
    | ⟨2, _⟩, hq => exact absurd rfl hq
    | ⟨3, _⟩, _ => rfl
  · generalize (i 2).val = g at h2 ⊢
    match g, h2 with
    | 0, _ => exact ha _
    | 1, _ => exact hb _
    | 2, _ => exact hc _
    | 3, _ => exact hd _

/-- A sum over two axes of one row each is the one element. -/
theorem sum_unit_axes (x : (⟨3, ![1, 1, 1024]⟩ : Shape).Idx → EReal) (h : (⟨3, ![1, 1, 1024]⟩ : Shape).ReducesTo [0, 1] ⟨1, ![1024]⟩)
    (f : ℕ → EReal) (hx : ∀ i, x i = f (i 2).val) (j : (⟨1, ![1024]⟩ : Shape).Idx) :
    Ideal.hostReduceAdd h x 0 j = f (j 0).val := by
  have hk : ∀ i, (h.drop i 0).val = (i 2).val := fun i => h.drop_apply_val_of_eq i 0 2 (by decide) (by decide)
  have hj : (j 0).val < 1024 := (j 0).isLt
  obtain ⟨y, hy⟩ : ∃ y : (⟨3, ![1, 1, 1024]⟩ : Shape).Idx, y = ix3 0 0 ⟨(j 0).val, hj⟩ := ⟨_, rfl⟩
  have y2 : (y 2).val = (j 0).val := by rw [hy]
  have hd : ∀ i, h.drop i = j ↔ i = y := fun i => by
    constructor
    · intro hd
      refine funext fun a => Fin.ext ?_
      match a with
      | ⟨0, _⟩ => have h0 : (i 0).val < 1 := (i 0).isLt; have h1 : (y 0).val < 1 := (y 0).isLt; show (i 0).val = (y 0).val; omega
      | ⟨1, _⟩ => have h0 : (i 1).val < 1 := (i 1).isLt; have h1 : (y 1).val < 1 := (y 1).isLt; show (i 1).val = (y 1).val; omega
      | ⟨2, _⟩ => show (i 2).val = (y 2).val; rw [← hk i, hd, y2]
    · rintro rfl
      exact funext fun b => Fin.ext (by
        match b with
        | ⟨0, _⟩ => exact (hk _).trans y2)
  unfold Ideal.hostReduceAdd
  rw [zero_add]
  simp only [hd]
  rw [Finset.sum_filter, Finset.sum_ite_eq' Finset.univ y, if_pos (Finset.mem_univ _), hx, y2]

end Cert.Mix

end
-- ==== Proof.MixTel.lean ====
/-
  Windows of rows as differences of running sums: the reference takes the sum of a window as the difference of two running
  sums from the top, and the gradient of that difference as a running sum from the bottom. Where every term is a finite
  number each is the window's sum, which the kernel forms by doubling.
-/
module

public import proofs.«01_k».proof.Proof.MixSpec

@[expose] public section

noncomputable section

namespace Cert.Mix

open Idealize.ShloMosaic Idealize.ShloMosaic.ValueIdx
open scoped BigOperators

/-- A number that is neither infinity. -/
def IsNum (x : EReal) : Prop := x ≠ ⊤ ∧ x ≠ ⊥

theorem IsNum.zero : IsNum 0 := ⟨EReal.zero_ne_top, EReal.zero_ne_bot⟩
theorem IsNum.coe (r : ℝ) : IsNum (r : EReal) := ⟨EReal.coe_ne_top r, EReal.coe_ne_bot r⟩
theorem IsNum.lift {x : EReal} (h : IsNum x) : ∃ r : ℝ, x = (r : EReal) := ⟨x.toReal, (EReal.coe_toReal h.1 h.2).symm⟩
theorem IsNum.add {x y : EReal} (hx : IsNum x) (hy : IsNum y) : IsNum (x + y) := by
  obtain ⟨a, rfl⟩ := hx.lift; obtain ⟨b, rfl⟩ := hy.lift
  rw [← EReal.coe_add]; exact IsNum.coe _
theorem IsNum.mul {x y : EReal} (hx : IsNum x) (hy : IsNum y) : IsNum (x * y) := by
  obtain ⟨a, rfl⟩ := hx.lift; obtain ⟨b, rfl⟩ := hy.lift
  rw [← EReal.coe_mul]; exact IsNum.coe _
theorem IsNum.sum {ι : Type} (s : Finset ι) (f : ι → EReal) (h : ∀ i, IsNum (f i)) : IsNum (∑ i ∈ s, f i) := by
  classical
  induction s using Finset.induction_on with
  | empty => rw [Finset.sum_empty]; exact IsNum.zero
  | insert a s ha ih => rw [Finset.sum_insert ha]; exact (h a).add ih
/-- Divided by a nonzero real it stays one. -/
theorem IsNum.div {x : EReal} (hx : IsNum x) (r : ℝ) (hr : r ≠ 0) : IsNum (Ideal.div x (r : EReal)) := by
  obtain ⟨a, rfl⟩ := hx.lift
  unfold Ideal.div
  rw [if_neg (by exact_mod_cast hr), ← EReal.coe_inv, ← EReal.coe_mul]
  exact IsNum.coe _

/-- What was added to a finite number comes back when the number is taken away. -/
theorem add_sub_of_fin {x y : EReal} (hy : IsNum y) : x + y - y = x := by
  obtain ⟨b, rfl⟩ := hy.lift
  exact EReal.add_sub_cancel_right

/-- A sum of reals read as extended reals. -/
theorem coe_sum_range (N : ℕ) (h : ℕ → ℝ) : (∑ i ∈ Finset.range N, ((h i : ℝ) : EReal)) = ((∑ i ∈ Finset.range N, h i : ℝ) : EReal) := by
  induction N with
  | zero => simp
  | succ N ih => rw [Finset.sum_range_succ, Finset.sum_range_succ, EReal.coe_add, ih]

/-- A window that reaches above the first row is as long as the rows there are. -/
theorem winDown_all (N : ℕ) (f : ℕ → ℕ → EReal) (n c w : ℕ) (h : n < N) : winDown (w + N) f n c = winDown N f n c := by
  rw [Nat.add_comm w N, winDown_add N w f n c]
  unfold shDown
  rw [if_pos h, add_zero]

/-- The running sum from the top less the one `w` rows above is the window's sum, where the terms are finite. -/
theorem winDown_of_difference (N w : ℕ) (f : ℕ → ℕ → EReal) (hf : ∀ n c, IsNum (f n c)) (n c : ℕ) (h : n < N) :
    winDown N f n c - shDown w (winDown N f) n c = winDown w f n c := by
  have hs : IsNum (shDown w (winDown N f) n c) := by
    unfold shDown
    split
    · exact IsNum.zero
    · refine IsNum.sum _ _ fun i => ?_
      unfold shDown
      split
      · exact IsNum.zero
      · exact hf _ _
  rw [← winDown_all N f n c w h, winDown_add w N f n c]
  exact add_sub_of_fin hs

/-- The running sum from the bottom of each row less the row `w` below is the window's sum, where the rows are finite and
    zero past the last. -/
theorem winUp_of_difference (N w : ℕ) (f : ℕ → ℕ → EReal) (hf : ∀ n c, IsNum (f n c)) (h0 : ∀ n c, N ≤ n → f n c = 0) (n c : ℕ) :
    winUp N (fun r k => f r k + -f (r + w) k) n c = winUp w f n c := by
  have e : winUp N (fun r k => f r k + -f (r + w) k) n c = winUp N f n c - winUp N f (n + w) c := by
    choose g hg using fun r k => (hf r k).lift
    unfold winUp
    simp only [hg, ← EReal.coe_neg, ← EReal.coe_add]
    have hc := coe_sum_range N
    rw [hc, hc, hc, ← EReal.coe_sub, Finset.sum_add_distrib, Finset.sum_neg_distrib, sub_eq_add_neg]
    simp only [Nat.add_right_comm]
  have hz : winUp w f (n + N) c = 0 := Finset.sum_eq_zero fun i _ => h0 _ _ (by omega)
  have hsplit : winUp N f n c = winUp w f n c + winUp N f (n + w) c := by
    rw [← winUp_add w N f n c, Nat.add_comm w N, winUp_add N w f n c, hz, add_zero]
  rw [e, hsplit]
  exact add_sub_of_fin (IsNum.sum _ _ fun i => hf _ _)

namespace Args

variable {a : Args}

/-- The arguments the pools read are finite numbers: the projection's columns from 3072, the cotangent's from 1024, the
    pools' matrices and their scales. -/
structure Numeric (a : Args) : Prop where
  pj : ∀ n c, 3072 ≤ c → IsNum (a.pj n c)
  dy : ∀ n c, 1024 ≤ c → IsNum (a.dy n c)
  pw : ∀ g c k, IsNum (a.pw g c k)
  ps : ∀ g k, IsNum (a.ps g k)

/-- A window's count is a real that is not zero. -/
theorem cnt_ne (g n : ℕ) : ((min (n + 1) (2 ^ (g + 1)) : ℕ) : ℝ) ≠ 0 := by
  have : 0 < min (n + 1) (2 ^ (g + 1)) := lt_min (Nat.succ_pos n) (pow_pos (by norm_num) _)
  exact_mod_cast this.ne'

/-- Then the group's values are finite, -/
theorem Numeric.v (h : a.Numeric) (g n c : ℕ) : IsNum (a.v g n c) := h.pj _ _ (by omega)
/-- and the cotangent of the product with the matrix, -/
theorem Numeric.dz (h : a.Numeric) (g n k : ℕ) : IsNum (a.dz g n k) := (h.dy _ _ (by omega)).mul (h.ps _ _)
/-- the cotangent of the mean less the value, -/
theorem Numeric.dd (h : a.Numeric) (g n c : ℕ) : IsNum (a.dd g n c) := IsNum.sum _ _ fun _ => (h.dz _ _ _).mul (h.pw _ _ _)
/-- and its share to each row. -/
theorem Numeric.q (h : a.Numeric) (g n c : ℕ) : IsNum (a.q g n c) := (h.dd g n c).div _ (cnt_ne g n)

end Args

end Cert.Mix

end
-- ==== Proof.MixRef.lean ====
/-
  The reference's stages read at an index, as the functions of MixSpec: first the branch of the convolution, which needs no
  assumption, then the stages of the pools up to the running sums.
-/
module

public import proofs.«01_k».proof.Proof.MixHost
public import proofs.«01_k».proof.Proof.MixTel
public import proofs.«01_k».proof.Proof.Gen.ReferenceIdeal.Read

@[expose] public section

noncomputable section

namespace Cert.ReferenceIdeal.Mix

open Cert.ReferenceIdeal Cert.ReferenceIdeal.Gen Cert.ReferenceIdeal.Read Cert.Mix Idealize.ShloMosaic
open scoped BigOperators

variable (x0 : (⟨S4096x4096, .bf16⟩ : BufTy).Contents (Elt Ideal)) (x1 : (⟨S4096x2048, .bf16⟩ : BufTy).Contents (Elt Ideal))
  (x2 : (⟨S3x1024, .f32⟩ : BufTy).Contents (Elt Ideal)) (x3 : (⟨S4x256x256, .f32⟩ : BufTy).Contents (Elt Ideal))
  (x4 : (⟨S1024, .f32⟩ : BufTy).Contents (Elt Ideal))

/-- The arguments as functions of natural numbers. -/
abbrev A : Args := argsOf x0 x1 x2 x3 x4

/-- The constant zero. -/
theorem zero_word : (FloatOps.ofBits (F := Ideal) .f32 0x00000000#32 : Ideal .f32) = (0 : EReal) := Ideal.ofBits_zero_f32

/-! ## The arguments and their parts -/

/-- The cotangent, one batch. -/
theorem r1 (i) : val_main_v1 (F := Ideal) x1 i = (A x0 x1 x2 x3 x4).dy (i 1).val (i 2).val := by
  rw [val_main_v1_apply]
  exact (nat2_idx x1 (idx_main_v1 i) _ _ rfl rfl).symm

/-- The projection, one batch. -/
theorem r3 (i) : val_main_v3 (F := Ideal) x0 i = (A x0 x1 x2 x3 x4).pj (i 1).val (i 2).val := by
  rw [val_main_v3_apply]
  exact (nat2_idx x0 (idx_main_v3 i) _ _ rfl rfl).symm

/-- The quarter `b`. -/
theorem r4 (i) : val_main_v4 (F := Ideal) x0 i = (A x0 x1 x2 x3 x4).pj (i 1).val (i 2).val := by
  rw [val_main_v4_apply, r3 x0 x1 x2 x3 x4]

/-- The quarter `c`. -/
theorem r5 (i) : val_main_v5 (F := Ideal) x0 i = (A x0 x1 x2 x3 x4).pj (i 1).val (1024 + (i 2).val) := by
  rw [val_main_v5_apply, r3 x0 x1 x2 x3 x4]

/-- The quarter `x`. -/
theorem r6 (i) : val_main_v6 (F := Ideal) x0 i = (A x0 x1 x2 x3 x4).pj (i 1).val (2048 + (i 2).val) := by
  rw [val_main_v6_apply, r3 x0 x1 x2 x3 x4]

/-- The quarter of the pools' values. -/
theorem r7 (i) : val_main_v7 (F := Ideal) x0 i = (A x0 x1 x2 x3 x4).pj (i 1).val (3072 + (i 2).val) := by
  rw [val_main_v7_apply, r3 x0 x1 x2 x3 x4]

/-- The convolved product. -/
theorem r8 (i) : val_main_v8 (F := Ideal) x0 i = (A x0 x1 x2 x3 x4).u (i 1).val (i 2).val := by
  rw [val_main_v8_apply, r5 x0 x1 x2 x3 x4, r6 x0 x1 x2 x3 x4]
  rfl

/-- The rows of zeros above it. -/
theorem r9 (i) : val_main_v9 (F := Ideal) i = (0 : EReal) := by
  rw [val_main_v9_apply, val_main_cst_apply]; exact zero_word

/-- The convolved product below two rows of zeros. -/
theorem r10 (i) : val_main_v10 (F := Ideal) x0 i = shDown 2 (A x0 x1 x2 x3 x4).u (i 1).val (i 2).val := by
  unfold val_main_v10
  exact join_rows (by norm_num) _ _ _ _ r9 (fun j => r8 x0 x1 x2 x3 x4 j) i

/-- Tap 0 of the convolution's weights. -/
theorem r15 (i) : val_main_v15 (F := Ideal) x2 i = (A x0 x1 x2 x3 x4).w 0 (i 2).val := by
  rw [val_main_v15_apply, val_main_v13_apply, val_main_v12_apply]
  exact (nat2_idx x2 _ _ _ rfl (by have h : (i 2).val < 1024 := (i 2).isLt; show (i 2).val = (i 2).val % 1024; omega)).symm

/-- The tap at every row. -/
theorem r16 (i) : val_main_v16 (F := Ideal) x2 i = (A x0 x1 x2 x3 x4).w 0 (i 2).val := by
  rw [val_main_v16_apply, r15 x0 x1 x2 x3 x4]

/-- Tap 1 of the convolution's weights. -/
theorem r21 (i) : val_main_v21 (F := Ideal) x2 i = (A x0 x1 x2 x3 x4).w 1 (i 2).val := by
  rw [val_main_v21_apply, val_main_v19_apply, val_main_v18_apply]
  exact (nat2_idx x2 _ _ _ rfl (by have h : (i 2).val < 1024 := (i 2).isLt; show (i 2).val = (i 2).val % 1024; omega)).symm

/-- The tap at every row. -/
theorem r22 (i) : val_main_v22 (F := Ideal) x2 i = (A x0 x1 x2 x3 x4).w 1 (i 2).val := by
  rw [val_main_v22_apply, r21 x0 x1 x2 x3 x4]

/-- Tap 2 of the convolution's weights. -/
theorem r28 (i) : val_main_v28 (F := Ideal) x2 i = (A x0 x1 x2 x3 x4).w 2 (i 2).val := by
  rw [val_main_v28_apply, val_main_v26_apply, val_main_v25_apply]
  exact (nat2_idx x2 _ _ _ rfl (by have h : (i 2).val < 1024 := (i 2).isLt; show (i 2).val = (i 2).val % 1024; omega)).symm

/-- The tap at every row. -/
theorem r29 (i) : val_main_v29 (F := Ideal) x2 i = (A x0 x1 x2 x3 x4).w 2 (i 2).val := by
  rw [val_main_v29_apply, r28 x0 x1 x2 x3 x4]

/-- The convolved product two rows above. -/
theorem r14 (i) : val_main_v14 (F := Ideal) x0 i = shDown 2 (A x0 x1 x2 x3 x4).u (i 1).val (i 2).val := by
  rw [val_main_v14_apply, r10 x0 x1 x2 x3 x4]

/-- The convolved product one row above. -/
theorem r20 (i) : val_main_v20 (F := Ideal) x0 i = shDown 1 (A x0 x1 x2 x3 x4).u (i 1).val (i 2).val := by
  rw [val_main_v20_apply, r10 x0 x1 x2 x3 x4]
  show shDown 2 _ (1 + (i 1).val) (i 2).val = _
  unfold shDown
  by_cases h : (i 1).val < 1
  · rw [if_pos h, if_pos (by omega)]
  · rw [if_neg h, if_neg (by omega)]; congr 1; omega

/-- The convolved product at its row. -/
theorem r27 (i) : val_main_v27 (F := Ideal) x0 i = (A x0 x1 x2 x3 x4).u (i 1).val (i 2).val := by
  rw [val_main_v27_apply, r10 x0 x1 x2 x3 x4]
  show shDown 2 _ (2 + (i 1).val) (i 2).val = _
  unfold shDown
  rw [if_neg (by omega)]; congr 1; omega

/-- The convolution. -/
theorem r31 (i) : val_main_v31 (F := Ideal) x0 x2 i = ((A x0 x1 x2 x3 x4).w 0 (i 2).val * shDown 2 (A x0 x1 x2 x3 x4).u (i 1).val (i 2).val + (A x0 x1 x2 x3 x4).w 1 (i 2).val * shDown 1 (A x0 x1 x2 x3 x4).u (i 1).val (i 2).val) + (A x0 x1 x2 x3 x4).w 2 (i 2).val * (A x0 x1 x2 x3 x4).u (i 1).val (i 2).val := by
  rw [val_main_v31_apply, val_main_v24_apply, val_main_v17_apply, val_main_v23_apply, val_main_v30_apply, r16 x0 x1 x2 x3 x4, r14 x0 x1 x2 x3 x4, r22 x0 x1 x2 x3 x4, r20 x0 x1 x2 x3 x4, r29 x0 x1 x2 x3 x4, r27 x0 x1 x2 x3 x4]
  rfl

/-- The cotangent of the convolution's half. -/
theorem r116 (i) : val_main_v116 (F := Ideal) x1 i = (A x0 x1 x2 x3 x4).dy (i 1).val (i 2).val := by
  rw [val_main_v116_apply, r1 x0 x1 x2 x3 x4]

/-- The cotangent of the pools' half. -/
theorem r117 (i) : val_main_v117 (F := Ideal) x1 i = (A x0 x1 x2 x3 x4).dy (i 1).val (1024 + (i 2).val) := by
  rw [val_main_v117_apply, r1 x0 x1 x2 x3 x4]

/-! ## The convolution's branch backward -/

/-- The cotangent of the convolution. -/
theorem r195 (i) : val_main_v195 (F := Ideal) x0 x1 i = (A x0 x1 x2 x3 x4).dv (i 1).val (i 2).val := by
  rw [val_main_v195_apply, r4 x0 x1 x2 x3 x4, r116 x0 x1 x2 x3 x4]
  exact mul_comm _ _

/-- The gradient of `b`. -/
theorem r196 (i) : val_main_v196 (F := Ideal) x0 x1 x2 i = (A x0 x1 x2 x3 x4).db (i 1).val (i 2).val := by
  rw [val_main_v196_apply, r116 x0 x1 x2 x3 x4, r31 x0 x1 x2 x3 x4]
  rfl

/-- The cotangent of the convolution is zero past the last row. -/
theorem dv_past (r c : ℕ) (h : 4096 ≤ r) : (A x0 x1 x2 x3 x4).dv r c = 0 := by
  show nat2 x1 r c * nat2 x0 r c = 0
  rw [nat2_row x1 r c h, zero_mul]

/-- Tap 2 times the cotangent. -/
theorem r198 (i) : val_main_v198 (F := Ideal) x0 x1 x2 i = (A x0 x1 x2 x3 x4).w 2 (i 2).val * (A x0 x1 x2 x3 x4).dv (i 1).val (i 2).val := by
  rw [val_main_v198_apply, val_main_v197_apply, r28 x0 x1 x2 x3 x4, r195 x0 x1 x2 x3 x4]
  rfl

/-- It moved down by 2 rows. -/
theorem r203 (i) : val_main_v203 (F := Ideal) x0 x1 x2 i = shDown 2 (fun r c => (A x0 x1 x2 x3 x4).w 2 c * (A x0 x1 x2 x3 x4).dv r c) (i 1).val (i 2).val := by
  unfold val_main_v203
  exact pad_rows _ _ _ _ (fun j => by rw [val_main_cst_33_apply]; exact zero_word) (fun r c => (A x0 x1 x2 x3 x4).w 2 c * (A x0 x1 x2 x3 x4).dv r c) (fun j => r198 x0 x1 x2 x3 x4 j)
    (fun r c h => by rw [dv_past x0 x1 x2 x3 x4 r c h, mul_zero]) i

/-- Tap 1 times the cotangent. -/
theorem r207 (i) : val_main_v207 (F := Ideal) x0 x1 x2 i = (A x0 x1 x2 x3 x4).w 1 (i 2).val * (A x0 x1 x2 x3 x4).dv (i 1).val (i 2).val := by
  rw [val_main_v207_apply, val_main_v206_apply, r21 x0 x1 x2 x3 x4, r195 x0 x1 x2 x3 x4]
  rfl

/-- It moved down by 1 rows. -/
theorem r212 (i) : val_main_v212 (F := Ideal) x0 x1 x2 i = shDown 1 (fun r c => (A x0 x1 x2 x3 x4).w 1 c * (A x0 x1 x2 x3 x4).dv r c) (i 1).val (i 2).val := by
  unfold val_main_v212
  exact pad_rows _ _ _ _ (fun j => by rw [val_main_cst_37_apply]; exact zero_word) (fun r c => (A x0 x1 x2 x3 x4).w 1 c * (A x0 x1 x2 x3 x4).dv r c) (fun j => r207 x0 x1 x2 x3 x4 j)
    (fun r c h => by rw [dv_past x0 x1 x2 x3 x4 r c h, mul_zero]) i

/-- Tap 0 times the cotangent. -/
theorem r218 (i) : val_main_v218 (F := Ideal) x0 x1 x2 i = (A x0 x1 x2 x3 x4).w 0 (i 2).val * (A x0 x1 x2 x3 x4).dv (i 1).val (i 2).val := by
  rw [val_main_v218_apply, val_main_v217_apply, r15 x0 x1 x2 x3 x4, r195 x0 x1 x2 x3 x4]
  rfl

/-- It moved down by 0 rows. -/
theorem r223 (i) : val_main_v223 (F := Ideal) x0 x1 x2 i = shDown 0 (fun r c => (A x0 x1 x2 x3 x4).w 0 c * (A x0 x1 x2 x3 x4).dv r c) (i 1).val (i 2).val := by
  unfold val_main_v223
  exact pad_rows _ _ _ _ (fun j => by rw [val_main_cst_41_apply]; exact zero_word) (fun r c => (A x0 x1 x2 x3 x4).w 0 c * (A x0 x1 x2 x3 x4).dv r c) (fun j => r218 x0 x1 x2 x3 x4 j)
    (fun r c h => by rw [dv_past x0 x1 x2 x3 x4 r c h, mul_zero]) i

/-- The gradient of the convolved product. -/
theorem r229 (i) : val_main_v229 (F := Ideal) x0 x1 x2 i = (A x0 x1 x2 x3 x4).du (i 1).val (i 2).val := by
  rw [val_main_v229_apply, val_main_v224_apply, val_main_v213_apply, r203 x0 x1 x2 x3 x4, r212 x0 x1 x2 x3 x4, r223 x0 x1 x2 x3 x4]
  show (shDown 2 _ (2 + (i 1).val) (i 2).val + shDown 1 _ (2 + (i 1).val) (i 2).val) + shDown 0 _ (2 + (i 1).val) (i 2).val = _
  unfold shDown Args.du
  rw [if_neg (by omega), if_neg (by omega), if_neg (by omega)]
  have e2 : 2 + (i 1).val - 2 = (i 1).val := by omega
  have e1 : 2 + (i 1).val - 1 = (i 1).val + 1 := by omega
  have e0 : 2 + (i 1).val - 0 = (i 1).val + 2 := by omega
  rw [e2, e1, e0]

/-- One row's term of the gradient of tap 2. -/
theorem r199 (i) : val_main_v199 (F := Ideal) x0 x1 i = (A x0 x1 x2 x3 x4).dwRow 2 (i 1).val (i 2).val := by
  rw [val_main_v199_apply, r195 x0 x1 x2 x3 x4, r27 x0 x1 x2 x3 x4]
  unfold Args.dwRow shDown
  rw [if_neg (by omega)]
  rfl

/-- Their sum over the rows. -/
theorem r201 (i) : val_main_v201 (F := Ideal) x0 x1 i = ∑ r ∈ Finset.range 4096, (A x0 x1 x2 x3 x4).dwRow 2 r (i 2).val := by
  rw [val_main_v201_apply, val_main_v200_apply, val_main_cst_31_apply]
  refine (congrArg (· + _) zero_word).trans ((zero_add _).trans ?_)
  rw [← Fin.sum_univ_eq_sum_range (fun r => (A x0 x1 x2 x3 x4).dwRow 2 r (i 2).val) 4096]
  refine Finset.sum_congr rfl fun k _ => ?_
  rw [r199 x0 x1 x2 x3 x4]
  have h : (i 2).val < 1024 := (i 2).isLt
  have h0 : (i 0).val < 1 := (i 0).isLt
  have h1 : (i 1).val < 1 := (i 1).isLt
  refine congrArg ((A x0 x1 x2 x3 x4).dwRow 2 k.val) ?_
  show (((i 0).val * 1 + (i 1).val) * 1024 + (i 2).val) % 1024 = (i 2).val
  omega

/-- The sum as row 2 of three. -/
theorem r205 (i) : val_main_v205 (F := Ideal) x0 x1 i = if (i 0).val = 2 then ∑ r ∈ Finset.range 4096, (A x0 x1 x2 x3 x4).dwRow 2 r (i 1).val else 0 := by
  unfold val_main_v205
  refine pad_tap _ _ _ _ (fun j => by rw [val_main_cst_34_apply]; exact zero_word) (fun c => ∑ r ∈ Finset.range 4096, (A x0 x1 x2 x3 x4).dwRow 2 r c) (fun j => ?_) i
  rw [val_main_v204_apply]
  unfold val_main_v202
  exact (congrArg (fun z => Ideal.hostReduceAdd reducesTo_S1x1x1024_S1024_d0_1 (val_main_v201 (F := Ideal) x0 x1) z (idx_main_v204 j)) (zero_word)).trans
    (sum_unit_axes _ _ (fun c => ∑ r ∈ Finset.range 4096, (A x0 x1 x2 x3 x4).dwRow 2 r c) (fun j => r201 x0 x1 x2 x3 x4 j) _)

/-- One row's term of the gradient of tap 1. -/
theorem r208 (i) : val_main_v208 (F := Ideal) x0 x1 i = (A x0 x1 x2 x3 x4).dwRow 1 (i 1).val (i 2).val := by
  rw [val_main_v208_apply, r195 x0 x1 x2 x3 x4, r20 x0 x1 x2 x3 x4]
  rfl

/-- Their sum over the rows. -/
theorem r210 (i) : val_main_v210 (F := Ideal) x0 x1 i = ∑ r ∈ Finset.range 4096, (A x0 x1 x2 x3 x4).dwRow 1 r (i 2).val := by
  rw [val_main_v210_apply, val_main_v209_apply, val_main_cst_35_apply]
  refine (congrArg (· + _) zero_word).trans ((zero_add _).trans ?_)
  rw [← Fin.sum_univ_eq_sum_range (fun r => (A x0 x1 x2 x3 x4).dwRow 1 r (i 2).val) 4096]
  refine Finset.sum_congr rfl fun k _ => ?_
  rw [r208 x0 x1 x2 x3 x4]
  have h : (i 2).val < 1024 := (i 2).isLt
  have h0 : (i 0).val < 1 := (i 0).isLt
  have h1 : (i 1).val < 1 := (i 1).isLt
  refine congrArg ((A x0 x1 x2 x3 x4).dwRow 1 k.val) ?_
  show (((i 0).val * 1 + (i 1).val) * 1024 + (i 2).val) % 1024 = (i 2).val
  omega

/-- The sum as row 1 of three. -/
theorem r215 (i) : val_main_v215 (F := Ideal) x0 x1 i = if (i 0).val = 1 then ∑ r ∈ Finset.range 4096, (A x0 x1 x2 x3 x4).dwRow 1 r (i 1).val else 0 := by
  unfold val_main_v215
  refine pad_tap _ _ _ _ (fun j => by rw [val_main_cst_38_apply]; exact zero_word) (fun c => ∑ r ∈ Finset.range 4096, (A x0 x1 x2 x3 x4).dwRow 1 r c) (fun j => ?_) i
  rw [val_main_v214_apply]
  unfold val_main_v211
  exact (congrArg (fun z => Ideal.hostReduceAdd reducesTo_S1x1x1024_S1024_d0_1 (val_main_v210 (F := Ideal) x0 x1) z (idx_main_v214 j)) (zero_word)).trans
    (sum_unit_axes _ _ (fun c => ∑ r ∈ Finset.range 4096, (A x0 x1 x2 x3 x4).dwRow 1 r c) (fun j => r210 x0 x1 x2 x3 x4 j) _)

/-- One row's term of the gradient of tap 0. -/
theorem r219 (i) : val_main_v219 (F := Ideal) x0 x1 i = (A x0 x1 x2 x3 x4).dwRow 0 (i 1).val (i 2).val := by
  rw [val_main_v219_apply, r195 x0 x1 x2 x3 x4, r14 x0 x1 x2 x3 x4]
  rfl

/-- Their sum over the rows. -/
theorem r221 (i) : val_main_v221 (F := Ideal) x0 x1 i = ∑ r ∈ Finset.range 4096, (A x0 x1 x2 x3 x4).dwRow 0 r (i 2).val := by
  rw [val_main_v221_apply, val_main_v220_apply, val_main_cst_39_apply]
  refine (congrArg (· + _) zero_word).trans ((zero_add _).trans ?_)
  rw [← Fin.sum_univ_eq_sum_range (fun r => (A x0 x1 x2 x3 x4).dwRow 0 r (i 2).val) 4096]
  refine Finset.sum_congr rfl fun k _ => ?_
  rw [r219 x0 x1 x2 x3 x4]
  have h : (i 2).val < 1024 := (i 2).isLt
  have h0 : (i 0).val < 1 := (i 0).isLt
  have h1 : (i 1).val < 1 := (i 1).isLt
  refine congrArg ((A x0 x1 x2 x3 x4).dwRow 0 k.val) ?_
  show (((i 0).val * 1 + (i 1).val) * 1024 + (i 2).val) % 1024 = (i 2).val
  omega

/-- The sum as row 0 of three. -/
theorem r226 (i) : val_main_v226 (F := Ideal) x0 x1 i = if (i 0).val = 0 then ∑ r ∈ Finset.range 4096, (A x0 x1 x2 x3 x4).dwRow 0 r (i 1).val else 0 := by
  unfold val_main_v226
  refine pad_tap _ _ _ _ (fun j => by rw [val_main_cst_42_apply]; exact zero_word) (fun c => ∑ r ∈ Finset.range 4096, (A x0 x1 x2 x3 x4).dwRow 0 r c) (fun j => ?_) i
  rw [val_main_v225_apply]
  unfold val_main_v222
  exact (congrArg (fun z => Ideal.hostReduceAdd reducesTo_S1x1x1024_S1024_d0_1 (val_main_v221 (F := Ideal) x0 x1) z (idx_main_v225 j)) (zero_word)).trans
    (sum_unit_axes _ _ (fun c => ∑ r ∈ Finset.range 4096, (A x0 x1 x2 x3 x4).dwRow 0 r c) (fun j => r221 x0 x1 x2 x3 x4 j) _)

/-- The gradient of the convolution's weights. -/
theorem r227 (i) : val_main_v227 (F := Ideal) x0 x1 i = ∑ r ∈ Finset.range 4096, (A x0 x1 x2 x3 x4).dwRow (i 0).val r (i 1).val := by
  rw [val_main_v227_apply, val_main_v216_apply, r205 x0 x1 x2 x3 x4, r215 x0 x1 x2 x3 x4, r226 x0 x1 x2 x3 x4]
  have h0 : (i 0).val < 3 := (i 0).isLt
  show ((if (i 0).val = 2 then _ else (0 : EReal)) + (if (i 0).val = 1 then _ else 0)) + (if (i 0).val = 0 then _ else 0) = _
  generalize (i 0).val = k at h0 ⊢
  match k, h0 with
  | 0, _ => simp
  | 1, _ => simp
  | 2, _ => simp

/-- The gradient of `x`. -/
theorem r230 (i) : val_main_v230 (F := Ideal) x0 x1 x2 i = (A x0 x1 x2 x3 x4).du (i 1).val (i 2).val * (A x0 x1 x2 x3 x4).pj (i 1).val (1024 + (i 2).val) := by
  rw [val_main_v230_apply, r5 x0 x1 x2 x3 x4, r229 x0 x1 x2 x3 x4]
  exact mul_comm _ _

/-- The gradient of `c`. -/
theorem r231 (i) : val_main_v231 (F := Ideal) x0 x1 x2 i = (A x0 x1 x2 x3 x4).du (i 1).val (i 2).val * (A x0 x1 x2 x3 x4).pj (i 1).val (2048 + (i 2).val) := by
  rw [val_main_v231_apply, r229 x0 x1 x2 x3 x4, r6 x0 x1 x2 x3 x4]
  rfl

end Cert.ReferenceIdeal.Mix

end
-- ==== Proof.MixRefPool.lean ====
/-
  The reference's stages of the pools read at an index, as the functions of MixSpec, where the arguments they read are finite
  numbers: the means as differences of running sums, the product with the matrices, and backward the gradients of the
  scales, the matrices and the values, the last as a running sum from the bottom.
-/
module

public import proofs.«01_k».proof.Proof.MixRef

@[expose] public section

noncomputable section

namespace Cert.ReferenceIdeal.Mix

open Cert.ReferenceIdeal Cert.ReferenceIdeal.Gen Cert.ReferenceIdeal.Read Cert.Mix Idealize.ShloMosaic
open scoped BigOperators

variable (x0 : (⟨S4096x4096, .bf16⟩ : BufTy).Contents (Elt Ideal)) (x1 : (⟨S4096x2048, .bf16⟩ : BufTy).Contents (Elt Ideal))
  (x2 : (⟨S3x1024, .f32⟩ : BufTy).Contents (Elt Ideal)) (x3 : (⟨S4x256x256, .f32⟩ : BufTy).Contents (Elt Ideal))
  (x4 : (⟨S1024, .f32⟩ : BufTy).Contents (Elt Ideal))

/-- A row number's word read as a real is the row number. -/
theorem row_word (k : ℕ) (h : k < 4096) : (FloatOps.sitofp (F := Ideal) .f32 (BitVec.ofNat 32 k) : EReal) = ((k : ℝ) : EReal) := by
  show (((BitVec.ofNat 32 k).toInt : ℝ) : EReal) = _
  have e : (BitVec.ofNat 32 k).toInt = (k : ℤ) := by
    have ht : (BitVec.ofNat 32 k).toNat = k := by rw [BitVec.toNat_ofNat]; exact Nat.mod_eq_of_lt (by omega)
    rw [BitVec.toInt_eq_toNat_of_lt (by rw [ht]; omega), ht]
  rw [e, Int.cast_natCast]

/-- The row number plus one, or the window if that is less, is the window's count. -/
theorem count_eq (g k : ℕ) (one w : EReal) (h1 : one = ((1 : ℝ) : EReal)) (hw : w = (((2 ^ (g + 1) : ℕ) : ℝ) : EReal)) :
    min (((k : ℝ) : EReal) + one) w = Args.cnt g k := by
  rw [h1, hw, ← EReal.coe_add, ← EReal.coe_strictMono.monotone.map_min]
  unfold Args.cnt
  rw [Nat.cast_min, Nat.cast_add, Nat.cast_one]

/-! ## The means -/

/-- The groups' values. -/
theorem r33 (i) : val_main_v33 (F := Ideal) x0 i = (A x0 x1 x2 x3 x4).v (i 2).val (i 1).val (i 3).val := by
  rw [val_main_v33_apply, r7 x0 x1 x2 x3 x4]
  have h0 : (i 0).val < 1 := (i 0).isLt
  have h1 : (i 1).val < 4096 := (i 1).isLt
  have h2 : (i 2).val < 4 := (i 2).isLt
  have h3 : (i 3).val < 256 := (i 3).isLt
  refine congrArg₂ (A x0 x1 x2 x3 x4).pj ?_ ?_
  · show (((((i 0).val * 4096 + (i 1).val) * 4 + (i 2).val) * 256 + (i 3).val) / 1024) % 4096 = (i 1).val
    omega
  · show 3072 + ((((i 0).val * 4096 + (i 1).val) * 4 + (i 2).val) * 256 + (i 3).val) % 1024 = 3072 + 256 * (i 2).val + (i 3).val
    omega

/-- Their running sums from the first row. -/
theorem r34 (i) : val_main_v34 (F := Ideal) x0 i = winDown 4096 ((A x0 x1 x2 x3 x4).v (i 2).val) (i 1).val (i 3).val := by
  unfold val_main_v34
  exact host_sum_from_top (by norm_num) (val_main_v33 (F := Ideal) x0) (val_main_call0_call0_v0 (F := Ideal)) _ _ (fun j => by
    rw [val_main_call0_call0_v0_apply, val_main_call0_call0_cst_apply]; exact zero_word) (A x0 x1 x2 x3 x4).v (fun j => r33 x0 x1 x2 x3 x4 j) i

/-- Group 0's running sums. -/
theorem r37 (i) : val_main_v37 (F := Ideal) x0 i = winDown 4096 ((A x0 x1 x2 x3 x4).v 0) (i 1).val (i 2).val := by
  rw [val_main_v37_apply, val_main_v36_apply, r34 x0 x1 x2 x3 x4]
  have h0 : (i 0).val < 1 := (i 0).isLt
  have h1 : (i 1).val < 4096 := (i 1).isLt
  have h2 : (i 2).val < 256 := (i 2).isLt
  refine congr (congrArg (winDown 4096 ((A x0 x1 x2 x3 x4).v 0)) ?_) ?_
  · show (((i 0).val * 4096 + (i 1).val) * 256 + (i 2).val) / 256 % 4096 = (i 1).val
    omega
  · show (((i 0).val * 4096 + (i 1).val) * 256 + (i 2).val) % 256 = (i 2).val
    omega

/-- The running sums 2 rows above. -/
theorem r40 (i) : val_main_v40 (F := Ideal) x0 i = shDown 2 (winDown 4096 ((A x0 x1 x2 x3 x4).v 0)) (i 1).val (i 2).val := by
  unfold val_main_v40
  exact join_rows (by norm_num) _ _ _ _ (fun j => by rw [val_main_v38_apply, val_main_cst_1_apply]; exact zero_word)
    (fun j => by rw [val_main_v39_apply, r37 x0 x1 x2 x3 x4]) i

/-- How many rows the window holds. -/
theorem r46 (i) : val_main_v46 (F := Ideal) i = Args.cnt 0 (i 1).val := by
  have h1 : (i 1).val < 4096 := (i 1).isLt
  rw [val_main_v46_apply, val_main_v45_apply, val_main_v43_apply, val_main_v42_apply, val_main_v44_apply, val_main_cst_3_apply, val_main_cst_4_apply]
  unfold val_main_v35
  refine (congrArg (fun z : EReal => min (z + FloatOps.ofBits (F := Ideal) .f32 0x3F800000#32) (FloatOps.ofBits (F := Ideal) .f32 0x40000000#32))
    (row_word (i 1).val h1)).trans (count_eq 0 (i 1).val _ _ ?_ ?_)
  · show Ideal.ofBits .f32 0x3F800000#32 = _
    simp [Ideal.ofBits, Ideal.ieee, -EReal.coe_mul]
    try norm_num
  · show Ideal.ofBits .f32 0x40000000#32 = _
    simp [Ideal.ofBits, Ideal.ieee, -EReal.coe_mul]
    try norm_num

/-- Group 0's values. -/
theorem r51 (i) : val_main_v51 (F := Ideal) x0 i = (A x0 x1 x2 x3 x4).v 0 (i 1).val (i 2).val := by
  rw [val_main_v51_apply, val_main_v50_apply, r33 x0 x1 x2 x3 x4]
  have h0 : (i 0).val < 1 := (i 0).isLt
  have h1 : (i 1).val < 4096 := (i 1).isLt
  have h2 : (i 2).val < 256 := (i 2).isLt
  refine congr (congrArg ((A x0 x1 x2 x3 x4).v 0) ?_) ?_
  · show (((i 0).val * 4096 + (i 1).val) * 256 + (i 2).val) / 256 % 4096 = (i 1).val
    omega
  · show (((i 0).val * 4096 + (i 1).val) * 256 + (i 2).val) % 256 = (i 2).val
    omega

/-- Group 0's means less the values. -/
theorem r52 (h : (A x0 x1 x2 x3 x4).Numeric) (i) : val_main_v52 (F := Ideal) x0 i = (A x0 x1 x2 x3 x4).d 0 (i 1).val (i 2).val := by
  have h1 : (i 1).val < 4096 := (i 1).isLt
  rw [val_main_v52_apply, val_main_v49_apply, val_main_v47_apply, val_main_v48_apply, r37 x0 x1 x2 x3 x4, r40 x0 x1 x2 x3 x4, r46, r51 x0 x1 x2 x3 x4]
  refine congrArg (fun z : EReal => Ideal.div z (Args.cnt 0 (i 1).val) - (A x0 x1 x2 x3 x4).v 0 (i 1).val (i 2).val) ?_
  exact winDown_of_difference 4096 2 ((A x0 x1 x2 x3 x4).v 0) (h.v 0) (i 1).val (i 2).val h1

/-- Group 1's running sums. -/
theorem r54 (i) : val_main_v54 (F := Ideal) x0 i = winDown 4096 ((A x0 x1 x2 x3 x4).v 1) (i 1).val (i 2).val := by
  rw [val_main_v54_apply, val_main_v53_apply, r34 x0 x1 x2 x3 x4]
  have h0 : (i 0).val < 1 := (i 0).isLt
  have h1 : (i 1).val < 4096 := (i 1).isLt
  have h2 : (i 2).val < 256 := (i 2).isLt
  refine congr (congrArg (winDown 4096 ((A x0 x1 x2 x3 x4).v 1)) ?_) ?_
  · show (((i 0).val * 4096 + (i 1).val) * 256 + (i 2).val) / 256 % 4096 = (i 1).val
    omega
  · show (((i 0).val * 4096 + (i 1).val) * 256 + (i 2).val) % 256 = (i 2).val
    omega

/-- The running sums 4 rows above. -/
theorem r57 (i) : val_main_v57 (F := Ideal) x0 i = shDown 4 (winDown 4096 ((A x0 x1 x2 x3 x4).v 1)) (i 1).val (i 2).val := by
  unfold val_main_v57
  exact join_rows (by norm_num) _ _ _ _ (fun j => by rw [val_main_v55_apply, val_main_cst_5_apply]; exact zero_word)
    (fun j => by rw [val_main_v56_apply, r54 x0 x1 x2 x3 x4]) i

/-- How many rows the window holds. -/
theorem r63 (i) : val_main_v63 (F := Ideal) i = Args.cnt 1 (i 1).val := by
  have h1 : (i 1).val < 4096 := (i 1).isLt
  rw [val_main_v63_apply, val_main_v62_apply, val_main_v60_apply, val_main_v59_apply, val_main_v61_apply, val_main_cst_7_apply, val_main_cst_8_apply]
  unfold val_main_v35
  refine (congrArg (fun z : EReal => min (z + FloatOps.ofBits (F := Ideal) .f32 0x3F800000#32) (FloatOps.ofBits (F := Ideal) .f32 0x40800000#32))
    (row_word (i 1).val h1)).trans (count_eq 1 (i 1).val _ _ ?_ ?_)
  · show Ideal.ofBits .f32 0x3F800000#32 = _
    simp [Ideal.ofBits, Ideal.ieee, -EReal.coe_mul]
    try norm_num
  · show Ideal.ofBits .f32 0x40800000#32 = _
    simp [Ideal.ofBits, Ideal.ieee, -EReal.coe_mul]
    try norm_num

/-- Group 1's values. -/
theorem r68 (i) : val_main_v68 (F := Ideal) x0 i = (A x0 x1 x2 x3 x4).v 1 (i 1).val (i 2).val := by
  rw [val_main_v68_apply, val_main_v67_apply, r33 x0 x1 x2 x3 x4]
  have h0 : (i 0).val < 1 := (i 0).isLt
  have h1 : (i 1).val < 4096 := (i 1).isLt
  have h2 : (i 2).val < 256 := (i 2).isLt
  refine congr (congrArg ((A x0 x1 x2 x3 x4).v 1) ?_) ?_
  · show (((i 0).val * 4096 + (i 1).val) * 256 + (i 2).val) / 256 % 4096 = (i 1).val
    omega
  · show (((i 0).val * 4096 + (i 1).val) * 256 + (i 2).val) % 256 = (i 2).val
    omega

/-- Group 1's means less the values. -/
theorem r69 (h : (A x0 x1 x2 x3 x4).Numeric) (i) : val_main_v69 (F := Ideal) x0 i = (A x0 x1 x2 x3 x4).d 1 (i 1).val (i 2).val := by
  have h1 : (i 1).val < 4096 := (i 1).isLt
  rw [val_main_v69_apply, val_main_v66_apply, val_main_v64_apply, val_main_v65_apply, r54 x0 x1 x2 x3 x4, r57 x0 x1 x2 x3 x4, r63, r68 x0 x1 x2 x3 x4]
  refine congrArg (fun z : EReal => Ideal.div z (Args.cnt 1 (i 1).val) - (A x0 x1 x2 x3 x4).v 1 (i 1).val (i 2).val) ?_
  exact winDown_of_difference 4096 4 ((A x0 x1 x2 x3 x4).v 1) (h.v 1) (i 1).val (i 2).val h1

/-- Group 2's running sums. -/
theorem r71 (i) : val_main_v71 (F := Ideal) x0 i = winDown 4096 ((A x0 x1 x2 x3 x4).v 2) (i 1).val (i 2).val := by
  rw [val_main_v71_apply, val_main_v70_apply, r34 x0 x1 x2 x3 x4]
  have h0 : (i 0).val < 1 := (i 0).isLt
  have h1 : (i 1).val < 4096 := (i 1).isLt
  have h2 : (i 2).val < 256 := (i 2).isLt
  refine congr (congrArg (winDown 4096 ((A x0 x1 x2 x3 x4).v 2)) ?_) ?_
  · show (((i 0).val * 4096 + (i 1).val) * 256 + (i 2).val) / 256 % 4096 = (i 1).val
    omega
  · show (((i 0).val * 4096 + (i 1).val) * 256 + (i 2).val) % 256 = (i 2).val
    omega

/-- The running sums 8 rows above. -/
theorem r74 (i) : val_main_v74 (F := Ideal) x0 i = shDown 8 (winDown 4096 ((A x0 x1 x2 x3 x4).v 2)) (i 1).val (i 2).val := by
  unfold val_main_v74
  exact join_rows (by norm_num) _ _ _ _ (fun j => by rw [val_main_v72_apply, val_main_cst_9_apply]; exact zero_word)
    (fun j => by rw [val_main_v73_apply, r71 x0 x1 x2 x3 x4]) i

/-- How many rows the window holds. -/
theorem r80 (i) : val_main_v80 (F := Ideal) i = Args.cnt 2 (i 1).val := by
  have h1 : (i 1).val < 4096 := (i 1).isLt
  rw [val_main_v80_apply, val_main_v79_apply, val_main_v77_apply, val_main_v76_apply, val_main_v78_apply, val_main_cst_11_apply, val_main_cst_12_apply]
  unfold val_main_v35
  refine (congrArg (fun z : EReal => min (z + FloatOps.ofBits (F := Ideal) .f32 0x3F800000#32) (FloatOps.ofBits (F := Ideal) .f32 0x41000000#32))
    (row_word (i 1).val h1)).trans (count_eq 2 (i 1).val _ _ ?_ ?_)
  · show Ideal.ofBits .f32 0x3F800000#32 = _
    simp [Ideal.ofBits, Ideal.ieee, -EReal.coe_mul]
    try norm_num
  · show Ideal.ofBits .f32 0x41000000#32 = _
    simp [Ideal.ofBits, Ideal.ieee, -EReal.coe_mul]
    try norm_num

/-- Group 2's values. -/
theorem r85 (i) : val_main_v85 (F := Ideal) x0 i = (A x0 x1 x2 x3 x4).v 2 (i 1).val (i 2).val := by
  rw [val_main_v85_apply, val_main_v84_apply, r33 x0 x1 x2 x3 x4]
  have h0 : (i 0).val < 1 := (i 0).isLt
  have h1 : (i 1).val < 4096 := (i 1).isLt
  have h2 : (i 2).val < 256 := (i 2).isLt
  refine congr (congrArg ((A x0 x1 x2 x3 x4).v 2) ?_) ?_
  · show (((i 0).val * 4096 + (i 1).val) * 256 + (i 2).val) / 256 % 4096 = (i 1).val
    omega
  · show (((i 0).val * 4096 + (i 1).val) * 256 + (i 2).val) % 256 = (i 2).val
    omega

/-- Group 2's means less the values. -/
theorem r86 (h : (A x0 x1 x2 x3 x4).Numeric) (i) : val_main_v86 (F := Ideal) x0 i = (A x0 x1 x2 x3 x4).d 2 (i 1).val (i 2).val := by
  have h1 : (i 1).val < 4096 := (i 1).isLt
  rw [val_main_v86_apply, val_main_v83_apply, val_main_v81_apply, val_main_v82_apply, r71 x0 x1 x2 x3 x4, r74 x0 x1 x2 x3 x4, r80, r85 x0 x1 x2 x3 x4]
  refine congrArg (fun z : EReal => Ideal.div z (Args.cnt 2 (i 1).val) - (A x0 x1 x2 x3 x4).v 2 (i 1).val (i 2).val) ?_
  exact winDown_of_difference 4096 8 ((A x0 x1 x2 x3 x4).v 2) (h.v 2) (i 1).val (i 2).val h1

/-- Group 3's running sums. -/
theorem r88 (i) : val_main_v88 (F := Ideal) x0 i = winDown 4096 ((A x0 x1 x2 x3 x4).v 3) (i 1).val (i 2).val := by
  rw [val_main_v88_apply, val_main_v87_apply, r34 x0 x1 x2 x3 x4]
  have h0 : (i 0).val < 1 := (i 0).isLt
  have h1 : (i 1).val < 4096 := (i 1).isLt
  have h2 : (i 2).val < 256 := (i 2).isLt
  refine congr (congrArg (winDown 4096 ((A x0 x1 x2 x3 x4).v 3)) ?_) ?_
  · show (((i 0).val * 4096 + (i 1).val) * 256 + (i 2).val) / 256 % 4096 = (i 1).val
    omega
  · show (((i 0).val * 4096 + (i 1).val) * 256 + (i 2).val) % 256 = (i 2).val
    omega

/-- The running sums 16 rows above. -/
theorem r91 (i) : val_main_v91 (F := Ideal) x0 i = shDown 16 (winDown 4096 ((A x0 x1 x2 x3 x4).v 3)) (i 1).val (i 2).val := by
  unfold val_main_v91
  exact join_rows (by norm_num) _ _ _ _ (fun j => by rw [val_main_v89_apply, val_main_cst_13_apply]; exact zero_word)
    (fun j => by rw [val_main_v90_apply, r88 x0 x1 x2 x3 x4]) i

/-- How many rows the window holds. -/
theorem r97 (i) : val_main_v97 (F := Ideal) i = Args.cnt 3 (i 1).val := by
  have h1 : (i 1).val < 4096 := (i 1).isLt
  rw [val_main_v97_apply, val_main_v96_apply, val_main_v94_apply, val_main_v93_apply, val_main_v95_apply, val_main_cst_15_apply, val_main_cst_16_apply]
  unfold val_main_v35
  refine (congrArg (fun z : EReal => min (z + FloatOps.ofBits (F := Ideal) .f32 0x3F800000#32) (FloatOps.ofBits (F := Ideal) .f32 0x41800000#32))
    (row_word (i 1).val h1)).trans (count_eq 3 (i 1).val _ _ ?_ ?_)
  · show Ideal.ofBits .f32 0x3F800000#32 = _
    simp [Ideal.ofBits, Ideal.ieee, -EReal.coe_mul]
    try norm_num
  · show Ideal.ofBits .f32 0x41800000#32 = _
    simp [Ideal.ofBits, Ideal.ieee, -EReal.coe_mul]
    try norm_num

/-- Group 3's values. -/
theorem r102 (i) : val_main_v102 (F := Ideal) x0 i = (A x0 x1 x2 x3 x4).v 3 (i 1).val (i 2).val := by
  rw [val_main_v102_apply, val_main_v101_apply, r33 x0 x1 x2 x3 x4]
  have h0 : (i 0).val < 1 := (i 0).isLt
  have h1 : (i 1).val < 4096 := (i 1).isLt
  have h2 : (i 2).val < 256 := (i 2).isLt
  refine congr (congrArg ((A x0 x1 x2 x3 x4).v 3) ?_) ?_
  · show (((i 0).val * 4096 + (i 1).val) * 256 + (i 2).val) / 256 % 4096 = (i 1).val
    omega
  · show (((i 0).val * 4096 + (i 1).val) * 256 + (i 2).val) % 256 = (i 2).val
    omega

/-- Group 3's means less the values. -/
theorem r103 (h : (A x0 x1 x2 x3 x4).Numeric) (i) : val_main_v103 (F := Ideal) x0 i = (A x0 x1 x2 x3 x4).d 3 (i 1).val (i 2).val := by
  have h1 : (i 1).val < 4096 := (i 1).isLt
  rw [val_main_v103_apply, val_main_v100_apply, val_main_v98_apply, val_main_v99_apply, r88 x0 x1 x2 x3 x4, r91 x0 x1 x2 x3 x4, r97, r102 x0 x1 x2 x3 x4]
  refine congrArg (fun z : EReal => Ideal.div z (Args.cnt 3 (i 1).val) - (A x0 x1 x2 x3 x4).v 3 (i 1).val (i 2).val) ?_
  exact winDown_of_difference 4096 16 ((A x0 x1 x2 x3 x4).v 3) (h.v 3) (i 1).val (i 2).val h1

/-- The groups' means less the values. -/
theorem r108 (h : (A x0 x1 x2 x3 x4).Numeric) (i) : val_main_v108 (F := Ideal) x0 i = (A x0 x1 x2 x3 x4).d (i 2).val (i 1).val (i 3).val := by
  unfold val_main_v108
  exact join_groups _ _ _ _ _ (A x0 x1 x2 x3 x4).d (fun j => by rw [val_main_v104_apply, r52 x0 x1 x2 x3 x4 h]) (fun j => by rw [val_main_v105_apply, r69 x0 x1 x2 x3 x4 h])
    (fun j => by rw [val_main_v106_apply, r86 x0 x1 x2 x3 x4 h]) (fun j => by rw [val_main_v107_apply, r103 x0 x1 x2 x3 x4 h]) i

/-! ## The product with the matrices, and the scales -/

/-- The pools' matrices. -/
theorem pw_eq (i) : x3 i = (A x0 x1 x2 x3 x4).pw (i 0).val (i 1).val (i 2).val := (nat3_idx x3 i _ _ _ rfl rfl rfl).symm

/-- The products with the matrices. -/
theorem r110 (h : (A x0 x1 x2 x3 x4).Numeric) (i) : val_main_v110 (F := Ideal) x0 x3 i = (A x0 x1 x2 x3 x4).z (i 2).val (i 1).val (i 3).val := by
  rw [val_main_v110_apply, val_main_v109_apply]
  refine Finset.sum_congr rfl fun k _ => ?_
  rw [r108 x0 x1 x2 x3 x4 h, pw_eq x0 x1 x2 x3 x4]
  exact mul_comm _ _

/-- The products, the groups' columns side by side. -/
theorem r111 (h : (A x0 x1 x2 x3 x4).Numeric) (i) : val_main_v111 (F := Ideal) x0 x3 i = (A x0 x1 x2 x3 x4).z ((i 2).val / 256) (i 1).val ((i 2).val % 256) := by
  rw [val_main_v111_apply, r110 x0 x1 x2 x3 x4 h]
  have h0 : (i 0).val < 1 := (i 0).isLt
  have h1 : (i 1).val < 4096 := (i 1).isLt
  have h2 : (i 2).val < 1024 := (i 2).isLt
  refine congr (congr (congrArg (A x0 x1 x2 x3 x4).z ?_) ?_) ?_
  · show (((i 0).val * 4096 + (i 1).val) * 1024 + (i 2).val) / 256 % 4 = (i 2).val / 256
    omega
  · show (((i 0).val * 4096 + (i 1).val) * 1024 + (i 2).val) / 1024 % 4096 = (i 1).val
    omega
  · show (((i 0).val * 4096 + (i 1).val) * 1024 + (i 2).val) % 256 = (i 2).val % 256
    omega

/-- One row's term of the gradient of the scales. -/
theorem r118 (h : (A x0 x1 x2 x3 x4).Numeric) (i) : val_main_v118 (F := Ideal) x0 x1 x3 i = (A x0 x1 x2 x3 x4).dsRow ((i 2).val / 256) (i 1).val ((i 2).val % 256) := by
  rw [val_main_v118_apply, r111 x0 x1 x2 x3 x4 h, r117 x0 x1 x2 x3 x4]
  refine (mul_comm _ _).trans (congrArg (fun c => (A x0 x1 x2 x3 x4).dy (i 1).val c * (A x0 x1 x2 x3 x4).z ((i 2).val / 256) (i 1).val ((i 2).val % 256)) ?_)
  omega

/-- Their sum over the rows. -/
theorem r120 (h : (A x0 x1 x2 x3 x4).Numeric) (i) : val_main_v120 (F := Ideal) x0 x1 x3 i = ∑ r ∈ Finset.range 4096, (A x0 x1 x2 x3 x4).dsRow ((i 2).val / 256) r ((i 2).val % 256) := by
  rw [val_main_v120_apply, val_main_v119_apply, val_main_cst_17_apply]
  refine (congrArg (· + _) zero_word).trans ((zero_add _).trans ?_)
  rw [← Fin.sum_univ_eq_sum_range (fun r => (A x0 x1 x2 x3 x4).dsRow ((i 2).val / 256) r ((i 2).val % 256)) 4096]
  refine Finset.sum_congr rfl fun k _ => ?_
  rw [r118 x0 x1 x2 x3 x4 h]
  have h2 : (i 2).val < 1024 := (i 2).isLt
  have h0 : (i 0).val < 1 := (i 0).isLt
  have h1 : (i 1).val < 1 := (i 1).isLt
  refine congrArg (fun c => (A x0 x1 x2 x3 x4).dsRow (c / 256) k.val (c % 256)) ?_
  show (((i 0).val * 1 + (i 1).val) * 1024 + (i 2).val) % 1024 = (i 2).val
  omega

/-- The gradient of the scales. -/
theorem r241 (h : (A x0 x1 x2 x3 x4).Numeric) (i) : val_main_v241 (F := Ideal) x0 x1 x3 i = ∑ r ∈ Finset.range 4096, (A x0 x1 x2 x3 x4).dsRow ((i 1).val / 256) r ((i 1).val % 256) := by
  rw [val_main_v241_apply]
  unfold val_main_v123
  refine (congrArg (fun z => Ideal.hostReduceAdd reducesTo_S1x1x1024_S1024_d0_1 (val_main_v120 (F := Ideal) x0 x1 x3) z (idx_main_v241 i)) (zero_word)).trans
    ((sum_unit_axes _ _ (fun c => ∑ r ∈ Finset.range 4096, (A x0 x1 x2 x3 x4).dsRow (c / 256) r (c % 256)) (fun j => r120 x0 x1 x2 x3 x4 h j) _).trans ?_)
  have h0 : (i 0).val < 1 := (i 0).isLt
  refine congrArg (fun c => ∑ r ∈ Finset.range 4096, (A x0 x1 x2 x3 x4).dsRow (c / 256) r (c % 256)) ?_
  show (i 0).val * 1024 + (i 1).val = (i 1).val
  omega

/-! ## The cotangents -/

/-- The cotangents of the products. -/
theorem r124 (i) : val_main_v124 (F := Ideal) x1 x4 i = (A x0 x1 x2 x3 x4).dz (i 2).val (i 1).val (i 3).val := by
  rw [val_main_v124_apply, val_main_v122_apply, r117 x0 x1 x2 x3 x4, val_main_v121_apply, val_main_v112_apply]
  have h0 : (i 0).val < 1 := (i 0).isLt
  have h1 : (i 1).val < 4096 := (i 1).isLt
  have h2 : (i 2).val < 4 := (i 2).isLt
  have h3 : (i 3).val < 256 := (i 3).isLt
  refine congrArg₂ (fun p q : EReal => p * q) (congrArg₂ (A x0 x1 x2 x3 x4).dy ?_ ?_) ((nat1_idx x4 _ _ ?_).symm)
  · show (((((i 0).val * 4096 + (i 1).val) * 4 + (i 2).val) * 256 + (i 3).val) / 1024) % 4096 = (i 1).val
    omega
  · show 1024 + ((((i 0).val * 4096 + (i 1).val) * 4 + (i 2).val) * 256 + (i 3).val) % 1024 = 1024 + 256 * (i 2).val + (i 3).val
    omega
  · show 256 * (i 2).val + (i 3).val = ((((i 0).val * 4096 + (i 1).val) * 4 + (i 2).val) * 256 + (i 3).val) % 1024
    omega

/-- The cotangents of the means less the values. -/
theorem r127 (i) : val_main_v127 (F := Ideal) x1 x3 x4 i = (A x0 x1 x2 x3 x4).dd (i 2).val (i 1).val (i 3).val := by
  rw [val_main_v127_apply, val_main_v126_apply]
  refine Finset.sum_congr rfl fun k _ => ?_
  rw [val_main_v125_apply, r124 x0 x1 x2 x3 x4, pw_eq x0 x1 x2 x3 x4]

/-- The product of two arrays summed over the batch's one place and the rows. -/
theorem dot_rows (l : FVec Ideal S4x256x1x4096 .f32) (r : FVec Ideal S1x4096x4x256 .f32) (f : ℕ → ℕ → ℕ → EReal) (e : ℕ → ℕ → ℕ → EReal)
    (hl : ∀ i, l i = f (i 0).val (i 3).val (i 1).val) (hr : ∀ i, r i = e (i 2).val (i 1).val (i 3).val) (i : S4x256x256.Idx) :
    (Host.dotGeneral dot_S4x256x1x4096_S1x4096x4x256_S4x256x256_23_01_1_3_0_2 none l r : FVec Ideal S4x256x256 .f32) i = ∑ n ∈ Finset.range 4096, f (i 0).val n (i 1).val * e (i 0).val n (i 2).val := by
  simp only [Host.dotGeneral]
  rw [Ideal.dotGeneral_apply, ValueIdx.sum_contr2 dot_S4x256x1x4096_S1x4096x4x256_S4x256x256_23_01_1_3_0_2 1 4096 rfl rfl rfl,
    ← Fin.sum_univ_eq_sum_range (fun n => f (i 0).val n (i 1).val * e (i 0).val n (i 2).val) 4096, Fin.sum_univ_one]
  refine Finset.sum_congr rfl fun n _ => ?_
  have k1 := ValueIdx.contrEquiv2_symm_val1 dot_S4x256x1x4096_S1x4096x4x256_S4x256x256_23_01_1_3_0_2 1 4096 rfl rfl rfl ((0 : Fin 1), n)
  rw [hl, hr]
  refine congrArg₂ (fun p q : EReal => p * q) (congr (congrArg (f (i 0).val) ?_) rfl) (congr (congrArg (e (i 0).val) ?_) rfl)
  · exact k1
  · exact k1

/-- The gradient of the matrices. -/
theorem r129 (h : (A x0 x1 x2 x3 x4).Numeric) (i) : val_main_v129 (F := Ideal) x0 x1 x4 i = ∑ n ∈ Finset.range 4096, (A x0 x1 x2 x3 x4).dpRow (i 0).val n (i 1).val (i 2).val := by
  rw [val_main_v129_apply]
  unfold val_main_v128
  refine (dot_rows _ _ (A x0 x1 x2 x3 x4).dz (A x0 x1 x2 x3 x4).d (fun j => by rw [val_main_v125_apply, r124 x0 x1 x2 x3 x4]) (fun j => r108 x0 x1 x2 x3 x4 h j) _).trans ?_
  exact Finset.sum_congr rfl fun n _ => mul_comm _ _

/-! ## The gradient of the values -/

/-- The cotangents are zero past the last row, -/
theorem dd_past (g n c : ℕ) (hn : 4096 ≤ n) : (A x0 x1 x2 x3 x4).dd g n c = 0 :=
  Finset.sum_eq_zero fun k _ => by
    show nat2 x1 n _ * _ * _ = (0 : EReal)
    rw [nat2_row x1 n _ hn, zero_mul, zero_mul]

/-- and so is their share to each row. -/
theorem q_past (g n c : ℕ) (hn : 4096 ≤ n) : (A x0 x1 x2 x3 x4).q g n c = 0 := by
  unfold Args.q
  rw [dd_past x0 x1 x2 x3 x4 g n c hn]
  unfold Ideal.div Args.cnt
  rw [if_neg (by exact_mod_cast Args.cnt_ne g n), zero_mul]

/-- Group 3's cotangents. -/
theorem r137 (i) : val_main_v137 (F := Ideal) x1 x3 x4 i = (A x0 x1 x2 x3 x4).dd 3 (i 1).val (i 2).val := by
  rw [val_main_v137_apply, val_main_v136_apply, r127 x0 x1 x2 x3 x4]
  have h0 : (i 0).val < 1 := (i 0).isLt
  have h1 : (i 1).val < 4096 := (i 1).isLt
  have h2 : (i 2).val < 256 := (i 2).isLt
  refine congr (congrArg ((A x0 x1 x2 x3 x4).dd 3) ?_) ?_
  · show (((i 0).val * 4096 + (i 1).val) * 256 + (i 2).val) / 256 % 4096 = (i 1).val
    omega
  · show (((i 0).val * 4096 + (i 1).val) * 256 + (i 2).val) % 256 = (i 2).val
    omega

/-- Their negatives in group 3's place. -/
theorem r140 (i) : val_main_v140 (F := Ideal) x1 x3 x4 i = if (i 2).val = 3 then -(A x0 x1 x2 x3 x4).dd 3 (i 1).val (i 3).val else 0 := by
  unfold val_main_v140
  exact pad_group _ _ _ _ (fun j => by rw [val_main_cst_19_apply]; exact zero_word) (fun n c => -(A x0 x1 x2 x3 x4).dd 3 n c)
    (fun j => by rw [val_main_v139_apply, val_main_v138_apply, r137 x0 x1 x2 x3 x4]; rfl) i

/-- Their share to each row of the window. -/
theorem r142 (i) : val_main_v142 (F := Ideal) x1 x3 x4 i = (A x0 x1 x2 x3 x4).q 3 (i 1).val (i 2).val := by
  rw [val_main_v142_apply, val_main_v141_apply, r137 x0 x1 x2 x3 x4, r97]
  rfl

/-- The negated share of the row 16 below. -/
theorem r146 (i) : val_main_v146 (F := Ideal) x1 x3 x4 i = -(A x0 x1 x2 x3 x4).q 3 ((i 1).val + 16) (i 2).val := by
  unfold val_main_v146
  refine (pad_rows _ _ _ _ (fun j => by rw [val_main_cst_20_apply]; exact zero_word) (fun n c => -(A x0 x1 x2 x3 x4).q 3 (n + 16) c)
    (fun j => ?_) (fun n c hn => by rw [q_past x0 x1 x2 x3 x4 3 _ c (by omega)]; exact neg_zero) i).trans ?_
  · rw [val_main_v145_apply, val_main_v143_apply, r142 x0 x1 x2 x3 x4]
    refine congrArg (fun n => -(A x0 x1 x2 x3 x4).q 3 n (j 2).val) ?_
    show 16 + (j 1).val = (j 1).val + 16
    omega
  · unfold shDown
    rw [if_neg (by omega), Nat.sub_zero]

/-- Their sum in group 3's place. -/
theorem r149 (i) : val_main_v149 (F := Ideal) x1 x3 x4 i = if (i 2).val = 3 then (A x0 x1 x2 x3 x4).q 3 (i 1).val (i 3).val + -(A x0 x1 x2 x3 x4).q 3 ((i 1).val + 16) (i 3).val else 0 := by
  unfold val_main_v149
  exact pad_group _ _ _ _ (fun j => by rw [val_main_cst_21_apply]; exact zero_word) (fun n c => (A x0 x1 x2 x3 x4).q 3 n c + -(A x0 x1 x2 x3 x4).q 3 (n + 16) c)
    (fun j => by rw [val_main_v148_apply, val_main_v147_apply, r142 x0 x1 x2 x3 x4, r146 x0 x1 x2 x3 x4]; rfl) i

/-- Group 2's cotangents. -/
theorem r135 (i) : val_main_v135 (F := Ideal) x1 x3 x4 i = (A x0 x1 x2 x3 x4).dd 2 (i 1).val (i 2).val := by
  rw [val_main_v135_apply, val_main_v134_apply, r127 x0 x1 x2 x3 x4]
  have h0 : (i 0).val < 1 := (i 0).isLt
  have h1 : (i 1).val < 4096 := (i 1).isLt
  have h2 : (i 2).val < 256 := (i 2).isLt
  refine congr (congrArg ((A x0 x1 x2 x3 x4).dd 2) ?_) ?_
  · show (((i 0).val * 4096 + (i 1).val) * 256 + (i 2).val) / 256 % 4096 = (i 1).val
    omega
  · show (((i 0).val * 4096 + (i 1).val) * 256 + (i 2).val) % 256 = (i 2).val
    omega

/-- Their negatives in group 2's place. -/
theorem r152 (i) : val_main_v152 (F := Ideal) x1 x3 x4 i = if (i 2).val = 2 then -(A x0 x1 x2 x3 x4).dd 2 (i 1).val (i 3).val else 0 := by
  unfold val_main_v152
  exact pad_group _ _ _ _ (fun j => by rw [val_main_cst_22_apply]; exact zero_word) (fun n c => -(A x0 x1 x2 x3 x4).dd 2 n c)
    (fun j => by rw [val_main_v151_apply, val_main_v150_apply, r135 x0 x1 x2 x3 x4]; rfl) i

/-- Their share to each row of the window. -/
theorem r155 (i) : val_main_v155 (F := Ideal) x1 x3 x4 i = (A x0 x1 x2 x3 x4).q 2 (i 1).val (i 2).val := by
  rw [val_main_v155_apply, val_main_v154_apply, r135 x0 x1 x2 x3 x4, r80]
  rfl

/-- The negated share of the row 8 below. -/
theorem r159 (i) : val_main_v159 (F := Ideal) x1 x3 x4 i = -(A x0 x1 x2 x3 x4).q 2 ((i 1).val + 8) (i 2).val := by
  unfold val_main_v159
  refine (pad_rows _ _ _ _ (fun j => by rw [val_main_cst_23_apply]; exact zero_word) (fun n c => -(A x0 x1 x2 x3 x4).q 2 (n + 8) c)
    (fun j => ?_) (fun n c hn => by rw [q_past x0 x1 x2 x3 x4 2 _ c (by omega)]; exact neg_zero) i).trans ?_
  · rw [val_main_v158_apply, val_main_v156_apply, r155 x0 x1 x2 x3 x4]
    refine congrArg (fun n => -(A x0 x1 x2 x3 x4).q 2 n (j 2).val) ?_
    show 8 + (j 1).val = (j 1).val + 8
    omega
  · unfold shDown
    rw [if_neg (by omega), Nat.sub_zero]

/-- Their sum in group 2's place. -/
theorem r162 (i) : val_main_v162 (F := Ideal) x1 x3 x4 i = if (i 2).val = 2 then (A x0 x1 x2 x3 x4).q 2 (i 1).val (i 3).val + -(A x0 x1 x2 x3 x4).q 2 ((i 1).val + 8) (i 3).val else 0 := by
  unfold val_main_v162
  exact pad_group _ _ _ _ (fun j => by rw [val_main_cst_24_apply]; exact zero_word) (fun n c => (A x0 x1 x2 x3 x4).q 2 n c + -(A x0 x1 x2 x3 x4).q 2 (n + 8) c)
    (fun j => by rw [val_main_v161_apply, val_main_v160_apply, r155 x0 x1 x2 x3 x4, r159 x0 x1 x2 x3 x4]; rfl) i

/-- Group 1's cotangents. -/
theorem r133 (i) : val_main_v133 (F := Ideal) x1 x3 x4 i = (A x0 x1 x2 x3 x4).dd 1 (i 1).val (i 2).val := by
  rw [val_main_v133_apply, val_main_v132_apply, r127 x0 x1 x2 x3 x4]
  have h0 : (i 0).val < 1 := (i 0).isLt
  have h1 : (i 1).val < 4096 := (i 1).isLt
  have h2 : (i 2).val < 256 := (i 2).isLt
  refine congr (congrArg ((A x0 x1 x2 x3 x4).dd 1) ?_) ?_
  · show (((i 0).val * 4096 + (i 1).val) * 256 + (i 2).val) / 256 % 4096 = (i 1).val
    omega
  · show (((i 0).val * 4096 + (i 1).val) * 256 + (i 2).val) % 256 = (i 2).val
    omega

/-- Their negatives in group 1's place. -/
theorem r166 (i) : val_main_v166 (F := Ideal) x1 x3 x4 i = if (i 2).val = 1 then -(A x0 x1 x2 x3 x4).dd 1 (i 1).val (i 3).val else 0 := by
  unfold val_main_v166
  exact pad_group _ _ _ _ (fun j => by rw [val_main_cst_25_apply]; exact zero_word) (fun n c => -(A x0 x1 x2 x3 x4).dd 1 n c)
    (fun j => by rw [val_main_v165_apply, val_main_v164_apply, r133 x0 x1 x2 x3 x4]; rfl) i

/-- Their share to each row of the window. -/
theorem r169 (i) : val_main_v169 (F := Ideal) x1 x3 x4 i = (A x0 x1 x2 x3 x4).q 1 (i 1).val (i 2).val := by
  rw [val_main_v169_apply, val_main_v168_apply, r133 x0 x1 x2 x3 x4, r63]
  rfl

/-- The negated share of the row 4 below. -/
theorem r173 (i) : val_main_v173 (F := Ideal) x1 x3 x4 i = -(A x0 x1 x2 x3 x4).q 1 ((i 1).val + 4) (i 2).val := by
  unfold val_main_v173
  refine (pad_rows _ _ _ _ (fun j => by rw [val_main_cst_26_apply]; exact zero_word) (fun n c => -(A x0 x1 x2 x3 x4).q 1 (n + 4) c)
    (fun j => ?_) (fun n c hn => by rw [q_past x0 x1 x2 x3 x4 1 _ c (by omega)]; exact neg_zero) i).trans ?_
  · rw [val_main_v172_apply, val_main_v170_apply, r169 x0 x1 x2 x3 x4]
    refine congrArg (fun n => -(A x0 x1 x2 x3 x4).q 1 n (j 2).val) ?_
    show 4 + (j 1).val = (j 1).val + 4
    omega
  · unfold shDown
    rw [if_neg (by omega), Nat.sub_zero]

/-- Their sum in group 1's place. -/
theorem r176 (i) : val_main_v176 (F := Ideal) x1 x3 x4 i = if (i 2).val = 1 then (A x0 x1 x2 x3 x4).q 1 (i 1).val (i 3).val + -(A x0 x1 x2 x3 x4).q 1 ((i 1).val + 4) (i 3).val else 0 := by
  unfold val_main_v176
  exact pad_group _ _ _ _ (fun j => by rw [val_main_cst_27_apply]; exact zero_word) (fun n c => (A x0 x1 x2 x3 x4).q 1 n c + -(A x0 x1 x2 x3 x4).q 1 (n + 4) c)
    (fun j => by rw [val_main_v175_apply, val_main_v174_apply, r169 x0 x1 x2 x3 x4, r173 x0 x1 x2 x3 x4]; rfl) i

/-- Group 0's cotangents. -/
theorem r131 (i) : val_main_v131 (F := Ideal) x1 x3 x4 i = (A x0 x1 x2 x3 x4).dd 0 (i 1).val (i 2).val := by
  rw [val_main_v131_apply, val_main_v130_apply, r127 x0 x1 x2 x3 x4]
  have h0 : (i 0).val < 1 := (i 0).isLt
  have h1 : (i 1).val < 4096 := (i 1).isLt
  have h2 : (i 2).val < 256 := (i 2).isLt
  refine congr (congrArg ((A x0 x1 x2 x3 x4).dd 0) ?_) ?_
  · show (((i 0).val * 4096 + (i 1).val) * 256 + (i 2).val) / 256 % 4096 = (i 1).val
    omega
  · show (((i 0).val * 4096 + (i 1).val) * 256 + (i 2).val) % 256 = (i 2).val
    omega

/-- Their negatives in group 0's place. -/
theorem r180 (i) : val_main_v180 (F := Ideal) x1 x3 x4 i = if (i 2).val = 0 then -(A x0 x1 x2 x3 x4).dd 0 (i 1).val (i 3).val else 0 := by
  unfold val_main_v180
  exact pad_group _ _ _ _ (fun j => by rw [val_main_cst_28_apply]; exact zero_word) (fun n c => -(A x0 x1 x2 x3 x4).dd 0 n c)
    (fun j => by rw [val_main_v179_apply, val_main_v178_apply, r131 x0 x1 x2 x3 x4]; rfl) i

/-- Their share to each row of the window. -/
theorem r183 (i) : val_main_v183 (F := Ideal) x1 x3 x4 i = (A x0 x1 x2 x3 x4).q 0 (i 1).val (i 2).val := by
  rw [val_main_v183_apply, val_main_v182_apply, r131 x0 x1 x2 x3 x4, r46]
  rfl

/-- The negated share of the row 2 below. -/
theorem r187 (i) : val_main_v187 (F := Ideal) x1 x3 x4 i = -(A x0 x1 x2 x3 x4).q 0 ((i 1).val + 2) (i 2).val := by
  unfold val_main_v187
  refine (pad_rows _ _ _ _ (fun j => by rw [val_main_cst_29_apply]; exact zero_word) (fun n c => -(A x0 x1 x2 x3 x4).q 0 (n + 2) c)
    (fun j => ?_) (fun n c hn => by rw [q_past x0 x1 x2 x3 x4 0 _ c (by omega)]; exact neg_zero) i).trans ?_
  · rw [val_main_v186_apply, val_main_v184_apply, r183 x0 x1 x2 x3 x4]
    refine congrArg (fun n => -(A x0 x1 x2 x3 x4).q 0 n (j 2).val) ?_
    show 2 + (j 1).val = (j 1).val + 2
    omega
  · unfold shDown
    rw [if_neg (by omega), Nat.sub_zero]

/-- Their sum in group 0's place. -/
theorem r190 (i) : val_main_v190 (F := Ideal) x1 x3 x4 i = if (i 2).val = 0 then (A x0 x1 x2 x3 x4).q 0 (i 1).val (i 3).val + -(A x0 x1 x2 x3 x4).q 0 ((i 1).val + 2) (i 3).val else 0 := by
  unfold val_main_v190
  exact pad_group _ _ _ _ (fun j => by rw [val_main_cst_30_apply]; exact zero_word) (fun n c => (A x0 x1 x2 x3 x4).q 0 n c + -(A x0 x1 x2 x3 x4).q 0 (n + 2) c)
    (fun j => by rw [val_main_v189_apply, val_main_v188_apply, r183 x0 x1 x2 x3 x4, r187 x0 x1 x2 x3 x4]; rfl) i

/-- Four terms of which each is zero but in its own group. -/
theorem pick (k : ℕ) (hk : k < 4) (f : ℕ → EReal) :
    (((if k = 3 then f 3 else 0) + (if k = 2 then f 2 else 0)) + (if k = 1 then f 1 else 0)) + (if k = 0 then f 0 else 0) = f k := by
  match k, hk with
  | 0, _ => simp
  | 1, _ => simp
  | 2, _ => simp
  | 3, _ => simp

/-- The negated cotangents of the values. -/
theorem r181 (i) : val_main_v181 (F := Ideal) x1 x3 x4 i = -(A x0 x1 x2 x3 x4).dd (i 2).val (i 1).val (i 3).val := by
  rw [val_main_v181_apply, val_main_v167_apply, val_main_v153_apply, r140 x0 x1 x2 x3 x4, r152 x0 x1 x2 x3 x4, r166 x0 x1 x2 x3 x4, r180 x0 x1 x2 x3 x4]
  exact pick (i 2).val (i 2).isLt (fun g => -(A x0 x1 x2 x3 x4).dd g (i 1).val (i 3).val)

/-- The shares less those of the row a window below. -/
theorem r191 (i) : val_main_v191 (F := Ideal) x1 x3 x4 i = (A x0 x1 x2 x3 x4).q (i 2).val (i 1).val (i 3).val + -(A x0 x1 x2 x3 x4).q (i 2).val ((i 1).val + 2 ^ ((i 2).val + 1)) (i 3).val := by
  rw [val_main_v191_apply, val_main_v177_apply, val_main_v163_apply, r149 x0 x1 x2 x3 x4, r162 x0 x1 x2 x3 x4, r176 x0 x1 x2 x3 x4, r190 x0 x1 x2 x3 x4]
  exact pick (i 2).val (i 2).isLt (fun g => (A x0 x1 x2 x3 x4).q g (i 1).val (i 3).val + -(A x0 x1 x2 x3 x4).q g ((i 1).val + 2 ^ (g + 1)) (i 3).val)

/-- Their running sums from the last row are the windows' sums. -/
theorem r192 (h : (A x0 x1 x2 x3 x4).Numeric) (i) : val_main_v192 (F := Ideal) x1 x3 x4 i = winUp (2 ^ ((i 2).val + 1)) ((A x0 x1 x2 x3 x4).q (i 2).val) (i 1).val (i 3).val := by
  unfold val_main_v192
  refine (host_sum_from_bottom (val_main_v191 (F := Ideal) x1 x3 x4) (val_main_call1_call0_v0 (F := Ideal)) _ _ (fun j => by
    rw [val_main_call1_call0_v0_apply, val_main_call1_call0_cst_apply]; exact zero_word)
      (fun g n c => (A x0 x1 x2 x3 x4).q g n c + -(A x0 x1 x2 x3 x4).q g (n + 2 ^ (g + 1)) c) (fun j => r191 x0 x1 x2 x3 x4 j) (fun g n c hn => ?_) i).trans
    (winUp_of_difference 4096 (2 ^ ((i 2).val + 1)) ((A x0 x1 x2 x3 x4).q (i 2).val) (h.q (i 2).val) (fun n c hn => q_past x0 x1 x2 x3 x4 _ n c hn) (i 1).val (i 3).val)
  rw [q_past x0 x1 x2 x3 x4 g n c hn, q_past x0 x1 x2 x3 x4 g _ c (le_trans hn (Nat.le_add_right _ _)), neg_zero, add_zero]

/-- The gradient of the values, the groups' columns side by side. -/
theorem r194 (h : (A x0 x1 x2 x3 x4).Numeric) (i) : val_main_v194 (F := Ideal) x1 x3 x4 i = (A x0 x1 x2 x3 x4).dvp ((i 2).val / 256) (i 1).val ((i 2).val % 256) := by
  rw [val_main_v194_apply, val_main_v193_apply, r181 x0 x1 x2 x3 x4, r192 x0 x1 x2 x3 x4 h]
  have h0 : (i 0).val < 1 := (i 0).isLt
  have h1 : (i 1).val < 4096 := (i 1).isLt
  have h2 : (i 2).val < 1024 := (i 2).isLt
  refine Eq.trans ?_ (congr (congr (congrArg (A x0 x1 x2 x3 x4).dvp (?_ : (idx_main_v194 i 2).val = _)) (?_ : (idx_main_v194 i 1).val = _)) (?_ : (idx_main_v194 i 3).val = _))
  · exact (add_comm _ _).trans (sub_eq_add_neg _ _).symm
  · show (((i 0).val * 4096 + (i 1).val) * 1024 + (i 2).val) / 256 % 4 = (i 2).val / 256
    omega
  · show (((i 0).val * 4096 + (i 1).val) * 1024 + (i 2).val) / 1024 % 4096 = (i 1).val
    omega
  · show (((i 0).val * 4096 + (i 1).val) * 1024 + (i 2).val) % 256 = (i 2).val % 256
    omega

/-! ## The gradient of the projection -/

/-- The values' columns. -/
theorem r232 (h : (A x0 x1 x2 x3 x4).Numeric) (i) : val_main_v232 (F := Ideal) x1 x3 x4 i = if 3072 ≤ (i 2).val ∧ (i 2).val < 3072 + 1024 then (A x0 x1 x2 x3 x4).dvp (((i 2).val - 3072) / 256) (i 1).val (((i 2).val - 3072) % 256) else 0 := by
  unfold val_main_v232
  exact pad_cols _ _ _ _ (fun j => by rw [val_main_cst_43_apply]; exact zero_word) (fun n c => (A x0 x1 x2 x3 x4).dvp (c / 256) n (c % 256)) (fun j => r194 x0 x1 x2 x3 x4 h j) i

/-- The columns of `x`. -/
theorem r233 (i) : val_main_v233 (F := Ideal) x0 x1 x2 i = if 2048 ≤ (i 2).val ∧ (i 2).val < 2048 + 1024 then (A x0 x1 x2 x3 x4).du (i 1).val ((i 2).val - 2048) * (A x0 x1 x2 x3 x4).pj (i 1).val (1024 + ((i 2).val - 2048)) else 0 := by
  unfold val_main_v233
  exact pad_cols _ _ _ _ (fun j => by rw [val_main_cst_44_apply]; exact zero_word) (fun n c => (A x0 x1 x2 x3 x4).du n c * (A x0 x1 x2 x3 x4).pj n (1024 + c)) (fun j => r230 x0 x1 x2 x3 x4 j) i

/-- The columns of `c`. -/
theorem r235 (i) : val_main_v235 (F := Ideal) x0 x1 x2 i = if 1024 ≤ (i 2).val ∧ (i 2).val < 1024 + 1024 then (A x0 x1 x2 x3 x4).du (i 1).val ((i 2).val - 1024) * (A x0 x1 x2 x3 x4).pj (i 1).val (2048 + ((i 2).val - 1024)) else 0 := by
  unfold val_main_v235
  exact pad_cols _ _ _ _ (fun j => by rw [val_main_cst_45_apply]; exact zero_word) (fun n c => (A x0 x1 x2 x3 x4).du n c * (A x0 x1 x2 x3 x4).pj n (2048 + c)) (fun j => r231 x0 x1 x2 x3 x4 j) i

/-- The columns of `b`. -/
theorem r237 (i) : val_main_v237 (F := Ideal) x0 x1 x2 i = if 0 ≤ (i 2).val ∧ (i 2).val < 0 + 1024 then (A x0 x1 x2 x3 x4).db (i 1).val ((i 2).val - 0) else 0 := by
  unfold val_main_v237
  exact pad_cols _ _ _ _ (fun j => by rw [val_main_cst_46_apply]; exact zero_word) (fun n c => (A x0 x1 x2 x3 x4).db n c) (fun j => r196 x0 x1 x2 x3 x4 j) i

/-- The gradient of the projection. -/
theorem r240 (h : (A x0 x1 x2 x3 x4).Numeric) (i) : val_main_v240 (F := Ideal) x0 x1 x2 x3 x4 i = (A x0 x1 x2 x3 x4).dproj (i 0).val (i 1).val := by
  have h0 : (i 0).val < 4096 := (i 0).isLt
  have h1 : (i 1).val < 4096 := (i 1).isLt
  have e1 : ((i 0).val * 4096 + (i 1).val) / 4096 % 4096 = (i 0).val := by omega
  have e2 : ((i 0).val * 4096 + (i 1).val) % 4096 = (i 1).val := by omega
  rw [val_main_v240_apply, val_main_v239_apply, val_main_v238_apply, val_main_v236_apply, val_main_v234_apply, r232 x0 x1 x2 x3 x4 h, r233 x0 x1 x2 x3 x4, r235 x0 x1 x2 x3 x4, r237 x0 x1 x2 x3 x4]
  show (((if 3072 ≤ ((i 0).val * 4096 + (i 1).val) % 4096 ∧ ((i 0).val * 4096 + (i 1).val) % 4096 < 3072 + 1024
      then (A x0 x1 x2 x3 x4).dvp ((((i 0).val * 4096 + (i 1).val) % 4096 - 3072) / 256) (((i 0).val * 4096 + (i 1).val) / 4096 % 4096) ((((i 0).val * 4096 + (i 1).val) % 4096 - 3072) % 256) else (0 : EReal))
    + (if 2048 ≤ ((i 0).val * 4096 + (i 1).val) % 4096 ∧ ((i 0).val * 4096 + (i 1).val) % 4096 < 2048 + 1024
      then (A x0 x1 x2 x3 x4).du (((i 0).val * 4096 + (i 1).val) / 4096 % 4096) (((i 0).val * 4096 + (i 1).val) % 4096 - 2048) * (A x0 x1 x2 x3 x4).pj (((i 0).val * 4096 + (i 1).val) / 4096 % 4096) (1024 + (((i 0).val * 4096 + (i 1).val) % 4096 - 2048)) else 0))
    + (if 1024 ≤ ((i 0).val * 4096 + (i 1).val) % 4096 ∧ ((i 0).val * 4096 + (i 1).val) % 4096 < 1024 + 1024
      then (A x0 x1 x2 x3 x4).du (((i 0).val * 4096 + (i 1).val) / 4096 % 4096) (((i 0).val * 4096 + (i 1).val) % 4096 - 1024) * (A x0 x1 x2 x3 x4).pj (((i 0).val * 4096 + (i 1).val) / 4096 % 4096) (2048 + (((i 0).val * 4096 + (i 1).val) % 4096 - 1024)) else 0))
    + (if 0 ≤ ((i 0).val * 4096 + (i 1).val) % 4096 ∧ ((i 0).val * 4096 + (i 1).val) % 4096 < 0 + 1024
      then (A x0 x1 x2 x3 x4).db (((i 0).val * 4096 + (i 1).val) / 4096 % 4096) (((i 0).val * 4096 + (i 1).val) % 4096 - 0) else 0) = _
  rw [e1, e2]
  unfold Args.dproj
  by_cases q0 : (i 1).val < 1024
  · rw [if_pos q0, if_neg (by omega), if_neg (by omega), if_neg (by omega), if_pos (by omega), Nat.sub_zero, zero_add, zero_add, zero_add]
  by_cases q1 : (i 1).val < 2048
  · rw [if_neg q0, if_pos q1, if_neg (by omega), if_neg (by omega), if_pos (by omega), if_neg (by omega), zero_add, zero_add, add_zero]
  by_cases q2 : (i 1).val < 3072
  · rw [if_neg q0, if_neg q1, if_pos q2, if_neg (by omega), if_pos (by omega), if_neg (by omega), if_neg (by omega), zero_add, add_zero, add_zero]
  · rw [if_neg q0, if_neg q1, if_neg q2, if_pos (by omega), if_neg (by omega), if_neg (by omega), if_neg (by omega), add_zero, add_zero, add_zero]

end Cert.ReferenceIdeal.Mix

end
-- ==== Proof.MixPre.lean ====
/-
  What the precondition says of the arguments: the elements the pools read are numbers, neither infinity.
-/
module

public import proofs.«01_k».proof.Pre_pool_finite
public import proofs.«01_k».proof.Proof.MixTel
public import Idealize.ShloMosaic.PureOps.Ideal.Laws
public import Idealize.ShloMosaic.Lib.ValueIdx

@[expose] public section

noncomputable section

open Idealize.ShloMosaic Idealize.ShloMosaic.ValueIdx

namespace Cert.Mix

/-- The side conditions of the precondition's operations: each is decided. -/
theorem preFacts : Cert.Pre_pool_finite.Facts where
  slices_S4096x4096_S4096x1024_0_3072 := by decide
  bitsLt_bf16_f32 := by decide
  bcast_S_S4096x1024 := by decide
  slices_S4096x2048_S4096x1024_0_1024 := by decide
  bcast_S_S4x256x256 := by decide
  bcast_S_S1024 := by decide

/-- The word the precondition compares with denotes infinity. -/
theorem inf_word : (FloatOps.ofBits (F := Ideal) .f32 0x7F800000#32 : Ideal .f32) = (⊤ : EReal) := by
  show Ideal.ofBits .f32 0x7F800000#32 = ⊤
  simp [Ideal.ofBits, Ideal.ieee]

/-- A value whose magnitude is below infinity is a number. -/
theorem isNum_of_test (x : EReal) (h : (FloatOps.cmpf (F := Ideal) (φ := .f32) .olt (FloatOps.absf (F := Ideal) (φ := .f32) x)
    (FloatOps.ofBits (F := Ideal) .f32 0x7F800000#32) : BitVec 1) = 1#1) : IsNum x := by
  rw [inf_word] at h
  have hx : max x (-x) < ⊤ := by
    by_contra hn
    have : (BitVec.ofBool (decide (max x (-x) < ⊤)) : BitVec 1) = 1#1 := h
    rw [decide_eq_false hn] at this
    exact absurd this (by decide)
  constructor
  · rintro rfl
    simp at hx
  · rintro rfl
    simp at hx

/-- Under the precondition everything the pools read is a number. -/
theorem numeric_of_pre [hF : Cert.Pre_pool_finite.Facts]
    (P : (⟨2, ![4096, 4096]⟩ : Shape).Idx → EReal) (Y : (⟨2, ![4096, 2048]⟩ : Shape).Idx → EReal) (W : (⟨2, ![3, 1024]⟩ : Shape).Idx → EReal)
    (M : (⟨3, ![4, 256, 256]⟩ : Shape).Idx → EReal) (S : (⟨1, ![1024]⟩ : Shape).Idx → EReal)
    (h0 : (Cert.Pre_pool_finite.fn (F := Ideal) P Y W M S).1 = fun _ => 1#1)
    (h1 : (Cert.Pre_pool_finite.fn (F := Ideal) P Y W M S).2.1 = fun _ => 1#1)
    (h2 : (Cert.Pre_pool_finite.fn (F := Ideal) P Y W M S).2.2.1 = fun _ => 1#1)
    (h3 : (Cert.Pre_pool_finite.fn (F := Ideal) P Y W M S).2.2.2 = fun _ => 1#1) : (argsOf P Y W M S).Numeric where
  pj n c hc := by
    show IsNum (nat2 P n c)
    unfold nat2
    split
    · next hb =>
      have := isNum_of_test _ (congrFun h0 (ix2 ⟨n, hb.1⟩ ⟨c - 3072, by omega⟩))
      refine (congrArg IsNum ?_).mp this
      refine congrArg P ?_
      funext a
      fin_cases a
      · exact Fin.ext (by show 0 + n = n; exact Nat.zero_add n)
      · exact Fin.ext (by show 3072 + (c - 3072) = c; exact Nat.add_sub_of_le hc)
    · exact IsNum.zero
  dy n c hc := by
    show IsNum (nat2 Y n c)
    unfold nat2
    split
    · next hb =>
      have := isNum_of_test _ (congrFun h1 (ix2 ⟨n, hb.1⟩ ⟨c - 1024, by omega⟩))
      refine (congrArg IsNum ?_).mp this
      refine congrArg Y ?_
      funext a
      fin_cases a
      · exact Fin.ext (by show 0 + n = n; exact Nat.zero_add n)
      · exact Fin.ext (by show 1024 + (c - 1024) = c; exact Nat.add_sub_of_le hc)
    · exact IsNum.zero
  pw g c k := by
    show IsNum (nat3 M g c k)
    unfold nat3
    split
    · exact isNum_of_test _ (congrFun h2 _)
    · exact IsNum.zero
  ps g k := by
    show IsNum (nat1 S (256 * g + k))
    unfold nat1
    split
    · exact isNum_of_test _ (congrFun h3 _)
    · exact IsNum.zero

end Cert.Mix

end
-- ==== Proof.MixClaim.lean ====
/-
  The mixer's backward call: its frames, and that its kernel computes the reference's gradients.
-/
module

public import proofs.«01_k».proof.Defs
public import proofs.«01_k».proof.Proof.Gen.Kernel.Frame
public import proofs.«01_k».proof.Proof.Gen.KernelIdeal.Frame
public import proofs.«01_k».proof.Proof.MixArr
public import proofs.«01_k».proof.Proof.MixRefPool
public import proofs.«01_k».proof.Proof.MixPre

@[expose] public section

noncomputable section

open Idealize.ShloMosaic Idealize.ShloMosaic.TcCoe Idealize.SL.Sem

namespace Cert.Mix

/-- The kernel, at machine words, runs and leaves its arguments alone. -/
theorem frame_P : @Cert.quiescent_Kernel Cert.Kernel.Gen.facts := fun m g _ => Cert.Kernel.Gen.frame m g

/-- The kernel, at extended reals, runs and leaves its arguments alone. -/
theorem frame_PI : @Cert.quiescent_KernelIdeal Cert.KernelIdeal.Gen.facts := fun m g _ => Cert.KernelIdeal.Gen.frame m g

/-- The same of the launches that meet the precondition. -/
theorem frame_PI_pre : @Cert.quiescent_KernelIdeal_pre_pool_finite Cert.KernelIdeal.Gen.facts preFacts :=
  fun m g _ => Cert.KernelIdeal.Gen.frame m g

/-- The reference runs and leaves its arguments alone. -/
theorem frame_RI : @Cert.quiescent_ReferenceIdeal Cert.ReferenceIdeal.Gen.facts := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- The same of the launches that meet the precondition. -/
theorem frame_RI_pre : @Cert.quiescent_ReferenceIdeal_pre_pool_finite Cert.ReferenceIdeal.Gen.facts preFacts :=
  fun m g _ => frame_RI m g trivial

section

open Cert.ReferenceIdeal Cert.ReferenceIdeal.Mix Cert.ReferenceIdeal.Read Idealize.ShloMosaic.StableHlo

variable (m' : (ℓ : Loc nD τ sig) → Buf (Elt Ideal) ℓ) (g' : Dev nD → PrngReg)

/-- The reference's arguments. -/
def refArgs (c : Dev nD) : Args :=
  argsOf (m' ((c : Thread nD τ).loc main_arg0)) (m' ((c : Thread nD τ).loc main_arg1)) (m' ((c : Thread nD τ).loc main_arg2))
    (m' ((c : Thread nD τ).loc main_arg3)) (m' ((c : Thread nD τ).loc main_arg4))

/-- The reference's run, from arguments whose pools' part is numbers, leaves the same four functions of its arguments. -/
theorem ref_run (hn : ∀ c, (refArgs m' c).Numeric) :
    θ_run (defs (F := Ideal)) (onTc (τ := τ) (main (F := Ideal))) ⟨m', fun _ => 0, g'⟩ fun r => ∀ c : Dev nD,
      r.2.mem ((c : Thread nD τ).loc main_v240) = Cert.KernelIdeal.Mix.res8 (refArgs m' c)
      ∧ r.2.mem ((c : Thread nD τ).loc main_v227) = Cert.KernelIdeal.Mix.res9 (refArgs m' c)
      ∧ r.2.mem ((c : Thread nD τ).loc main_v129) = Cert.KernelIdeal.Mix.res10 (refArgs m' c)
      ∧ r.2.mem ((c : Thread nD τ).loc main_v241) = Cert.KernelIdeal.Mix.res11 (refArgs m' c)
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4) :=
  (θ_run defs _ _).mono (fun _ h c =>
    ⟨((h c).1.trans (val_main_v240_eq (launchContents m' c))).trans (funext fun i => r240 _ _ _ _ _ (hn c) i),
     ((h c).2.1.trans (val_main_v227_eq (launchContents m' c))).trans (funext fun i => r227 _ _ (m' ((c : Thread nD τ).loc main_arg2)) (m' ((c : Thread nD τ).loc main_arg3)) (m' ((c : Thread nD τ).loc main_arg4)) i),
     ((h c).2.2.1.trans (val_main_v129_eq (launchContents m' c))).trans (funext fun i => r129 _ _ (m' ((c : Thread nD τ).loc main_arg2)) (m' ((c : Thread nD τ).loc main_arg3)) _ (hn c) i),
     ((h c).2.2.2.1.trans (val_main_v241_eq (launchContents m' c))).trans (funext fun i => r241 _ _ (m' ((c : Thread nD τ).loc main_arg2)) _ (m' ((c : Thread nD τ).loc main_arg4)) (hn c) i),
     (h c).2.2.2.2⟩)
    (Cert.ReferenceIdeal.Value.run (F := Ideal) m' g')

end

/-- From the same arguments, whose pools' part is numbers, the kernel and the reference leave the same four gradients. -/
theorem algebraic : @Cert.algebraic_KernelIdeal_ReferenceIdeal_pre_pool_finite Cert.KernelIdeal.Gen.facts Cert.ReferenceIdeal.Gen.facts preFacts := by
  intro m g m' g' hpre hag
  have he : ∀ c, refArgs m' c = Cert.KernelIdeal.Mix.args m c := fun c => by
    unfold refArgs Cert.KernelIdeal.Mix.args
    rw [(hag c).1, (hag c).2.1, (hag c).2.2.1, (hag c).2.2.2.1, (hag c).2.2.2.2]
  have hn : ∀ c, (refArgs m' c).Numeric := fun c => by
    rw [he c]
    have := hpre c
    exact numeric_of_pre (hF := preFacts) _ _ _ _ _ this.1 this.2.1 this.2.2.1 this.2.2.2
  have hr := ref_run m' g' hn
  simp only [he] at hr
  exact ⟨fun c => Cert.KernelIdeal.Mix.res8 (Cert.KernelIdeal.Mix.args m c), fun c => Cert.KernelIdeal.Mix.res9 (Cert.KernelIdeal.Mix.args m c),
    fun c => Cert.KernelIdeal.Mix.res10 (Cert.KernelIdeal.Mix.args m c), fun c => Cert.KernelIdeal.Mix.res11 (Cert.KernelIdeal.Mix.args m c),
    Cert.KernelIdeal.Mix.run m g, hr⟩

end Cert.Mix

end
-- ==== Proof.MmSpec.lean ====
/-
  Products of matrices cut into blocks, element by element, over the extended reals. Matrices are read as functions of natural
  numbers (`nat2`, `nat3`); a product is a sum over a range, so a sum taken block by block is the sum over the whole range by
  joining ranges.
-/
module

public import proofs.«01_k».proof.Proof.MixSpec
public import Idealize.ShloMosaic.Lib.Pipeline.Value
public import Idealize.ShloMosaic.Lib.KernelVsHost
public import Idealize.ShloMosaic.Lib.MatmulPlain
public import Idealize.ShloMosaic.Lib.VecWindow
public import Idealize.ShloMosaic.Lib.Pointwise.Reshape

@[expose] public section

noncomputable section

namespace Cert.Mm

open Idealize.ShloMosaic Idealize.ShloMosaic.ValueIdx Cert.Mix
open scoped BigOperators

/-! ## Matrices kept as blocks -/

/-- A matrix kept as blocks of `w` columns. -/
def cols {l n w : ℕ} (X : (⟨3, ![l, n, w]⟩ : Shape).Idx → EReal) (r c : ℕ) : EReal := nat3 X (c / w) r (c % w)

/-- A matrix kept as blocks of `h` rows. -/
def rows {l h n : ℕ} (X : (⟨3, ![l, h, n]⟩ : Shape).Idx → EReal) (r c : ℕ) : EReal := nat3 X (r / h) (r % h) c

/-- The number of a place from its block and its place in the block. -/
theorem block_div {w b k : ℕ} (hk : k < w) : (b * w + k) / w = b := by
  rw [Nat.mul_comm, Nat.mul_add_div (Nat.zero_lt_of_lt hk), Nat.div_eq_of_lt hk, Nat.add_zero]

/-- The place in the block. -/
theorem block_mod {w b k : ℕ} (hk : k < w) : (b * w + k) % w = k := by
  rw [Nat.mul_comm, Nat.mul_add_mod, Nat.mod_eq_of_lt hk]

/-! ## Products -/

/-- Row `i` of `a` by row `j` of `b`, the first `n` terms. -/
def nt (n : ℕ) (a b : ℕ → ℕ → EReal) (i j : ℕ) : EReal := ∑ k ∈ Finset.range n, a i k * b j k

/-- Row `i` of `a` by column `j` of `b`, the first `n` terms. -/
def nn (n : ℕ) (a b : ℕ → ℕ → EReal) (i j : ℕ) : EReal := ∑ k ∈ Finset.range n, a i k * b k j

/-- Column `i` of `a` by column `j` of `b`, the first `n` terms. -/
def tn (n : ℕ) (a b : ℕ → ℕ → EReal) (i j : ℕ) : EReal := ∑ k ∈ Finset.range n, a k i * b k j

/-- The gradient of a product by its right factor, kept as blocks of `w` columns: columns of the left factor by columns of the
    cotangent. -/
def dw {a b l n w : ℕ} (x : (⟨2, ![4096, a]⟩ : Shape).Idx → EReal) (y : (⟨2, ![4096, b]⟩ : Shape).Idx → EReal)
    (i : (⟨3, ![l, n, w]⟩ : Shape).Idx) : EReal :=
  tn 4096 (nat2 x) (nat2 y) (i 1).val ((i 0).val * w + (i 2).val)

/-- A sum over places is a sum over a range. -/
theorem sum_fin {n : ℕ} (f : Fin n → EReal) (F : ℕ → EReal) (h : ∀ k, f k = F k.val) : ∑ k : Fin n, f k = ∑ k ∈ Finset.range n, F k := by
  rw [← Fin.sum_univ_eq_sum_range F]
  exact Finset.sum_congr rfl fun k _ => h k

/-- The next block of terms after the first `a`. -/
theorem sum_more {n : ℕ} (a : ℕ) (f : Fin n → EReal) (F : ℕ → EReal) (h : ∀ k, f k = F (a + k.val)) :
    ∑ k ∈ Finset.range a, F k + ∑ k : Fin n, f k = ∑ k ∈ Finset.range (a + n), F k := by
  rw [Finset.sum_range_add, sum_fin f (fun k => F (a + k)) h]

/-! ## A product of two tiles, read at an index -/

/-- Rows by rows. -/
theorem nt_read {M K N : ℕ} {φ₁ φ₂ : FTy} (prec : Option ContractPrecision) (L : FVec Ideal ⟨2, ![M, K]⟩ φ₁) (R : FVec Ideal ⟨2, ![N, K]⟩ φ₂)
    (y : (⟨2, ![M, N]⟩ : Shape).Idx) :
    FloatOps.matmul (DotDims.transposedRhs M K N) prec L R (constant ⟨2, ![M, N]⟩ .f32 0x00000000#32) y
      = ∑ k : Fin K, L (ValueIdx.ix2 (y 0) k) * R (ValueIdx.ix2 (y 1) k) := by
  rw [ValueIdx.eq_ix2 y]
  refine (Ideal.matmul_transposedRhs_apply prec L R _ (y 0) (y 1)).trans ?_
  rw [constant_apply, Ideal.ofBits_zero_f32, zero_add]
  rfl

/-- Rows by columns. -/
theorem nn_read {M K N : ℕ} {φ₁ φ₂ : FTy} (prec : Option ContractPrecision) (L : FVec Ideal ⟨2, ![M, K]⟩ φ₁) (R : FVec Ideal ⟨2, ![K, N]⟩ φ₂)
    (y : (⟨2, ![M, N]⟩ : Shape).Idx) :
    FloatOps.matmul (DotDims.plain M K N) prec L R (constant ⟨2, ![M, N]⟩ .f32 0x00000000#32) y
      = ∑ k : Fin K, L (ValueIdx.ix2 (y 0) k) * R (ValueIdx.ix2 k (y 1)) := by
  rw [ValueIdx.eq_ix2 y]
  refine (Ideal.matmul_plain_apply prec L R _ (y 0) (y 1)).trans ?_
  rw [constant_apply, Ideal.ofBits_zero_f32, zero_add]
  rfl

/-- Columns by columns. -/
theorem tn_read {M K N : ℕ} {φ₁ φ₂ : FTy} (D : DotDims ⟨2, ![K, M]⟩ ⟨2, ![K, N]⟩ ⟨2, ![M, N]⟩) (hr : D.contr.rank = 1)
    (hs : D.contr.size ⟨0, by omega⟩ = K)
    (l0 : ∀ y q, (D.lhsIdx y q 0).val = (q ⟨0, by omega⟩).val) (l1 : ∀ y q, (D.lhsIdx y q 1).val = (y 0).val)
    (r0 : ∀ y q, (D.rhsIdx y q 0).val = (q ⟨0, by omega⟩).val) (r1 : ∀ y q, (D.rhsIdx y q 1).val = (y 1).val)
    (prec : Option ContractPrecision) (L : FVec Ideal ⟨2, ![K, M]⟩ φ₁) (R : FVec Ideal ⟨2, ![K, N]⟩ φ₂) (y : (⟨2, ![M, N]⟩ : Shape).Idx) :
    FloatOps.matmul D prec L R (constant ⟨2, ![M, N]⟩ .f32 0x00000000#32) y = ∑ k : Fin K, L (ValueIdx.ix2 k (y 0)) * R (ValueIdx.ix2 k (y 1)) := by
  refine (Ideal.matmul_constant_zero_apply _ prec L R y).trans ?_
  rw [← Equiv.sum_comp (contrEquiv1 D K hr hs).symm]
  refine Finset.sum_congr rfl fun k _ => ?_
  have hk := contrEquiv1_symm_val D K hr hs k
  refine congrArg₂ (· * ·) (congrArg L (funext fun a => Fin.ext ?_)) (congrArg R (funext fun a => Fin.ext ?_))
  · match a with
    | ⟨0, _⟩ => exact (l0 _ _).trans hk
    | ⟨1, _⟩ => exact l1 _ _
  · match a with
    | ⟨0, _⟩ => exact (r0 _ _).trans hk
    | ⟨1, _⟩ => exact r1 _ _

/-! ## Tiles with a block axis of one -/

/-- The axis dropped. -/
theorem drop_read {R C : ℕ} {α : Type} (v : (⟨3, ![1, R, C]⟩ : Shape).Idx → α) (h : (⟨3, ![1, R, C]⟩ : Shape).ShapeCasts ⟨2, ![R, C]⟩)
    (y : (⟨2, ![R, C]⟩ : Shape).Idx) : shapeCast ⟨2, ![R, C]⟩ v h y = v (ValueIdx.ix3 0 (y 0) (y 1)) :=
  shapeCast_apply v h y _ (by
    rw [rowMajor_val3 _ (R * C) C rfl rfl, rowMajor_val2 _ C rfl]
    show 0 * (R * C) + (y 0).val * C + (y 1).val = (y 0).val * C + (y 1).val
    omega)

/-- The axis added. -/
theorem add_read {R C : ℕ} {α : Type} (v : (⟨2, ![R, C]⟩ : Shape).Idx → α) (h : (⟨2, ![R, C]⟩ : Shape).ShapeCasts ⟨3, ![1, R, C]⟩)
    (y : (⟨3, ![1, R, C]⟩ : Shape).Idx) : shapeCast ⟨3, ![1, R, C]⟩ v h y = v (ValueIdx.ix2 (y 1) (y 2)) :=
  shapeCast_apply v h y _ (by
    rw [rowMajor_val3 _ (R * C) C rfl rfl, rowMajor_val2 _ C rfl]
    have h0 : (y 0).val < 1 := (y 0).isLt
    have h0' : (y 0).val = 0 := by omega
    rw [h0']
    show (y 1).val * C + (y 2).val = 0 * (R * C) + (y 1).val * C + (y 2).val
    omega)

/-- A tile reshaped to its own shape. -/
theorem same_read {s : Shape} {α : Type} (v : s.Idx → α) (h : s.ShapeCasts s) (y : s.Idx) : shapeCast s v h y = v y :=
  shapeCast_apply v h y _ rfl

/-- A matrix kept as blocks of rows, the blocks joined. -/
theorem join_blocks {l h n r : ℕ} (X : (⟨3, ![l, h, n]⟩ : Shape).Idx → EReal) (hc : (⟨3, ![l, h, n]⟩ : Shape).ShapeCasts ⟨3, ![1, r, n]⟩)
    (hlr : l * h = r) (y : (⟨3, ![1, r, n]⟩ : Shape).Idx) : shapeCast ⟨3, ![1, r, n]⟩ X hc y = rows X (y 1).val (y 2).val := by
  have h0 : (y 0).val < 1 := (y 0).isLt
  have h1 : (y 1).val < r := (y 1).isLt
  have hh : 0 < h := by
    rcases Nat.eq_zero_or_pos h with e | e
    · subst e; simp at hlr; omega
    · exact e
  have hd : (y 1).val / h < l := (Nat.div_lt_iff_lt_mul hh).mpr (by omega)
  have hm : (y 1).val % h < h := Nat.mod_lt _ hh
  refine (shapeCast_apply X hc y (ValueIdx.ix3 ⟨(y 1).val / h, hd⟩ ⟨(y 1).val % h, hm⟩ (y 2)) ?_).trans
    (nat3_idx X _ _ _ _ rfl rfl rfl).symm
  rw [rowMajor_val3 _ (h * n) n rfl rfl, rowMajor_val3 _ (r * n) n rfl rfl]
  have h0' : (y 0).val = 0 := by omega
  rw [h0']
  show (y 1).val / h * (h * n) + (y 1).val % h * n + (y 2).val = 0 * (r * n) + (y 1).val * n + (y 2).val
  rw [Nat.zero_mul, Nat.zero_add, ← Nat.mul_assoc, ← Nat.add_mul, Nat.mul_comm ((y 1).val / h) h, Nat.div_add_mod]

/-! ## The squared rectifier -/

/-- The f32 word of two. -/
theorem two_f32 : Ideal.ofBits .f32 0x40000000#32 = 2 := by
  rw [show (2 : EReal) = ((2 : ℝ) : EReal) by norm_cast]
  simp [Ideal.ofBits, Ideal.ieee, -EReal.coe_mul]; norm_num

/-- The derivative of the squared rectifier by a cotangent: twice the rectified value, or the two halves of the product rule
    where the argument is positive and zero elsewhere. -/
theorem relu2_grad (x u : EReal) : (if 0 < u then max u 0 * x + x * max u 0 else 0) = x * (2 * max u 0) := by
  by_cases h : 0 < u
  · rw [if_pos h, max_eq_left h.le]
    have e : (2 : EReal) * u = u + u := by
      rw [← one_add_one_eq_two, EReal.right_distrib_of_nonneg zero_le_one zero_le_one, one_mul]
    rw [e, EReal.left_distrib_of_nonneg h.le h.le, mul_comm u x]
  · rw [if_neg h, max_eq_right (not_lt.mp h), mul_zero, mul_zero]

end Cert.Mm

end
-- ==== Proof.MmDownDx.lean ====
/-
  The gradient of the second product of the feed-forward layer by its hidden activations, carried through the squared
  rectifier: the kernel's result array, element by element.
-/
module

public import proofs.«01_k».proof.Proof.MmSpec
public import proofs.«01_k».proof.Proof.Gen.DownDxIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- What the call returns: the cotangent by the rows of the weights, times twice the rectified pre-activation. -/
def downDx (x : (⟨2, ![4096, 2048]⟩ : Shape).Idx → EReal) (w : (⟨3, ![8, 1024, 2048]⟩ : Shape).Idx → EReal)
    (u : (⟨2, ![4096, 8192]⟩ : Shape).Idx → EReal) (i : (⟨2, ![4096, 8192]⟩ : Shape).Idx) : EReal :=
  nt 2048 (nat2 x) (rows w) (i 0).val (i 1).val * (2 * max (nat2 u (i 0).val (i 1).val) 0)

end Cert.Mm

namespace Cert.DownDxIdeal.Mm

open Cert.DownDxIdeal Cert.DownDxIdeal.Gen Cert.DownDxIdeal.Value Cert.Mm
open Cert.Mix (nat2 nat3 nat2_idx nat3_idx)

variable (m : (ℓ : Loc nD τ sig) → Buf (Elt Ideal) ℓ) (ρ : Dev nD → PrngReg)

/-- The blocks the point's windows look at, by the block of the result it writes. -/
theorem index_of : ∀ t : Fin cfg0.N, win0_0.index t 0 = win0_3.index t 0 ∧ win0_0.index t 1 = 0
    ∧ win0_1.index t 0 = 0 ∧ win0_1.index t 1 = win0_3.index t 1 ∧ win0_1.index t 2 = 0
    ∧ win0_2.index t 0 = win0_3.index t 0 ∧ win0_2.index t 1 = win0_3.index t 1
    ∧ win0_3.index t 0 = t.val / 8 ∧ win0_3.index t 1 = t.val % 8 :=
  (by decide +kernel : ∀ t : Fin grid0.N, _)

/-- The weights as the kernel is given them. -/
theorem V_w (c : Dev nD) : V m c main_v0 = shapeCast S1x8192x2048 (m ((c : Thread nD τ).loc main_arg1) : S8x1024x2048.Idx → EReal) shapeCasts_S8x1024x2048_S1x8192x2048 := rfl

/-- The cotangent's block. -/
theorem blk0 (c : Dev nD) (t : Fin cfg0.N) (y : S1024x2048.Idx) : (iblk m c 0 t : Vec Ideal S1024x2048 .bf16) y
    = nat2 (n := 4096) (m := 2048) (m ((c : Thread nD τ).loc main_arg0)) (win0_0.index t 0 * 1024 + (y 0).val) (win0_0.index t 1 * 2048 + (y 1).val) := by
  refine (nat2_idx (n := 4096) (m := 2048) (m ((c : Thread nD τ).loc main_arg0)) _ _ _ ?_ ?_).symm
  · show _ = win0_0.index t 0 * 1024 + 1 * (y 0).val; omega
  · show _ = win0_0.index t 1 * 2048 + 1 * (y 1).val; omega

/-- The weights' block. -/
theorem blk1 (c : Dev nD) (t : Fin cfg0.N) (y : S1x1024x2048.Idx) : (iblk m c 1 t : Vec Ideal S1x1024x2048 .bf16) y
    = rows (l := 8) (h := 1024) (n := 2048) (m ((c : Thread nD τ).loc main_arg1)) (win0_1.index t 1 * 1024 + (y 1).val) (win0_1.index t 2 * 2048 + (y 2).val) := by
  show V m c main_v0 _ = _
  rw [V_w]
  refine (join_blocks (l := 8) (h := 1024) (n := 2048) (r := 8192) _ _ rfl _).trans ?_
  refine congrArg₂ _ ?_ ?_
  · show win0_1.index t 1 * 1024 + 1 * (y 1).val = _; omega
  · show win0_1.index t 2 * 2048 + 1 * (y 2).val = _; omega

/-- The pre-activation's block. -/
theorem blk2 (c : Dev nD) (t : Fin cfg0.N) (y : S1024x1024.Idx) : (iblk m c 2 t : Vec Ideal S1024x1024 .bf16) y
    = nat2 (n := 4096) (m := 8192) (m ((c : Thread nD τ).loc main_arg2)) (win0_2.index t 0 * 1024 + (y 0).val) (win0_2.index t 1 * 1024 + (y 1).val) := by
  refine (nat2_idx (n := 4096) (m := 8192) (m ((c : Thread nD τ).loc main_arg2)) _ _ _ ?_ ?_).symm
  · show _ = win0_2.index t 0 * 1024 + 1 * (y 0).val; omega
  · show _ = win0_2.index t 1 * 1024 + 1 * (y 1).val; omega

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point stores, element by element. -/
theorem pay_read (v0 : Vec Ideal S1024x2048 .bf16) (v1 : Vec Ideal S1x1024x2048 .bf16) (v4 : Vec Ideal S1024x1024 .bf16) (y : S1024x1024.Idx) :
    k0_pay1 v0 v1 v4 y = (∑ k : Fin 2048, v0 (ValueIdx.ix2 (y 0) k) * v1 (ValueIdx.ix3 0 (y 1) k)) * (2 * max (v4 y) 0) := by
  refine congrArg₂ (· * ·) ((nt_read (M := 1024) (K := 2048) (N := 1024) (φ₁ := .bf16) (φ₂ := .bf16) none v0 _ y).trans (Finset.sum_congr rfl fun k _ => ?_)) ?_
  · exact congrArg (_ * ·) (drop_read (R := 1024) (C := 2048) v1 _ (ValueIdx.ix2 (y 1) k))
  · show Ideal.ofBits .f32 0x40000000#32 * max (v4 y) (Ideal.ofBits .f32 0x00000000#32) = _
    rw [two_f32, Ideal.ofBits_zero_f32]

/-- What the point leaves in the result's block. -/
theorem out_read (c : Dev nD) (t : Fin cfg0.N) (y : S1024x1024.Idx) : out0_3 (iblk m c 0 t) (iblk m c 1 t) (iblk m c 2 t) y
    = nt 2048 (nat2 (n := 4096) (m := 2048) (m ((c : Thread nD τ).loc main_arg0))) (rows (l := 8) (h := 1024) (n := 2048) (m ((c : Thread nD τ).loc main_arg1)))
        (win0_3.index t 0 * 1024 + (y 0).val) (win0_3.index t 1 * 1024 + (y 1).val)
      * (2 * max (nat2 (n := 4096) (m := 8192) (m ((c : Thread nD τ).loc main_arg2)) (win0_3.index t 0 * 1024 + (y 0).val) (win0_3.index t 1 * 1024 + (y 1).val)) 0) := by
  obtain ⟨e00, e01, e10, e11, e12, e20, e21, -, -⟩ := index_of t
  unfold out0_3
  rw [View.canon_unit_zero (S := S1024x1024) hz2, View.ld_unit_zero (S := S1024x2048) hz2, View.ld_unit_zero (S := S1x1024x2048) hz3, View.ld_unit_zero (S := S1024x1024) hz2]
  refine (pay_read _ _ _ y).trans (congrArg₂ (· * ·) (sum_fin _ _ fun k => ?_) ?_)
  · rw [blk0, blk1, e00, e01, e11, e12]
    exact congrArg₂ (· * ·) (congrArg₂ _ rfl (by show 0 * 2048 + k.val = k.val; omega)) (congrArg₂ _ rfl (by show 0 * 2048 + k.val = k.val; omega))
  · rw [blk2, e20, e21]

/-- The result array. -/
theorem final (c : Dev nD) : (dats m 0 c).arrAt 3 cfg0.N
    = downDx (m ((c : Thread nD τ).loc main_arg0)) (m ((c : Thread nD τ).loc main_arg1)) (m ((c : Thread nD τ).loc main_arg2)) := by
  refine (dats m 0 c).arrAt_eq_of_cover 3 (downDx (m ((c : Thread nD τ).loc main_arg0)) (m ((c : Thread nD τ).loc main_arg1)) (m ((c : Thread nD τ).loc main_arg2)) : S4096x8192.Idx → EReal) (fun t _ => ?_) fun i => ?_
  · rw [flushed3]
    funext y
    refine (out_read m c t y).trans ?_
    have h0 : win0_3.index t 0 * 1024 + (y 0).val = win0_3.index t 0 * 1024 + 1 * (y 0).val := by omega
    have h1 : win0_3.index t 1 * 1024 + (y 1).val = win0_3.index t 1 * 1024 + 1 * (y 1).val := by omega
    rw [h0, h1]
    rfl
  · have h0 : (i 0 : ℕ) < 4096 := (i 0).isLt
    have h1 : (i 1 : ℕ) < 8192 := (i 1).isLt
    have ht : 8 * ((i 0 : ℕ) / 1024) + (i 1 : ℕ) / 1024 < cfg0.N := by rw [show cfg0.N = 32 from N_0]; omega
    refine ⟨⟨8 * ((i 0 : ℕ) / 1024) + (i 1 : ℕ) / 1024, ht⟩, flush0_3 _, ?_⟩
    obtain ⟨-, -, -, -, -, -, -, e0, e1⟩ := index_of ⟨8 * ((i 0 : ℕ) / 1024) + (i 1 : ℕ) / 1024, ht⟩
    show i ∈ ((View.whole main_v1).slice (win0_3.rect ⟨8 * ((i 0 : ℕ) / 1024) + (i 1 : ℕ) / 1024, ht⟩)).set
    rw [View.set_slice_whole, Rect.mem_set_unit]
    intro a
    fin_cases a
    · show win0_3.index _ 0 * 1024 ≤ (i 0 : ℕ) ∧ (i 0 : ℕ) < win0_3.index _ 0 * 1024 + 1024
      rw [e0]; dsimp only; omega
    · show win0_3.index _ 1 * 1024 ≤ (i 1 : ℕ) ∧ (i 1 : ℕ) < win0_3.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v1) = downDx (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.DownDxIdeal.Mm

end
-- ==== Proof.MmDownDxClaim.lean ====
/-
  The same gradient by the reference, and the claims of this call.
-/
module

public import proofs.«01_k».proof.Defs
public import proofs.«01_k».proof.Proof.MmDownDx
public import proofs.«01_k».proof.Proof.Gen.DownDx.Frame
public import proofs.«01_k».proof.Proof.Gen.DownDxRefIdeal.Read

@[expose] public section

set_option maxRecDepth 65536

noncomputable section

open Idealize.ShloMosaic Idealize.ShloMosaic.TcCoe Idealize.SL.Sem
open scoped BigOperators

namespace Cert.DownDxRefIdeal.Mm

open Cert.DownDxRefIdeal Cert.DownDxRefIdeal.Read Cert.Mm Idealize.ShloMosaic.StableHlo
open Cert.Mix (nat2 nat3 nat2_idx nat3_idx)

variable (x0 : S4096x2048.Idx → EReal) (x1 : S8x1024x2048.Idx → EReal) (x2 : S4096x8192.Idx → EReal)

/-- The weights joined. -/
theorem r1 (i : S8192x2048.Idx) : val_main_v1 (F := Ideal) x1 i = rows (l := 8) (h := 1024) (n := 2048) x1 (i 0).val (i 1).val := by
  have h1 : (i 1).val < 2048 := (i 1).isLt
  rw [val_main_v1_apply, val_main_v0_apply]
  refine (nat3_idx (l := 8) (n := 1024) (m := 2048) x1 _ _ _ _ ?_ ?_ ?_).symm
  · show (i 0).val / 1024 = ((i 0).val * 2048 + (i 1).val) / 2097152; omega
  · show (i 0).val % 1024 = ((i 0).val * 2048 + (i 1).val) / 2048 % 1024; omega
  · show (i 1).val = ((i 0).val * 2048 + (i 1).val) % 2048; omega

/-- The product. -/
theorem r12 (i : S4096x8192.Idx) : val_main_v12 (F := Ideal) x0 x1 i
    = nt 2048 (nat2 (n := 4096) (m := 2048) x0) (rows (l := 8) (h := 1024) (n := 2048) x1) (i 0).val (i 1).val := by
  rw [val_main_v12_apply]
  refine sum_fin _ _ fun k => congrArg₂ (· * ·) ?_ (r1 x1 _)
  rw [val_main_v11_apply]
  exact (nat2_idx (n := 4096) (m := 2048) x0 _ _ _ rfl rfl).symm

/-- The result. -/
theorem r18 (i : S4096x8192.Idx) : val_main_v18 (F := Ideal) x0 x1 x2 i = downDx x0 x1 x2 i := by
  have h4 : val_main_v4 (F := Ideal) x2 i = max (x2 i) 0 := by
    rw [val_main_v4_apply, val_main_v3_apply, val_main_call0_v0_apply, val_main_call0_cst_apply]
    exact congrArg (max (x2 i)) Ideal.ofBits_zero_f32
  have h6 : val_main_v6 (F := Ideal) x2 i = BitVec.ofBool (decide (0 < x2 i)) := by
    rw [val_main_v6_apply, val_main_v3_apply, val_main_v5_apply, val_main_cst_0_apply]
    show BitVec.ofBool (decide (Ideal.ofBits .f32 0x00000000#32 < x2 i)) = _
    rw [Ideal.ofBits_zero_f32]
  have h16 : val_main_v16 (F := Ideal) i = 0 := by
    rw [val_main_v16_apply, val_main_cst_2_apply]; exact Ideal.ofBits_zero_f32
  have hu : nat2 (n := 4096) (m := 8192) x2 (i 0).val (i 1).val = x2 i := nat2_idx (n := 4096) (m := 8192) x2 i _ _ rfl rfl
  rw [val_main_v18_apply]
  show val_main_v17 (F := Ideal) x0 x1 x2 i = _
  rw [val_main_v17_apply, h6, h16, val_main_v15_apply, val_main_v13_apply, val_main_v14_apply, h4, r12]
  unfold downDx
  rw [hu, ← relu2_grad]
  by_cases h : 0 < x2 i
  · rw [if_pos h, decide_eq_true h]; rfl
  · rw [if_neg h, decide_eq_false h]; rfl

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v18) = downDx (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1.trans (val_main_v18_eq _ _ _)).trans (funext fun i => r18 _ _ _ i), (h c).2⟩)
    (Cert.DownDxRefIdeal.Value.run (F := Ideal) m g)

end Cert.DownDxRefIdeal.Mm

namespace Cert.Mm.DownDx

/-- The kernel, at machine words, runs and leaves its arguments alone. -/
theorem frame_P : @Cert.quiescent_DownDx Cert.DownDx.Gen.facts := fun m g _ => Cert.DownDx.Gen.frame m g

/-- The kernel, at extended reals, runs and leaves its arguments alone. -/
theorem frame_PI : @Cert.quiescent_DownDxIdeal Cert.DownDxIdeal.Gen.facts := fun m g _ => Cert.DownDxIdeal.Gen.frame m g

/-- The reference runs and leaves its arguments alone. -/
theorem frame_RI : @Cert.quiescent_DownDxRefIdeal Cert.DownDxRefIdeal.Gen.facts := fun m g _ =>
  (θ_run Cert.DownDxRefIdeal.defs _ _).mono (fun r h => ⟨fun c => (h c).2, sem_eq_zero_of_no_sems (by decide) r.2⟩)
    (Cert.DownDxRefIdeal.Value.run (F := Ideal) m g)

/-- From the same arguments the kernel and the reference leave the same array. -/
theorem algebraic : @Cert.algebraic_DownDxIdeal_DownDxRefIdeal Cert.DownDxIdeal.Gen.facts Cert.DownDxRefIdeal.Gen.facts := by
  intro m g m' g' _ hag
  have hr := Cert.DownDxRefIdeal.Mm.run m' g'
  refine ⟨_, Cert.DownDxIdeal.Mm.run m g, (θ_run Cert.DownDxRefIdeal.defs _ _).mono (fun r h c => ⟨(h c).1.trans ?_, (h c).2⟩) hr⟩
  rw [(hag c).1, (hag c).2.1, (hag c).2.2]

end Cert.Mm.DownDx

end
-- ==== Proof.MmUpDx.lean ====
/-
  The gradient of the first product of the feed-forward layer by its input: the kernel's result array, element by element. The
  kernel takes the hidden axis in four steps of two parts and keeps the running sum between the steps.
-/
module

public import proofs.«01_k».proof.Proof.MmSpec
public import proofs.«01_k».proof.Proof.Gen.UpDxIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- What the call returns: the cotangent by the rows of the weights, whose columns are kept as blocks. -/
def upDx (x : (⟨2, ![4096, 8192]⟩ : Shape).Idx → EReal) (w : (⟨3, ![8, 2048, 1024]⟩ : Shape).Idx → EReal)
    (i : (⟨2, ![4096, 2048]⟩ : Shape).Idx) : EReal :=
  nt 8192 (nat2 x) (cols w) (i 0).val (i 1).val

end Cert.Mm

namespace Cert.UpDxIdeal.Mm

open Cert.UpDxIdeal Cert.UpDxIdeal.Gen Cert.UpDxIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S1024x2048 .bf16) (harg3 : arg3.IsWhole)
variable (arg4 : Memref sig .tc .vmem S2x1024x1024 .bf16) (harg4 : arg4.IsWhole)
variable (arg5 : Memref sig .tc .vmem S1024x1024 .bf16) (harg5 : arg5.IsWhole)
variable (arg6 : Memref sig .tc .vmem S1024x1024 .f32) (harg6 : arg6.IsWhole)
variable (x0 : Vec F S1024x2048 .bf16) (x1 : Vec F S2x1024x1024 .bf16) (xs0 : Vec F S1024x1024 .f32)

abbrev rW : Rect S1024x1024 := Rect.unit (s := S1024x1024) ![0, 0] S1024x1024.size inb_S1024x1024_S1024x1024_0_0
abbrev rL0 : Rect S1024x2048 := Rect.unit (s := S1024x2048) ![0, 0] S1024x1024.size inb_S1024x2048_S1024x1024_0_0
abbrev rL1 : Rect S1024x2048 := Rect.unit (s := S1024x2048) ![0, 1024] S1024x1024.size inb_S1024x2048_S1024x1024_0_1024
abbrev rR0 : Rect S2x1024x1024 := Rect.unit (s := S2x1024x1024) ![0, 0, 0] S1x1024x1024.size inb_S2x1024x1024_S1x1024x1024_0_0_0
abbrev rR1 : Rect S2x1024x1024 := Rect.unit (s := S2x1024x1024) ![1, 0, 0] S1x1024x1024.size inb_S2x1024x1024_S1x1024x1024_1_0_0

/-- What the first step stores in the running sum. -/
theorem runA (hc0 : cond0_0 i) (hc1 : cond0_1 i) (hc2 : ¬cond0_2 i) :
    (kernelRun0_A c i arg3 harg3 arg4 harg4 arg5 harg5 arg6 harg6 hc0 hc1 hc2 x0 x1).2.1
      = [⟨rW, k0_pay2 (arg6.view.readCov [⟨rW, k0_pay1⟩] rW.toLoadRect) (View.readAt (Elt F) arg3.view rL0.toLoadRect (harg3.unread x0))
          (View.readAt (Elt F) arg4.view rR0.toLoadRect (harg4.unread x1)) (View.readAt (Elt F) arg3.view rL1.toLoadRect (harg3.unread x0))
          (View.readAt (Elt F) arg4.view rR1.toLoadRect (harg4.unread x1))⟩, ⟨rW, k0_pay1⟩] := rfl

/-- What a middle step stores in the running sum. -/
theorem runB (hc0 : ¬cond0_0 i) (hc1 : cond0_1 i) (hc2 : ¬cond0_2 i) :
    (kernelRun0_B c i arg3 harg3 arg4 harg4 arg5 harg5 arg6 harg6 hc0 hc1 hc2 x0 x1 xs0).2.1
      = [⟨rW, k0_pay2 (View.readAt (Elt F) arg6.view rW.toLoadRect (harg6.unread xs0)) (View.readAt (Elt F) arg3.view rL0.toLoadRect (harg3.unread x0))
          (View.readAt (Elt F) arg4.view rR0.toLoadRect (harg4.unread x1)) (View.readAt (Elt F) arg3.view rL1.toLoadRect (harg3.unread x0))
          (View.readAt (Elt F) arg4.view rR1.toLoadRect (harg4.unread x1))⟩] := rfl

/-- What the last step stores in the result's block. -/
theorem runC (hc0 : ¬cond0_0 i) (hc1 : ¬cond0_1 i) (hc2 : cond0_2 i) :
    (kernelRun0_C c i arg3 harg3 arg4 harg4 arg5 harg5 arg6 harg6 hc0 hc1 hc2 x0 x1 xs0).1
      = [⟨rW, k0_pay3 (View.readAt (Elt F) arg6.view rW.toLoadRect (harg6.unread xs0)) (View.readAt (Elt F) arg3.view rL0.toLoadRect (harg3.unread x0))
          (View.readAt (Elt F) arg4.view rR0.toLoadRect (harg4.unread x1)) (View.readAt (Elt F) arg3.view rL1.toLoadRect (harg3.unread x0))
          (View.readAt (Elt F) arg4.view rR1.toLoadRect (harg4.unread x1))⟩] := rfl

end Runs

variable (c : Dev nD) (i : grid0.Coords)
variable (arg3 : Memref sig .tc .vmem S1024x2048 .bf16) (harg3 : arg3.IsWhole)
variable (arg4 : Memref sig .tc .vmem S2x1024x1024 .bf16) (harg4 : arg4.IsWhole)
variable (arg5 : Memref sig .tc .vmem S1024x1024 .bf16) (harg5 : arg5.IsWhole)
variable (arg6 : Memref sig .tc .vmem S1024x1024 .f32) (harg6 : arg6.IsWhole)
variable (x0 : Vec Ideal S1024x2048 .bf16) (x1 : Vec Ideal S2x1024x1024 .bf16) (xs0 : Vec Ideal S1024x1024 .f32)

theorem hz2 : (![0, 0] : Fin 2 → ℕ) = fun _ => 0 := funext fun a => by fin_cases a <;> rfl

/-- A step's contribution. -/
def part (y : S1024x1024.Idx) : EReal :=
  ∑ k : Fin 1024, x0 (rL0.emb (ValueIdx.ix2 (y 0) k)) * x1 (rR0.emb (ValueIdx.ix3 0 (y 1) k))
    + ∑ k : Fin 1024, x0 (rL1.emb (ValueIdx.ix2 (y 0) k)) * x1 (rR1.emb (ValueIdx.ix3 0 (y 1) k))

/-- What a step stores in the running sum, element by element. -/
theorem pay2_read (y : S1024x1024.Idx) : k0_pay2 (F := Ideal) xs0 (View.ld x0 rL0) (View.ld x1 rR0) (View.ld x0 rL1) (View.ld x1 rR1) y = xs0 y + part x0 x1 y := by
  unfold k0_pay2
  refine (same_read _ _ y).trans (congrArg (xs0 y + ·) (congrArg₂ (· + ·) ?_ ?_))
  · refine (nt_read (M := 1024) (K := 1024) (N := 1024) (φ₁ := .bf16) (φ₂ := .bf16) none _ _ y).trans (Finset.sum_congr rfl fun k _ => ?_)
    exact congrArg (_ * ·) (drop_read (R := 1024) (C := 1024) _ _ (ValueIdx.ix2 (y 1) k))
  · refine (nt_read (M := 1024) (K := 1024) (N := 1024) (φ₁ := .bf16) (φ₂ := .bf16) none _ _ y).trans (Finset.sum_congr rfl fun k _ => ?_)
    exact congrArg (_ * ·) (drop_read (R := 1024) (C := 1024) _ _ (ValueIdx.ix2 (y 1) k))

/-- What the last step stores in the result's block, element by element. -/
theorem pay3_read (y : S1024x1024.Idx) : k0_pay3 (F := Ideal) xs0 (View.ld x0 rL0) (View.ld x1 rR0) (View.ld x0 rL1) (View.ld x1 rR1) y = xs0 y + part x0 x1 y := by
  rw [← pay2_read]
  exact (same_read _ _ y).symm

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 hc0 hc1 hc2 x0 x1 y = part x0 x1 y := by
  unfold sout0_A_0
  rw [runA, View.read_writes_full, View.readCov_full]
  simp only [View.readAt_eq_ld, Memref.IsWhole.read_unread]
  rw [pay2_read, pay1_read, zero_add]

/-- The running sum after a middle step. -/
theorem sumB (hc0 : ¬cond0_0 i) (hc1 : cond0_1 i) (hc2 : ¬cond0_2 i) (y : S1024x1024.Idx) :
    sout0_B_0 (F := Ideal) c i arg3 harg3 arg4 harg4 arg5 harg5 arg6 harg6 hc0 hc1 hc2 x0 x1 xs0 y = xs0 y + part x0 x1 y := by
  unfold sout0_B_0
  rw [runB, View.read_writes_full]
  simp only [View.readAt_eq_ld, Memref.IsWhole.read_unread]
  rw [View.ld_unit_zero (S := S1024x1024) hz2, pay2_read]

/-- The result's block after the last step. -/
theorem resC (hc0 : ¬cond0_0 i) (hc1 : ¬cond0_1 i) (hc2 : cond0_2 i) (y : S1024x1024.Idx) :
    out0_C_2 (F := Ideal) c i arg3 harg3 arg4 harg4 arg5 harg5 arg6 harg6 hc0 hc1 hc2 x0 x1 xs0 y = xs0 y + part x0 x1 y := by
  unfold out0_C_2
  rw [runC, View.read_writes_full]
  simp only [View.readAt_eq_ld, Memref.IsWhole.read_unread]
  rw [View.ld_unit_zero (S := S1024x1024) hz2, pay3_read]

end Cert.UpDxIdeal.Mm

namespace Cert.UpDxIdeal.Mm

open Cert.UpDxIdeal Cert.UpDxIdeal.Gen Cert.UpDxIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val / 8 ∧ win0_0.index t 1 = t.val % 4
    ∧ win0_1.index t 0 = t.val % 4 ∧ win0_1.index t 1 = t.val / 4 % 2 ∧ win0_1.index t 2 = 0
    ∧ win0_2.index t 0 = t.val / 8 ∧ win0_2.index t 1 = t.val / 4 % 2 :=
  (by decide +kernel : ∀ t : Fin grid0.N, _)

/-- The cotangent's block. -/
theorem blk0 (c : Dev nD) (t : Fin cfg0.N) (y : S1024x2048.Idx) : (iblk m c 0 t : Vec Ideal S1024x2048 .bf16) y
    = nat2 (n := 4096) (m := 8192) (m ((c : Thread nD τ).loc main_arg0)) (win0_0.index t 0 * 1024 + (y 0).val) (win0_0.index t 1 * 2048 + (y 1).val) := by
  refine (nat2_idx (n := 4096) (m := 8192) (m ((c : Thread nD τ).loc main_arg0)) _ _ _ ?_ ?_).symm
  · show _ = win0_0.index t 0 * 1024 + 1 * (y 0).val; omega
  · show _ = win0_0.index t 1 * 2048 + 1 * (y 1).val; omega

/-- The weights' blocks. -/
theorem blk1 (c : Dev nD) (t : Fin cfg0.N) (y : S2x1024x1024.Idx) : (iblk m c 1 t : Vec Ideal S2x1024x1024 .bf16) y
    = nat3 (l := 8) (n := 2048) (m := 1024) (m ((c : Thread nD τ).loc main_arg1)) (win0_1.index t 0 * 2 + (y 0).val) (win0_1.index t 1 * 1024 + (y 1).val) (win0_1.index t 2 * 1024 + (y 2).val) := by
  refine (nat3_idx (l := 8) (n := 2048) (m := 1024) (m ((c : Thread nD τ).loc main_arg1)) _ _ _ _ ?_ ?_ ?_).symm
  · show _ = win0_1.index t 0 * 2 + 1 * (y 0).val; omega
  · show _ = win0_1.index t 1 * 1024 + 1 * (y 1).val; omega
  · show _ = win0_1.index t 2 * 1024 + 1 * (y 2).val; omega

/-- The product's terms at an index of the point's block. -/
def term (c : Dev nD) (n : ℕ) (y : S1024x1024.Idx) (k : ℕ) : EReal :=
  nat2 (n := 4096) (m := 8192) (m ((c : Thread nD τ).loc main_arg0)) (n / 8 * 1024 + (y 0).val) k
    * cols (l := 8) (n := 2048) (w := 1024) (m ((c : Thread nD τ).loc main_arg1)) (n / 4 % 2 * 1024 + (y 1).val) k

/-- A step's contribution continues the sum of the terms. -/
theorem part_read (c : Dev nD) (t : Fin cfg0.N) (y : S1024x1024.Idx) :
    ∑ k ∈ Finset.range (t.val % 4 * 2048), term m c t.val y k + part (iblk m c 0 t) (iblk m c 1 t) y
      = ∑ k ∈ Finset.range ((t.val % 4 + 1) * 2048), term m c t.val y k := by
  obtain ⟨e00, e01, e10, e11, e12, -, -⟩ := index_of t
  unfold part
  rw [← add_assoc, sum_more (t.val % 4 * 2048) _ (term m c t.val y) fun k => ?_, sum_more (t.val % 4 * 2048 + 1024) _ (term m c t.val y) fun k => ?_]
  · congr 2; omega
  · have hk := k.isLt
    rw [blk0, blk1, e00, e01, e10, e11, e12]
    refine congrArg₂ (· * ·) (congrArg₂ _ ?_ ?_) ?_
    · show t.val / 8 * 1024 + (0 + 1 * (y 0).val) = _; omega
    · show t.val % 4 * 2048 + (1024 + 1 * k.val) = _; omega
    · show nat3 _ (t.val % 4 * 2 + (1 + 1 * 0)) (t.val / 4 % 2 * 1024 + (0 + 1 * (y 1).val)) (0 * 1024 + (0 + 1 * k.val)) = nat3 _ _ _ _
      congr 1 <;> omega
  · have hk := k.isLt
    rw [blk0, blk1, e00, e01, e10, e11, e12]
    refine congrArg₂ (· * ·) (congrArg₂ _ ?_ ?_) ?_
    · show t.val / 8 * 1024 + (0 + 1 * (y 0).val) = _; omega
    · show t.val % 4 * 2048 + (0 + 1 * k.val) = _; omega
    · show nat3 _ (t.val % 4 * 2 + (0 + 1 * 0)) (t.val / 4 % 2 * 1024 + (0 + 1 * (y 1).val)) (0 * 1024 + (0 + 1 * k.val)) = nat3 _ _ _ _
      congr 1 <;> omega

/-- The terms depend on the point's block of the result only. -/
theorem term_pred (c : Dev nD) (n : ℕ) (h : ¬(n + 1) % 4 = 0) (y : S1024x1024.Idx) : term m c n y = term m c (n + 1) y := by
  unfold term
  rw [show (n + 1) / 8 = n / 8 by omega, show (n + 1) / 4 % 2 = n / 4 % 2 by omega]

/-- The running sum after the first step of a block of the result. -/
theorem sum_first (c : Dev nD) (t : Fin cfg0.N) (h0 : t.val % 4 = 0) (y : S1024x1024.Idx) :
    (outsAt0 m c t.val t.isLt).2 y = ∑ k ∈ Finset.range ((t.val % 4 + 1) * 2048), term m c t.val y k := by
  rw [← part_read m c t y, h0, Nat.zero_mul, Finset.sum_range_zero, zero_add, outsAt0_A m c t h0 (by omega) (by omega)]
  dsimp only
  rw [sumA]

/-- The running sum after a middle step, from the sum after the step before. -/
theorem sum_next (c : Dev nD) (t : Fin cfg0.N) (h0 : ¬t.val % 4 = 0) (h2 : ¬t.val % 4 = 3) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h0 (by omega) h2]
  dsimp only
  rw [sumB]

/-- The result's block after the last step, from the sum after the step before. -/
theorem res_last (c : Dev nD) (t : Fin cfg0.N) (h2 : t.val % 4 = 3) (y : S1024x1024.Idx) :
    (dats m 0 c).flushed 2 t y
      = (outsAt0 m c (t.val - 1) (Nat.lt_of_le_of_lt (Nat.sub_le _ _) t.isLt)).2 y + part (iblk m c 0 t) (iblk m c 1 t) y := by
  rw [flushed2_C m c t (by omega) (by omega) h2]
  exact resC _ _ _ _ _ _ _ _ _ _ _ _ (outsAt0 m c (t.val - 1) (Nat.lt_of_le_of_lt (Nat.sub_le _ _) t.isLt)).2 _ _ _ y

/-- The running sum after a point that is not the last of its block of the result. -/
theorem sum_at (c : Dev nD) (y : S1024x1024.Idx) : ∀ (n : ℕ) (hn : n < cfg0.N), ¬n % 4 = 3 →
    (outsAt0 m c n hn).2 y = ∑ k ∈ Finset.range ((n % 4 + 1) * 2048), term m c n y k := by
  intro n
  induction n with
  | zero => exact fun hn _ => sum_first m c ⟨0, hn⟩ rfl y
  | succ n ih =>
    intro hn h3
    by_cases h0 : (n + 1) % 4 = 0
    · exact sum_first m c ⟨n + 1, hn⟩ h0 y
    · refine (sum_next m c ⟨n + 1, hn⟩ h0 h3 y).trans (Eq.trans (congrArg (· + _) ?_) (part_read m c ⟨n + 1, hn⟩ y))
      refine (ih (by omega) (by omega)).trans ?_
      show _ = ∑ k ∈ Finset.range ((n + 1) % 4 * 2048), term m c (n + 1) y k
      rw [show n % 4 + 1 = (n + 1) % 4 by omega]
      exact Finset.sum_congr rfl fun k _ => congrFun (term_pred m c n h0 y) k

/-- What the last step leaves in the result's block. -/
theorem out_read (c : Dev nD) (t : Fin cfg0.N) (h2 : t.val % 4 = 3) (y : S1024x1024.Idx) :
    (dats m 0 c).flushed 2 t y = ∑ k ∈ Finset.range 8192, term m c t.val y k := by
  obtain ⟨n, hn⟩ := t
  obtain ⟨n, rfl⟩ : ∃ n', n = n' + 1 := ⟨n - 1, by dsimp only at h2; omega⟩
  dsimp only at h2
  refine (res_last m c ⟨n + 1, hn⟩ h2 y).trans (Eq.trans (congrArg (· + _) ?_) ((part_read m c ⟨n + 1, hn⟩ y).trans (by dsimp only; rw [h2])))
  refine (sum_at m c y n (by omega) (by omega)).trans ?_
  show _ = ∑ k ∈ Finset.range ((n + 1) % 4 * 2048), term m c (n + 1) y k
  rw [show n % 4 + 1 = (n + 1) % 4 by omega]
  exact Finset.sum_congr rfl fun k _ => congrFun (term_pred m c n (by omega) y) k

/-- The result array. -/
theorem final (c : Dev nD) : (dats m 0 c).arrAt 2 cfg0.N
    = upDx (m ((c : Thread nD τ).loc main_arg0)) (m ((c : Thread nD τ).loc main_arg1)) := by
  refine (dats m 0 c).arrAt_eq_of_cover 2 (upDx (m ((c : Thread nD τ).loc main_arg0)) (m ((c : Thread nD τ).loc main_arg1)) : S4096x2048.Idx → EReal) (fun t hf => ?_) fun i => ?_
  · have h2 := (flush0_2 t).mp hf
    obtain ⟨-, -, -, -, -, e0, e1⟩ := index_of t
    funext y
    refine (out_read m c t h2 y).trans ?_
    unfold term
    have h0 : t.val / 8 * 1024 + (y 0).val = win0_2.index t 0 * 1024 + 1 * (y 0).val := by rw [e0]; omega
    have h1 : t.val / 4 % 2 * 1024 + (y 1).val = win0_2.index t 1 * 1024 + 1 * (y 1).val := by rw [e1]; omega
    rw [h0, h1]
    rfl
  · have h0 : (i 0 : ℕ) < 4096 := (i 0).isLt
    have h1 : (i 1 : ℕ) < 2048 := (i 1).isLt
    have ht : 8 * ((i 0 : ℕ) / 1024) + 4 * ((i 1 : ℕ) / 1024) + 3 < cfg0.N := by rw [show cfg0.N = 32 from N_0]; omega
    refine ⟨⟨8 * ((i 0 : ℕ) / 1024) + 4 * ((i 1 : ℕ) / 1024) + 3, ht⟩, (flush0_2 _).mpr (by dsimp only; omega), ?_⟩
    obtain ⟨-, -, -, -, -, e0, e1⟩ := index_of ⟨8 * ((i 0 : ℕ) / 1024) + 4 * ((i 1 : ℕ) / 1024) + 3, ht⟩
    show i ∈ ((View.whole main_v0).slice (win0_2.rect ⟨8 * ((i 0 : ℕ) / 1024) + 4 * ((i 1 : ℕ) / 1024) + 3, ht⟩)).set
    rw [View.set_slice_whole, Rect.mem_set_unit]
    intro a
    fin_cases a
    · show win0_2.index _ 0 * 1024 ≤ (i 0 : ℕ) ∧ (i 0 : ℕ) < win0_2.index _ 0 * 1024 + 1024
      rw [e0]; dsimp only; omega
    · show win0_2.index _ 1 * 1024 ≤ (i 1 : ℕ) ∧ (i 1 : ℕ) < win0_2.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = upDx (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.UpDxIdeal.Mm

end
-- ==== Proof.MmUpDxClaim.lean ====
/-
  The gradient of the first product of the feed-forward layer by its input by the reference, and the claims of this call.
-/
module

public import proofs.«01_k».proof.Defs
public import proofs.«01_k».proof.Proof.MmUpDx
public import proofs.«01_k».proof.Proof.Gen.UpDx.Frame
public import proofs.«01_k».proof.Proof.Gen.UpDxRefIdeal.Read

@[expose] public section

set_option maxRecDepth 65536

noncomputable section

open Idealize.ShloMosaic Idealize.ShloMosaic.TcCoe Idealize.SL.Sem
open scoped BigOperators

namespace Cert.UpDxRefIdeal.Mm

open Cert.UpDxRefIdeal Cert.UpDxRefIdeal.Read Cert.Mm Idealize.ShloMosaic.StableHlo
open Cert.Mix (nat2 nat3 nat2_idx nat3_idx)

variable (x0 : S4096x8192.Idx → EReal) (x1 : S8x2048x1024.Idx → EReal)

/-- The weights joined. -/
theorem joined (i : S2048x8192.Idx) : val_main_v2 (F := Ideal) x1 i = cols (l := 8) (n := 2048) (w := 1024) x1 (i 0).val (i 1).val := by
  have h1 : (i 1).val < 8192 := (i 1).isLt
  rw [val_main_v2_apply, val_main_v1_apply, val_main_v0_apply]
  refine (nat3_idx (l := 8) (n := 2048) (m := 1024) x1 _ _ _ _ ?_ ?_ ?_).symm
  · show (i 1).val / 1024 = ((i 0).val * 8192 + (i 1).val) / 1024 % 8; omega
  · show (i 0).val = ((i 0).val * 8192 + (i 1).val) / 8192; omega
  · show (i 1).val % 1024 = ((i 0).val * 8192 + (i 1).val) % 1024; omega

/-- The result. -/
theorem rres (i : S4096x2048.Idx) : val_main_v7 (F := Ideal) x0 x1 i = upDx x0 x1 i := by
  rw [val_main_v7_apply]
  show val_main_v6 (F := Ideal) x0 x1 i = _
  rw [val_main_v6_apply]
  unfold upDx
  refine sum_fin _ _ fun k => congrArg₂ (· * ·) ?_ (joined x1 _)
  rw [val_main_v5_apply]
  exact (nat2_idx (n := 4096) (m := 8192) x0 _ _ _ rfl rfl).symm

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v7) = upDx (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v7_eq _ _)).trans (funext fun i => rres _ _ i), (h c).2⟩)
    (Cert.UpDxRefIdeal.Value.run (F := Ideal) m g)

end Cert.UpDxRefIdeal.Mm

namespace Cert.Mm.UpDx

/-- The kernel, at machine words, runs and leaves its arguments alone. -/
theorem frame_P : @Cert.quiescent_UpDx Cert.UpDx.Gen.facts := fun m g _ => Cert.UpDx.Gen.frame m g

/-- The kernel, at extended reals, runs and leaves its arguments alone. -/
theorem frame_PI : @Cert.quiescent_UpDxIdeal Cert.UpDxIdeal.Gen.facts := fun m g _ => Cert.UpDxIdeal.Gen.frame m g

/-- The reference runs and leaves its arguments alone. -/
theorem frame_RI : @Cert.quiescent_UpDxRefIdeal Cert.UpDxRefIdeal.Gen.facts := fun m g _ =>
  (θ_run Cert.UpDxRefIdeal.defs _ _).mono (fun r h => ⟨fun c => (h c).2, sem_eq_zero_of_no_sems (by decide) r.2⟩)
    (Cert.UpDxRefIdeal.Value.run (F := Ideal) m g)

/-- From the same arguments the kernel and the reference leave the same array. -/
theorem algebraic : @Cert.algebraic_UpDxIdeal_UpDxRefIdeal Cert.UpDxIdeal.Gen.facts Cert.UpDxRefIdeal.Gen.facts := by
  intro m g m' g' _ hag
  have hr := Cert.UpDxRefIdeal.Mm.run m' g'
  refine ⟨_, Cert.UpDxIdeal.Mm.run m g, (θ_run Cert.UpDxRefIdeal.defs _ _).mono (fun r h c => ⟨(h c).1.trans ?_, (h c).2⟩) hr⟩
  rw [(hag c).1, (hag c).2]

end Cert.Mm.UpDx

end
-- ==== Proof.MmOutDx.lean ====
/-
  The gradient of the mixer's output projection by its input: the kernel's result array, element by element.
-/
module

public import proofs.«01_k».proof.Proof.MmSpec
public import proofs.«01_k».proof.Proof.Gen.OutDxIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- What the call returns: the cotangent by the rows of the weights, which are kept as blocks of rows. -/
def outDx (x : (⟨2, ![4096, 2048]⟩ : Shape).Idx → EReal) (w : (⟨3, ![8, 256, 2048]⟩ : Shape).Idx → EReal)
    (i : (⟨2, ![4096, 2048]⟩ : Shape).Idx) : EReal :=
  nt 2048 (nat2 x) (rows w) (i 0).val (i 1).val

end Cert.Mm

namespace Cert.OutDxIdeal.Mm

open Cert.OutDxIdeal Cert.OutDxIdeal.Gen Cert.OutDxIdeal.Value Cert.Mm
open Cert.Mix (nat2 nat3 nat2_idx nat3_idx)

variable (m : (ℓ : Loc nD τ sig) → Buf (Elt Ideal) ℓ) (ρ : Dev nD → PrngReg)

/-- The blocks the point's windows look at, by the block of the result it writes. -/
theorem index_of : ∀ t : Fin cfg0.N, win0_0.index t 0 = win0_2.index t 0 ∧ win0_0.index t 1 = 0
    ∧ win0_1.index t 0 = 0 ∧ win0_1.index t 1 = win0_2.index t 1 ∧ win0_1.index t 2 = 0
    ∧ win0_2.index t 0 = t.val / 2 ∧ win0_2.index t 1 = t.val % 2 :=
  (by decide +kernel : ∀ t : Fin grid0.N, _)

/-- The weights as the kernel is given them. -/
theorem V_w (c : Dev nD) : V m c main_v0 = shapeCast S1x2048x2048 (m ((c : Thread nD τ).loc main_arg1) : S8x256x2048.Idx → EReal) shapeCasts_S8x256x2048_S1x2048x2048 := rfl

/-- The cotangent's block. -/
theorem blk0 (c : Dev nD) (t : Fin cfg0.N) (y : S1024x2048.Idx) : (iblk m c 0 t : Vec Ideal S1024x2048 .bf16) y
    = nat2 (n := 4096) (m := 2048) (m ((c : Thread nD τ).loc main_arg0)) (win0_0.index t 0 * 1024 + (y 0).val) (win0_0.index t 1 * 2048 + (y 1).val) := by
  refine (nat2_idx (n := 4096) (m := 2048) (m ((c : Thread nD τ).loc main_arg0)) _ _ _ ?_ ?_).symm
  · show _ = win0_0.index t 0 * 1024 + 1 * (y 0).val; omega
  · show _ = win0_0.index t 1 * 2048 + 1 * (y 1).val; omega

/-- The weights' block. -/
theorem blk1 (c : Dev nD) (t : Fin cfg0.N) (y : S1x1024x2048.Idx) : (iblk m c 1 t : Vec Ideal S1x1024x2048 .bf16) y
    = rows (l := 8) (h := 256) (n := 2048) (m ((c : Thread nD τ).loc main_arg1)) (win0_1.index t 1 * 1024 + (y 1).val) (win0_1.index t 2 * 2048 + (y 2).val) := by
  show V m c main_v0 _ = _
  rw [V_w]
  refine (join_blocks (l := 8) (h := 256) (n := 2048) (r := 2048) _ _ rfl _).trans ?_
  refine congrArg₂ _ ?_ ?_
  · show win0_1.index t 1 * 1024 + 1 * (y 1).val = _; omega
  · show win0_1.index t 2 * 2048 + 1 * (y 2).val = _; omega

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point stores, element by element. -/
theorem pay_read (v0 : Vec Ideal S1024x2048 .bf16) (v1 : Vec Ideal S1x1024x2048 .bf16) (y : S1024x1024.Idx) :
    k0_pay1 v0 v1 y = ∑ k : Fin 2048, v0 (ValueIdx.ix2 (y 0) k) * v1 (ValueIdx.ix3 0 (y 1) k) := by
  refine (nt_read (M := 1024) (K := 2048) (N := 1024) (φ₁ := .bf16) (φ₂ := .bf16) none v0 _ y).trans (Finset.sum_congr rfl fun k _ => ?_)
  exact congrArg (_ * ·) (drop_read (R := 1024) (C := 2048) v1 _ (ValueIdx.ix2 (y 1) k))

/-- What the point leaves in the result's block. -/
theorem out_read (c : Dev nD) (t : Fin cfg0.N) (y : S1024x1024.Idx) : out0_2 (iblk m c 0 t) (iblk m c 1 t) y
    = nt 2048 (nat2 (n := 4096) (m := 2048) (m ((c : Thread nD τ).loc main_arg0))) (rows (l := 8) (h := 256) (n := 2048) (m ((c : Thread nD τ).loc main_arg1)))
        (win0_2.index t 0 * 1024 + (y 0).val) (win0_2.index t 1 * 1024 + (y 1).val) := by
  obtain ⟨e00, e01, e10, e11, e12, -, -⟩ := index_of t
  unfold out0_2
  rw [View.canon_unit_zero (S := S1024x1024) hz2, View.ld_unit_zero (S := S1024x2048) hz2, View.ld_unit_zero (S := S1x1024x2048) hz3]
  refine (pay_read _ _ y).trans (sum_fin _ _ fun k => ?_)
  rw [blk0, blk1, e00, e01, e11, e12]
  exact congrArg₂ (· * ·) (congrArg₂ _ rfl (by show 0 * 2048 + k.val = k.val; omega)) (congrArg₂ _ rfl (by show 0 * 2048 + k.val = k.val; omega))

/-- The result array. -/
theorem final (c : Dev nD) : (dats m 0 c).arrAt 2 cfg0.N
    = outDx (m ((c : Thread nD τ).loc main_arg0)) (m ((c : Thread nD τ).loc main_arg1)) := by
  refine (dats m 0 c).arrAt_eq_of_cover 2 (outDx (m ((c : Thread nD τ).loc main_arg0)) (m ((c : Thread nD τ).loc main_arg1)) : S4096x2048.Idx → EReal) (fun t _ => ?_) fun i => ?_
  · rw [flushed2]
    funext y
    refine (out_read m c t y).trans ?_
    have h0 : win0_2.index t 0 * 1024 + (y 0).val = win0_2.index t 0 * 1024 + 1 * (y 0).val := by omega
    have h1 : win0_2.index t 1 * 1024 + (y 1).val = win0_2.index t 1 * 1024 + 1 * (y 1).val := by omega
    rw [h0, h1]
    rfl
  · have h0 : (i 0 : ℕ) < 4096 := (i 0).isLt
    have h1 : (i 1 : ℕ) < 2048 := (i 1).isLt
    have ht : 2 * ((i 0 : ℕ) / 1024) + (i 1 : ℕ) / 1024 < cfg0.N := by rw [show cfg0.N = 8 from N_0]; omega
    refine ⟨⟨2 * ((i 0 : ℕ) / 1024) + (i 1 : ℕ) / 1024, ht⟩, flush0_2 _, ?_⟩
    obtain ⟨-, -, -, -, -, e0, e1⟩ := index_of ⟨2 * ((i 0 : ℕ) / 1024) + (i 1 : ℕ) / 1024, ht⟩
    show i ∈ ((View.whole main_v1).slice (win0_2.rect ⟨2 * ((i 0 : ℕ) / 1024) + (i 1 : ℕ) / 1024, ht⟩)).set
    rw [View.set_slice_whole, Rect.mem_set_unit]
    intro a
    fin_cases a
    · show win0_2.index _ 0 * 1024 ≤ (i 0 : ℕ) ∧ (i 0 : ℕ) < win0_2.index _ 0 * 1024 + 1024
      rw [e0]; dsimp only; omega
    · show win0_2.index _ 1 * 1024 ≤ (i 1 : ℕ) ∧ (i 1 : ℕ) < win0_2.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v1) = outDx (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.OutDxIdeal.Mm

end
-- ==== Proof.MmOutDxClaim.lean ====
/-
  The gradient of the mixer's output projection by its input by the reference, and the claims of this call.
-/
module

public import proofs.«01_k».proof.Defs
public import proofs.«01_k».proof.Proof.MmOutDx
public import proofs.«01_k».proof.Proof.Gen.OutDx.Frame
public import proofs.«01_k».proof.Proof.Gen.OutDxRefIdeal.Read

@[expose] public section

set_option maxRecDepth 65536

noncomputable section

open Idealize.ShloMosaic Idealize.ShloMosaic.TcCoe Idealize.SL.Sem
open scoped BigOperators

namespace Cert.OutDxRefIdeal.Mm

open Cert.OutDxRefIdeal Cert.OutDxRefIdeal.Read Cert.Mm Idealize.ShloMosaic.StableHlo
open Cert.Mix (nat2 nat3 nat2_idx nat3_idx)

variable (x0 : S4096x2048.Idx → EReal) (x1 : S8x256x2048.Idx → EReal)

/-- The weights joined. -/
theorem joined (i : S2048x2048.Idx) : val_main_v1 (F := Ideal) x1 i = rows (l := 8) (h := 256) (n := 2048) x1 (i 0).val (i 1).val := by
  have h1 : (i 1).val < 2048 := (i 1).isLt
  rw [val_main_v1_apply, val_main_v0_apply]
  refine (nat3_idx (l := 8) (n := 256) (m := 2048) x1 _ _ _ _ ?_ ?_ ?_).symm
  · show (i 0).val / 256 = ((i 0).val * 2048 + (i 1).val) / 524288; omega
  · show (i 0).val % 256 = ((i 0).val * 2048 + (i 1).val) / 2048 % 256; omega
  · show (i 1).val = ((i 0).val * 2048 + (i 1).val) % 2048; omega

/-- The result. -/
theorem rres (i : S4096x2048.Idx) : val_main_v8 (F := Ideal) x0 x1 i = outDx x0 x1 i := by
  rw [val_main_v8_apply]
  show val_main_v7 (F := Ideal) x0 x1 i = _
  rw [val_main_v7_apply]
  unfold outDx
  refine sum_fin _ _ fun k => congrArg₂ (· * ·) ?_ (joined x1 _)
  rw [val_main_v6_apply]
  exact (nat2_idx (n := 4096) (m := 2048) x0 _ _ _ rfl rfl).symm

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v8) = outDx (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v8_eq _ _)).trans (funext fun i => rres _ _ i), (h c).2⟩)
    (Cert.OutDxRefIdeal.Value.run (F := Ideal) m g)

end Cert.OutDxRefIdeal.Mm

namespace Cert.Mm.OutDx

/-- The kernel, at machine words, runs and leaves its arguments alone. -/
theorem frame_P : @Cert.quiescent_OutDx Cert.OutDx.Gen.facts := fun m g _ => Cert.OutDx.Gen.frame m g

/-- The kernel, at extended reals, runs and leaves its arguments alone. -/
theorem frame_PI : @Cert.quiescent_OutDxIdeal Cert.OutDxIdeal.Gen.facts := fun m g _ => Cert.OutDxIdeal.Gen.frame m g

/-- The reference runs and leaves its arguments alone. -/
theorem frame_RI : @Cert.quiescent_OutDxRefIdeal Cert.OutDxRefIdeal.Gen.facts := fun m g _ =>
  (θ_run Cert.OutDxRefIdeal.defs _ _).mono (fun r h => ⟨fun c => (h c).2, sem_eq_zero_of_no_sems (by decide) r.2⟩)
    (Cert.OutDxRefIdeal.Value.run (F := Ideal) m g)

/-- From the same arguments the kernel and the reference leave the same array. -/
theorem algebraic : @Cert.algebraic_OutDxIdeal_OutDxRefIdeal Cert.OutDxIdeal.Gen.facts Cert.OutDxRefIdeal.Gen.facts := by
  intro m g m' g' _ hag
  have hr := Cert.OutDxRefIdeal.Mm.run m' g'
  refine ⟨_, Cert.OutDxIdeal.Mm.run m g, (θ_run Cert.OutDxRefIdeal.defs _ _).mono (fun r h c => ⟨(h c).1.trans ?_, (h c).2⟩) hr⟩
  rw [(hag c).1, (hag c).2]

end Cert.Mm.OutDx

end
-- ==== Proof.MmInDx.lean ====
/-
  The gradient of the mixer's input projection by its input: the kernel's result array, element by element. The kernel takes
  the projection's axis in two steps of four parts and keeps the running sum between them.
-/
module

public import proofs.«01_k».proof.Proof.MmSpec
public import proofs.«01_k».proof.Proof.Gen.InDxIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- What the call returns: the cotangent by the rows of the weights, whose columns are kept as blocks. -/
def inDx (x : (⟨2, ![4096, 4096]⟩ : Shape).Idx → EReal) (w : (⟨3, ![8, 2048, 512]⟩ : Shape).Idx → EReal)
    (i : (⟨2, ![4096, 2048]⟩ : Shape).Idx) : EReal :=
  nt 4096 (nat2 x) (cols w) (i 0).val (i 1).val

end Cert.Mm

namespace Cert.InDxIdeal.Mm

open Cert.InDxIdeal Cert.InDxIdeal.Gen Cert.InDxIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S1024x2048 .bf16) (harg3 : arg3.IsWhole)
variable (arg4 : Memref sig .tc .vmem S4x1024x512 .bf16) (harg4 : arg4.IsWhole)
variable (arg5 : Memref sig .tc .vmem S1024x1024 .bf16) (harg5 : arg5.IsWhole)
variable (arg6 : Memref sig .tc .vmem S1024x1024 .f32) (harg6 : arg6.IsWhole)
variable (x0 : Vec F S1024x2048 .bf16) (x1 : Vec F S4x1024x512 .bf16) (xs0 : Vec F S1024x1024 .f32)

abbrev rW : Rect S1024x1024 := Rect.unit (s := S1024x1024) ![0, 0] S1024x1024.size inb_S1024x1024_S1024x1024_0_0
abbrev rL0 : Rect S1024x2048 := Rect.unit (s := S1024x2048) ![0, 0] S1024x512.size inb_S1024x2048_S1024x512_0_0
abbrev rL1 : Rect S1024x2048 := Rect.unit (s := S1024x2048) ![0, 512] S1024x512.size inb_S1024x2048_S1024x512_0_512
abbrev rL2 : Rect S1024x2048 := Rect.unit (s := S1024x2048) ![0, 1024] S1024x512.size inb_S1024x2048_S1024x512_0_1024
abbrev rL3 : Rect S1024x2048 := Rect.unit (s := S1024x2048) ![0, 1536] S1024x512.size inb_S1024x2048_S1024x512_0_1536
abbrev rR0 : Rect S4x1024x512 := Rect.unit (s := S4x1024x512) ![0, 0, 0] S1x1024x512.size inb_S4x1024x512_S1x1024x512_0_0_0
abbrev rR1 : Rect S4x1024x512 := Rect.unit (s := S4x1024x512) ![1, 0, 0] S1x1024x512.size inb_S4x1024x512_S1x1024x512_1_0_0
abbrev rR2 : Rect S4x1024x512 := Rect.unit (s := S4x1024x512) ![2, 0, 0] S1x1024x512.size inb_S4x1024x512_S1x1024x512_2_0_0
abbrev rR3 : Rect S4x1024x512 := Rect.unit (s := S4x1024x512) ![3, 0, 0] S1x1024x512.size inb_S4x1024x512_S1x1024x512_3_0_0

/-- What the first step stores in the running sum. -/
theorem runA (hc0 : cond0_0 i) (hc1 : cond0_1 i) (hc2 : ¬cond0_2 i) :
    (kernelRun0_A c i arg3 harg3 arg4 harg4 arg5 harg5 arg6 harg6 hc0 hc1 hc2 x0 x1).2.1
      = [⟨rW, k0_pay2 (arg6.view.readCov [⟨rW, k0_pay1⟩] rW.toLoadRect) (View.readAt (Elt F) arg3.view rL0.toLoadRect (harg3.unread x0)) (View.readAt (Elt F) arg4.view rR0.toLoadRect (harg4.unread x1)) (View.readAt (Elt F) arg3.view rL1.toLoadRect (harg3.unread x0)) (View.readAt (Elt F) arg4.view rR1.toLoadRect (harg4.unread x1)) (View.readAt (Elt F) arg3.view rL2.toLoadRect (harg3.unread x0)) (View.readAt (Elt F) arg4.view rR2.toLoadRect (harg4.unread x1)) (View.readAt (Elt F) arg3.view rL3.toLoadRect (harg3.unread x0)) (View.readAt (Elt F) arg4.view rR3.toLoadRect (harg4.unread x1))⟩, ⟨rW, k0_pay1⟩] := rfl

/-- What the last step stores in the result's block. -/
theorem runB (hc0 : ¬cond0_0 i) (hc1 : ¬cond0_1 i) (hc2 : cond0_2 i) :
    (kernelRun0_B c i arg3 harg3 arg4 harg4 arg5 harg5 arg6 harg6 hc0 hc1 hc2 x0 x1 xs0).1
      = [⟨rW, k0_pay3 (View.readAt (Elt F) arg6.view rW.toLoadRect (harg6.unread xs0)) (View.readAt (Elt F) arg3.view rL0.toLoadRect (harg3.unread x0)) (View.readAt (Elt F) arg4.view rR0.toLoadRect (harg4.unread x1)) (View.readAt (Elt F) arg3.view rL1.toLoadRect (harg3.unread x0)) (View.readAt (Elt F) arg4.view rR1.toLoadRect (harg4.unread x1)) (View.readAt (Elt F) arg3.view rL2.toLoadRect (harg3.unread x0)) (View.readAt (Elt F) arg4.view rR2.toLoadRect (harg4.unread x1)) (View.readAt (Elt F) arg3.view rL3.toLoadRect (harg3.unread x0)) (View.readAt (Elt F) arg4.view rR3.toLoadRect (harg4.unread x1))⟩] := rfl

end Runs

variable (c : Dev nD) (i : grid0.Coords)
variable (arg3 : Memref sig .tc .vmem S1024x2048 .bf16) (harg3 : arg3.IsWhole)
variable (arg4 : Memref sig .tc .vmem S4x1024x512 .bf16) (harg4 : arg4.IsWhole)
variable (arg5 : Memref sig .tc .vmem S1024x1024 .bf16) (harg5 : arg5.IsWhole)
variable (arg6 : Memref sig .tc .vmem S1024x1024 .f32) (harg6 : arg6.IsWhole)
variable (x0 : Vec Ideal S1024x2048 .bf16) (x1 : Vec Ideal S4x1024x512 .bf16) (xs0 : Vec Ideal S1024x1024 .f32)

theorem hz2 : (![0, 0] : Fin 2 → ℕ) = fun _ => 0 := funext fun a => by fin_cases a <;> rfl

/-- A step's contribution. -/
def part (y : S1024x1024.Idx) : EReal :=
  ∑ k : Fin 512, x0 (rL0.emb (ValueIdx.ix2 (y 0) k)) * x1 (rR0.emb (ValueIdx.ix3 0 (y 1) k))
    + ∑ k : Fin 512, x0 (rL1.emb (ValueIdx.ix2 (y 0) k)) * x1 (rR1.emb (ValueIdx.ix3 0 (y 1) k))
    + ∑ k : Fin 512, x0 (rL2.emb (ValueIdx.ix2 (y 0) k)) * x1 (rR2.emb (ValueIdx.ix3 0 (y 1) k))
    + ∑ k : Fin 512, x0 (rL3.emb (ValueIdx.ix2 (y 0) k)) * x1 (rR3.emb (ValueIdx.ix3 0 (y 1) k))

/-- What the first step stores in the running sum, element by element. -/
theorem pay2_read (y : S1024x1024.Idx) : k0_pay2 (F := Ideal) xs0 (View.ld x0 rL0) (View.ld x1 rR0) (View.ld x0 rL1) (View.ld x1 rR1) (View.ld x0 rL2) (View.ld x1 rR2) (View.ld x0 rL3) (View.ld x1 rR3) y = xs0 y + part x0 x1 y := by
  unfold k0_pay2
  refine (same_read _ _ y).trans (congrArg (xs0 y + ·) (congrArg₂ (· + ·) (congrArg₂ (· + ·) (congrArg₂ (· + ·) ?_ ?_) ?_) ?_))
  · refine (nt_read (M := 1024) (K := 512) (N := 1024) (φ₁ := .bf16) (φ₂ := .bf16) none _ _ y).trans (Finset.sum_congr rfl fun k _ => ?_)
    exact congrArg (_ * ·) (drop_read (R := 1024) (C := 512) _ _ (ValueIdx.ix2 (y 1) k))
  · refine (nt_read (M := 1024) (K := 512) (N := 1024) (φ₁ := .bf16) (φ₂ := .bf16) none _ _ y).trans (Finset.sum_congr rfl fun k _ => ?_)
    exact congrArg (_ * ·) (drop_read (R := 1024) (C := 512) _ _ (ValueIdx.ix2 (y 1) k))
  · refine (nt_read (M := 1024) (K := 512) (N := 1024) (φ₁ := .bf16) (φ₂ := .bf16) none _ _ y).trans (Finset.sum_congr rfl fun k _ => ?_)
    exact congrArg (_ * ·) (drop_read (R := 1024) (C := 512) _ _ (ValueIdx.ix2 (y 1) k))
  · refine (nt_read (M := 1024) (K := 512) (N := 1024) (φ₁ := .bf16) (φ₂ := .bf16) none _ _ y).trans (Finset.sum_congr rfl fun k _ => ?_)
    exact congrArg (_ * ·) (drop_read (R := 1024) (C := 512) _ _ (ValueIdx.ix2 (y 1) k))

/-- What the last step stores in the result's block, element by element. -/
theorem pay3_read (y : S1024x1024.Idx) : k0_pay3 (F := Ideal) xs0 (View.ld x0 rL0) (View.ld x1 rR0) (View.ld x0 rL1) (View.ld x1 rR1) (View.ld x0 rL2) (View.ld x1 rR2) (View.ld x0 rL3) (View.ld x1 rR3) y = xs0 y + part x0 x1 y := by
  rw [← pay2_read]
  exact (same_read _ _ y).symm

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 hc0 hc1 hc2 x0 x1 y = part x0 x1 y := by
  unfold sout0_A_0
  rw [runA, View.read_writes_full, View.readCov_full]
  simp only [View.readAt_eq_ld, Memref.IsWhole.read_unread]
  rw [pay2_read, pay1_read, zero_add]

/-- The result's block after the last step. -/
theorem resB (hc0 : ¬cond0_0 i) (hc1 : ¬cond0_1 i) (hc2 : cond0_2 i) (y : S1024x1024.Idx) :
    out0_B_2 (F := Ideal) c i arg3 harg3 arg4 harg4 arg5 harg5 arg6 harg6 hc0 hc1 hc2 x0 x1 xs0 y = xs0 y + part x0 x1 y := by
  unfold out0_B_2
  rw [runB, View.read_writes_full]
  simp only [View.readAt_eq_ld, Memref.IsWhole.read_unread]
  rw [View.ld_unit_zero (S := S1024x1024) hz2, pay3_read]

end Cert.InDxIdeal.Mm

namespace Cert.InDxIdeal.Mm

open Cert.InDxIdeal Cert.InDxIdeal.Gen Cert.InDxIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val / 4 ∧ win0_0.index t 1 = t.val % 2
    ∧ win0_1.index t 0 = t.val % 2 ∧ win0_1.index t 1 = t.val / 2 % 2 ∧ win0_1.index t 2 = 0
    ∧ win0_2.index t 0 = t.val / 4 ∧ win0_2.index t 1 = t.val / 2 % 2 :=
  (by decide +kernel : ∀ t : Fin grid0.N, _)

/-- The cotangent's block. -/
theorem blk0 (c : Dev nD) (t : Fin cfg0.N) (y : S1024x2048.Idx) : (iblk m c 0 t : Vec Ideal S1024x2048 .bf16) y
    = nat2 (n := 4096) (m := 4096) (m ((c : Thread nD τ).loc main_arg0)) (win0_0.index t 0 * 1024 + (y 0).val) (win0_0.index t 1 * 2048 + (y 1).val) := by
  refine (nat2_idx (n := 4096) (m := 4096) (m ((c : Thread nD τ).loc main_arg0)) _ _ _ ?_ ?_).symm
  · show _ = win0_0.index t 0 * 1024 + 1 * (y 0).val; omega
  · show _ = win0_0.index t 1 * 2048 + 1 * (y 1).val; omega

/-- The weights' blocks. -/
theorem blk1 (c : Dev nD) (t : Fin cfg0.N) (y : S4x1024x512.Idx) : (iblk m c 1 t : Vec Ideal S4x1024x512 .bf16) y
    = nat3 (l := 8) (n := 2048) (m := 512) (m ((c : Thread nD τ).loc main_arg1)) (win0_1.index t 0 * 4 + (y 0).val) (win0_1.index t 1 * 1024 + (y 1).val) (win0_1.index t 2 * 512 + (y 2).val) := by
  refine (nat3_idx (l := 8) (n := 2048) (m := 512) (m ((c : Thread nD τ).loc main_arg1)) _ _ _ _ ?_ ?_ ?_).symm
  · show _ = win0_1.index t 0 * 4 + 1 * (y 0).val; omega
  · show _ = win0_1.index t 1 * 1024 + 1 * (y 1).val; omega
  · show _ = win0_1.index t 2 * 512 + 1 * (y 2).val; omega

/-- The product's terms at an index of the point's block. -/
def term (c : Dev nD) (n : ℕ) (y : S1024x1024.Idx) (k : ℕ) : EReal :=
  nat2 (n := 4096) (m := 4096) (m ((c : Thread nD τ).loc main_arg0)) (n / 4 * 1024 + (y 0).val) k
    * cols (l := 8) (n := 2048) (w := 512) (m ((c : Thread nD τ).loc main_arg1)) (n / 2 % 2 * 1024 + (y 1).val) k

/-- A step's contribution continues the sum of the terms. -/
theorem part_read (c : Dev nD) (t : Fin cfg0.N) (y : S1024x1024.Idx) :
    ∑ k ∈ Finset.range (t.val % 2 * 2048), term m c t.val y k + part (iblk m c 0 t) (iblk m c 1 t) y
      = ∑ k ∈ Finset.range (t.val % 2 * 2048 + 512 + 512 + 512 + 512), term m c t.val y k := by
  obtain ⟨e00, e01, e10, e11, e12, -, -⟩ := index_of t
  unfold part
  rw [← add_assoc, ← add_assoc, ← add_assoc, sum_more (t.val % 2 * 2048) _ (term m c t.val y) fun k => ?_,
    sum_more (t.val % 2 * 2048 + 512) _ (term m c t.val y) fun k => ?_, sum_more (t.val % 2 * 2048 + 512 + 512) _ (term m c t.val y) fun k => ?_,
    sum_more (t.val % 2 * 2048 + 512 + 512 + 512) _ (term m c t.val y) fun k => ?_]
  · have hk := k.isLt
    rw [blk0, blk1, e00, e01, e10, e11, e12]
    refine congrArg₂ (· * ·) (congrArg₂ _ ?_ ?_) ?_
    · show t.val / 4 * 1024 + (0 + 1 * (y 0).val) = _; omega
    · show t.val % 2 * 2048 + (1536 + 1 * k.val) = _; omega
    · show nat3 _ (t.val % 2 * 4 + (3 + 1 * 0)) (t.val / 2 % 2 * 1024 + (0 + 1 * (y 1).val)) (0 * 512 + (0 + 1 * k.val)) = nat3 _ _ _ _
      congr 1 <;> omega
  · have hk := k.isLt
    rw [blk0, blk1, e00, e01, e10, e11, e12]
    refine congrArg₂ (· * ·) (congrArg₂ _ ?_ ?_) ?_
    · show t.val / 4 * 1024 + (0 + 1 * (y 0).val) = _; omega
    · show t.val % 2 * 2048 + (1024 + 1 * k.val) = _; omega
    · show nat3 _ (t.val % 2 * 4 + (2 + 1 * 0)) (t.val / 2 % 2 * 1024 + (0 + 1 * (y 1).val)) (0 * 512 + (0 + 1 * k.val)) = nat3 _ _ _ _
      congr 1 <;> omega
  · have hk := k.isLt
    rw [blk0, blk1, e00, e01, e10, e11, e12]
    refine congrArg₂ (· * ·) (congrArg₂ _ ?_ ?_) ?_
    · show t.val / 4 * 1024 + (0 + 1 * (y 0).val) = _; omega
    · show t.val % 2 * 2048 + (512 + 1 * k.val) = _; omega
    · show nat3 _ (t.val % 2 * 4 + (1 + 1 * 0)) (t.val / 2 % 2 * 1024 + (0 + 1 * (y 1).val)) (0 * 512 + (0 + 1 * k.val)) = nat3 _ _ _ _
      congr 1 <;> omega
  · have hk := k.isLt
    rw [blk0, blk1, e00, e01, e10, e11, e12]
    refine congrArg₂ (· * ·) (congrArg₂ _ ?_ ?_) ?_
    · show t.val / 4 * 1024 + (0 + 1 * (y 0).val) = _; omega
    · show t.val % 2 * 2048 + (0 + 1 * k.val) = _; omega
    · show nat3 _ (t.val % 2 * 4 + (0 + 1 * 0)) (t.val / 2 % 2 * 1024 + (0 + 1 * (y 1).val)) (0 * 512 + (0 + 1 * k.val)) = nat3 _ _ _ _
      congr 1 <;> omega

/-- The running sum after the first step of a block of the result. -/
theorem sum_first (c : Dev nD) (t : Fin cfg0.N) (h0 : t.val % 2 = 0) (y : S1024x1024.Idx) :
    (outsAt0 m c t.val t.isLt).2 y = ∑ k ∈ Finset.range 2048, term m c t.val y k := by
  have e := part_read m c t y
  rw [h0, Nat.zero_mul, Finset.sum_range_zero, zero_add, Nat.zero_add] at e
  rw [← e, outsAt0_A m c t h0 h0 (by omega)]
  dsimp only
  rw [sumA]

/-- The result's block after the last step, from the sum after the step before. -/
theorem res_last (c : Dev nD) (t : Fin cfg0.N) (h2 : t.val % 2 = 1) (y : S1024x1024.Idx) :
    (dats m 0 c).flushed 2 t y
      = (outsAt0 m c (t.val - 1) (Nat.lt_of_le_of_lt (Nat.sub_le _ _) t.isLt)).2 y + part (iblk m c 0 t) (iblk m c 1 t) y := by
  rw [flushed2_B m c t (by omega) (by omega) h2]
  exact resB _ _ _ _ _ _ _ _ _ _ _ _ (outsAt0 m c (t.val - 1) (Nat.lt_of_le_of_lt (Nat.sub_le _ _) t.isLt)).2 _ _ _ y

/-- What the last step leaves in the result's block. -/
theorem out_read (c : Dev nD) (t : Fin cfg0.N) (h2 : t.val % 2 = 1) (y : S1024x1024.Idx) :
    (dats m 0 c).flushed 2 t y = ∑ k ∈ Finset.range 4096, term m c t.val y k := by
  have hp : t.val - 1 < cfg0.N := Nat.lt_of_le_of_lt (Nat.sub_le _ _) t.isLt
  have e := part_read m c t y
  rw [h2] at e
  refine (res_last m c t h2 y).trans (Eq.trans (congrArg (· + _) ?_) e)
  refine (sum_first m c ⟨t.val - 1, hp⟩ (by dsimp only; omega) y).trans (Finset.sum_congr rfl fun k _ => ?_)
  unfold term
  dsimp only
  rw [show (t.val - 1) / 4 = t.val / 4 by omega, show (t.val - 1) / 2 % 2 = t.val / 2 % 2 by omega]

/-- The result array. -/
theorem final (c : Dev nD) : (dats m 0 c).arrAt 2 cfg0.N
    = inDx (m ((c : Thread nD τ).loc main_arg0)) (m ((c : Thread nD τ).loc main_arg1)) := by
  refine (dats m 0 c).arrAt_eq_of_cover 2 (inDx (m ((c : Thread nD τ).loc main_arg0)) (m ((c : Thread nD τ).loc main_arg1)) : S4096x2048.Idx → EReal) (fun t hf => ?_) fun i => ?_
  · have h2 := (flush0_2 t).mp hf
    obtain ⟨-, -, -, -, -, e0, e1⟩ := index_of t
    funext y
    refine (out_read m c t h2 y).trans ?_
    unfold term
    have h0 : t.val / 4 * 1024 + (y 0).val = win0_2.index t 0 * 1024 + 1 * (y 0).val := by rw [e0]; omega
    have h1 : t.val / 2 % 2 * 1024 + (y 1).val = win0_2.index t 1 * 1024 + 1 * (y 1).val := by rw [e1]; omega
    rw [h0, h1]
    rfl
  · have h0 : (i 0 : ℕ) < 4096 := (i 0).isLt
    have h1 : (i 1 : ℕ) < 2048 := (i 1).isLt
    have ht : 4 * ((i 0 : ℕ) / 1024) + 2 * ((i 1 : ℕ) / 1024) + 1 < cfg0.N := by rw [show cfg0.N = 16 from N_0]; omega
    refine ⟨⟨4 * ((i 0 : ℕ) / 1024) + 2 * ((i 1 : ℕ) / 1024) + 1, ht⟩, (flush0_2 _).mpr (by dsimp only; omega), ?_⟩
    obtain ⟨-, -, -, -, -, e0, e1⟩ := index_of ⟨4 * ((i 0 : ℕ) / 1024) + 2 * ((i 1 : ℕ) / 1024) + 1, ht⟩
    show i ∈ ((View.whole main_v0).slice (win0_2.rect ⟨4 * ((i 0 : ℕ) / 1024) + 2 * ((i 1 : ℕ) / 1024) + 1, ht⟩)).set
    rw [View.set_slice_whole, Rect.mem_set_unit]
    intro a
    fin_cases a
    · show win0_2.index _ 0 * 1024 ≤ (i 0 : ℕ) ∧ (i 0 : ℕ) < win0_2.index _ 0 * 1024 + 1024
      rw [e0]; dsimp only; omega
    · show win0_2.index _ 1 * 1024 ≤ (i 1 : ℕ) ∧ (i 1 : ℕ) < win0_2.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = inDx (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.InDxIdeal.Mm

end
-- ==== Proof.MmInDxClaim.lean ====
/-
  The gradient of the mixer's input projection by its input by the reference, and the claims of this call.
-/
module

public import proofs.«01_k».proof.Defs
public import proofs.«01_k».proof.Proof.MmInDx
public import proofs.«01_k».proof.Proof.Gen.InDx.Frame
public import proofs.«01_k».proof.Proof.Gen.InDxRefIdeal.Read

@[expose] public section

set_option maxRecDepth 65536

noncomputable section

open Idealize.ShloMosaic Idealize.ShloMosaic.TcCoe Idealize.SL.Sem
open scoped BigOperators

namespace Cert.InDxRefIdeal.Mm

open Cert.InDxRefIdeal Cert.InDxRefIdeal.Read Cert.Mm Idealize.ShloMosaic.StableHlo
open Cert.Mix (nat2 nat3 nat2_idx nat3_idx)

variable (x0 : S4096x4096.Idx → EReal) (x1 : S8x2048x512.Idx → EReal)

/-- The weights joined. -/
theorem joined (i : S2048x4096.Idx) : val_main_v2 (F := Ideal) x1 i = cols (l := 8) (n := 2048) (w := 512) x1 (i 0).val (i 1).val := by
  have h1 : (i 1).val < 4096 := (i 1).isLt
  rw [val_main_v2_apply, val_main_v1_apply, val_main_v0_apply]
  refine (nat3_idx (l := 8) (n := 2048) (m := 512) x1 _ _ _ _ ?_ ?_ ?_).symm
  · show (i 1).val / 512 = ((i 0).val * 4096 + (i 1).val) / 512 % 8; omega
  · show (i 0).val = ((i 0).val * 4096 + (i 1).val) / 4096; omega
  · show (i 1).val % 512 = ((i 0).val * 4096 + (i 1).val) % 512; omega

/-- The result. -/
theorem rres (i : S4096x2048.Idx) : val_main_v7 (F := Ideal) x0 x1 i = inDx x0 x1 i := by
  rw [val_main_v7_apply]
  show val_main_v6 (F := Ideal) x0 x1 i = _
  rw [val_main_v6_apply]
  unfold inDx
  refine sum_fin _ _ fun k => congrArg₂ (· * ·) ?_ (joined x1 _)
  rw [val_main_v5_apply]
  exact (nat2_idx (n := 4096) (m := 4096) x0 _ _ _ rfl rfl).symm

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v7) = inDx (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v7_eq _ _)).trans (funext fun i => rres _ _ i), (h c).2⟩)
    (Cert.InDxRefIdeal.Value.run (F := Ideal) m g)

end Cert.InDxRefIdeal.Mm

namespace Cert.Mm.InDx

/-- The kernel, at machine words, runs and leaves its arguments alone. -/
theorem frame_P : @Cert.quiescent_InDx Cert.InDx.Gen.facts := fun m g _ => Cert.InDx.Gen.frame m g

/-- The kernel, at extended reals, runs and leaves its arguments alone. -/
theorem frame_PI : @Cert.quiescent_InDxIdeal Cert.InDxIdeal.Gen.facts := fun m g _ => Cert.InDxIdeal.Gen.frame m g

/-- The reference runs and leaves its arguments alone. -/
theorem frame_RI : @Cert.quiescent_InDxRefIdeal Cert.InDxRefIdeal.Gen.facts := fun m g _ =>
  (θ_run Cert.InDxRefIdeal.defs _ _).mono (fun r h => ⟨fun c => (h c).2, sem_eq_zero_of_no_sems (by decide) r.2⟩)
    (Cert.InDxRefIdeal.Value.run (F := Ideal) m g)

/-- From the same arguments the kernel and the reference leave the same array. -/
theorem algebraic : @Cert.algebraic_InDxIdeal_InDxRefIdeal Cert.InDxIdeal.Gen.facts Cert.InDxRefIdeal.Gen.facts := by
  intro m g m' g' _ hag
  have hr := Cert.InDxRefIdeal.Mm.run m' g'
  refine ⟨_, Cert.InDxIdeal.Mm.run m g, (θ_run Cert.InDxRefIdeal.defs _ _).mono (fun r h c => ⟨(h c).1.trans ?_, (h c).2⟩) hr⟩
  rw [(hag c).1, (hag c).2]

end Cert.Mm.InDx

end
-- ==== Proof.MmDownDw.lean ====
/-
  The gradient of the second product of the feed-forward layer by its weights: the kernel's result array, element by element. The kernel takes
  the rows in two steps and keeps the running sum between them.
-/
module

public import proofs.«01_k».proof.Proof.MmSpec
public import proofs.«01_k».proof.Proof.Gen.DownDwIdeal.Value

@[expose] public section

set_option maxRecDepth 65536

noncomputable section

open Idealize.ShloMosaic Idealize.ShloMosaic.TcCoe Idealize.SL.Sem
open scoped BigOperators

namespace Cert.DownDwIdeal.Mm

open Cert.DownDwIdeal Cert.DownDwIdeal.Gen Cert.DownDwIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S1x1024x1024 .bf16) (harg5 : arg5.IsWhole)
variable (arg6 : Memref sig .tc .vmem S1024x1024 .f32) (harg6 : arg6.IsWhole)
variable (x0 : Vec F S2048x1024 .bf16) (x1 : Vec F S2048x1024 .bf16) (xs0 : Vec F S1024x1024 .f32)

abbrev rW : Rect S1024x1024 := Rect.unit (s := S1024x1024) ![0, 0] S1024x1024.size inb_S1024x1024_S1024x1024_0_0
abbrev rL : Rect S2048x1024 := Rect.unit (s := S2048x1024) ![0, 0] S2048x1024.size inb_S2048x1024_S2048x1024_0_0
abbrev rO : Rect S1x1024x1024 := Rect.unit (s := S1x1024x1024) ![0, 0, 0] S1x1024x1024.size inb_S1x1024x1024_S1x1024x1024_0_0_0

/-- What the first step stores in the running sum. -/
theorem runA (hc0 : cond0_0 i) (hc1 : cond0_1 i) (hc2 : ¬cond0_2 i) :
    (kernelRun0_A c i arg3 harg3 arg4 harg4 arg5 harg5 arg6 harg6 hc0 hc1 hc2 x0 x1).2.1
      = [⟨rW, k0_pay2 (arg6.view.readCov [⟨rW, k0_pay1⟩] rW.toLoadRect) (View.readAt (Elt F) arg3.view rL.toLoadRect (harg3.unread x0))
          (View.readAt (Elt F) arg4.view rL.toLoadRect (harg4.unread x1))⟩, ⟨rW, k0_pay1⟩] := rfl

/-- What the last step stores in the result's block. -/
theorem runB (hc0 : ¬cond0_0 i) (hc1 : ¬cond0_1 i) (hc2 : cond0_2 i) :
    (kernelRun0_B c i arg3 harg3 arg4 harg4 arg5 harg5 arg6 harg6 hc0 hc1 hc2 x0 x1 xs0).1
      = [⟨rO, k0_pay3 (View.readAt (Elt F) arg6.view rW.toLoadRect (harg6.unread xs0)) (View.readAt (Elt F) arg3.view rL.toLoadRect (harg3.unread x0))
          (View.readAt (Elt F) arg4.view rL.toLoadRect (harg4.unread x1))⟩] := rfl

end Runs

variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S1x1024x1024 .bf16) (harg5 : arg5.IsWhole)
variable (arg6 : Memref sig .tc .vmem S1024x1024 .f32) (harg6 : arg6.IsWhole)
variable (x0 : Vec Ideal S2048x1024 .bf16) (x1 : Vec Ideal S2048x1024 .bf16) (xs0 : Vec Ideal S1024x1024 .f32)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A step's contribution. -/
def part (y : S1024x1024.Idx) : EReal := ∑ k : Fin 2048, x0 (ValueIdx.ix2 k (y 0)) * x1 (ValueIdx.ix2 k (y 1))

/-- The product of two tiles. -/
theorem mul_read (y : S1024x1024.Idx) :
    FloatOps.matmul (F := Ideal) (φ₁ := .bf16) (φ₂ := .bf16) dot_S2048x1024_S2048x1024_S1024x1024_0_0_1_1_n_n none x0 x1 (constant S1024x1024 .f32 0x00000000#32) y = part x0 x1 y :=
  tn_read (M := 1024) (K := 2048) (N := 1024) (φ₁ := .bf16) (φ₂ := .bf16) dot_S2048x1024_S2048x1024_S1024x1024_0_0_1_1_n_n rfl rfl
    (fun _ _ => DotDims.lhsIdx_val_of_single _ rfl _ _) (fun _ _ => by
      unfold DotDims.lhsIdx
      rw [dif_neg (by decide), dif_pos (by decide)]
      rfl)
    (fun _ _ => DotDims.rhsIdx_val_of_single _ rfl _ _) (fun _ _ => by
      unfold DotDims.rhsIdx
      rw [dif_neg (by decide), dif_pos (by decide)]
      rfl) none x0 x1 y

/-- What the first step stores in the running sum, element by element. -/
theorem pay2_read (y : S1024x1024.Idx) : k0_pay2 (F := Ideal) xs0 x0 x1 y = xs0 y + part x0 x1 y := by
  unfold k0_pay2
  exact (same_read _ _ y).trans (congrArg (xs0 y + ·) (mul_read x0 x1 y))

/-- What the last step stores in the result's block, element by element. -/
theorem pay3_read (y : S1x1024x1024.Idx) : k0_pay3 (F := Ideal) xs0 x0 x1 y
    = xs0 (ValueIdx.ix2 (y 1) (y 2)) + part x0 x1 (ValueIdx.ix2 (y 1) (y 2)) := by
  unfold k0_pay3
  exact (add_read (R := 1024) (C := 1024) _ _ y).trans (congrArg (xs0 (ValueIdx.ix2 (y 1) (y 2)) + ·) (mul_read x0 x1 _))

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 hc0 hc1 hc2 x0 x1 y = part x0 x1 y := by
  unfold sout0_A_0
  rw [runA, View.read_writes_full, View.readCov_full]
  simp only [View.readAt_eq_ld, Memref.IsWhole.read_unread]
  rw [View.ld_unit_zero (S := S2048x1024) hz2, View.ld_unit_zero (S := S2048x1024) hz2, pay2_read, pay1_read, zero_add]

/-- The result's block after the last step. -/
theorem resB (hc0 : ¬cond0_0 i) (hc1 : ¬cond0_1 i) (hc2 : cond0_2 i) (y : S1x1024x1024.Idx) :
    out0_B_2 (F := Ideal) c i arg3 harg3 arg4 harg4 arg5 harg5 arg6 harg6 hc0 hc1 hc2 x0 x1 xs0 y
      = xs0 (ValueIdx.ix2 (y 1) (y 2)) + part x0 x1 (ValueIdx.ix2 (y 1) (y 2)) := by
  unfold out0_B_2
  rw [runB, View.read_writes_full]
  simp only [View.readAt_eq_ld, Memref.IsWhole.read_unread]
  rw [View.ld_unit_zero (S := S1024x1024) hz2, View.ld_unit_zero (S := S2048x1024) hz2, View.ld_unit_zero (S := S2048x1024) hz2, pay3_read]

end Cert.DownDwIdeal.Mm

namespace Cert.DownDwIdeal.Mm

open Cert.DownDwIdeal Cert.DownDwIdeal.Gen Cert.DownDwIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val % 2 ∧ win0_0.index t 1 = t.val / 4
    ∧ win0_1.index t 0 = t.val % 2 ∧ win0_1.index t 1 = t.val / 2 % 2
    ∧ win0_2.index t 0 = 0 ∧ win0_2.index t 1 = t.val / 4 ∧ win0_2.index t 2 = t.val / 2 % 2 :=
  (by decide +kernel : ∀ t : Fin grid0.N, _)

/-- The left factor's block. -/
theorem blk0 (c : Dev nD) (t : Fin cfg0.N) (y : S2048x1024.Idx) : (iblk m c 0 t : Vec Ideal S2048x1024 .bf16) y
    = nat2 (n := 4096) (m := 8192) (m ((c : Thread nD τ).loc main_arg0)) (win0_0.index t 0 * 2048 + (y 0).val) (win0_0.index t 1 * 1024 + (y 1).val) := by
  refine (nat2_idx (n := 4096) (m := 8192) (m ((c : Thread nD τ).loc main_arg0)) _ _ _ ?_ ?_).symm
  · show _ = win0_0.index t 0 * 2048 + 1 * (y 0).val; omega
  · show _ = win0_0.index t 1 * 1024 + 1 * (y 1).val; omega

/-- The cotangent's block. -/
theorem blk1 (c : Dev nD) (t : Fin cfg0.N) (y : S2048x1024.Idx) : (iblk m c 1 t : Vec Ideal S2048x1024 .bf16) y
    = nat2 (n := 4096) (m := 2048) (m ((c : Thread nD τ).loc main_arg1)) (win0_1.index t 0 * 2048 + (y 0).val) (win0_1.index t 1 * 1024 + (y 1).val) := by
  refine (nat2_idx (n := 4096) (m := 2048) (m ((c : Thread nD τ).loc main_arg1)) _ _ _ ?_ ?_).symm
  · show _ = win0_1.index t 0 * 2048 + 1 * (y 0).val; omega
  · show _ = win0_1.index t 1 * 1024 + 1 * (y 1).val; omega

/-- The product's terms at a row and a column of the point's block. -/
def term (c : Dev nD) (n a b : ℕ) (k : ℕ) : EReal :=
  nat2 (n := 4096) (m := 8192) (m ((c : Thread nD τ).loc main_arg0)) k (n / 4 * 1024 + a)
    * nat2 (n := 4096) (m := 2048) (m ((c : Thread nD τ).loc main_arg1)) k (n / 2 % 2 * 1024 + b)

/-- A step's contribution continues the sum of the terms. -/
theorem part_read (c : Dev nD) (t : Fin cfg0.N) (y : S1024x1024.Idx) :
    ∑ k ∈ Finset.range (t.val % 2 * 2048), term m c t.val (y 0).val (y 1).val k + part (iblk m c 0 t) (iblk m c 1 t) y
      = ∑ k ∈ Finset.range (t.val % 2 * 2048 + 2048), term m c t.val (y 0).val (y 1).val k := by
  obtain ⟨e00, e01, e10, e11, -, -, -⟩ := index_of t
  unfold part
  refine sum_more (t.val % 2 * 2048) _ (term m c t.val (y 0).val (y 1).val) fun k => ?_
  rw [blk0, blk1, e00, e01, e10, e11]
  rfl

/-- The running sum after the first step of a block of the result. -/
theorem sum_first (c : Dev nD) (t : Fin cfg0.N) (h0 : t.val % 2 = 0) (y : S1024x1024.Idx) :
    (outsAt0 m c t.val t.isLt).2 y = ∑ k ∈ Finset.range 2048, term m c t.val (y 0).val (y 1).val k := by
  have e := part_read m c t y
  rw [h0, Nat.zero_mul, Finset.sum_range_zero, zero_add, Nat.zero_add] at e
  rw [← e, outsAt0_A m c t h0 h0 (by omega)]
  dsimp only
  rw [sumA]

/-- The result's block after the last step, from the sum after the step before. -/
theorem res_last (c : Dev nD) (t : Fin cfg0.N) (h2 : t.val % 2 = 1) (y : S1x1024x1024.Idx) :
    (dats m 0 c).flushed 2 t y
      = (outsAt0 m c (t.val - 1) (Nat.lt_of_le_of_lt (Nat.sub_le _ _) t.isLt)).2 (ValueIdx.ix2 (y 1) (y 2))
        + part (iblk m c 0 t) (iblk m c 1 t) (ValueIdx.ix2 (y 1) (y 2)) := by
  rw [flushed2_B m c t (by omega) (by omega) h2]
  exact resB _ _ _ _ _ _ _ _ _ _ _ _ (outsAt0 m c (t.val - 1) (Nat.lt_of_le_of_lt (Nat.sub_le _ _) t.isLt)).2 _ _ _ y

/-- What the last step leaves in the result's block. -/
theorem out_read (c : Dev nD) (t : Fin cfg0.N) (h2 : t.val % 2 = 1) (y : S1x1024x1024.Idx) :
    (dats m 0 c).flushed 2 t y = ∑ k ∈ Finset.range 4096, term m c t.val (y 1).val (y 2).val k := by
  have hp : t.val - 1 < cfg0.N := Nat.lt_of_le_of_lt (Nat.sub_le _ _) t.isLt
  have e := part_read m c t (ValueIdx.ix2 (y 1) (y 2))
  rw [h2] at e
  refine (res_last m c t h2 y).trans (Eq.trans (congrArg (· + _) ?_) e)
  refine (sum_first m c ⟨t.val - 1, hp⟩ (by dsimp only; omega) (ValueIdx.ix2 (y 1) (y 2))).trans (Finset.sum_congr rfl fun k _ => ?_)
  unfold term
  dsimp only
  rw [show (t.val - 1) / 4 = t.val / 4 by omega, show (t.val - 1) / 2 % 2 = t.val / 2 % 2 by omega]

/-- The result array. -/
theorem final (c : Dev nD) : (dats m 0 c).arrAt 2 cfg0.N
    = dw (a := 8192) (b := 2048) (l := 1) (n := 8192) (w := 2048) (m ((c : Thread nD τ).loc main_arg0)) (m ((c : Thread nD τ).loc main_arg1)) := by
  refine (dats m 0 c).arrAt_eq_of_cover 2 (dw (a := 8192) (b := 2048) (l := 1) (n := 8192) (w := 2048) (m ((c : Thread nD τ).loc main_arg0)) (m ((c : Thread nD τ).loc main_arg1)) : S1x8192x2048.Idx → EReal) (fun t hf => ?_) fun i => ?_
  · have h2 := (flush0_2 t).mp hf
    obtain ⟨-, -, -, -, e0, e1, e2⟩ := index_of t
    have hN : t.val < 32 := lt_of_lt_of_eq t.isLt N_0
    funext y
    have hy0 : (y 0).val < 1 := (y 0).isLt
    refine (out_read m c t h2 y).trans ?_
    unfold term
    have h0 : t.val / 4 * 1024 + (y 1).val = win0_2.index t 1 * 1024 + 1 * (y 1).val := by
      rw [e1]; omega
    have h1 : t.val / 2 % 2 * 1024 + (y 2).val = (win0_2.index t 0 * 1 + 1 * (y 0).val) * 2048 + (win0_2.index t 2 * 1024 + 1 * (y 2).val) := by
      rw [e0, e2]; omega
    rw [h0, h1]
    rfl
  · have h0 : (i 0 : ℕ) < 1 := (i 0).isLt
    have h1 : (i 1 : ℕ) < 8192 := (i 1).isLt
    have h2 : (i 2 : ℕ) < 2048 := (i 2).isLt
    have ht : 4 * ((i 1 : ℕ) / 1024) + 2 * (((i 0 : ℕ) * 2048 + (i 2 : ℕ)) / 1024) + 1 < cfg0.N := by rw [show cfg0.N = 32 from N_0]; omega
    refine ⟨⟨4 * ((i 1 : ℕ) / 1024) + 2 * (((i 0 : ℕ) * 2048 + (i 2 : ℕ)) / 1024) + 1, ht⟩, (flush0_2 _).mpr (by dsimp only; omega), ?_⟩
    obtain ⟨-, -, -, -, e0, e1, e2⟩ := index_of ⟨4 * ((i 1 : ℕ) / 1024) + 2 * (((i 0 : ℕ) * 2048 + (i 2 : ℕ)) / 1024) + 1, ht⟩
    show i ∈ ((View.whole main_v0).slice (win0_2.rect ⟨4 * ((i 1 : ℕ) / 1024) + 2 * (((i 0 : ℕ) * 2048 + (i 2 : ℕ)) / 1024) + 1, ht⟩)).set
    rw [View.set_slice_whole, Rect.mem_set_unit]
    intro a
    fin_cases a
    · show win0_2.index _ 0 * 1 ≤ (i 0 : ℕ) ∧ (i 0 : ℕ) < win0_2.index _ 0 * 1 + 1
      rw [e0]; dsimp only; omega
    · show win0_2.index _ 1 * 1024 ≤ (i 1 : ℕ) ∧ (i 1 : ℕ) < win0_2.index _ 1 * 1024 + 1024
      rw [e1]; dsimp only; omega
    · show win0_2.index _ 2 * 1024 ≤ (i 2 : ℕ) ∧ (i 2 : ℕ) < win0_2.index _ 2 * 1024 + 1024
      rw [e2]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = dw (a := 8192) (b := 2048) (l := 1) (n := 8192) (w := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.DownDwIdeal.Mm

end
-- ==== Proof.MmDownDwClaim.lean ====
/-
  The gradient of the second product of the feed-forward layer by its weights by the reference, and the claims of this call.
-/
module

public import proofs.«01_k».proof.Defs
public import proofs.«01_k».proof.Proof.MmDownDw
public import proofs.«01_k».proof.Proof.Gen.DownDw.Frame
public import proofs.«01_k».proof.Proof.Gen.DownDwRefIdeal.Read

@[expose] public section

set_option maxRecDepth 65536

noncomputable section

open Idealize.ShloMosaic Idealize.ShloMosaic.TcCoe Idealize.SL.Sem
open scoped BigOperators

namespace Cert.DownDwRefIdeal.Mm

open Cert.DownDwRefIdeal Cert.DownDwRefIdeal.Read Cert.Mm Idealize.ShloMosaic.StableHlo
open Cert.Mix (nat2 nat3 nat2_idx nat3_idx)

variable (x0 : S4096x8192.Idx → EReal) (x1 : S4096x2048.Idx → EReal)

/-- The product. -/
theorem rprod (i : S2048x8192.Idx) : val_main_v4 (F := Ideal) x0 x1 i
    = tn 4096 (nat2 (n := 4096) (m := 8192) x0) (nat2 (n := 4096) (m := 2048) x1) (i 1).val (i 0).val := by
  rw [val_main_v4_apply]
  refine sum_fin _ _ fun k => (mul_comm _ _).trans (congrArg₂ (· * ·) ?_ ?_)
  · exact (nat2_idx (n := 4096) (m := 8192) x0 _ _ _ rfl rfl).symm
  · exact (nat2_idx (n := 4096) (m := 2048) x1 _ _ _ rfl rfl).symm

/-- The result. -/
theorem rres (i : S1x8192x2048.Idx) : val_main_v7 (F := Ideal) x0 x1 i = dw (a := 8192) (b := 2048) (l := 1) (n := 8192) (w := 2048) x0 x1 i := by
  have h0 : (i 0).val < 1 := (i 0).isLt
  rw [val_main_v7_apply, val_main_v6_apply]
  show val_main_v5 (F := Ideal) x0 x1 _ = _
  rw [val_main_v5_apply, rprod]
  unfold dw
  refine congrArg₂ _ rfl ?_
  show (i 2).val = (i 0).val * 2048 + (i 2).val; omega

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v7) = dw (a := 8192) (b := 2048) (l := 1) (n := 8192) (w := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v7_eq _ _)).trans (funext fun i => rres _ _ i), (h c).2⟩)
    (Cert.DownDwRefIdeal.Value.run (F := Ideal) m g)

end Cert.DownDwRefIdeal.Mm

namespace Cert.Mm.DownDw

/-- The kernel, at machine words, runs and leaves its arguments alone. -/
theorem frame_P : @Cert.quiescent_DownDw Cert.DownDw.Gen.facts := fun m g _ => Cert.DownDw.Gen.frame m g

/-- The kernel, at extended reals, runs and leaves its arguments alone. -/
theorem frame_PI : @Cert.quiescent_DownDwIdeal Cert.DownDwIdeal.Gen.facts := fun m g _ => Cert.DownDwIdeal.Gen.frame m g

/-- The reference runs and leaves its arguments alone. -/
theorem frame_RI : @Cert.quiescent_DownDwRefIdeal Cert.DownDwRefIdeal.Gen.facts := fun m g _ =>
  (θ_run Cert.DownDwRefIdeal.defs _ _).mono (fun r h => ⟨fun c => (h c).2, sem_eq_zero_of_no_sems (by decide) r.2⟩)
    (Cert.DownDwRefIdeal.Value.run (F := Ideal) m g)

/-- From the same arguments the kernel and the reference leave the same array. -/
theorem algebraic : @Cert.algebraic_DownDwIdeal_DownDwRefIdeal Cert.DownDwIdeal.Gen.facts Cert.DownDwRefIdeal.Gen.facts := by
  intro m g m' g' _ hag
  have hr := Cert.DownDwRefIdeal.Mm.run m' g'
  refine ⟨_, Cert.DownDwIdeal.Mm.run m g, (θ_run Cert.DownDwRefIdeal.defs _ _).mono (fun r h c => ⟨(h c).1.trans ?_, (h c).2⟩) hr⟩
  rw [(hag c).1, (hag c).2]

end Cert.Mm.DownDw

end
-- ==== Proof.MmUpDw.lean ====
/-
  The gradient of the first product of the feed-forward layer by its weights: the kernel's result array, element by element. The kernel takes
  the rows in two steps and keeps the running sum between them.
-/
module

public import proofs.«01_k».proof.Proof.MmSpec
public import proofs.«01_k».proof.Proof.Gen.UpDwIdeal.Value

@[expose] public section

set_option maxRecDepth 65536

noncomputable section

open Idealize.ShloMosaic Idealize.ShloMosaic.TcCoe Idealize.SL.Sem
open scoped BigOperators

namespace Cert.UpDwIdeal.Mm

open Cert.UpDwIdeal Cert.UpDwIdeal.Gen Cert.UpDwIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S1x1024x1024 .bf16) (harg5 : arg5.IsWhole)
variable (arg6 : Memref sig .tc .vmem S1024x1024 .f32) (harg6 : arg6.IsWhole)
variable (x0 : Vec F S2048x1024 .bf16) (x1 : Vec F S2048x1024 .bf16) (xs0 : Vec F S1024x1024 .f32)

abbrev rW : Rect S1024x1024 := Rect.unit (s := S1024x1024) ![0, 0] S1024x1024.size inb_S1024x1024_S1024x1024_0_0
abbrev rL : Rect S2048x1024 := Rect.unit (s := S2048x1024) ![0, 0] S2048x1024.size inb_S2048x1024_S2048x1024_0_0
abbrev rO : Rect S1x1024x1024 := Rect.unit (s := S1x1024x1024) ![0, 0, 0] S1x1024x1024.size inb_S1x1024x1024_S1x1024x1024_0_0_0

/-- What the first step stores in the running sum. -/
theorem runA (hc0 : cond0_0 i) (hc1 : cond0_1 i) (hc2 : ¬cond0_2 i) :
    (kernelRun0_A c i arg3 harg3 arg4 harg4 arg5 harg5 arg6 harg6 hc0 hc1 hc2 x0 x1).2.1
      = [⟨rW, k0_pay2 (arg6.view.readCov [⟨rW, k0_pay1⟩] rW.toLoadRect) (View.readAt (Elt F) arg3.view rL.toLoadRect (harg3.unread x0))
          (View.readAt (Elt F) arg4.view rL.toLoadRect (harg4.unread x1))⟩, ⟨rW, k0_pay1⟩] := rfl

/-- What the last step stores in the result's block. -/
theorem runB (hc0 : ¬cond0_0 i) (hc1 : ¬cond0_1 i) (hc2 : cond0_2 i) :
    (kernelRun0_B c i arg3 harg3 arg4 harg4 arg5 harg5 arg6 harg6 hc0 hc1 hc2 x0 x1 xs0).1
      = [⟨rO, k0_pay3 (View.readAt (Elt F) arg6.view rW.toLoadRect (harg6.unread xs0)) (View.readAt (Elt F) arg3.view rL.toLoadRect (harg3.unread x0))
          (View.readAt (Elt F) arg4.view rL.toLoadRect (harg4.unread x1))⟩] := rfl

end Runs

variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S1x1024x1024 .bf16) (harg5 : arg5.IsWhole)
variable (arg6 : Memref sig .tc .vmem S1024x1024 .f32) (harg6 : arg6.IsWhole)
variable (x0 : Vec Ideal S2048x1024 .bf16) (x1 : Vec Ideal S2048x1024 .bf16) (xs0 : Vec Ideal S1024x1024 .f32)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A step's contribution. -/
def part (y : S1024x1024.Idx) : EReal := ∑ k : Fin 2048, x0 (ValueIdx.ix2 k (y 0)) * x1 (ValueIdx.ix2 k (y 1))

/-- The product of two tiles. -/
theorem mul_read (y : S1024x1024.Idx) :
    FloatOps.matmul (F := Ideal) (φ₁ := .bf16) (φ₂ := .bf16) dot_S2048x1024_S2048x1024_S1024x1024_0_0_1_1_n_n none x0 x1 (constant S1024x1024 .f32 0x00000000#32) y = part x0 x1 y :=
  tn_read (M := 1024) (K := 2048) (N := 1024) (φ₁ := .bf16) (φ₂ := .bf16) dot_S2048x1024_S2048x1024_S1024x1024_0_0_1_1_n_n rfl rfl
    (fun _ _ => DotDims.lhsIdx_val_of_single _ rfl _ _) (fun _ _ => by
      unfold DotDims.lhsIdx
      rw [dif_neg (by decide), dif_pos (by decide)]
      rfl)
    (fun _ _ => DotDims.rhsIdx_val_of_single _ rfl _ _) (fun _ _ => by
      unfold DotDims.rhsIdx
      rw [dif_neg (by decide), dif_pos (by decide)]
      rfl) none x0 x1 y

/-- What the first step stores in the running sum, element by element. -/
theorem pay2_read (y : S1024x1024.Idx) : k0_pay2 (F := Ideal) xs0 x0 x1 y = xs0 y + part x0 x1 y := by
  unfold k0_pay2
  exact (same_read _ _ y).trans (congrArg (xs0 y + ·) (mul_read x0 x1 y))

/-- What the last step stores in the result's block, element by element. -/
theorem pay3_read (y : S1x1024x1024.Idx) : k0_pay3 (F := Ideal) xs0 x0 x1 y
    = xs0 (ValueIdx.ix2 (y 1) (y 2)) + part x0 x1 (ValueIdx.ix2 (y 1) (y 2)) := by
  unfold k0_pay3
  exact (add_read (R := 1024) (C := 1024) _ _ y).trans (congrArg (xs0 (ValueIdx.ix2 (y 1) (y 2)) + ·) (mul_read x0 x1 _))

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 hc0 hc1 hc2 x0 x1 y = part x0 x1 y := by
  unfold sout0_A_0
  rw [runA, View.read_writes_full, View.readCov_full]
  simp only [View.readAt_eq_ld, Memref.IsWhole.read_unread]
  rw [View.ld_unit_zero (S := S2048x1024) hz2, View.ld_unit_zero (S := S2048x1024) hz2, pay2_read, pay1_read, zero_add]

/-- The result's block after the last step. -/
theorem resB (hc0 : ¬cond0_0 i) (hc1 : ¬cond0_1 i) (hc2 : cond0_2 i) (y : S1x1024x1024.Idx) :
    out0_B_2 (F := Ideal) c i arg3 harg3 arg4 harg4 arg5 harg5 arg6 harg6 hc0 hc1 hc2 x0 x1 xs0 y
      = xs0 (ValueIdx.ix2 (y 1) (y 2)) + part x0 x1 (ValueIdx.ix2 (y 1) (y 2)) := by
  unfold out0_B_2
  rw [runB, View.read_writes_full]
  simp only [View.readAt_eq_ld, Memref.IsWhole.read_unread]
  rw [View.ld_unit_zero (S := S1024x1024) hz2, View.ld_unit_zero (S := S2048x1024) hz2, View.ld_unit_zero (S := S2048x1024) hz2, pay3_read]

end Cert.UpDwIdeal.Mm

namespace Cert.UpDwIdeal.Mm

open Cert.UpDwIdeal Cert.UpDwIdeal.Gen Cert.UpDwIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val % 2 ∧ win0_0.index t 1 = t.val / 16
    ∧ win0_1.index t 0 = t.val % 2 ∧ win0_1.index t 1 = t.val / 2 % 8
    ∧ win0_2.index t 0 = t.val / 2 % 8 ∧ win0_2.index t 1 = t.val / 16 ∧ win0_2.index t 2 = 0 :=
  (by decide +kernel : ∀ t : Fin grid0.N, _)

/-- The left factor's block. -/
theorem blk0 (c : Dev nD) (t : Fin cfg0.N) (y : S2048x1024.Idx) : (iblk m c 0 t : Vec Ideal S2048x1024 .bf16) y
    = nat2 (n := 4096) (m := 2048) (m ((c : Thread nD τ).loc main_arg0)) (win0_0.index t 0 * 2048 + (y 0).val) (win0_0.index t 1 * 1024 + (y 1).val) := by
  refine (nat2_idx (n := 4096) (m := 2048) (m ((c : Thread nD τ).loc main_arg0)) _ _ _ ?_ ?_).symm
  · show _ = win0_0.index t 0 * 2048 + 1 * (y 0).val; omega
  · show _ = win0_0.index t 1 * 1024 + 1 * (y 1).val; omega

/-- The cotangent's block. -/
theorem blk1 (c : Dev nD) (t : Fin cfg0.N) (y : S2048x1024.Idx) : (iblk m c 1 t : Vec Ideal S2048x1024 .bf16) y
    = nat2 (n := 4096) (m := 8192) (m ((c : Thread nD τ).loc main_arg1)) (win0_1.index t 0 * 2048 + (y 0).val) (win0_1.index t 1 * 1024 + (y 1).val) := by
  refine (nat2_idx (n := 4096) (m := 8192) (m ((c : Thread nD τ).loc main_arg1)) _ _ _ ?_ ?_).symm
  · show _ = win0_1.index t 0 * 2048 + 1 * (y 0).val; omega
  · show _ = win0_1.index t 1 * 1024 + 1 * (y 1).val; omega

/-- The product's terms at a row and a column of the point's block. -/
def term (c : Dev nD) (n a b : ℕ) (k : ℕ) : EReal :=
  nat2 (n := 4096) (m := 2048) (m ((c : Thread nD τ).loc main_arg0)) k (n / 16 * 1024 + a)
    * nat2 (n := 4096) (m := 8192) (m ((c : Thread nD τ).loc main_arg1)) k (n / 2 % 8 * 1024 + b)

/-- A step's contribution continues the sum of the terms. -/
theorem part_read (c : Dev nD) (t : Fin cfg0.N) (y : S1024x1024.Idx) :
    ∑ k ∈ Finset.range (t.val % 2 * 2048), term m c t.val (y 0).val (y 1).val k + part (iblk m c 0 t) (iblk m c 1 t) y
      = ∑ k ∈ Finset.range (t.val % 2 * 2048 + 2048), term m c t.val (y 0).val (y 1).val k := by
  obtain ⟨e00, e01, e10, e11, -, -, -⟩ := index_of t
  unfold part
  refine sum_more (t.val % 2 * 2048) _ (term m c t.val (y 0).val (y 1).val) fun k => ?_
  rw [blk0, blk1, e00, e01, e10, e11]
  rfl

/-- The running sum after the first step of a block of the result. -/
theorem sum_first (c : Dev nD) (t : Fin cfg0.N) (h0 : t.val % 2 = 0) (y : S1024x1024.Idx) :
    (outsAt0 m c t.val t.isLt).2 y = ∑ k ∈ Finset.range 2048, term m c t.val (y 0).val (y 1).val k := by
  have e := part_read m c t y
  rw [h0, Nat.zero_mul, Finset.sum_range_zero, zero_add, Nat.zero_add] at e
  rw [← e, outsAt0_A m c t h0 h0 (by omega)]
  dsimp only
  rw [sumA]

/-- The result's block after the last step, from the sum after the step before. -/
theorem res_last (c : Dev nD) (t : Fin cfg0.N) (h2 : t.val % 2 = 1) (y : S1x1024x1024.Idx) :
    (dats m 0 c).flushed 2 t y
      = (outsAt0 m c (t.val - 1) (Nat.lt_of_le_of_lt (Nat.sub_le _ _) t.isLt)).2 (ValueIdx.ix2 (y 1) (y 2))
        + part (iblk m c 0 t) (iblk m c 1 t) (ValueIdx.ix2 (y 1) (y 2)) := by
  rw [flushed2_B m c t (by omega) (by omega) h2]
  exact resB _ _ _ _ _ _ _ _ _ _ _ _ (outsAt0 m c (t.val - 1) (Nat.lt_of_le_of_lt (Nat.sub_le _ _) t.isLt)).2 _ _ _ y

/-- What the last step leaves in the result's block. -/
theorem out_read (c : Dev nD) (t : Fin cfg0.N) (h2 : t.val % 2 = 1) (y : S1x1024x1024.Idx) :
    (dats m 0 c).flushed 2 t y = ∑ k ∈ Finset.range 4096, term m c t.val (y 1).val (y 2).val k := by
  have hp : t.val - 1 < cfg0.N := Nat.lt_of_le_of_lt (Nat.sub_le _ _) t.isLt
  have e := part_read m c t (ValueIdx.ix2 (y 1) (y 2))
  rw [h2] at e
  refine (res_last m c t h2 y).trans (Eq.trans (congrArg (· + _) ?_) e)
  refine (sum_first m c ⟨t.val - 1, hp⟩ (by dsimp only; omega) (ValueIdx.ix2 (y 1) (y 2))).trans (Finset.sum_congr rfl fun k _ => ?_)
  unfold term
  dsimp only
  rw [show (t.val - 1) / 16 = t.val / 16 by omega, show (t.val - 1) / 2 % 8 = t.val / 2 % 8 by omega]

/-- The result array. -/
theorem final (c : Dev nD) : (dats m 0 c).arrAt 2 cfg0.N
    = dw (a := 2048) (b := 8192) (l := 8) (n := 2048) (w := 1024) (m ((c : Thread nD τ).loc main_arg0)) (m ((c : Thread nD τ).loc main_arg1)) := by
  refine (dats m 0 c).arrAt_eq_of_cover 2 (dw (a := 2048) (b := 8192) (l := 8) (n := 2048) (w := 1024) (m ((c : Thread nD τ).loc main_arg0)) (m ((c : Thread nD τ).loc main_arg1)) : S8x2048x1024.Idx → EReal) (fun t hf => ?_) fun i => ?_
  · have h2 := (flush0_2 t).mp hf
    obtain ⟨-, -, -, -, e0, e1, e2⟩ := index_of t
    have hN : t.val < 32 := lt_of_lt_of_eq t.isLt N_0
    funext y
    have hy0 : (y 0).val < 1 := (y 0).isLt
    refine (out_read m c t h2 y).trans ?_
    unfold term
    have h0 : t.val / 16 * 1024 + (y 1).val = win0_2.index t 1 * 1024 + 1 * (y 1).val := by
      rw [e1]; omega
    have h1 : t.val / 2 % 8 * 1024 + (y 2).val = (win0_2.index t 0 * 1 + 1 * (y 0).val) * 1024 + (win0_2.index t 2 * 1024 + 1 * (y 2).val) := by
      rw [e0, e2]; omega
    rw [h0, h1]
    rfl
  · have h0 : (i 0 : ℕ) < 8 := (i 0).isLt
    have h1 : (i 1 : ℕ) < 2048 := (i 1).isLt
    have h2 : (i 2 : ℕ) < 1024 := (i 2).isLt
    have ht : 16 * ((i 1 : ℕ) / 1024) + 2 * (((i 0 : ℕ) * 1024 + (i 2 : ℕ)) / 1024) + 1 < cfg0.N := by rw [show cfg0.N = 32 from N_0]; omega
    refine ⟨⟨16 * ((i 1 : ℕ) / 1024) + 2 * (((i 0 : ℕ) * 1024 + (i 2 : ℕ)) / 1024) + 1, ht⟩, (flush0_2 _).mpr (by dsimp only; omega), ?_⟩
    obtain ⟨-, -, -, -, e0, e1, e2⟩ := index_of ⟨16 * ((i 1 : ℕ) / 1024) + 2 * (((i 0 : ℕ) * 1024 + (i 2 : ℕ)) / 1024) + 1, ht⟩
    show i ∈ ((View.whole main_v0).slice (win0_2.rect ⟨16 * ((i 1 : ℕ) / 1024) + 2 * (((i 0 : ℕ) * 1024 + (i 2 : ℕ)) / 1024) + 1, ht⟩)).set
    rw [View.set_slice_whole, Rect.mem_set_unit]
    intro a
    fin_cases a
    · show win0_2.index _ 0 * 1 ≤ (i 0 : ℕ) ∧ (i 0 : ℕ) < win0_2.index _ 0 * 1 + 1
      rw [e0]; dsimp only; omega
    · show win0_2.index _ 1 * 1024 ≤ (i 1 : ℕ) ∧ (i 1 : ℕ) < win0_2.index _ 1 * 1024 + 1024
      rw [e1]; dsimp only; omega
    · show win0_2.index _ 2 * 1024 ≤ (i 2 : ℕ) ∧ (i 2 : ℕ) < win0_2.index _ 2 * 1024 + 1024
      rw [e2]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = dw (a := 2048) (b := 8192) (l := 8) (n := 2048) (w := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.UpDwIdeal.Mm

end
-- ==== Proof.MmUpDwClaim.lean ====
/-
  The gradient of the first product of the feed-forward layer by its weights by the reference, and the claims of this call.
-/
module

public import proofs.«01_k».proof.Defs
public import proofs.«01_k».proof.Proof.MmUpDw
public import proofs.«01_k».proof.Proof.Gen.UpDw.Frame
public import proofs.«01_k».proof.Proof.Gen.UpDwRefIdeal.Read

@[expose] public section

set_option maxRecDepth 65536

noncomputable section

open Idealize.ShloMosaic Idealize.ShloMosaic.TcCoe Idealize.SL.Sem
open scoped BigOperators

namespace Cert.UpDwRefIdeal.Mm

open Cert.UpDwRefIdeal Cert.UpDwRefIdeal.Read Cert.Mm Idealize.ShloMosaic.StableHlo
open Cert.Mix (nat2 nat3 nat2_idx nat3_idx)

variable (x0 : S4096x2048.Idx → EReal) (x1 : S4096x8192.Idx → EReal)

/-- The product. -/
theorem rprod (i : S8192x2048.Idx) : val_main_v4 (F := Ideal) x0 x1 i
    = tn 4096 (nat2 (n := 4096) (m := 2048) x0) (nat2 (n := 4096) (m := 8192) x1) (i 1).val (i 0).val := by
  rw [val_main_v4_apply]
  refine sum_fin _ _ fun k => (mul_comm _ _).trans (congrArg₂ (· * ·) ?_ ?_)
  · exact (nat2_idx (n := 4096) (m := 2048) x0 _ _ _ rfl rfl).symm
  · exact (nat2_idx (n := 4096) (m := 8192) x1 _ _ _ rfl rfl).symm

/-- The result. -/
theorem rres (i : S8x2048x1024.Idx) : val_main_v8 (F := Ideal) x0 x1 i = dw (a := 2048) (b := 8192) (l := 8) (n := 2048) (w := 1024) x0 x1 i := by
  have h0 : (i 0).val < 8 := (i 0).isLt
  have h1 : (i 1).val < 2048 := (i 1).isLt
  have h2 : (i 2).val < 1024 := (i 2).isLt
  rw [val_main_v8_apply]
  show val_main_v7 (F := Ideal) x0 x1 i = _
  rw [val_main_v7_apply, val_main_v6_apply, val_main_v5_apply, rprod]
  unfold dw
  refine congrArg₂ _ ?_ ?_
  · show (((i 1).val * 8 + (i 0).val) * 1024 + (i 2).val) / 8192 = _; omega
  · show (((i 1).val * 8 + (i 0).val) * 1024 + (i 2).val) % 8192 = _; omega

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v8) = dw (a := 2048) (b := 8192) (l := 8) (n := 2048) (w := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v8_eq _ _)).trans (funext fun i => rres _ _ i), (h c).2⟩)
    (Cert.UpDwRefIdeal.Value.run (F := Ideal) m g)

end Cert.UpDwRefIdeal.Mm

namespace Cert.Mm.UpDw

/-- The kernel, at machine words, runs and leaves its arguments alone. -/
theorem frame_P : @Cert.quiescent_UpDw Cert.UpDw.Gen.facts := fun m g _ => Cert.UpDw.Gen.frame m g

/-- The kernel, at extended reals, runs and leaves its arguments alone. -/
theorem frame_PI : @Cert.quiescent_UpDwIdeal Cert.UpDwIdeal.Gen.facts := fun m g _ => Cert.UpDwIdeal.Gen.frame m g

/-- The reference runs and leaves its arguments alone. -/
theorem frame_RI : @Cert.quiescent_UpDwRefIdeal Cert.UpDwRefIdeal.Gen.facts := fun m g _ =>
  (θ_run Cert.UpDwRefIdeal.defs _ _).mono (fun r h => ⟨fun c => (h c).2, sem_eq_zero_of_no_sems (by decide) r.2⟩)
    (Cert.UpDwRefIdeal.Value.run (F := Ideal) m g)

/-- From the same arguments the kernel and the reference leave the same array. -/
theorem algebraic : @Cert.algebraic_UpDwIdeal_UpDwRefIdeal Cert.UpDwIdeal.Gen.facts Cert.UpDwRefIdeal.Gen.facts := by
  intro m g m' g' _ hag
  have hr := Cert.UpDwRefIdeal.Mm.run m' g'
  refine ⟨_, Cert.UpDwIdeal.Mm.run m g, (θ_run Cert.UpDwRefIdeal.defs _ _).mono (fun r h c => ⟨(h c).1.trans ?_, (h c).2⟩) hr⟩
  rw [(hag c).1, (hag c).2]

end Cert.Mm.UpDw

end
-- ==== Proof.MmOutDw.lean ====
/-
  The gradient of the mixer's output projection by its weights: the kernel's result array, element by element. The kernel takes
  the rows in two steps and keeps the running sum between them.
-/
module

public import proofs.«01_k».proof.Proof.MmSpec
public import proofs.«01_k».proof.Proof.Gen.OutDwIdeal.Value

@[expose] public section

set_option maxRecDepth 65536

noncomputable section

open Idealize.ShloMosaic Idealize.ShloMosaic.TcCoe Idealize.SL.Sem
open scoped BigOperators

namespace Cert.OutDwIdeal.Mm

open Cert.OutDwIdeal Cert.OutDwIdeal.Gen Cert.OutDwIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S1x1024x1024 .bf16) (harg5 : arg5.IsWhole)
variable (arg6 : Memref sig .tc .vmem S1024x1024 .f32) (harg6 : arg6.IsWhole)
variable (x0 : Vec F S2048x1024 .bf16) (x1 : Vec F S2048x1024 .bf16) (xs0 : Vec F S1024x1024 .f32)

abbrev rW : Rect S1024x1024 := Rect.unit (s := S1024x1024) ![0, 0] S1024x1024.size inb_S1024x1024_S1024x1024_0_0
abbrev rL : Rect S2048x1024 := Rect.unit (s := S2048x1024) ![0, 0] S2048x1024.size inb_S2048x1024_S2048x1024_0_0
abbrev rO : Rect S1x1024x1024 := Rect.unit (s := S1x1024x1024) ![0, 0, 0] S1x1024x1024.size inb_S1x1024x1024_S1x1024x1024_0_0_0

/-- What the first step stores in the running sum. -/
theorem runA (hc0 : cond0_0 i) (hc1 : cond0_1 i) (hc2 : ¬cond0_2 i) :
    (kernelRun0_A c i arg3 harg3 arg4 harg4 arg5 harg5 arg6 harg6 hc0 hc1 hc2 x0 x1).2.1
      = [⟨rW, k0_pay2 (arg6.view.readCov [⟨rW, k0_pay1⟩] rW.toLoadRect) (View.readAt (Elt F) arg3.view rL.toLoadRect (harg3.unread x0))
          (View.readAt (Elt F) arg4.view rL.toLoadRect (harg4.unread x1))⟩, ⟨rW, k0_pay1⟩] := rfl

/-- What the last step stores in the result's block. -/
theorem runB (hc0 : ¬cond0_0 i) (hc1 : ¬cond0_1 i) (hc2 : cond0_2 i) :
    (kernelRun0_B c i arg3 harg3 arg4 harg4 arg5 harg5 arg6 harg6 hc0 hc1 hc2 x0 x1 xs0).1
      = [⟨rO, k0_pay3 (View.readAt (Elt F) arg6.view rW.toLoadRect (harg6.unread xs0)) (View.readAt (Elt F) arg3.view rL.toLoadRect (harg3.unread x0))
          (View.readAt (Elt F) arg4.view rL.toLoadRect (harg4.unread x1))⟩] := rfl

end Runs

variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S1x1024x1024 .bf16) (harg5 : arg5.IsWhole)
variable (arg6 : Memref sig .tc .vmem S1024x1024 .f32) (harg6 : arg6.IsWhole)
variable (x0 : Vec Ideal S2048x1024 .bf16) (x1 : Vec Ideal S2048x1024 .bf16) (xs0 : Vec Ideal S1024x1024 .f32)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A step's contribution. -/
def part (y : S1024x1024.Idx) : EReal := ∑ k : Fin 2048, x0 (ValueIdx.ix2 k (y 0)) * x1 (ValueIdx.ix2 k (y 1))

/-- The product of two tiles. -/
theorem mul_read (y : S1024x1024.Idx) :
    FloatOps.matmul (F := Ideal) (φ₁ := .bf16) (φ₂ := .bf16) dot_S2048x1024_S2048x1024_S1024x1024_0_0_1_1_n_n none x0 x1 (constant S1024x1024 .f32 0x00000000#32) y = part x0 x1 y :=
  tn_read (M := 1024) (K := 2048) (N := 1024) (φ₁ := .bf16) (φ₂ := .bf16) dot_S2048x1024_S2048x1024_S1024x1024_0_0_1_1_n_n rfl rfl
    (fun _ _ => DotDims.lhsIdx_val_of_single _ rfl _ _) (fun _ _ => by
      unfold DotDims.lhsIdx
      rw [dif_neg (by decide), dif_pos (by decide)]
      rfl)
    (fun _ _ => DotDims.rhsIdx_val_of_single _ rfl _ _) (fun _ _ => by
      unfold DotDims.rhsIdx
      rw [dif_neg (by decide), dif_pos (by decide)]
      rfl) none x0 x1 y

/-- What the first step stores in the running sum, element by element. -/
theorem pay2_read (y : S1024x1024.Idx) : k0_pay2 (F := Ideal) xs0 x0 x1 y = xs0 y + part x0 x1 y := by
  unfold k0_pay2
  exact (same_read _ _ y).trans (congrArg (xs0 y + ·) (mul_read x0 x1 y))

/-- What the last step stores in the result's block, element by element. -/
theorem pay3_read (y : S1x1024x1024.Idx) : k0_pay3 (F := Ideal) xs0 x0 x1 y
    = xs0 (ValueIdx.ix2 (y 1) (y 2)) + part x0 x1 (ValueIdx.ix2 (y 1) (y 2)) := by
  unfold k0_pay3
  exact (add_read (R := 1024) (C := 1024) _ _ y).trans (congrArg (xs0 (ValueIdx.ix2 (y 1) (y 2)) + ·) (mul_read x0 x1 _))

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 hc0 hc1 hc2 x0 x1 y = part x0 x1 y := by
  unfold sout0_A_0
  rw [runA, View.read_writes_full, View.readCov_full]
  simp only [View.readAt_eq_ld, Memref.IsWhole.read_unread]
  rw [View.ld_unit_zero (S := S2048x1024) hz2, View.ld_unit_zero (S := S2048x1024) hz2, pay2_read, pay1_read, zero_add]

/-- The result's block after the last step. -/
theorem resB (hc0 : ¬cond0_0 i) (hc1 : ¬cond0_1 i) (hc2 : cond0_2 i) (y : S1x1024x1024.Idx) :
    out0_B_2 (F := Ideal) c i arg3 harg3 arg4 harg4 arg5 harg5 arg6 harg6 hc0 hc1 hc2 x0 x1 xs0 y
      = xs0 (ValueIdx.ix2 (y 1) (y 2)) + part x0 x1 (ValueIdx.ix2 (y 1) (y 2)) := by
  unfold out0_B_2
  rw [runB, View.read_writes_full]
  simp only [View.readAt_eq_ld, Memref.IsWhole.read_unread]
  rw [View.ld_unit_zero (S := S1024x1024) hz2, View.ld_unit_zero (S := S2048x1024) hz2, View.ld_unit_zero (S := S2048x1024) hz2, pay3_read]

end Cert.OutDwIdeal.Mm

namespace Cert.OutDwIdeal.Mm

open Cert.OutDwIdeal Cert.OutDwIdeal.Gen Cert.OutDwIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val % 2 ∧ win0_0.index t 1 = t.val / 4
    ∧ win0_1.index t 0 = t.val % 2 ∧ win0_1.index t 1 = t.val / 2 % 2
    ∧ win0_2.index t 0 = 0 ∧ win0_2.index t 1 = t.val / 4 ∧ win0_2.index t 2 = t.val / 2 % 2 :=
  (by decide +kernel : ∀ t : Fin grid0.N, _)

/-- The left factor's block. -/
theorem blk0 (c : Dev nD) (t : Fin cfg0.N) (y : S2048x1024.Idx) : (iblk m c 0 t : Vec Ideal S2048x1024 .bf16) y
    = nat2 (n := 4096) (m := 2048) (m ((c : Thread nD τ).loc main_arg0)) (win0_0.index t 0 * 2048 + (y 0).val) (win0_0.index t 1 * 1024 + (y 1).val) := by
  refine (nat2_idx (n := 4096) (m := 2048) (m ((c : Thread nD τ).loc main_arg0)) _ _ _ ?_ ?_).symm
  · show _ = win0_0.index t 0 * 2048 + 1 * (y 0).val; omega
  · show _ = win0_0.index t 1 * 1024 + 1 * (y 1).val; omega

/-- The cotangent's block. -/
theorem blk1 (c : Dev nD) (t : Fin cfg0.N) (y : S2048x1024.Idx) : (iblk m c 1 t : Vec Ideal S2048x1024 .bf16) y
    = nat2 (n := 4096) (m := 2048) (m ((c : Thread nD τ).loc main_arg1)) (win0_1.index t 0 * 2048 + (y 0).val) (win0_1.index t 1 * 1024 + (y 1).val) := by
  refine (nat2_idx (n := 4096) (m := 2048) (m ((c : Thread nD τ).loc main_arg1)) _ _ _ ?_ ?_).symm
  · show _ = win0_1.index t 0 * 2048 + 1 * (y 0).val; omega
  · show _ = win0_1.index t 1 * 1024 + 1 * (y 1).val; omega

/-- The product's terms at a row and a column of the point's block. -/
def term (c : Dev nD) (n a b : ℕ) (k : ℕ) : EReal :=
  nat2 (n := 4096) (m := 2048) (m ((c : Thread nD τ).loc main_arg0)) k (n / 4 * 1024 + a)
    * nat2 (n := 4096) (m := 2048) (m ((c : Thread nD τ).loc main_arg1)) k (n / 2 % 2 * 1024 + b)

/-- A step's contribution continues the sum of the terms. -/
theorem part_read (c : Dev nD) (t : Fin cfg0.N) (y : S1024x1024.Idx) :
    ∑ k ∈ Finset.range (t.val % 2 * 2048), term m c t.val (y 0).val (y 1).val k + part (iblk m c 0 t) (iblk m c 1 t) y
      = ∑ k ∈ Finset.range (t.val % 2 * 2048 + 2048), term m c t.val (y 0).val (y 1).val k := by
  obtain ⟨e00, e01, e10, e11, -, -, -⟩ := index_of t
  unfold part
  refine sum_more (t.val % 2 * 2048) _ (term m c t.val (y 0).val (y 1).val) fun k => ?_
  rw [blk0, blk1, e00, e01, e10, e11]
  rfl

/-- The running sum after the first step of a block of the result. -/
theorem sum_first (c : Dev nD) (t : Fin cfg0.N) (h0 : t.val % 2 = 0) (y : S1024x1024.Idx) :
    (outsAt0 m c t.val t.isLt).2 y = ∑ k ∈ Finset.range 2048, term m c t.val (y 0).val (y 1).val k := by
  have e := part_read m c t y
  rw [h0, Nat.zero_mul, Finset.sum_range_zero, zero_add, Nat.zero_add] at e
  rw [← e, outsAt0_A m c t h0 h0 (by omega)]
  dsimp only
  rw [sumA]

/-- The result's block after the last step, from the sum after the step before. -/
theorem res_last (c : Dev nD) (t : Fin cfg0.N) (h2 : t.val % 2 = 1) (y : S1x1024x1024.Idx) :
    (dats m 0 c).flushed 2 t y
      = (outsAt0 m c (t.val - 1) (Nat.lt_of_le_of_lt (Nat.sub_le _ _) t.isLt)).2 (ValueIdx.ix2 (y 1) (y 2))
        + part (iblk m c 0 t) (iblk m c 1 t) (ValueIdx.ix2 (y 1) (y 2)) := by
  rw [flushed2_B m c t (by omega) (by omega) h2]
  exact resB _ _ _ _ _ _ _ _ _ _ _ _ (outsAt0 m c (t.val - 1) (Nat.lt_of_le_of_lt (Nat.sub_le _ _) t.isLt)).2 _ _ _ y

/-- What the last step leaves in the result's block. -/
theorem out_read (c : Dev nD) (t : Fin cfg0.N) (h2 : t.val % 2 = 1) (y : S1x1024x1024.Idx) :
    (dats m 0 c).flushed 2 t y = ∑ k ∈ Finset.range 4096, term m c t.val (y 1).val (y 2).val k := by
  have hp : t.val - 1 < cfg0.N := Nat.lt_of_le_of_lt (Nat.sub_le _ _) t.isLt
  have e := part_read m c t (ValueIdx.ix2 (y 1) (y 2))
  rw [h2] at e
  refine (res_last m c t h2 y).trans (Eq.trans (congrArg (· + _) ?_) e)
  refine (sum_first m c ⟨t.val - 1, hp⟩ (by dsimp only; omega) (ValueIdx.ix2 (y 1) (y 2))).trans (Finset.sum_congr rfl fun k _ => ?_)
  unfold term
  dsimp only
  rw [show (t.val - 1) / 4 = t.val / 4 by omega, show (t.val - 1) / 2 % 2 = t.val / 2 % 2 by omega]

/-- The result array. -/
theorem final (c : Dev nD) : (dats m 0 c).arrAt 2 cfg0.N
    = dw (a := 2048) (b := 2048) (l := 1) (n := 2048) (w := 2048) (m ((c : Thread nD τ).loc main_arg0)) (m ((c : Thread nD τ).loc main_arg1)) := by
  refine (dats m 0 c).arrAt_eq_of_cover 2 (dw (a := 2048) (b := 2048) (l := 1) (n := 2048) (w := 2048) (m ((c : Thread nD τ).loc main_arg0)) (m ((c : Thread nD τ).loc main_arg1)) : S1x2048x2048.Idx → EReal) (fun t hf => ?_) fun i => ?_
  · have h2 := (flush0_2 t).mp hf
    obtain ⟨-, -, -, -, e0, e1, e2⟩ := index_of t
    have hN : t.val < 8 := lt_of_lt_of_eq t.isLt N_0
    funext y
    have hy0 : (y 0).val < 1 := (y 0).isLt
    refine (out_read m c t h2 y).trans ?_
    unfold term
    have h0 : t.val / 4 * 1024 + (y 1).val = win0_2.index t 1 * 1024 + 1 * (y 1).val := by
      rw [e1]; omega
    have h1 : t.val / 2 % 2 * 1024 + (y 2).val = (win0_2.index t 0 * 1 + 1 * (y 0).val) * 2048 + (win0_2.index t 2 * 1024 + 1 * (y 2).val) := by
      rw [e0, e2]; omega
    rw [h0, h1]
    rfl
  · have h0 : (i 0 : ℕ) < 1 := (i 0).isLt
    have h1 : (i 1 : ℕ) < 2048 := (i 1).isLt
    have h2 : (i 2 : ℕ) < 2048 := (i 2).isLt
    have ht : 4 * ((i 1 : ℕ) / 1024) + 2 * (((i 0 : ℕ) * 2048 + (i 2 : ℕ)) / 1024) + 1 < cfg0.N := by rw [show cfg0.N = 8 from N_0]; omega
    refine ⟨⟨4 * ((i 1 : ℕ) / 1024) + 2 * (((i 0 : ℕ) * 2048 + (i 2 : ℕ)) / 1024) + 1, ht⟩, (flush0_2 _).mpr (by dsimp only; omega), ?_⟩
    obtain ⟨-, -, -, -, e0, e1, e2⟩ := index_of ⟨4 * ((i 1 : ℕ) / 1024) + 2 * (((i 0 : ℕ) * 2048 + (i 2 : ℕ)) / 1024) + 1, ht⟩
    show i ∈ ((View.whole main_v0).slice (win0_2.rect ⟨4 * ((i 1 : ℕ) / 1024) + 2 * (((i 0 : ℕ) * 2048 + (i 2 : ℕ)) / 1024) + 1, ht⟩)).set
    rw [View.set_slice_whole, Rect.mem_set_unit]
    intro a
    fin_cases a
    · show win0_2.index _ 0 * 1 ≤ (i 0 : ℕ) ∧ (i 0 : ℕ) < win0_2.index _ 0 * 1 + 1
      rw [e0]; dsimp only; omega
    · show win0_2.index _ 1 * 1024 ≤ (i 1 : ℕ) ∧ (i 1 : ℕ) < win0_2.index _ 1 * 1024 + 1024
      rw [e1]; dsimp only; omega
    · show win0_2.index _ 2 * 1024 ≤ (i 2 : ℕ) ∧ (i 2 : ℕ) < win0_2.index _ 2 * 1024 + 1024
      rw [e2]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = dw (a := 2048) (b := 2048) (l := 1) (n := 2048) (w := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.OutDwIdeal.Mm

end
-- ==== Proof.MmOutDwClaim.lean ====
/-
  The gradient of the mixer's output projection by its weights by the reference, and the claims of this call.
-/
module

public import proofs.«01_k».proof.Defs
public import proofs.«01_k».proof.Proof.MmOutDw
public import proofs.«01_k».proof.Proof.Gen.OutDw.Frame
public import proofs.«01_k».proof.Proof.Gen.OutDwRefIdeal.Read

@[expose] public section

set_option maxRecDepth 65536

noncomputable section

open Idealize.ShloMosaic Idealize.ShloMosaic.TcCoe Idealize.SL.Sem
open scoped BigOperators

namespace Cert.OutDwRefIdeal.Mm

open Cert.OutDwRefIdeal Cert.OutDwRefIdeal.Read Cert.Mm Idealize.ShloMosaic.StableHlo
open Cert.Mix (nat2 nat3 nat2_idx nat3_idx)

variable (x0 : S4096x2048.Idx → EReal) (x1 : S4096x2048.Idx → EReal)

/-- The product. -/
theorem rprod (i : S2048x2048.Idx) : val_main_v6 (F := Ideal) x0 x1 i
    = tn 4096 (nat2 (n := 4096) (m := 2048) x0) (nat2 (n := 4096) (m := 2048) x1) (i 1).val (i 0).val := by
  rw [val_main_v6_apply]
  refine sum_fin _ _ fun k => (mul_comm _ _).trans (congrArg₂ (· * ·) ?_ ?_)
  · exact (nat2_idx (n := 4096) (m := 2048) x0 _ _ _ rfl rfl).symm
  · exact (nat2_idx (n := 4096) (m := 2048) x1 _ _ _ rfl rfl).symm

/-- The result. -/
theorem rres (i : S1x2048x2048.Idx) : val_main_v9 (F := Ideal) x0 x1 i = dw (a := 2048) (b := 2048) (l := 1) (n := 2048) (w := 2048) x0 x1 i := by
  have h0 : (i 0).val < 1 := (i 0).isLt
  rw [val_main_v9_apply, val_main_v8_apply]
  show val_main_v7 (F := Ideal) x0 x1 _ = _
  rw [val_main_v7_apply, rprod]
  unfold dw
  refine congrArg₂ _ rfl ?_
  show (i 2).val = (i 0).val * 2048 + (i 2).val; omega

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v9) = dw (a := 2048) (b := 2048) (l := 1) (n := 2048) (w := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v9_eq _ _)).trans (funext fun i => rres _ _ i), (h c).2⟩)
    (Cert.OutDwRefIdeal.Value.run (F := Ideal) m g)

end Cert.OutDwRefIdeal.Mm

namespace Cert.Mm.OutDw

/-- The kernel, at machine words, runs and leaves its arguments alone. -/
theorem frame_P : @Cert.quiescent_OutDw Cert.OutDw.Gen.facts := fun m g _ => Cert.OutDw.Gen.frame m g

/-- The kernel, at extended reals, runs and leaves its arguments alone. -/
theorem frame_PI : @Cert.quiescent_OutDwIdeal Cert.OutDwIdeal.Gen.facts := fun m g _ => Cert.OutDwIdeal.Gen.frame m g

/-- The reference runs and leaves its arguments alone. -/
theorem frame_RI : @Cert.quiescent_OutDwRefIdeal Cert.OutDwRefIdeal.Gen.facts := fun m g _ =>
  (θ_run Cert.OutDwRefIdeal.defs _ _).mono (fun r h => ⟨fun c => (h c).2, sem_eq_zero_of_no_sems (by decide) r.2⟩)
    (Cert.OutDwRefIdeal.Value.run (F := Ideal) m g)

/-- From the same arguments the kernel and the reference leave the same array. -/
theorem algebraic : @Cert.algebraic_OutDwIdeal_OutDwRefIdeal Cert.OutDwIdeal.Gen.facts Cert.OutDwRefIdeal.Gen.facts := by
  intro m g m' g' _ hag
  have hr := Cert.OutDwRefIdeal.Mm.run m' g'
  refine ⟨_, Cert.OutDwIdeal.Mm.run m g, (θ_run Cert.OutDwRefIdeal.defs _ _).mono (fun r h c => ⟨(h c).1.trans ?_, (h c).2⟩) hr⟩
  rw [(hag c).1, (hag c).2]

end Cert.Mm.OutDw

end
-- ==== Proof.MmInDw.lean ====
/-
  The gradient of the mixer's input projection by its weights: the kernel's result array, element by element. The kernel
  takes the rows in two steps, keeps the running sum between them, and stores the last sum as two blocks of columns.
-/
module

public import proofs.«01_k».proof.Proof.MmSpec
public import Idealize.ShloMosaic.Lib.WritesUnit
public import proofs.«01_k».proof.Proof.Gen.InDwIdeal.Value

@[expose] public section

set_option maxRecDepth 65536

noncomputable section

open Idealize.ShloMosaic Idealize.ShloMosaic.TcCoe Idealize.SL.Sem
open scoped BigOperators

namespace Cert.InDwIdeal.Mm

open Cert.InDwIdeal Cert.InDwIdeal.Gen Cert.InDwIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S2x1024x512 .bf16) (harg5 : arg5.IsWhole)
variable (arg6 : Memref sig .tc .vmem S1024x1024 .f32) (harg6 : arg6.IsWhole)
variable (x0 : Vec F S2048x1024 .bf16) (x1 : Vec F S2048x1024 .bf16) (xs0 : Vec F S1024x1024 .f32)

abbrev rW : Rect S1024x1024 := Rect.unit (s := S1024x1024) ![0, 0] S1024x1024.size inb_S1024x1024_S1024x1024_0_0
abbrev rL : Rect S2048x1024 := Rect.unit (s := S2048x1024) ![0, 0] S2048x1024.size inb_S2048x1024_S2048x1024_0_0
abbrev rO0 : Rect S2x1024x512 := Rect.unit (s := S2x1024x512) ![0, 0, 0] S1x1024x512.size inb_S2x1024x512_S1x1024x512_0_0_0
abbrev rO1 : Rect S2x1024x512 := Rect.unit (s := S2x1024x512) ![1, 0, 0] S1x1024x512.size inb_S2x1024x512_S1x1024x512_1_0_0

/-- What the first step stores in the running sum. -/
theorem runA (hc0 : cond0_0 i) (hc1 : cond0_1 i) (hc2 : ¬cond0_2 i) :
    (kernelRun0_A c i arg3 harg3 arg4 harg4 arg5 harg5 arg6 harg6 hc0 hc1 hc2 x0 x1).2.1
      = [⟨rW, k0_pay2 (arg6.view.readCov [⟨rW, k0_pay1⟩] rW.toLoadRect) (View.readAt (Elt F) arg3.view rL.toLoadRect (harg3.unread x0))
          (View.readAt (Elt F) arg4.view rL.toLoadRect (harg4.unread x1))⟩, ⟨rW, k0_pay1⟩] := rfl

/-- What the last step stores in the two blocks of the result. -/
theorem runB (hc0 : ¬cond0_0 i) (hc1 : ¬cond0_1 i) (hc2 : cond0_2 i) :
    (kernelRun0_B c i arg3 harg3 arg4 harg4 arg5 harg5 arg6 harg6 hc0 hc1 hc2 x0 x1 xs0).1
      = [⟨rO1, k0_pay5 (View.readAt (Elt F) arg6.view rW.toLoadRect (harg6.unread xs0)) (View.readAt (Elt F) arg3.view rL.toLoadRect (harg3.unread x0))
          (View.readAt (Elt F) arg4.view rL.toLoadRect (harg4.unread x1))⟩,
        ⟨rO0, k0_pay4 (View.readAt (Elt F) arg6.view rW.toLoadRect (harg6.unread xs0)) (View.readAt (Elt F) arg3.view rL.toLoadRect (harg3.unread x0))
          (View.readAt (Elt F) arg4.view rL.toLoadRect (harg4.unread x1))⟩] := rfl

end Runs

variable (c : Dev nD) (i : grid0.Coords)
variable (arg3 : Memref sig .tc .vmem S2048x1024 .bf16) (harg3 : arg3.IsWhole)
variable (arg4 : Memref sig .tc .vmem S2048x1024 .bf16) (harg4 : arg4.IsWhole)
variable (arg5 : Memref sig .tc .vmem S2x1024x512 .bf16) (harg5 : arg5.IsWhole)
variable (arg6 : Memref sig .tc .vmem S1024x1024 .f32) (harg6 : arg6.IsWhole)
variable (x0 : Vec Ideal S2048x1024 .bf16) (x1 : Vec Ideal S2048x1024 .bf16) (xs0 : Vec Ideal S1024x1024 .f32)

theorem hz2 : (![0, 0] : Fin 2 → ℕ) = fun _ => 0 := funext fun a => by fin_cases a <;> rfl

/-- A step's contribution. -/
def part (y : S1024x1024.Idx) : EReal := ∑ k : Fin 2048, x0 (ValueIdx.ix2 k (y 0)) * x1 (ValueIdx.ix2 k (y 1))

/-- The product of two tiles. -/
theorem mul_read (y : S1024x1024.Idx) :
    FloatOps.matmul (F := Ideal) (φ₁ := .bf16) (φ₂ := .bf16) dot_S2048x1024_S2048x1024_S1024x1024_0_0_1_1_n_n none x0 x1 (constant S1024x1024 .f32 0x00000000#32) y = part x0 x1 y :=
  tn_read (M := 1024) (K := 2048) (N := 1024) (φ₁ := .bf16) (φ₂ := .bf16) dot_S2048x1024_S2048x1024_S1024x1024_0_0_1_1_n_n rfl rfl
    (fun _ _ => DotDims.lhsIdx_val_of_single _ rfl _ _) (fun _ _ => by
      unfold DotDims.lhsIdx
      rw [dif_neg (by decide), dif_pos (by decide)]
      rfl)
    (fun _ _ => DotDims.rhsIdx_val_of_single _ rfl _ _) (fun _ _ => by
      unfold DotDims.rhsIdx
      rw [dif_neg (by decide), dif_pos (by decide)]
      rfl) none x0 x1 y

/-- What the first step stores in the running sum, element by element. -/
theorem pay2_read (y : S1024x1024.Idx) : k0_pay2 (F := Ideal) xs0 x0 x1 y = xs0 y + part x0 x1 y := by
  unfold k0_pay2
  exact (same_read _ _ y).trans (congrArg (xs0 y + ·) (mul_read x0 x1 y))

/-- The sum of the last step, element by element. -/
theorem pay3_read (y : S1024x1024.Idx) : k0_pay3 (F := Ideal) xs0 x0 x1 y = xs0 y + part x0 x1 y := by
  unfold k0_pay3
  exact congrArg (xs0 y + ·) (mul_read x0 x1 y)

/-- What the last step stores in the first block of the result, element by element. -/
theorem pay4_read (y : S1x1024x512.Idx) (z : S1024x1024.Idx) (h0 : (z 0).val = (y 1).val) (h1 : (z 1).val = 0 + (y 2).val) :
    k0_pay4 (F := Ideal) xs0 x0 x1 y = xs0 z + part x0 x1 z := by
  unfold k0_pay4
  refine (add_read (R := 1024) (C := 512) _ _ y).trans ?_
  refine Eq.trans (extractStridedSlice_apply (s := S1024x1024) (t := S1024x512) ![0, 0] (k0_pay3 (F := Ideal) xs0 x0 x1) slices_S1024x1024_o0_0_S1024x512 (ValueIdx.ix2 (y 1) (y 2)) z fun a => ?_) (pay3_read x0 x1 xs0 z)
  match a with
  | ⟨0, _⟩ => exact h0.trans (Nat.zero_add _).symm
  | ⟨1, _⟩ => exact h1

/-- What the last step stores in the second block of the result, element by element. -/
theorem pay5_read (y : S1x1024x512.Idx) (z : S1024x1024.Idx) (h0 : (z 0).val = (y 1).val) (h1 : (z 1).val = 512 + (y 2).val) :
    k0_pay5 (F := Ideal) xs0 x0 x1 y = xs0 z + part x0 x1 z := by
  unfold k0_pay5
  refine (add_read (R := 1024) (C := 512) _ _ y).trans ?_
  refine Eq.trans (extractStridedSlice_apply (s := S1024x1024) (t := S1024x512) ![0, 512] (k0_pay3 (F := Ideal) xs0 x0 x1) slices_S1024x1024_o0_512_S1024x512 (ValueIdx.ix2 (y 1) (y 2)) z fun a => ?_) (pay3_read x0 x1 xs0 z)
  match a with
  | ⟨0, _⟩ => exact h0.trans (Nat.zero_add _).symm
  | ⟨1, _⟩ => exact h1

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 hc0 hc1 hc2 x0 x1 y = part x0 x1 y := by
  unfold sout0_A_0
  rw [runA, View.read_writes_full, View.readCov_full]
  simp only [View.readAt_eq_ld, Memref.IsWhole.read_unread]
  rw [View.ld_unit_zero (S := S2048x1024) hz2, View.ld_unit_zero (S := S2048x1024) hz2, pay2_read, pay1_read, zero_add]

/-- The blocks of the result after the last step. -/
theorem resB (hc0 : ¬cond0_0 i) (hc1 : ¬cond0_1 i) (hc2 : cond0_2 i) (y : S2x1024x512.Idx) (z : S1024x1024.Idx) (h0 : (z 0).val = (y 1).val)
    (h1 : (z 1).val = (y 0).val * 512 + (y 2).val) :
    out0_B_2 (F := Ideal) c i arg3 harg3 arg4 harg4 arg5 harg5 arg6 harg6 hc0 hc1 hc2 x0 x1 xs0 y = xs0 z + part x0 x1 z := by
  have hy0 : (y 0).val < 2 := (y 0).isLt
  unfold out0_B_2
  rw [runB]
  simp only [View.readAt_eq_ld, Memref.IsWhole.read_unread]
  rw [View.ld_unit_zero (S := S1024x1024) hz2, View.ld_unit_zero (S := S2048x1024) hz2, View.ld_unit_zero (S := S2048x1024) hz2]
  by_cases h : (y 0).val = 1
  · refine (View.read_writes_cons_unit_of_mem _ _ _ _ _ y (ValueIdx.ix3 0 (y 1) (y 2)) rfl fun a => ?_).trans
      (pay5_read x0 x1 xs0 _ z h0 (by rw [h1, h]))
    match a with
    | ⟨0, _⟩ => exact h
    | ⟨1, _⟩ => exact (Nat.zero_add _).symm
    | ⟨2, _⟩ => exact (Nat.zero_add _).symm
  · have h' : (y 0).val = 0 := by omega
    refine (View.read_writes_cons_unit_of_not_mem _ _ _ _ _ y rfl 0 (Or.inl (by show (y 0).val < 1; omega))).trans ?_
    refine (View.read_writes_cons_unit_of_mem _ _ _ _ _ y (ValueIdx.ix3 0 (y 1) (y 2)) rfl fun a => ?_).trans
      (pay4_read x0 x1 xs0 _ z h0 (by rw [h1, h']))
    match a with
    | ⟨0, _⟩ => exact h'
    | ⟨1, _⟩ => exact (Nat.zero_add _).symm
    | ⟨2, _⟩ => exact (Nat.zero_add _).symm

end Cert.InDwIdeal.Mm

namespace Cert.InDwIdeal.Mm

open Cert.InDwIdeal Cert.InDwIdeal.Gen Cert.InDwIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val % 2 ∧ win0_0.index t 1 = t.val / 8
    ∧ win0_1.index t 0 = t.val % 2 ∧ win0_1.index t 1 = t.val / 2 % 4
    ∧ win0_2.index t 0 = t.val / 2 % 4 ∧ win0_2.index t 1 = t.val / 8 ∧ win0_2.index t 2 = 0 :=
  (by decide +kernel : ∀ t : Fin grid0.N, _)

/-- The left factor's block. -/
theorem blk0 (c : Dev nD) (t : Fin cfg0.N) (y : S2048x1024.Idx) : (iblk m c 0 t : Vec Ideal S2048x1024 .bf16) y
    = nat2 (n := 4096) (m := 2048) (m ((c : Thread nD τ).loc main_arg0)) (win0_0.index t 0 * 2048 + (y 0).val) (win0_0.index t 1 * 1024 + (y 1).val) := by
  refine (nat2_idx (n := 4096) (m := 2048) (m ((c : Thread nD τ).loc main_arg0)) _ _ _ ?_ ?_).symm
  · show _ = win0_0.index t 0 * 2048 + 1 * (y 0).val; omega
  · show _ = win0_0.index t 1 * 1024 + 1 * (y 1).val; omega

/-- The cotangent's block. -/
theorem blk1 (c : Dev nD) (t : Fin cfg0.N) (y : S2048x1024.Idx) : (iblk m c 1 t : Vec Ideal S2048x1024 .bf16) y
    = nat2 (n := 4096) (m := 4096) (m ((c : Thread nD τ).loc main_arg1)) (win0_1.index t 0 * 2048 + (y 0).val) (win0_1.index t 1 * 1024 + (y 1).val) := by
  refine (nat2_idx (n := 4096) (m := 4096) (m ((c : Thread nD τ).loc main_arg1)) _ _ _ ?_ ?_).symm
  · show _ = win0_1.index t 0 * 2048 + 1 * (y 0).val; omega
  · show _ = win0_1.index t 1 * 1024 + 1 * (y 1).val; omega

/-- The product's terms at a row and a column of the point's block. -/
def term (c : Dev nD) (n a b : ℕ) (k : ℕ) : EReal :=
  nat2 (n := 4096) (m := 2048) (m ((c : Thread nD τ).loc main_arg0)) k (n / 8 * 1024 + a)
    * nat2 (n := 4096) (m := 4096) (m ((c : Thread nD τ).loc main_arg1)) k (n / 2 % 4 * 1024 + b)

/-- A step's contribution continues the sum of the terms. -/
theorem part_read (c : Dev nD) (t : Fin cfg0.N) (y : S1024x1024.Idx) :
    ∑ k ∈ Finset.range (t.val % 2 * 2048), term m c t.val (y 0).val (y 1).val k + part (iblk m c 0 t) (iblk m c 1 t) y
      = ∑ k ∈ Finset.range (t.val % 2 * 2048 + 2048), term m c t.val (y 0).val (y 1).val k := by
  obtain ⟨e00, e01, e10, e11, -, -, -⟩ := index_of t
  unfold part
  refine sum_more (t.val % 2 * 2048) _ (term m c t.val (y 0).val (y 1).val) fun k => ?_
  rw [blk0, blk1, e00, e01, e10, e11]
  rfl

/-- The running sum after the first step of a block of the result. -/
theorem sum_first (c : Dev nD) (t : Fin cfg0.N) (h0 : t.val % 2 = 0) (y : S1024x1024.Idx) :
    (outsAt0 m c t.val t.isLt).2 y = ∑ k ∈ Finset.range 2048, term m c t.val (y 0).val (y 1).val k := by
  have e := part_read m c t y
  rw [h0, Nat.zero_mul, Finset.sum_range_zero, zero_add, Nat.zero_add] at e
  rw [← e, outsAt0_A m c t h0 h0 (by omega)]
  dsimp only
  rw [sumA]

/-- The result's block after the last step, from the sum after the step before. -/
theorem res_last (c : Dev nD) (t : Fin cfg0.N) (h2 : t.val % 2 = 1) (y : S2x1024x512.Idx) (z : S1024x1024.Idx) (hz0 : (z 0).val = (y 1).val)
    (hz1 : (z 1).val = (y 0).val * 512 + (y 2).val) :
    (dats m 0 c).flushed 2 t y
      = (outsAt0 m c (t.val - 1) (Nat.lt_of_le_of_lt (Nat.sub_le _ _) t.isLt)).2 z
        + part (iblk m c 0 t) (iblk m c 1 t) z := by
  rw [flushed2_B m c t (by omega) (by omega) h2]
  exact resB _ _ _ _ _ _ _ _ _ _ _ _ (outsAt0 m c (t.val - 1) (Nat.lt_of_le_of_lt (Nat.sub_le _ _) t.isLt)).2 _ _ _ y z hz0 hz1

/-- What the last step leaves in the blocks of the result. -/
theorem out_read (c : Dev nD) (t : Fin cfg0.N) (h2 : t.val % 2 = 1) (y : S2x1024x512.Idx) (z : S1024x1024.Idx) (hz0 : (z 0).val = (y 1).val)
    (hz1 : (z 1).val = (y 0).val * 512 + (y 2).val) :
    (dats m 0 c).flushed 2 t y = ∑ k ∈ Finset.range 4096, term m c t.val (z 0).val (z 1).val k := by
  have hp : t.val - 1 < cfg0.N := Nat.lt_of_le_of_lt (Nat.sub_le _ _) t.isLt
  have e := part_read m c t z
  rw [h2] at e
  refine (res_last m c t h2 y z hz0 hz1).trans (Eq.trans (congrArg (· + _) ?_) e)
  refine (sum_first m c ⟨t.val - 1, hp⟩ (by dsimp only; omega) z).trans (Finset.sum_congr rfl fun k _ => ?_)
  unfold term
  dsimp only
  rw [show (t.val - 1) / 8 = t.val / 8 by omega, show (t.val - 1) / 2 % 4 = t.val / 2 % 4 by omega]

/-- The result array. -/
theorem final (c : Dev nD) : (dats m 0 c).arrAt 2 cfg0.N
    = dw (a := 2048) (b := 4096) (l := 8) (n := 2048) (w := 512) (m ((c : Thread nD τ).loc main_arg0)) (m ((c : Thread nD τ).loc main_arg1)) := by
  refine (dats m 0 c).arrAt_eq_of_cover 2 (dw (a := 2048) (b := 4096) (l := 8) (n := 2048) (w := 512) (m ((c : Thread nD τ).loc main_arg0)) (m ((c : Thread nD τ).loc main_arg1)) : S8x2048x512.Idx → EReal) (fun t hf => ?_) fun i => ?_
  · have h2 := (flush0_2 t).mp hf
    obtain ⟨-, -, -, -, e0, e1, e2⟩ := index_of t
    have hN : t.val < 16 := lt_of_lt_of_eq t.isLt N_0
    funext y
    have hy0 : (y 0).val < 2 := (y 0).isLt
    have hy2 : (y 2).val < 512 := (y 2).isLt
    refine (out_read m c t h2 y (ValueIdx.ix2 (y 1) ⟨(y 0).val * 512 + (y 2).val, by omega⟩) rfl rfl).trans ?_
    show ∑ k ∈ Finset.range 4096, term m c t.val (y 1).val ((y 0).val * 512 + (y 2).val) k = _
    unfold term
    have h0 : t.val / 8 * 1024 + (y 1).val = win0_2.index t 1 * 1024 + 1 * (y 1).val := by
      rw [e1]; omega
    have h1 : t.val / 2 % 4 * 1024 + ((y 0).val * 512 + (y 2).val) = (win0_2.index t 0 * 2 + 1 * (y 0).val) * 512 + (win0_2.index t 2 * 512 + 1 * (y 2).val) := by
      rw [e0, e2]; omega
    rw [h0, h1]
    rfl
  · have h0 : (i 0 : ℕ) < 8 := (i 0).isLt
    have h1 : (i 1 : ℕ) < 2048 := (i 1).isLt
    have h2 : (i 2 : ℕ) < 512 := (i 2).isLt
    have ht : 8 * ((i 1 : ℕ) / 1024) + 2 * (((i 0 : ℕ) * 512 + (i 2 : ℕ)) / 1024) + 1 < cfg0.N := by rw [show cfg0.N = 16 from N_0]; omega
    refine ⟨⟨8 * ((i 1 : ℕ) / 1024) + 2 * (((i 0 : ℕ) * 512 + (i 2 : ℕ)) / 1024) + 1, ht⟩, (flush0_2 _).mpr (by dsimp only; omega), ?_⟩
    obtain ⟨-, -, -, -, e0, e1, e2⟩ := index_of ⟨8 * ((i 1 : ℕ) / 1024) + 2 * (((i 0 : ℕ) * 512 + (i 2 : ℕ)) / 1024) + 1, ht⟩
    show i ∈ ((View.whole main_v0).slice (win0_2.rect ⟨8 * ((i 1 : ℕ) / 1024) + 2 * (((i 0 : ℕ) * 512 + (i 2 : ℕ)) / 1024) + 1, ht⟩)).set
    rw [View.set_slice_whole, Rect.mem_set_unit]
    intro a
    fin_cases a
    · show win0_2.index _ 0 * 2 ≤ (i 0 : ℕ) ∧ (i 0 : ℕ) < win0_2.index _ 0 * 2 + 2
      rw [e0]; dsimp only; omega
    · show win0_2.index _ 1 * 1024 ≤ (i 1 : ℕ) ∧ (i 1 : ℕ) < win0_2.index _ 1 * 1024 + 1024
      rw [e1]; dsimp only; omega
    · show win0_2.index _ 2 * 512 ≤ (i 2 : ℕ) ∧ (i 2 : ℕ) < win0_2.index _ 2 * 512 + 512
      rw [e2]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = dw (a := 2048) (b := 4096) (l := 8) (n := 2048) (w := 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.InDwIdeal.Mm

end
-- ==== Proof.MmInDwClaim.lean ====
/-
  The gradient of the mixer's input projection by its weights by the reference, and the claims of this call.
-/
module

public import proofs.«01_k».proof.Defs
public import proofs.«01_k».proof.Proof.MmInDw
public import proofs.«01_k».proof.Proof.Gen.InDw.Frame
public import proofs.«01_k».proof.Proof.Gen.InDwRefIdeal.Read

@[expose] public section

set_option maxRecDepth 65536

noncomputable section

open Idealize.ShloMosaic Idealize.ShloMosaic.TcCoe Idealize.SL.Sem
open scoped BigOperators

namespace Cert.InDwRefIdeal.Mm

open Cert.InDwRefIdeal Cert.InDwRefIdeal.Read Cert.Mm Idealize.ShloMosaic.StableHlo
open Cert.Mix (nat2 nat3 nat2_idx nat3_idx)

variable (x0 : S4096x2048.Idx → EReal) (x1 : S4096x4096.Idx → EReal)

/-- The product. -/
theorem rprod (i : S4096x2048.Idx) : val_main_v4 (F := Ideal) x0 x1 i
    = tn 4096 (nat2 (n := 4096) (m := 2048) x0) (nat2 (n := 4096) (m := 4096) x1) (i 1).val (i 0).val := by
  rw [val_main_v4_apply]
  refine sum_fin _ _ fun k => (mul_comm _ _).trans (congrArg₂ (· * ·) ?_ ?_)
  · exact (nat2_idx (n := 4096) (m := 2048) x0 _ _ _ rfl rfl).symm
  · exact (nat2_idx (n := 4096) (m := 4096) x1 _ _ _ rfl rfl).symm

/-- The result. -/
theorem rres (i : S8x2048x512.Idx) : val_main_v8 (F := Ideal) x0 x1 i = dw (a := 2048) (b := 4096) (l := 8) (n := 2048) (w := 512) x0 x1 i := by
  have h0 : (i 0).val < 8 := (i 0).isLt
  have h1 : (i 1).val < 2048 := (i 1).isLt
  have h2 : (i 2).val < 512 := (i 2).isLt
  rw [val_main_v8_apply]
  show val_main_v7 (F := Ideal) x0 x1 i = _
  rw [val_main_v7_apply, val_main_v6_apply, val_main_v5_apply, rprod]
  unfold dw
  refine congrArg₂ _ ?_ ?_
  · show (((i 1).val * 8 + (i 0).val) * 512 + (i 2).val) / 4096 = _; omega
  · show (((i 1).val * 8 + (i 0).val) * 512 + (i 2).val) % 4096 = _; omega

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v8) = dw (a := 2048) (b := 4096) (l := 8) (n := 2048) (w := 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v8_eq _ _)).trans (funext fun i => rres _ _ i), (h c).2⟩)
    (Cert.InDwRefIdeal.Value.run (F := Ideal) m g)

end Cert.InDwRefIdeal.Mm

namespace Cert.Mm.InDw

/-- The kernel, at machine words, runs and leaves its arguments alone. -/
theorem frame_P : @Cert.quiescent_InDw Cert.InDw.Gen.facts := fun m g _ => Cert.InDw.Gen.frame m g

/-- The kernel, at extended reals, runs and leaves its arguments alone. -/
theorem frame_PI : @Cert.quiescent_InDwIdeal Cert.InDwIdeal.Gen.facts := fun m g _ => Cert.InDwIdeal.Gen.frame m g

/-- The reference runs and leaves its arguments alone. -/
theorem frame_RI : @Cert.quiescent_InDwRefIdeal Cert.InDwRefIdeal.Gen.facts := fun m g _ =>
  (θ_run Cert.InDwRefIdeal.defs _ _).mono (fun r h => ⟨fun c => (h c).2, sem_eq_zero_of_no_sems (by decide) r.2⟩)
    (Cert.InDwRefIdeal.Value.run (F := Ideal) m g)

/-- From the same arguments the kernel and the reference leave the same array. -/
theorem algebraic : @Cert.algebraic_InDwIdeal_InDwRefIdeal Cert.InDwIdeal.Gen.facts Cert.InDwRefIdeal.Gen.facts := by
  intro m g m' g' _ hag
  have hr := Cert.InDwRefIdeal.Mm.run m' g'
  refine ⟨_, Cert.InDwIdeal.Mm.run m g, (θ_run Cert.InDwRefIdeal.defs _ _).mono (fun r h c => ⟨(h c).1.trans ?_, (h c).2⟩) hr⟩
  rw [(hag c).1, (hag c).2]

end Cert.Mm.InDw

end
-- ==== Proof.MmInFwd.lean ====
/-
  The mixer's input projection: the kernel's result array, element by element. A point stores two blocks of columns.
-/
module

public import proofs.«01_k».proof.Proof.MmSpec
public import proofs.«01_k».proof.Proof.Gen.InFwdIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- The product, by weights whose columns are kept as blocks. -/
def inFwd (x : (⟨2, ![4096, 2048]⟩ : Shape).Idx → EReal) (w : (⟨3, ![8, 2048, 512]⟩ : Shape).Idx → EReal)
    (i : (⟨2, ![4096, 4096]⟩ : Shape).Idx) : EReal :=
  nn 2048 (nat2 x) (cols w) (i 0).val (i 1).val

end Cert.Mm

namespace Cert.InFwdIdeal.Mm

open Cert.InFwdIdeal Cert.InFwdIdeal.Gen Cert.InFwdIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = win0_2.index t 0 ∧ win0_0.index t 1 = 0
    ∧ win0_1.index t 0 = win0_2.index t 1 ∧ win0_1.index t 1 = 0 ∧ win0_1.index t 2 = 0
    ∧ win0_2.index t 0 = t.val / 4 ∧ win0_2.index t 1 = t.val % 4 :=
  (by decide +kernel : ∀ t : Fin grid0.N, _)

/-- The input's block. -/
theorem blk0 (c : Dev nD) (t : Fin cfg0.N) (y : S1024x2048.Idx) : (iblk m c 0 t : Vec Ideal S1024x2048 .bf16) y
    = nat2 (n := 4096) (m := 2048) (m ((c : Thread nD τ).loc main_arg0)) (win0_0.index t 0 * 1024 + (y 0).val) (win0_0.index t 1 * 2048 + (y 1).val) := by
  refine (nat2_idx (n := 4096) (m := 2048) (m ((c : Thread nD τ).loc main_arg0)) _ _ _ ?_ ?_).symm
  · show _ = win0_0.index t 0 * 1024 + 1 * (y 0).val; omega
  · show _ = win0_0.index t 1 * 2048 + 1 * (y 1).val; omega

/-- The weights' block. -/
theorem blk1 (c : Dev nD) (t : Fin cfg0.N) (y : S2x2048x512.Idx) : (iblk m c 1 t : Vec Ideal S2x2048x512 .bf16) y
    = nat3 (l := 8) (n := 2048) (m := 512) (m ((c : Thread nD τ).loc main_arg1)) (win0_1.index t 0 * 2 + (y 0).val) (win0_1.index t 1 * 2048 + (y 1).val) (win0_1.index t 2 * 512 + (y 2).val) := by
  refine (nat3_idx (l := 8) (n := 2048) (m := 512) (m ((c : Thread nD τ).loc main_arg1)) _ _ _ _ ?_ ?_ ?_).symm
  · show _ = win0_1.index t 0 * 2 + 1 * (y 0).val; omega
  · show _ = win0_1.index t 1 * 2048 + 1 * (y 1).val; omega
  · show _ = win0_1.index t 2 * 512 + 1 * (y 2).val; omega

theorem hz2 : (![0, 0] : Fin 2 → ℕ) = fun _ => 0 := funext fun a => by fin_cases a <;> rfl

/-- What a point stores in the first block of columns, element by element. -/
theorem pay1_read (v0 : Vec Ideal S1024x2048 .bf16) (v1 : Vec Ideal S1x2048x512 .bf16) (y : S1024x512.Idx) :
    k0_pay1 v0 v1 y = ∑ k : Fin 2048, v0 (ValueIdx.ix2 (y 0) k) * v1 (ValueIdx.ix3 0 k (y 1)) := by
  refine (nn_read (M := 1024) (K := 2048) (N := 512) (φ₁ := .bf16) (φ₂ := .bf16) none v0 _ y).trans (Finset.sum_congr rfl fun k _ => ?_)
  exact congrArg (_ * ·) (drop_read (R := 2048) (C := 512) v1 _ (ValueIdx.ix2 k (y 1)))

/-- The point's product in the first block of columns. -/
theorem half1 (c : Dev nD) (t : Fin cfg0.N) (y : S1024x512.Idx) :
    k0_pay1 (F := Ideal) (iblk m c 0 t) (View.ld (iblk m c 1 t : Vec Ideal S2x2048x512 .bf16) r0_1) y
      = nn 2048 (nat2 (n := 4096) (m := 2048) (m ((c : Thread nD τ).loc main_arg0))) (cols (l := 8) (n := 2048) (w := 512) (m ((c : Thread nD τ).loc main_arg1)))
          (win0_2.index t 0 * 1024 + (y 0).val) (win0_2.index t 1 * 1024 + (0 + (y 1).val)) := by
  obtain ⟨e00, e01, e10, e11, e12, -, -⟩ := index_of t
  have hy : (y 1).val < 512 := (y 1).isLt
  refine (pay1_read _ _ y).trans (sum_fin _ _ fun k => ?_)
  refine congrArg₂ (· * ·) ((blk0 m c t _).trans ?_) ((blk1 m c t (r0_1.idx (ValueIdx.ix3 0 k (y 1)))).trans ?_)
  · rw [e00, e01]
    exact congrArg₂ _ rfl (by show 0 * 2048 + k.val = k.val; omega)
  rw [e10, e11, e12]
  show nat3 _ (win0_2.index t 1 * 2 + (0 + 1 * 0)) (0 * 2048 + (0 + 1 * k.val)) (0 * 512 + (0 + 1 * (y 1).val))
    = nat3 _ ((win0_2.index t 1 * 1024 + (0 + (y 1).val)) / 512) k.val ((win0_2.index t 1 * 1024 + (0 + (y 1).val)) % 512)
  congr 1 <;> omega

/-- What a point stores in the second block of columns, element by element. -/
theorem pay2_read (v0 : Vec Ideal S1024x2048 .bf16) (v1 : Vec Ideal S1x2048x512 .bf16) (y : S1024x512.Idx) :
    k0_pay2 v0 v1 y = ∑ k : Fin 2048, v0 (ValueIdx.ix2 (y 0) k) * v1 (ValueIdx.ix3 0 k (y 1)) := by
  refine (nn_read (M := 1024) (K := 2048) (N := 512) (φ₁ := .bf16) (φ₂ := .bf16) none v0 _ y).trans (Finset.sum_congr rfl fun k _ => ?_)
  exact congrArg (_ * ·) (drop_read (R := 2048) (C := 512) v1 _ (ValueIdx.ix2 k (y 1)))

/-- The point's product in the second block of columns. -/
theorem half2 (c : Dev nD) (t : Fin cfg0.N) (y : S1024x512.Idx) :
    k0_pay2 (F := Ideal) (iblk m c 0 t) (View.ld (iblk m c 1 t : Vec Ideal S2x2048x512 .bf16) r0_3) y
      = nn 2048 (nat2 (n := 4096) (m := 2048) (m ((c : Thread nD τ).loc main_arg0))) (cols (l := 8) (n := 2048) (w := 512) (m ((c : Thread nD τ).loc main_arg1)))
          (win0_2.index t 0 * 1024 + (y 0).val) (win0_2.index t 1 * 1024 + (512 + (y 1).val)) := by
  obtain ⟨e00, e01, e10, e11, e12, -, -⟩ := index_of t
  have hy : (y 1).val < 512 := (y 1).isLt
  refine (pay2_read _ _ y).trans (sum_fin _ _ fun k => ?_)
  refine congrArg₂ (· * ·) ((blk0 m c t _).trans ?_) ((blk1 m c t (r0_3.idx (ValueIdx.ix3 0 k (y 1)))).trans ?_)
  · rw [e00, e01]
    exact congrArg₂ _ rfl (by show 0 * 2048 + k.val = k.val; omega)
  rw [e10, e11, e12]
  show nat3 _ (win0_2.index t 1 * 2 + (1 + 1 * 0)) (0 * 2048 + (0 + 1 * k.val)) (0 * 512 + (0 + 1 * (y 1).val))
    = nat3 _ ((win0_2.index t 1 * 1024 + (512 + (y 1).val)) / 512) k.val ((win0_2.index t 1 * 1024 + (512 + (y 1).val)) % 512)
  congr 1 <;> omega

/-- What the point leaves in the result's block. -/
theorem out_read (c : Dev nD) (t : Fin cfg0.N) (y : S1024x1024.Idx) : out0_2 (iblk m c 0 t) (iblk m c 1 t) y
    = nn 2048 (nat2 (n := 4096) (m := 2048) (m ((c : Thread nD τ).loc main_arg0))) (cols (l := 8) (n := 2048) (w := 512) (m ((c : Thread nD τ).loc main_arg1)))
        (win0_2.index t 0 * 1024 + (y 0).val) (win0_2.index t 1 * 1024 + (y 1).val) := by
  have hy0 : (y 0).val < 1024 := (y 0).isLt
  have hy1 : (y 1).val < 1024 := (y 1).isLt
  unfold out0_2
  rw [View.ld_unit_zero (S := S1024x2048) hz2]
  refine View.canon_apply_of_pieces (Val := Elt Ideal) (e := .bf16) (fun y : S1024x1024.Idx => nn 2048 (nat2 (n := 4096) (m := 2048) (m ((c : Thread nD τ).loc main_arg0))) (cols (l := 8) (n := 2048) (w := 512) (m ((c : Thread nD τ).loc main_arg1)))
        (win0_2.index t 0 * 1024 + (y 0).val) (win0_2.index t 1 * 1024 + (y 1).val)) _ ?_ y ?_
  · intro pc hpc x
    rcases List.mem_cons.mp hpc with rfl | hpc
    · refine (half2 m c t x).trans (congrArg₂ _ ?_ ?_)
      · show _ + (x 0).val = _ + (0 + 1 * (x 0).val); omega
      · show _ + (512 + (x 1).val) = _ + (512 + 1 * (x 1).val); omega
    rcases List.mem_cons.mp hpc with rfl | hpc
    · refine (half1 m c t x).trans (congrArg₂ _ ?_ ?_)
      · show _ + (x 0).val = _ + (0 + 1 * (x 0).val); omega
      · show _ + (0 + (x 1).val) = _ + (0 + 1 * (x 1).val); omega
    nomatch hpc
  · by_cases h : (y 1).val < 512
    · refine ⟨_, List.mem_cons_of_mem _ List.mem_cons_self, ?_⟩
      show y ∈ r0_2.set
      rw [Rect.mem_set_unit]
      intro a
      match a with
      | ⟨0, _⟩ => show 0 ≤ (y 0).val ∧ (y 0).val < 0 + 1024; omega
      | ⟨1, _⟩ => show 0 ≤ (y 1).val ∧ (y 1).val < 0 + 512; omega
    · refine ⟨_, List.mem_cons_self, ?_⟩
      show y ∈ r0_4.set
      rw [Rect.mem_set_unit]
      intro a
      match a with
      | ⟨0, _⟩ => show 0 ≤ (y 0).val ∧ (y 0).val < 0 + 1024; omega
      | ⟨1, _⟩ => show 512 ≤ (y 1).val ∧ (y 1).val < 512 + 512; omega

/-- The result array. -/
theorem final (c : Dev nD) : (dats m 0 c).arrAt 2 cfg0.N
    = inFwd (m ((c : Thread nD τ).loc main_arg0)) (m ((c : Thread nD τ).loc main_arg1)) := by
  refine (dats m 0 c).arrAt_eq_of_cover 2 (inFwd (m ((c : Thread nD τ).loc main_arg0)) (m ((c : Thread nD τ).loc main_arg1)) : S4096x4096.Idx → EReal) (fun t _ => ?_) fun i => ?_
  · rw [flushed2]
    funext y
    refine (out_read m c t y).trans ?_
    have h0 : win0_2.index t 0 * 1024 + (y 0).val = win0_2.index t 0 * 1024 + 1 * (y 0).val := by omega
    have h1 : win0_2.index t 1 * 1024 + (y 1).val = win0_2.index t 1 * 1024 + 1 * (y 1).val := by omega
    rw [h0, h1]
    rfl
  · have h0 : (i 0 : ℕ) < 4096 := (i 0).isLt
    have h1 : (i 1 : ℕ) < 4096 := (i 1).isLt
    have ht : 4 * ((i 0 : ℕ) / 1024) + (i 1 : ℕ) / 1024 < cfg0.N := by rw [show cfg0.N = 16 from N_0]; omega
    refine ⟨⟨4 * ((i 0 : ℕ) / 1024) + (i 1 : ℕ) / 1024, ht⟩, flush0_2 _, ?_⟩
    obtain ⟨-, -, -, -, -, e0, e1⟩ := index_of ⟨4 * ((i 0 : ℕ) / 1024) + (i 1 : ℕ) / 1024, ht⟩
    show i ∈ ((View.whole main_v0).slice (win0_2.rect ⟨4 * ((i 0 : ℕ) / 1024) + (i 1 : ℕ) / 1024, ht⟩)).set
    rw [View.set_slice_whole, Rect.mem_set_unit]
    intro a
    fin_cases a
    · show win0_2.index _ 0 * 1024 ≤ (i 0 : ℕ) ∧ (i 0 : ℕ) < win0_2.index _ 0 * 1024 + 1024
      rw [e0]; dsimp only; omega
    · show win0_2.index _ 1 * 1024 ≤ (i 1 : ℕ) ∧ (i 1 : ℕ) < win0_2.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v0) = inFwd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.InFwdIdeal.Mm

end
-- ==== Proof.MmInFwdClaim.lean ====
/-
  The same product by the reference, and the claims of this call.
-/
module

public import proofs.«01_k».proof.Defs
public import proofs.«01_k».proof.Proof.MmInFwd
public import proofs.«01_k».proof.Proof.Gen.InFwd.Frame
public import proofs.«01_k».proof.Proof.Gen.InFwdRefIdeal.Read

@[expose] public section

set_option maxRecDepth 65536

noncomputable section

open Idealize.ShloMosaic Idealize.ShloMosaic.TcCoe Idealize.SL.Sem
open scoped BigOperators

namespace Cert.InFwdRefIdeal.Mm

open Cert.InFwdRefIdeal Cert.InFwdRefIdeal.Read Cert.Mm Idealize.ShloMosaic.StableHlo
open Cert.Mix (nat2 nat3 nat2_idx nat3_idx)

variable (x0 : S4096x2048.Idx → EReal) (x1 : S8x2048x512.Idx → EReal)

/-- The weights joined. -/
theorem joined (i : S2048x4096.Idx) : val_main_v3 (F := Ideal) x1 i = cols (l := 8) (n := 2048) (w := 512) x1 (i 0).val (i 1).val := by
  have h1 : (i 1).val < 4096 := (i 1).isLt
  rw [val_main_v3_apply, val_main_v2_apply, val_main_v1_apply]
  refine (nat3_idx (l := 8) (n := 2048) (m := 512) x1 _ _ _ _ ?_ ?_ ?_).symm
  · show (i 1).val / 512 = ((i 0).val * 4096 + (i 1).val) / 512 % 8; omega
  · show (i 0).val = ((i 0).val * 4096 + (i 1).val) / 4096; omega
  · show (i 1).val % 512 = ((i 0).val * 4096 + (i 1).val) % 512; omega

/-- The product. -/
theorem rprod (i : S4096x4096.Idx) : val_main_v4 (F := Ideal) x0 x1 i = nn 2048 (nat2 (n := 4096) (m := 2048) x0) (cols (l := 8) (n := 2048) (w := 512) x1) (i 0).val (i 1).val := by
  rw [val_main_v4_apply]
  refine sum_fin _ _ fun k => congrArg₂ (· * ·) ?_ (joined x1 _)
  rw [val_main_v0_apply]
  exact (nat2_idx (n := 4096) (m := 2048) x0 _ _ _ rfl rfl).symm

/-- The result. -/
theorem rres (i : S4096x4096.Idx) : val_main_v5 (F := Ideal) x0 x1 i = inFwd x0 x1 i := rprod x0 x1 i

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v5) = inFwd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v5_eq _ _)).trans (funext fun i => rres _ _ i), (h c).2⟩)
    (Cert.InFwdRefIdeal.Value.run (F := Ideal) m g)

end Cert.InFwdRefIdeal.Mm

namespace Cert.Mm.InFwd

/-- The kernel, at machine words, runs and leaves its arguments alone. -/
theorem frame_P : @Cert.quiescent_InFwd Cert.InFwd.Gen.facts := fun m g _ => Cert.InFwd.Gen.frame m g

/-- The kernel, at extended reals, runs and leaves its arguments alone. -/
theorem frame_PI : @Cert.quiescent_InFwdIdeal Cert.InFwdIdeal.Gen.facts := fun m g _ => Cert.InFwdIdeal.Gen.frame m g

/-- The reference runs and leaves its arguments alone. -/
theorem frame_RI : @Cert.quiescent_InFwdRefIdeal Cert.InFwdRefIdeal.Gen.facts := fun m g _ =>
  (θ_run Cert.InFwdRefIdeal.defs _ _).mono (fun r h => ⟨fun c => (h c).2, sem_eq_zero_of_no_sems (by decide) r.2⟩)
    (Cert.InFwdRefIdeal.Value.run (F := Ideal) m g)

/-- From the same arguments the kernel and the reference leave the same array. -/
theorem algebraic : @Cert.algebraic_InFwdIdeal_InFwdRefIdeal Cert.InFwdIdeal.Gen.facts Cert.InFwdRefIdeal.Gen.facts := by
  intro m g m' g' _ hag
  have hr := Cert.InFwdRefIdeal.Mm.run m' g'
  refine ⟨_, Cert.InFwdIdeal.Mm.run m g, (θ_run Cert.InFwdRefIdeal.defs _ _).mono (fun r h c => ⟨(h c).1.trans ?_, (h c).2⟩) hr⟩
  rw [(hag c).1, (hag c).2]

end Cert.Mm.InFwd

end
-- ==== Proof.MmOutFwd.lean ====
/-
  The mixer's output projection added to the residual: the kernel's result array, element by element.
-/
module

public import proofs.«01_k».proof.Proof.MmSpec
public import proofs.«01_k».proof.Proof.Gen.OutFwdIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- The product, by weights kept as blocks of rows, and the residual. -/
def outFwd (x : (⟨2, ![4096, 2048]⟩ : Shape).Idx → EReal) (w : (⟨3, ![8, 256, 2048]⟩ : Shape).Idx → EReal)
    (a : (⟨2, ![4096, 2048]⟩ : Shape).Idx → EReal) (i : (⟨2, ![4096, 2048]⟩ : Shape).Idx) : EReal :=
  nn 2048 (nat2 x) (rows w) (i 0).val (i 1).val + nat2 a (i 0).val (i 1).val

end Cert.Mm

namespace Cert.OutFwdIdeal.Mm

open Cert.OutFwdIdeal Cert.OutFwdIdeal.Gen Cert.OutFwdIdeal.Value Cert.Mm
open Cert.Mix (nat2 nat3 nat2_idx nat3_idx)

variable (m : (ℓ : Loc nD τ sig) → Buf (Elt Ideal) ℓ) (ρ : Dev nD → PrngReg)

/-- The blocks the point's windows look at, by the block of the result it writes. -/
theorem index_of : ∀ t : Fin cfg0.N, win0_0.index t 0 = win0_3.index t 0 ∧ win0_0.index t 1 = 0
    ∧ win0_1.index t 0 = 0 ∧ win0_1.index t 1 = 0 ∧ win0_1.index t 2 = win0_3.index t 1
    ∧ win0_2.index t 0 = win0_3.index t 0 ∧ win0_2.index t 1 = win0_3.index t 1
    ∧ win0_3.index t 0 = t.val / 2 ∧ win0_3.index t 1 = t.val % 2 :=
  (by decide +kernel : ∀ t : Fin grid0.N, _)

/-- The input's block. -/
theorem blk0 (c : Dev nD) (t : Fin cfg0.N) (y : S1024x2048.Idx) : (iblk m c 0 t : Vec Ideal S1024x2048 .bf16) y
    = nat2 (n := 4096) (m := 2048) (m ((c : Thread nD τ).loc main_arg0)) (win0_0.index t 0 * 1024 + (y 0).val) (win0_0.index t 1 * 2048 + (y 1).val) := by
  refine (nat2_idx (n := 4096) (m := 2048) (m ((c : Thread nD τ).loc main_arg0)) _ _ _ ?_ ?_).symm
  · show _ = win0_0.index t 0 * 1024 + 1 * (y 0).val; omega
  · show _ = win0_0.index t 1 * 2048 + 1 * (y 1).val; omega

/-- The weights as the kernel is given them. -/
theorem V_w (c : Dev nD) : V m c main_v0 = shapeCast S1x2048x2048 (m ((c : Thread nD τ).loc main_arg1) : S8x256x2048.Idx → EReal) shapeCasts_S8x256x2048_S1x2048x2048 := rfl

/-- The weights' block. -/
theorem blk1 (c : Dev nD) (t : Fin cfg0.N) (y : S1x2048x1024.Idx) : (iblk m c 1 t : Vec Ideal S1x2048x1024 .bf16) y
    = rows (l := 8) (h := 256) (n := 2048) (m ((c : Thread nD τ).loc main_arg1)) (win0_1.index t 1 * 2048 + (y 1).val) (win0_1.index t 2 * 1024 + (y 2).val) := by
  show V m c main_v0 _ = _
  rw [V_w]
  refine (join_blocks (l := 8) (h := 256) (n := 2048) (r := 2048) _ _ rfl _).trans ?_
  refine congrArg₂ _ ?_ ?_
  · show win0_1.index t 1 * 2048 + 1 * (y 1).val = _; omega
  · show win0_1.index t 2 * 1024 + 1 * (y 2).val = _; omega

/-- The residual's block. -/
theorem blk2 (c : Dev nD) (t : Fin cfg0.N) (y : S1024x1024.Idx) : (iblk m c 2 t : Vec Ideal S1024x1024 .f32) y
    = nat2 (n := 4096) (m := 2048) (m ((c : Thread nD τ).loc main_arg2)) (win0_2.index t 0 * 1024 + (y 0).val) (win0_2.index t 1 * 1024 + (y 1).val) := by
  refine (nat2_idx (n := 4096) (m := 2048) (m ((c : Thread nD τ).loc main_arg2)) _ _ _ ?_ ?_).symm
  · show _ = win0_2.index t 0 * 1024 + 1 * (y 0).val; omega
  · show _ = win0_2.index t 1 * 1024 + 1 * (y 1).val; omega

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point stores, element by element. -/
theorem pay_read (v0 : Vec Ideal S1024x2048 .bf16) (v1 : Vec Ideal S1x2048x1024 .bf16) (v4 : Vec Ideal S1024x1024 .f32) (y : S1024x1024.Idx) :
    k0_pay1 v0 v1 v4 y = ∑ k : Fin 2048, v0 (ValueIdx.ix2 (y 0) k) * v1 (ValueIdx.ix3 0 k (y 1)) + v4 y := by
  refine congrArg (· + v4 y) ((nn_read (M := 1024) (K := 2048) (N := 1024) (φ₁ := .bf16) (φ₂ := .bf16) none v0 _ y).trans (Finset.sum_congr rfl fun k _ => ?_))
  exact congrArg (_ * ·) (drop_read (R := 2048) (C := 1024) v1 _ (ValueIdx.ix2 k (y 1)))

/-- What the point leaves in the result's block. -/
theorem out_read (c : Dev nD) (t : Fin cfg0.N) (y : S1024x1024.Idx) : out0_3 (iblk m c 0 t) (iblk m c 1 t) (iblk m c 2 t) y
    = nn 2048 (nat2 (n := 4096) (m := 2048) (m ((c : Thread nD τ).loc main_arg0))) (rows (l := 8) (h := 256) (n := 2048) (m ((c : Thread nD τ).loc main_arg1)))
        (win0_3.index t 0 * 1024 + (y 0).val) (win0_3.index t 1 * 1024 + (y 1).val)
      + nat2 (n := 4096) (m := 2048) (m ((c : Thread nD τ).loc main_arg2)) (win0_3.index t 0 * 1024 + (y 0).val) (win0_3.index t 1 * 1024 + (y 1).val) := by
  obtain ⟨e00, e01, e10, e11, e12, e20, e21, -, -⟩ := index_of t
  unfold out0_3
  rw [View.canon_unit_zero (S := S1024x1024) hz2, View.ld_unit_zero (S := S1024x2048) hz2, View.ld_unit_zero (S := S1x2048x1024) hz3, View.ld_unit_zero (S := S1024x1024) hz2]
  refine (pay_read _ _ _ y).trans (congrArg₂ (· + ·) (sum_fin _ _ fun k => ?_) ?_)
  · rw [blk0, blk1, e00, e01, e11, e12]
    exact congrArg₂ (· * ·) (congrArg₂ _ rfl (by show 0 * 2048 + k.val = k.val; omega)) (congrArg₂ _ (by show 0 * 2048 + k.val = k.val; omega) rfl)
  · rw [blk2, e20, e21]

/-- The result array. -/
theorem final (c : Dev nD) : (dats m 0 c).arrAt 3 cfg0.N
    = outFwd (m ((c : Thread nD τ).loc main_arg0)) (m ((c : Thread nD τ).loc main_arg1)) (m ((c : Thread nD τ).loc main_arg2)) := by
  refine (dats m 0 c).arrAt_eq_of_cover 3 (outFwd (m ((c : Thread nD τ).loc main_arg0)) (m ((c : Thread nD τ).loc main_arg1)) (m ((c : Thread nD τ).loc main_arg2)) : S4096x2048.Idx → EReal) (fun t _ => ?_) fun i => ?_
  · rw [flushed3]
    funext y
    refine (out_read m c t y).trans ?_
    have h0 : win0_3.index t 0 * 1024 + (y 0).val = win0_3.index t 0 * 1024 + 1 * (y 0).val := by omega
    have h1 : win0_3.index t 1 * 1024 + (y 1).val = win0_3.index t 1 * 1024 + 1 * (y 1).val := by omega
    rw [h0, h1]
    rfl
  · have h0 : (i 0 : ℕ) < 4096 := (i 0).isLt
    have h1 : (i 1 : ℕ) < 2048 := (i 1).isLt
    have ht : 2 * ((i 0 : ℕ) / 1024) + (i 1 : ℕ) / 1024 < cfg0.N := by rw [show cfg0.N = 8 from N_0]; omega
    refine ⟨⟨2 * ((i 0 : ℕ) / 1024) + (i 1 : ℕ) / 1024, ht⟩, flush0_3 _, ?_⟩
    obtain ⟨-, -, -, -, -, -, -, e0, e1⟩ := index_of ⟨2 * ((i 0 : ℕ) / 1024) + (i 1 : ℕ) / 1024, ht⟩
    show i ∈ ((View.whole main_v1).slice (win0_3.rect ⟨2 * ((i 0 : ℕ) / 1024) + (i 1 : ℕ) / 1024, ht⟩)).set
    rw [View.set_slice_whole, Rect.mem_set_unit]
    intro a
    fin_cases a
    · show win0_3.index _ 0 * 1024 ≤ (i 0 : ℕ) ∧ (i 0 : ℕ) < win0_3.index _ 0 * 1024 + 1024
      rw [e0]; dsimp only; omega
    · show win0_3.index _ 1 * 1024 ≤ (i 1 : ℕ) ∧ (i 1 : ℕ) < win0_3.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v1) = outFwd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.OutFwdIdeal.Mm

end
-- ==== Proof.MmOutFwdClaim.lean ====
/-
  The same sum by the reference, and the claims of this call.
-/
module

public import proofs.«01_k».proof.Defs
public import proofs.«01_k».proof.Proof.MmOutFwd
public import proofs.«01_k».proof.Proof.Gen.OutFwd.Frame
public import proofs.«01_k».proof.Proof.Gen.OutFwdRefIdeal.Read

@[expose] public section

set_option maxRecDepth 65536

noncomputable section

open Idealize.ShloMosaic Idealize.ShloMosaic.TcCoe Idealize.SL.Sem
open scoped BigOperators

namespace Cert.OutFwdRefIdeal.Mm

open Cert.OutFwdRefIdeal Cert.OutFwdRefIdeal.Read Cert.Mm Idealize.ShloMosaic.StableHlo
open Cert.Mix (nat2 nat3 nat2_idx nat3_idx)

variable (x0 : S4096x2048.Idx → EReal) (x1 : S8x256x2048.Idx → EReal) (x2 : S4096x2048.Idx → EReal)

/-- The weights joined. -/
theorem joined (i : S2048x2048.Idx) : val_main_v2 (F := Ideal) x1 i = rows (l := 8) (h := 256) (n := 2048) x1 (i 0).val (i 1).val := by
  have h1 : (i 1).val < 2048 := (i 1).isLt
  rw [val_main_v2_apply, val_main_v1_apply]
  refine (nat3_idx (l := 8) (n := 256) (m := 2048) x1 _ _ _ _ ?_ ?_ ?_).symm
  · show (i 0).val / 256 = ((i 0).val * 2048 + (i 1).val) / 524288; omega
  · show (i 0).val % 256 = ((i 0).val * 2048 + (i 1).val) / 2048 % 256; omega
  · show (i 1).val = ((i 0).val * 2048 + (i 1).val) % 2048; omega

/-- The product. -/
theorem rprod (i : S4096x2048.Idx) : val_main_v3 (F := Ideal) x0 x1 i = nn 2048 (nat2 (n := 4096) (m := 2048) x0) (rows (l := 8) (h := 256) (n := 2048) x1) (i 0).val (i 1).val := by
  rw [val_main_v3_apply]
  refine sum_fin _ _ fun k => congrArg₂ (· * ·) ?_ (joined x1 _)
  rw [val_main_v0_apply]
  exact (nat2_idx (n := 4096) (m := 2048) x0 _ _ _ rfl rfl).symm

/-- The result. -/
theorem rres (i : S4096x2048.Idx) : val_main_v4 (F := Ideal) x0 x1 x2 i = outFwd x0 x1 x2 i := by
  rw [val_main_v4_apply, rprod]
  refine (add_comm _ _).trans (congrArg (_ + ·) ?_)
  exact (nat2_idx (n := 4096) (m := 2048) x2 i _ _ rfl rfl).symm

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v4) = outFwd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1.trans (val_main_v4_eq _ _ _)).trans (funext fun i => rres _ _ _ i), (h c).2⟩)
    (Cert.OutFwdRefIdeal.Value.run (F := Ideal) m g)

end Cert.OutFwdRefIdeal.Mm

namespace Cert.Mm.OutFwd

/-- The kernel, at machine words, runs and leaves its arguments alone. -/
theorem frame_P : @Cert.quiescent_OutFwd Cert.OutFwd.Gen.facts := fun m g _ => Cert.OutFwd.Gen.frame m g

/-- The kernel, at extended reals, runs and leaves its arguments alone. -/
theorem frame_PI : @Cert.quiescent_OutFwdIdeal Cert.OutFwdIdeal.Gen.facts := fun m g _ => Cert.OutFwdIdeal.Gen.frame m g

/-- The reference runs and leaves its arguments alone. -/
theorem frame_RI : @Cert.quiescent_OutFwdRefIdeal Cert.OutFwdRefIdeal.Gen.facts := fun m g _ =>
  (θ_run Cert.OutFwdRefIdeal.defs _ _).mono (fun r h => ⟨fun c => (h c).2, sem_eq_zero_of_no_sems (by decide) r.2⟩)
    (Cert.OutFwdRefIdeal.Value.run (F := Ideal) m g)

/-- From the same arguments the kernel and the reference leave the same array. -/
theorem algebraic : @Cert.algebraic_OutFwdIdeal_OutFwdRefIdeal Cert.OutFwdIdeal.Gen.facts Cert.OutFwdRefIdeal.Gen.facts := by
  intro m g m' g' _ hag
  have hr := Cert.OutFwdRefIdeal.Mm.run m' g'
  refine ⟨_, Cert.OutFwdIdeal.Mm.run m g, (θ_run Cert.OutFwdRefIdeal.defs _ _).mono (fun r h c => ⟨(h c).1.trans ?_, (h c).2⟩) hr⟩
  rw [(hag c).1, (hag c).2.1, (hag c).2.2]

end Cert.Mm.OutFwd

end
-- ==== Proof.MmUpFwd.lean ====
/-
  The first product of the feed-forward layer and its squared rectifier: the kernel's two result arrays, element by element.
-/
module

public import proofs.«01_k».proof.Proof.MmSpec
public import proofs.«01_k».proof.Proof.Gen.UpFwdIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- The product, by weights whose columns are kept as blocks. -/
def upFwd (x : (⟨2, ![4096, 2048]⟩ : Shape).Idx → EReal) (w : (⟨3, ![8, 2048, 1024]⟩ : Shape).Idx → EReal)
    (i : (⟨2, ![4096, 8192]⟩ : Shape).Idx) : EReal :=
  nn 2048 (nat2 x) (cols w) (i 0).val (i 1).val

/-- The product's squared rectifier. -/
def upSq (x : (⟨2, ![4096, 2048]⟩ : Shape).Idx → EReal) (w : (⟨3, ![8, 2048, 1024]⟩ : Shape).Idx → EReal)
    (i : (⟨2, ![4096, 8192]⟩ : Shape).Idx) : EReal :=
  max (upFwd x w i) 0 * max (upFwd x w i) 0

end Cert.Mm

namespace Cert.UpFwdIdeal.Mm

open Cert.UpFwdIdeal Cert.UpFwdIdeal.Gen Cert.UpFwdIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = win0_2.index t 0 ∧ win0_0.index t 1 = 0
    ∧ win0_1.index t 0 = win0_2.index t 1 ∧ win0_1.index t 1 = 0 ∧ win0_1.index t 2 = 0
    ∧ win0_3.index t 0 = win0_2.index t 0 ∧ win0_3.index t 1 = win0_2.index t 1
    ∧ win0_2.index t 0 = t.val / 8 ∧ win0_2.index t 1 = t.val % 8 :=
  (by decide +kernel : ∀ t : Fin grid0.N, _)

/-- The input's block. -/
theorem blk0 (c : Dev nD) (t : Fin cfg0.N) (y : S1024x2048.Idx) : (iblk m c 0 t : Vec Ideal S1024x2048 .bf16) y
    = nat2 (n := 4096) (m := 2048) (m ((c : Thread nD τ).loc main_arg0)) (win0_0.index t 0 * 1024 + (y 0).val) (win0_0.index t 1 * 2048 + (y 1).val) := by
  refine (nat2_idx (n := 4096) (m := 2048) (m ((c : Thread nD τ).loc main_arg0)) _ _ _ ?_ ?_).symm
  · show _ = win0_0.index t 0 * 1024 + 1 * (y 0).val; omega
  · show _ = win0_0.index t 1 * 2048 + 1 * (y 1).val; omega

/-- The weights' block. -/
theorem blk1 (c : Dev nD) (t : Fin cfg0.N) (y : S1x2048x1024.Idx) : (iblk m c 1 t : Vec Ideal S1x2048x1024 .bf16) y
    = nat3 (l := 8) (n := 2048) (m := 1024) (m ((c : Thread nD τ).loc main_arg1)) (win0_1.index t 0 * 1 + (y 0).val) (win0_1.index t 1 * 2048 + (y 1).val) (win0_1.index t 2 * 1024 + (y 2).val) := by
  refine (nat3_idx (l := 8) (n := 2048) (m := 1024) (m ((c : Thread nD τ).loc main_arg1)) _ _ _ _ ?_ ?_ ?_).symm
  · show _ = win0_1.index t 0 * 1 + 1 * (y 0).val; omega
  · show _ = win0_1.index t 1 * 2048 + 1 * (y 1).val; omega
  · show _ = win0_1.index t 2 * 1024 + 1 * (y 2).val; omega

theorem hz2 : (![0, 0] : Fin 2 → ℕ) = fun _ => 0 := funext fun a => by fin_cases a <;> rfl
theorem hz3 : (![0, 0, 0] : Fin 3 → ℕ) = fun _ => 0 := funext fun a => by fin_cases a <;> rfl

/-- The product of two tiles. -/
theorem mul_read (v0 : Vec Ideal S1024x2048 .bf16) (v1 : Vec Ideal S1x2048x1024 .bf16) (y : S1024x1024.Idx) :
    k0_pay1 v0 v1 y = ∑ k : Fin 2048, v0 (ValueIdx.ix2 (y 0) k) * v1 (ValueIdx.ix3 0 k (y 1)) := by
  refine (nn_read (M := 1024) (K := 2048) (N := 1024) (φ₁ := .bf16) (φ₂ := .bf16) none v0 _ y).trans (Finset.sum_congr rfl fun k _ => ?_)
  exact congrArg (_ * ·) (drop_read (R := 2048) (C := 1024) v1 _ (ValueIdx.ix2 k (y 1)))

/-- The point's product. -/
theorem prod_read (c : Dev nD) (t : Fin cfg0.N) (y : S1024x1024.Idx) : k0_pay1 (F := Ideal) (iblk m c 0 t) (iblk m c 1 t) y
    = nn 2048 (nat2 (n := 4096) (m := 2048) (m ((c : Thread nD τ).loc main_arg0))) (cols (l := 8) (n := 2048) (w := 1024) (m ((c : Thread nD τ).loc main_arg1)))
        (win0_2.index t 0 * 1024 + (y 0).val) (win0_2.index t 1 * 1024 + (y 1).val) := by
  obtain ⟨e00, e01, e10, e11, e12, -, -, -, -⟩ := index_of t
  have hy : (y 1).val < 1024 := (y 1).isLt
  refine (mul_read _ _ y).trans (sum_fin _ _ fun k => ?_)
  rw [blk0, blk1, e00, e01, e10, e11, e12]
  refine congrArg₂ (· * ·) (congrArg₂ _ rfl (by show 0 * 2048 + k.val = k.val; omega)) ?_
  show nat3 _ (win0_2.index t 1 * 1 + 0) (0 * 2048 + k.val) (0 * 1024 + (y 1).val) = nat3 _ ((win0_2.index t 1 * 1024 + (y 1).val) / 1024) k.val ((win0_2.index t 1 * 1024 + (y 1).val) % 1024)
  rw [block_div hy, block_mod hy]
  congr 1 <;> omega

/-- What the point leaves in the first result's block. -/
theorem out_read (c : Dev nD) (t : Fin cfg0.N) (y : S1024x1024.Idx) : out0_2 (iblk m c 0 t) (iblk m c 1 t) y
    = nn 2048 (nat2 (n := 4096) (m := 2048) (m ((c : Thread nD τ).loc main_arg0))) (cols (l := 8) (n := 2048) (w := 1024) (m ((c : Thread nD τ).loc main_arg1)))
        (win0_2.index t 0 * 1024 + (y 0).val) (win0_2.index t 1 * 1024 + (y 1).val) := by
  unfold out0_2
  rw [View.canon_unit_zero (S := S1024x1024) hz2, View.ld_unit_zero (S := S1024x2048) hz2, View.ld_unit_zero (S := S1x2048x1024) hz3]
  exact prod_read m c t y

/-- What the point leaves in the second result's block. -/
theorem out_read' (c : Dev nD) (t : Fin cfg0.N) (y : S1024x1024.Idx) : out0_3 (iblk m c 0 t) (iblk m c 1 t) y
    = max (nn 2048 (nat2 (n := 4096) (m := 2048) (m ((c : Thread nD τ).loc main_arg0))) (cols (l := 8) (n := 2048) (w := 1024) (m ((c : Thread nD τ).loc main_arg1))) (win0_3.index t 0 * 1024 + (y 0).val) (win0_3.index t 1 * 1024 + (y 1).val)) 0
      * max (nn 2048 (nat2 (n := 4096) (m := 2048) (m ((c : Thread nD τ).loc main_arg0))) (cols (l := 8) (n := 2048) (w := 1024) (m ((c : Thread nD τ).loc main_arg1))) (win0_3.index t 0 * 1024 + (y 0).val) (win0_3.index t 1 * 1024 + (y 1).val)) 0 := by
  obtain ⟨-, -, -, -, -, e30, e31, -, -⟩ := index_of t
  unfold out0_3
  rw [View.canon_unit_zero (S := S1024x1024) hz2, View.ld_unit_zero (S := S1024x2048) hz2, View.ld_unit_zero (S := S1x2048x1024) hz3, e30, e31, ← prod_read m c t y]
  show max (k0_pay1 (F := Ideal) _ _ y) (Ideal.ofBits .f32 0x00000000#32) * max (k0_pay1 (F := Ideal) _ _ y) (Ideal.ofBits .f32 0x00000000#32) = _
  rw [Ideal.ofBits_zero_f32]

/-- The first result array. -/
theorem final (c : Dev nD) : (dats m 0 c).arrAt 2 cfg0.N
    = upFwd (m ((c : Thread nD τ).loc main_arg0)) (m ((c : Thread nD τ).loc main_arg1)) := by
  refine (dats m 0 c).arrAt_eq_of_cover 2 (upFwd (m ((c : Thread nD τ).loc main_arg0)) (m ((c : Thread nD τ).loc main_arg1)) : S4096x8192.Idx → EReal) (fun t _ => ?_) fun i => ?_
  · rw [flushed2]
    funext y
    refine (out_read m c t y).trans ?_
    have h0 : win0_2.index t 0 * 1024 + (y 0).val = win0_2.index t 0 * 1024 + 1 * (y 0).val := by omega
    have h1 : win0_2.index t 1 * 1024 + (y 1).val = win0_2.index t 1 * 1024 + 1 * (y 1).val := by omega
    rw [h0, h1]
    rfl
  · have h0 : (i 0 : ℕ) < 4096 := (i 0).isLt
    have h1 : (i 1 : ℕ) < 8192 := (i 1).isLt
    have ht : 8 * ((i 0 : ℕ) / 1024) + (i 1 : ℕ) / 1024 < cfg0.N := by rw [show cfg0.N = 32 from N_0]; omega
    refine ⟨⟨8 * ((i 0 : ℕ) / 1024) + (i 1 : ℕ) / 1024, ht⟩, flush0_2 _, ?_⟩
    obtain ⟨-, -, -, -, -, -, -, e0, e1⟩ := index_of ⟨8 * ((i 0 : ℕ) / 1024) + (i 1 : ℕ) / 1024, ht⟩
    show i ∈ ((View.whole main_v0_0).slice (win0_2.rect ⟨8 * ((i 0 : ℕ) / 1024) + (i 1 : ℕ) / 1024, ht⟩)).set
    rw [View.set_slice_whole, Rect.mem_set_unit]
    intro a
    fin_cases a
    · show win0_2.index _ 0 * 1024 ≤ (i 0 : ℕ) ∧ (i 0 : ℕ) < win0_2.index _ 0 * 1024 + 1024
      rw [e0]; dsimp only; omega
    · show win0_2.index _ 1 * 1024 ≤ (i 1 : ℕ) ∧ (i 1 : ℕ) < win0_2.index _ 1 * 1024 + 1024
      rw [e1]; dsimp only; omega

/-- The second result array. -/
theorem final' (c : Dev nD) : (dats m 0 c).arrAt 3 cfg0.N
    = upSq (m ((c : Thread nD τ).loc main_arg0)) (m ((c : Thread nD τ).loc main_arg1)) := by
  refine (dats m 0 c).arrAt_eq_of_cover 3 (upSq (m ((c : Thread nD τ).loc main_arg0)) (m ((c : Thread nD τ).loc main_arg1)) : S4096x8192.Idx → EReal) (fun t _ => ?_) fun i => ?_
  · rw [flushed3]
    funext y
    refine (out_read' m c t y).trans ?_
    have h0 : win0_3.index t 0 * 1024 + (y 0).val = win0_3.index t 0 * 1024 + 1 * (y 0).val := by omega
    have h1 : win0_3.index t 1 * 1024 + (y 1).val = win0_3.index t 1 * 1024 + 1 * (y 1).val := by omega
    rw [h0, h1]
    rfl
  · have h0 : (i 0 : ℕ) < 4096 := (i 0).isLt
    have h1 : (i 1 : ℕ) < 8192 := (i 1).isLt
    have ht : 8 * ((i 0 : ℕ) / 1024) + (i 1 : ℕ) / 1024 < cfg0.N := by rw [show cfg0.N = 32 from N_0]; omega
    refine ⟨⟨8 * ((i 0 : ℕ) / 1024) + (i 1 : ℕ) / 1024, ht⟩, flush0_3 _, ?_⟩
    obtain ⟨-, -, -, -, -, d0, d1, e0, e1⟩ := index_of ⟨8 * ((i 0 : ℕ) / 1024) + (i 1 : ℕ) / 1024, ht⟩
    show i ∈ ((View.whole main_v0_1).slice (win0_3.rect ⟨8 * ((i 0 : ℕ) / 1024) + (i 1 : ℕ) / 1024, ht⟩)).set
    rw [View.set_slice_whole, Rect.mem_set_unit]
    intro a
    fin_cases a
    · show win0_3.index _ 0 * 1024 ≤ (i 0 : ℕ) ∧ (i 0 : ℕ) < win0_3.index _ 0 * 1024 + 1024
      rw [d0, e0]; dsimp only; omega
    · show win0_3.index _ 1 * 1024 ≤ (i 1 : ℕ) ∧ (i 1 : ℕ) < win0_3.index _ 1 * 1024 + 1024
      rw [d1, e1]; dsimp only; omega

/-- The kernel's run leaves those arrays and its arguments as they were. -/
theorem run : θ_run defs (onTc (τ := τ) (main (F := Ideal))) ⟨m, fun _ => 0, ρ⟩ fun r => ∀ c : Dev nD,
      r.2.mem ((c : Thread nD τ).loc main_v0_0) = upFwd (m ((c : Thread nD τ).loc main_arg0)) (m ((c : Thread nD τ).loc main_arg1))
      ∧ r.2.mem ((c : Thread nD τ).loc main_v0_1) = upSq (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2.1.trans (final' m c), (h c).2.2⟩) (run_blocks m ρ)

end Cert.UpFwdIdeal.Mm

end
-- ==== Proof.MmUpFwdClaim.lean ====
/-
  The same product and squared rectifier by the reference, and the claims of this call.
-/
module

public import proofs.«01_k».proof.Defs
public import proofs.«01_k».proof.Proof.MmUpFwd
public import proofs.«01_k».proof.Proof.Gen.UpFwd.Frame
public import proofs.«01_k».proof.Proof.Gen.UpFwdRefIdeal.Read

@[expose] public section

set_option maxRecDepth 65536

noncomputable section

open Idealize.ShloMosaic Idealize.ShloMosaic.TcCoe Idealize.SL.Sem
open scoped BigOperators

namespace Cert.UpFwdRefIdeal.Mm

open Cert.UpFwdRefIdeal Cert.UpFwdRefIdeal.Read Cert.Mm Idealize.ShloMosaic.StableHlo
open Cert.Mix (nat2 nat3 nat2_idx nat3_idx)

variable (x0 : S4096x2048.Idx → EReal) (x1 : S8x2048x1024.Idx → EReal)

/-- The weights joined. -/
theorem joined (i : S2048x8192.Idx) : val_main_v3 (F := Ideal) x1 i = cols (l := 8) (n := 2048) (w := 1024) x1 (i 0).val (i 1).val := by
  have h1 : (i 1).val < 8192 := (i 1).isLt
  rw [val_main_v3_apply, val_main_v2_apply, val_main_v1_apply]
  refine (nat3_idx (l := 8) (n := 2048) (m := 1024) x1 _ _ _ _ ?_ ?_ ?_).symm
  · show (i 1).val / 1024 = ((i 0).val * 8192 + (i 1).val) / 1024 % 8; omega
  · show (i 0).val = ((i 0).val * 8192 + (i 1).val) / 8192; omega
  · show (i 1).val % 1024 = ((i 0).val * 8192 + (i 1).val) % 1024; omega

/-- The product. -/
theorem rprod (i : S4096x8192.Idx) : val_main_v4 (F := Ideal) x0 x1 i = nn 2048 (nat2 (n := 4096) (m := 2048) x0) (cols (l := 8) (n := 2048) (w := 1024) x1) (i 0).val (i 1).val := by
  rw [val_main_v4_apply]
  refine sum_fin _ _ fun k => congrArg₂ (· * ·) ?_ (joined x1 _)
  rw [val_main_v0_apply]
  exact (nat2_idx (n := 4096) (m := 2048) x0 _ _ _ rfl rfl).symm

/-- The first result. -/
theorem rres (i : S4096x8192.Idx) : val_main_v6 (F := Ideal) x0 x1 i = upFwd x0 x1 i := rprod x0 x1 i

/-- The second result. -/
theorem rres' (i : S4096x8192.Idx) : val_main_v8 (F := Ideal) x0 x1 i = upSq x0 x1 i := by
  have h5 : val_main_v5 (F := Ideal) x0 x1 i = max (upFwd x0 x1 i) 0 := by
    rw [val_main_v5_apply, rprod, val_main_call0_v0_apply, val_main_call0_cst_apply]
    exact congrArg (max (upFwd x0 x1 i)) Ideal.ofBits_zero_f32
  rw [val_main_v8_apply]
  show val_main_v7 (F := Ideal) x0 x1 i = _
  rw [val_main_v7_apply, h5]
  rfl

variable (m : (ℓ : Loc nD τ sig) → Buf (Elt Ideal) ℓ) (g : Dev nD → PrngReg)

/-- The reference's run leaves those arrays and its arguments as they were. -/
theorem run : θ_run (defs (F := Ideal)) (onTc (τ := τ) (main (F := Ideal))) ⟨m, fun _ => 0, g⟩ fun r => ∀ c : Dev nD,
      r.2.mem ((c : Thread nD τ).loc main_v6) = upFwd (m ((c : Thread nD τ).loc main_arg0)) (m ((c : Thread nD τ).loc main_arg1))
      ∧ r.2.mem ((c : Thread nD τ).loc main_v8) = upSq (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v6_eq _ _)).trans (funext fun i => rres _ _ i),
      ((h c).2.1.trans (val_main_v8_eq _ _)).trans (funext fun i => rres' _ _ i), (h c).2.2⟩)
    (Cert.UpFwdRefIdeal.Value.run (F := Ideal) m g)

end Cert.UpFwdRefIdeal.Mm

namespace Cert.Mm.UpFwd

/-- The kernel, at machine words, runs and leaves its arguments alone. -/
theorem frame_P : @Cert.quiescent_UpFwd Cert.UpFwd.Gen.facts := fun m g _ => Cert.UpFwd.Gen.frame m g

/-- The kernel, at extended reals, runs and leaves its arguments alone. -/
theorem frame_PI : @Cert.quiescent_UpFwdIdeal Cert.UpFwdIdeal.Gen.facts := fun m g _ => Cert.UpFwdIdeal.Gen.frame m g

/-- The reference runs and leaves its arguments alone. -/
theorem frame_RI : @Cert.quiescent_UpFwdRefIdeal Cert.UpFwdRefIdeal.Gen.facts := fun m g _ =>
  (θ_run Cert.UpFwdRefIdeal.defs _ _).mono (fun r h => ⟨fun c => (h c).2.2, sem_eq_zero_of_no_sems (by decide) r.2⟩)
    (Cert.UpFwdRefIdeal.Value.run (F := Ideal) m g)

/-- From the same arguments the kernel and the reference leave the same arrays. -/
theorem algebraic : @Cert.algebraic_UpFwdIdeal_UpFwdRefIdeal Cert.UpFwdIdeal.Gen.facts Cert.UpFwdRefIdeal.Gen.facts := by
  intro m g m' g' _ hag
  have hr := Cert.UpFwdRefIdeal.Mm.run m' g'
  refine ⟨_, _, Cert.UpFwdIdeal.Mm.run m g, (θ_run Cert.UpFwdRefIdeal.defs _ _).mono (fun r h c => ⟨(h c).1.trans ?_, (h c).2.1.trans ?_, (h c).2.2⟩) hr⟩
  · rw [(hag c).1, (hag c).2]
  · rw [(hag c).1, (hag c).2]

end Cert.Mm.UpFwd

end
-- ==== Proof.MmDownFwd.lean ====
/-
  The second product of the feed-forward layer added to the residual: the kernel's result array, element by element. The
  kernel takes the hidden axis in four steps, keeps the running sum between them, and adds the residual in the last.
-/
module

public import proofs.«01_k».proof.Proof.MmSpec
public import proofs.«01_k».proof.Proof.Gen.DownFwdIdeal.Value

@[expose] public section

set_option maxRecDepth 65536

noncomputable section

open Idealize.ShloMosaic Idealize.ShloMosaic.TcCoe Idealize.SL.Sem
open scoped BigOperators

namespace Cert.Mm

open Cert.Mix (nat2 nat3 nat2_idx nat3_idx)

/-- The product, by weights kept as blocks of rows, and the residual. -/
def downFwd (x : (⟨2, ![4096, 8192]⟩ : Shape).Idx → EReal) (w : (⟨3, ![8, 1024, 2048]⟩ : Shape).Idx → EReal)
    (a : (⟨2, ![4096, 2048]⟩ : Shape).Idx → EReal) (i : (⟨2, ![4096, 2048]⟩ : Shape).Idx) : EReal :=
  nn 8192 (nat2 x) (rows w) (i 0).val (i 1).val + nat2 a (i 0).val (i 1).val

end Cert.Mm

namespace Cert.DownFwdIdeal.Mm

open Cert.DownFwdIdeal Cert.DownFwdIdeal.Gen Cert.DownFwdIdeal.Value Cert.Mm
open Cert.Mix (nat2 nat3 nat2_idx nat3_idx)

section Runs

attribute [local irreducible] View.readAt View.readCov extf truncf shapeCast constant broadcast

variable {F : FTy → Type} [FloatOps F]
variable (c : Dev nD) (i : grid0.Coords)
variable (arg3 : Memref sig .tc .vmem S1024x2048 .bf16) (harg3 : arg3.IsWhole)
variable (arg4 : Memref sig .tc .vmem S1x2048x1024 .bf16) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1024x1024 .f32) (harg7 : arg7.IsWhole)
variable (x0 : Vec F S1024x2048 .bf16) (x1 : Vec F S1x2048x1024 .bf16) (x2 : Vec F S1024x1024 .f32) (xs0 : Vec F S1024x1024 .f32)

abbrev rW : Rect S1024x1024 := Rect.unit (s := S1024x1024) ![0, 0] S1024x1024.size inb_S1024x1024_S1024x1024_0_0
abbrev rL : Rect S1024x2048 := Rect.unit (s := S1024x2048) ![0, 0] S1024x2048.size inb_S1024x2048_S1024x2048_0_0
abbrev rR : Rect S1x2048x1024 := Rect.unit (s := S1x2048x1024) ![0, 0, 0] S1x2048x1024.size inb_S1x2048x1024_S1x2048x1024_0_0_0

/-- What the first step stores in the running sum. -/
theorem runA (hc0 : cond0_0 i) (hc1 : cond0_1 i) (hc2 : ¬cond0_2 i) :
    (kernelRun0_A c i arg3 harg3 arg4 harg4 arg5 harg5 arg6 harg6 arg7 harg7 hc0 hc1 hc2 x0 x1 x2).2.1
      = [⟨rW, k0_pay2 (arg7.view.readCov [⟨rW, k0_pay1⟩] rW.toLoadRect) (View.readAt (Elt F) arg3.view rL.toLoadRect (harg3.unread x0))
          (View.readAt (Elt F) arg4.view rR.toLoadRect (harg4.unread x1))⟩, ⟨rW, k0_pay1⟩] := rfl

/-- What a middle step stores in the running sum. -/
theorem runB (hc0 : ¬cond0_0 i) (hc1 : cond0_1 i) (hc2 : ¬cond0_2 i) :
    (kernelRun0_B c i arg3 harg3 arg4 harg4 arg5 harg5 arg6 harg6 arg7 harg7 hc0 hc1 hc2 x0 x1 x2 xs0).2.1
      = [⟨rW, k0_pay2 (View.readAt (Elt F) arg7.view rW.toLoadRect (harg7.unread xs0)) (View.readAt (Elt F) arg3.view rL.toLoadRect (harg3.unread x0))
          (View.readAt (Elt F) arg4.view rR.toLoadRect (harg4.unread x1))⟩] := rfl

/-- What the last step stores in the result's block. -/
theorem runC (hc0 : ¬cond0_0 i) (hc1 : ¬cond0_1 i) (hc2 : cond0_2 i) :
    (kernelRun0_C c i arg3 harg3 arg4 harg4 arg5 harg5 arg6 harg6 arg7 harg7 hc0 hc1 hc2 x0 x1 x2 xs0).1
      = [⟨rW, k0_pay3 (View.readAt (Elt F) arg7.view rW.toLoadRect (harg7.unread xs0)) (View.readAt (Elt F) arg3.view rL.toLoadRect (harg3.unread x0))
          (View.readAt (Elt F) arg4.view rR.toLoadRect (harg4.unread x1)) (View.readAt (Elt F) arg5.view rW.toLoadRect (harg5.unread x2))⟩] := rfl

end Runs

variable (c : Dev nD) (i : grid0.Coords)
variable (arg3 : Memref sig .tc .vmem S1024x2048 .bf16) (harg3 : arg3.IsWhole)
variable (arg4 : Memref sig .tc .vmem S1x2048x1024 .bf16) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1024x1024 .f32) (harg7 : arg7.IsWhole)
variable (x0 : Vec Ideal S1024x2048 .bf16) (x1 : Vec Ideal S1x2048x1024 .bf16) (x2 : Vec Ideal S1024x1024 .f32) (xs0 : Vec Ideal S1024x1024 .f32)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A step's contribution. -/
def part (y : S1024x1024.Idx) : EReal := ∑ k : Fin 2048, x0 (ValueIdx.ix2 (y 0) k) * x1 (ValueIdx.ix3 0 k (y 1))

/-- What a step stores in the running sum, element by element. -/
theorem pay2_read (y : S1024x1024.Idx) : k0_pay2 (F := Ideal) xs0 x0 x1 y = xs0 y + part x0 x1 y := by
  unfold k0_pay2
  refine (same_read _ _ y).trans (congrArg (xs0 y + ·) ?_)
  refine (nn_read (M := 1024) (K := 2048) (N := 1024) (φ₁ := .bf16) (φ₂ := .bf16) none x0 _ y).trans (Finset.sum_congr rfl fun k _ => ?_)
  exact congrArg (_ * ·) (drop_read (R := 2048) (C := 1024) x1 _ (ValueIdx.ix2 k (y 1)))

/-- What the last step stores in the result's block, element by element. -/
theorem pay3_read (y : S1024x1024.Idx) : k0_pay3 (F := Ideal) xs0 x0 x1 x2 y = xs0 y + part x0 x1 y + x2 y := by
  rw [← pay2_read]
  exact congrArg (· + x2 y) (same_read _ _ y).symm

/-- The running sum starts at nothing. -/
theorem pay1_read (y : S1024x1024.Idx) : k0_pay1 (F := Ideal) y = 0 := by
  unfold k0_pay1
  exact (same_read _ _ y).trans Ideal.ofBits_zero_f32

/-- The running sum after the first step. -/
theorem sumA (hc0 : cond0_0 i) (hc1 : cond0_1 i) (hc2 : ¬cond0_2 i) (y : S1024x1024.Idx) :
    sout0_A_0 (F := Ideal) c i arg3 harg3 arg4 harg4 arg5 harg5 arg6 harg6 arg7 harg7 hc0 hc1 hc2 x0 x1 x2 y = part x0 x1 y := by
  unfold sout0_A_0
  rw [runA, View.read_writes_full, View.readCov_full]
  simp only [View.readAt_eq_ld, Memref.IsWhole.read_unread]
  rw [View.ld_unit_zero (S := S1024x2048) hz2, View.ld_unit_zero (S := S1x2048x1024) hz3, pay2_read, pay1_read, zero_add]

/-- The running sum after a middle step. -/
theorem sumB (hc0 : ¬cond0_0 i) (hc1 : cond0_1 i) (hc2 : ¬cond0_2 i) (y : S1024x1024.Idx) :
    sout0_B_0 (F := Ideal) c i arg3 harg3 arg4 harg4 arg5 harg5 arg6 harg6 arg7 harg7 hc0 hc1 hc2 x0 x1 x2 xs0 y = xs0 y + part x0 x1 y := by
  unfold sout0_B_0
  rw [runB, View.read_writes_full]
  simp only [View.readAt_eq_ld, Memref.IsWhole.read_unread]
  rw [View.ld_unit_zero (S := S1024x1024) hz2, View.ld_unit_zero (S := S1024x2048) hz2, View.ld_unit_zero (S := S1x2048x1024) hz3, pay2_read]

/-- The result's block after the last step. -/
theorem resC (hc0 : ¬cond0_0 i) (hc1 : ¬cond0_1 i) (hc2 : cond0_2 i) (y : S1024x1024.Idx) :
    out0_C_3 (F := Ideal) c i arg3 harg3 arg4 harg4 arg5 harg5 arg6 harg6 arg7 harg7 hc0 hc1 hc2 x0 x1 x2 xs0 y = xs0 y + part x0 x1 y + x2 y := by
  unfold out0_C_3
  rw [runC, View.read_writes_full]
  simp only [View.readAt_eq_ld, Memref.IsWhole.read_unread]
  rw [View.ld_unit_zero (S := S1024x1024) hz2, View.ld_unit_zero (S := S1024x2048) hz2, View.ld_unit_zero (S := S1x2048x1024) hz3, View.ld_unit_zero (S := S1024x1024) hz2, pay3_read]

end Cert.DownFwdIdeal.Mm

namespace Cert.DownFwdIdeal.Mm

open Cert.DownFwdIdeal Cert.DownFwdIdeal.Gen Cert.DownFwdIdeal.Value Cert.Mm
open Cert.Mix (nat2 nat3 nat2_idx nat3_idx)

variable (m : (ℓ : Loc nD τ sig) → Buf (Elt Ideal) ℓ) (ρ : Dev nD → PrngReg)

/-- The blocks the point's windows look at. -/
theorem index_of : ∀ t : Fin cfg0.N, win0_0.index t 0 = t.val / 8 ∧ win0_0.index t 1 = t.val % 4
    ∧ win0_1.index t 0 = 0 ∧ win0_1.index t 1 = t.val % 4 ∧ win0_1.index t 2 = t.val / 4 % 2
    ∧ win0_2.index t 0 = t.val / 8 ∧ win0_2.index t 1 = t.val / 4 % 2
    ∧ win0_3.index t 0 = t.val / 8 ∧ win0_3.index t 1 = t.val / 4 % 2 :=
  (by decide +kernel : ∀ t : Fin grid0.N, _)

/-- The activations' block. -/
theorem blk0 (c : Dev nD) (t : Fin cfg0.N) (y : S1024x2048.Idx) : (iblk m c 0 t : Vec Ideal S1024x2048 .bf16) y
    = nat2 (n := 4096) (m := 8192) (m ((c : Thread nD τ).loc main_arg0)) (win0_0.index t 0 * 1024 + (y 0).val) (win0_0.index t 1 * 2048 + (y 1).val) := by
  refine (nat2_idx (n := 4096) (m := 8192) (m ((c : Thread nD τ).loc main_arg0)) _ _ _ ?_ ?_).symm
  · show _ = win0_0.index t 0 * 1024 + 1 * (y 0).val; omega
  · show _ = win0_0.index t 1 * 2048 + 1 * (y 1).val; omega

/-- The weights as the kernel is given them. -/
theorem V_w (c : Dev nD) : V m c main_v0 = shapeCast S1x8192x2048 (m ((c : Thread nD τ).loc main_arg1) : S8x1024x2048.Idx → EReal) shapeCasts_S8x1024x2048_S1x8192x2048 := rfl

/-- The weights' block. -/
theorem blk1 (c : Dev nD) (t : Fin cfg0.N) (y : S1x2048x1024.Idx) : (iblk m c 1 t : Vec Ideal S1x2048x1024 .bf16) y
    = rows (l := 8) (h := 1024) (n := 2048) (m ((c : Thread nD τ).loc main_arg1)) (win0_1.index t 1 * 2048 + (y 1).val) (win0_1.index t 2 * 1024 + (y 2).val) := by
  show V m c main_v0 _ = _
  rw [V_w]
  refine (join_blocks (l := 8) (h := 1024) (n := 2048) (r := 8192) _ _ rfl _).trans ?_
  refine congrArg₂ _ ?_ ?_
  · show win0_1.index t 1 * 2048 + 1 * (y 1).val = _; omega
  · show win0_1.index t 2 * 1024 + 1 * (y 2).val = _; omega

/-- The residual's block. -/
theorem blk2 (c : Dev nD) (t : Fin cfg0.N) (y : S1024x1024.Idx) : (iblk m c 2 t : Vec Ideal S1024x1024 .f32) y
    = nat2 (n := 4096) (m := 2048) (m ((c : Thread nD τ).loc main_arg2)) (win0_2.index t 0 * 1024 + (y 0).val) (win0_2.index t 1 * 1024 + (y 1).val) := by
  refine (nat2_idx (n := 4096) (m := 2048) (m ((c : Thread nD τ).loc main_arg2)) _ _ _ ?_ ?_).symm
  · show _ = win0_2.index t 0 * 1024 + 1 * (y 0).val; omega
  · show _ = win0_2.index t 1 * 1024 + 1 * (y 1).val; omega

/-- The product's terms at an index of the point's block. -/
def term (c : Dev nD) (n : ℕ) (y : S1024x1024.Idx) (k : ℕ) : EReal :=
  nat2 (n := 4096) (m := 8192) (m ((c : Thread nD τ).loc main_arg0)) (n / 8 * 1024 + (y 0).val) k
    * rows (l := 8) (h := 1024) (n := 2048) (m ((c : Thread nD τ).loc main_arg1)) k (n / 4 % 2 * 1024 + (y 1).val)

/-- A step's contribution continues the sum of the terms. -/
theorem part_read (c : Dev nD) (t : Fin cfg0.N) (y : S1024x1024.Idx) :
    ∑ k ∈ Finset.range (t.val % 4 * 2048), term m c t.val y k + part (iblk m c 0 t) (iblk m c 1 t) y
      = ∑ k ∈ Finset.range ((t.val % 4 + 1) * 2048), term m c t.val y k := by
  obtain ⟨e00, e01, -, e11, e12, -, -, -, -⟩ := index_of t
  unfold part
  rw [sum_more (t.val % 4 * 2048) _ (term m c t.val y) fun k => ?_, Nat.succ_mul]
  rw [blk0, blk1, e00, e01, e11, e12]
  rfl

/-- The terms depend on the point's block of the result only. -/
theorem term_pred (c : Dev nD) (n : ℕ) (h : ¬(n + 1) % 4 = 0) (y : S1024x1024.Idx) : term m c n y = term m c (n + 1) y := by
  unfold term
  rw [show (n + 1) / 8 = n / 8 by omega, show (n + 1) / 4 % 2 = n / 4 % 2 by omega]

/-- The running sum after the first step of a block of the result. -/
theorem sum_first (c : Dev nD) (t : Fin cfg0.N) (h0 : t.val % 4 = 0) (y : S1024x1024.Idx) :
    (outsAt0 m c t.val t.isLt).2 y = ∑ k ∈ Finset.range ((t.val % 4 + 1) * 2048), term m c t.val y k := by
  rw [← part_read m c t y, h0, Nat.zero_mul, Finset.sum_range_zero, zero_add, outsAt0_A m c t h0 (by omega) (by omega)]
  dsimp only
  rw [sumA]

/-- The running sum after a middle step, from the sum after the step before. -/
theorem sum_next (c : Dev nD) (t : Fin cfg0.N) (h0 : ¬t.val % 4 = 0) (h2 : ¬t.val % 4 = 3) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h0 (by omega) h2]
  dsimp only
  rw [sumB]

/-- The result's block after the last step, from the sum after the step before. -/
theorem res_last (c : Dev nD) (t : Fin cfg0.N) (h2 : t.val % 4 = 3) (y : S1024x1024.Idx) :
    (dats m 0 c).flushed 3 t y
      = (outsAt0 m c (t.val - 1) (Nat.lt_of_le_of_lt (Nat.sub_le _ _) t.isLt)).2 y + part (iblk m c 0 t) (iblk m c 1 t) y + (iblk m c 2 t : Vec Ideal S1024x1024 .f32) y := by
  rw [flushed3_C m c t (by omega) (by omega) h2]
  exact resC _ _ _ _ _ _ _ _ _ _ _ _ _ _ _ (outsAt0 m c (t.val - 1) (Nat.lt_of_le_of_lt (Nat.sub_le _ _) t.isLt)).2 _ _ _ y

/-- The running sum after a point that is not the last of its block of the result. -/
theorem sum_at (c : Dev nD) (y : S1024x1024.Idx) : ∀ (n : ℕ) (hn : n < cfg0.N), ¬n % 4 = 3 →
    (outsAt0 m c n hn).2 y = ∑ k ∈ Finset.range ((n % 4 + 1) * 2048), term m c n y k := by
  intro n
  induction n with
  | zero => exact fun hn _ => sum_first m c ⟨0, hn⟩ rfl y
  | succ n ih =>
    intro hn h3
    by_cases h0 : (n + 1) % 4 = 0
    · exact sum_first m c ⟨n + 1, hn⟩ h0 y
    · refine (sum_next m c ⟨n + 1, hn⟩ h0 h3 y).trans (Eq.trans (congrArg (· + _) ?_) (part_read m c ⟨n + 1, hn⟩ y))
      refine (ih (by omega) (by omega)).trans ?_
      show _ = ∑ k ∈ Finset.range ((n + 1) % 4 * 2048), term m c (n + 1) y k
      rw [show n % 4 + 1 = (n + 1) % 4 by omega]
      exact Finset.sum_congr rfl fun k _ => congrFun (term_pred m c n h0 y) k

/-- What the last step leaves in the result's block. -/
theorem out_read (c : Dev nD) (t : Fin cfg0.N) (h2 : t.val % 4 = 3) (y : S1024x1024.Idx) :
    (dats m 0 c).flushed 3 t y = ∑ k ∈ Finset.range 8192, term m c t.val y k + (iblk m c 2 t : Vec Ideal S1024x1024 .f32) y := by
  obtain ⟨n, hn⟩ := t
  obtain ⟨n, rfl⟩ : ∃ n', n = n' + 1 := ⟨n - 1, by dsimp only at h2; omega⟩
  dsimp only at h2
  refine (res_last m c ⟨n + 1, hn⟩ h2 y).trans (congrArg (· + _) (Eq.trans (congrArg (· + _) ?_) ((part_read m c ⟨n + 1, hn⟩ y).trans (by dsimp only; rw [h2]))))
  refine (sum_at m c y n (by omega) (by omega)).trans ?_
  show _ = ∑ k ∈ Finset.range ((n + 1) % 4 * 2048), term m c (n + 1) y k
  rw [show n % 4 + 1 = (n + 1) % 4 by omega]
  exact Finset.sum_congr rfl fun k _ => congrFun (term_pred m c n (by omega) y) k

/-- The result array. -/
theorem final (c : Dev nD) : (dats m 0 c).arrAt 3 cfg0.N
    = downFwd (m ((c : Thread nD τ).loc main_arg0)) (m ((c : Thread nD τ).loc main_arg1)) (m ((c : Thread nD τ).loc main_arg2)) := by
  refine (dats m 0 c).arrAt_eq_of_cover 3 (downFwd (m ((c : Thread nD τ).loc main_arg0)) (m ((c : Thread nD τ).loc main_arg1)) (m ((c : Thread nD τ).loc main_arg2)) : S4096x2048.Idx → EReal) (fun t hf => ?_) fun i => ?_
  · have h2 := (flush0_3 t).mp hf
    obtain ⟨-, -, -, -, -, e20, e21, e0, e1⟩ := index_of t
    funext y
    refine (out_read m c t h2 y).trans ?_
    rw [blk2, e20, e21]
    unfold term
    have h0 : t.val / 8 * 1024 + (y 0).val = win0_3.index t 0 * 1024 + 1 * (y 0).val := by rw [e0]; omega
    have h1 : t.val / 4 % 2 * 1024 + (y 1).val = win0_3.index t 1 * 1024 + 1 * (y 1).val := by rw [e1]; omega
    rw [h0, h1]
    rfl
  · have h0 : (i 0 : ℕ) < 4096 := (i 0).isLt
    have h1 : (i 1 : ℕ) < 2048 := (i 1).isLt
    have ht : 8 * ((i 0 : ℕ) / 1024) + 4 * ((i 1 : ℕ) / 1024) + 3 < cfg0.N := by rw [show cfg0.N = 32 from N_0]; omega
    refine ⟨⟨8 * ((i 0 : ℕ) / 1024) + 4 * ((i 1 : ℕ) / 1024) + 3, ht⟩, (flush0_3 _).mpr (by dsimp only; omega), ?_⟩
    obtain ⟨-, -, -, -, -, -, -, e0, e1⟩ := index_of ⟨8 * ((i 0 : ℕ) / 1024) + 4 * ((i 1 : ℕ) / 1024) + 3, ht⟩
    show i ∈ ((View.whole main_v1).slice (win0_3.rect ⟨8 * ((i 0 : ℕ) / 1024) + 4 * ((i 1 : ℕ) / 1024) + 3, ht⟩)).set
    rw [View.set_slice_whole, Rect.mem_set_unit]
    intro a
    fin_cases a
    · show win0_3.index _ 0 * 1024 ≤ (i 0 : ℕ) ∧ (i 0 : ℕ) < win0_3.index _ 0 * 1024 + 1024
      rw [e0]; dsimp only; omega
    · show win0_3.index _ 1 * 1024 ≤ (i 1 : ℕ) ∧ (i 1 : ℕ) < win0_3.index _ 1 * 1024 + 1024
      rw [e1]; dsimp only; omega

/-- The kernel's run leaves that array and its arguments as they were. -/
theorem run : θ_run defs (onTc (τ := τ) (main (F := Ideal))) ⟨m, fun _ => 0, ρ⟩ fun r => ∀ c : Dev nD,
      r.2.mem ((c : Thread nD τ).loc main_v1) = downFwd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.DownFwdIdeal.Mm

end
-- ==== Proof.MmDownFwdClaim.lean ====
/-
  The same sum by the reference, and the claims of this call.
-/
module

public import proofs.«01_k».proof.Defs
public import proofs.«01_k».proof.Proof.MmDownFwd
public import proofs.«01_k».proof.Proof.Gen.DownFwd.Frame
public import proofs.«01_k».proof.Proof.Gen.DownFwdRefIdeal.Read

@[expose] public section

set_option maxRecDepth 65536

noncomputable section

open Idealize.ShloMosaic Idealize.ShloMosaic.TcCoe Idealize.SL.Sem
open scoped BigOperators

namespace Cert.DownFwdRefIdeal.Mm

open Cert.DownFwdRefIdeal Cert.DownFwdRefIdeal.Read Cert.Mm Idealize.ShloMosaic.StableHlo
open Cert.Mix (nat2 nat3 nat2_idx nat3_idx)

variable (x0 : S4096x8192.Idx → EReal) (x1 : S8x1024x2048.Idx → EReal) (x2 : S4096x2048.Idx → EReal)

/-- The weights joined. -/
theorem joined (i : S8192x2048.Idx) : val_main_v2 (F := Ideal) x1 i = rows (l := 8) (h := 1024) (n := 2048) x1 (i 0).val (i 1).val := by
  have h1 : (i 1).val < 2048 := (i 1).isLt
  rw [val_main_v2_apply, val_main_v1_apply]
  refine (nat3_idx (l := 8) (n := 1024) (m := 2048) x1 _ _ _ _ ?_ ?_ ?_).symm
  · show (i 0).val / 1024 = ((i 0).val * 2048 + (i 1).val) / 2097152; omega
  · show (i 0).val % 1024 = ((i 0).val * 2048 + (i 1).val) / 2048 % 1024; omega
  · show (i 1).val = ((i 0).val * 2048 + (i 1).val) % 2048; omega

/-- The product. -/
theorem rprod (i : S4096x2048.Idx) : val_main_v3 (F := Ideal) x0 x1 i = nn 8192 (nat2 (n := 4096) (m := 8192) x0) (rows (l := 8) (h := 1024) (n := 2048) x1) (i 0).val (i 1).val := by
  rw [val_main_v3_apply]
  refine sum_fin _ _ fun k => congrArg₂ (· * ·) ?_ (joined x1 _)
  rw [val_main_v0_apply]
  exact (nat2_idx (n := 4096) (m := 8192) x0 _ _ _ rfl rfl).symm

/-- The result. -/
theorem rres (i : S4096x2048.Idx) : val_main_v4 (F := Ideal) x0 x1 x2 i = downFwd x0 x1 x2 i := by
  rw [val_main_v4_apply, rprod]
  refine (add_comm _ _).trans (congrArg (_ + ·) ?_)
  exact (nat2_idx (n := 4096) (m := 2048) x2 i _ _ rfl rfl).symm

variable (m : (ℓ : Loc nD τ sig) → Buf (Elt Ideal) ℓ) (g : Dev nD → PrngReg)

/-- The reference's run leaves that array and its arguments as they were. -/
theorem run : θ_run (defs (F := Ideal)) (onTc (τ := τ) (main (F := Ideal))) ⟨m, fun _ => 0, g⟩ fun r => ∀ c : Dev nD,
      r.2.mem ((c : Thread nD τ).loc main_v4) = downFwd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1.trans (val_main_v4_eq _ _ _)).trans (funext fun i => rres _ _ _ i), (h c).2⟩)
    (Cert.DownFwdRefIdeal.Value.run (F := Ideal) m g)

end Cert.DownFwdRefIdeal.Mm

namespace Cert.Mm.DownFwd

/-- The kernel, at machine words, runs and leaves its arguments alone. -/
theorem frame_P : @Cert.quiescent_DownFwd Cert.DownFwd.Gen.facts := fun m g _ => Cert.DownFwd.Gen.frame m g

/-- The kernel, at extended reals, runs and leaves its arguments alone. -/
theorem frame_PI : @Cert.quiescent_DownFwdIdeal Cert.DownFwdIdeal.Gen.facts := fun m g _ => Cert.DownFwdIdeal.Gen.frame m g

/-- The reference runs and leaves its arguments alone. -/
theorem frame_RI : @Cert.quiescent_DownFwdRefIdeal Cert.DownFwdRefIdeal.Gen.facts := fun m g _ =>
  (θ_run Cert.DownFwdRefIdeal.defs _ _).mono (fun r h => ⟨fun c => (h c).2, sem_eq_zero_of_no_sems (by decide) r.2⟩)
    (Cert.DownFwdRefIdeal.Value.run (F := Ideal) m g)

/-- From the same arguments the kernel and the reference leave the same array. -/
theorem algebraic : @Cert.algebraic_DownFwdIdeal_DownFwdRefIdeal Cert.DownFwdIdeal.Gen.facts Cert.DownFwdRefIdeal.Gen.facts := by
  intro m g m' g' _ hag
  have hr := Cert.DownFwdRefIdeal.Mm.run m' g'
  refine ⟨_, Cert.DownFwdIdeal.Mm.run m g, (θ_run Cert.DownFwdRefIdeal.defs _ _).mono (fun r h c => ⟨(h c).1.trans ?_, (h c).2⟩) hr⟩
  rw [(hag c).1, (hag c).2.1, (hag c).2.2]

end Cert.Mm.DownFwd

end
-- ==== Proof.NrmSpec.lean ====
/-
  The mean-square norm of rows and its derivative, element by element, over the extended reals: as the kernels take them, as the
  reference takes them, and that the two agree. No row is assumed to be of numbers: where a row's mean square is infinite its
  scale is nothing, and both forms are nothing times what is left.
-/
module

public import proofs.«01_k».proof.Proof.MmSpec
public import proofs.«01_k».proof.Proof.MixTel

@[expose] public section

noncomputable section

namespace Cert.Nrm

open Idealize.ShloMosaic Idealize.ShloMosaic.ValueIdx
open Cert.Mix (nat2 nat2_idx)
open scoped BigOperators

/-- The length of a row. -/
def len : EReal := Ideal.ofBits .f32 0x45000000#32
/-- What is added to the mean square. -/
def eps : EReal := Ideal.ofBits .f32 0x358637BD#32
/-- Minus a half. -/
def mhalf : EReal := Ideal.ofBits .f32 0xBF000000#32

/-- A row's mean square, a little added. -/
def ms (x : ℕ → EReal) : EReal := Ideal.div (∑ k : Fin 2048, x k.val * x k.val) len + eps
/-- A row's scale. -/
def rs (x : ℕ → EReal) : EReal := Ideal.rsqrt (ms x)
/-- The rows, each scaled. -/
def hat (x : ℕ → ℕ → EReal) (n k : ℕ) : EReal := x n k * rs (x n)
/-- The derivative by the rows, `d` being the cotangent times the gain. -/
def dx (d x : ℕ → ℕ → EReal) (n k : ℕ) : EReal :=
  rs (x n) * (d n k - hat x n k * Ideal.div (∑ j : Fin 2048, d n j.val * hat x n j.val) len)
/-- The same, as differentiation of the square root and the mean writes it: half of the scale over the mean square. -/
def dxq (d x : ℕ → ℕ → EReal) (n : ℕ) : EReal :=
  Ideal.div ((∑ j : Fin 2048, x n j.val * d n j.val) * (mhalf * Ideal.div (rs (x n)) (ms (x n)))) len

/-- A vector's element; nothing outside its extent. -/
def nat1 {n : ℕ} (g : (⟨1, ![n]⟩ : Shape).Idx → EReal) (k : ℕ) : EReal := if h : k < n then g (ValueIdx.ix1 ⟨k, h⟩) else 0

theorem nat1_idx {n : ℕ} (g : (⟨1, ![n]⟩ : Shape).Idx → EReal) (y : (⟨1, ![n]⟩ : Shape).Idx) (k : ℕ) (hk : k = (y 0).val) : nat1 g k = g y := by
  subst hk
  unfold nat1
  refine (dif_pos (y 0).isLt).trans (congrArg g (funext fun a => ?_))
  fin_cases a
  rfl

/-- The cotangent of the rows, each times the gain. -/
def gained (d : ℕ → ℕ → EReal) (g : ℕ → EReal) (n k : ℕ) : EReal := d n k * g k

/-- What a norm's derivative adds to the derivative carried past it. -/
def bwdX (d x : (⟨2, ![4096, 2048]⟩ : Shape).Idx → EReal) (g : (⟨1, ![2048]⟩ : Shape).Idx → EReal) (a : (⟨2, ![4096, 2048]⟩ : Shape).Idx → EReal)
    (i : (⟨2, ![4096, 2048]⟩ : Shape).Idx) : EReal :=
  nat2 a (i 0).val (i 1).val + dx (gained (nat2 d) (nat1 g)) (nat2 x) (i 0).val (i 1).val

/-- The derivative by the gain. -/
def bwdG (d x : (⟨2, ![4096, 2048]⟩ : Shape).Idx → EReal) (i : (⟨2, ![1, 2048]⟩ : Shape).Idx) : EReal :=
  ∑ n ∈ Finset.range 4096, nat2 d n (i 1).val * hat (nat2 x) n (i 1).val

/-! ## The constants -/

theorem len_eq : len = ((2048 : ℝ) : EReal) := by
  simp [len, Ideal.ofBits, Ideal.ieee]
  norm_num
  exact (EReal.coe_mul _ _).symm.trans (congrArg _ (by norm_num))
theorem mhalf_eq : mhalf = ((-(1 / 2) : ℝ) : EReal) := by
  simp [mhalf, Ideal.ofBits, Ideal.ieee]
  norm_num
  exact (EReal.coe_mul _ _).symm.trans (congrArg _ (by norm_num))
theorem eps_eq : ∃ e : ℝ, 0 < e ∧ eps = (e : EReal) := by
  refine ⟨8796093 / 8796093022208, by norm_num, ?_⟩
  simp [eps, Ideal.ofBits, Ideal.ieee]
  norm_num
  exact (EReal.coe_mul _ _).symm.trans (congrArg _ (by norm_num))

/-! ## A row's scale -/

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

theorem div_len (x : EReal) : Ideal.div x len = x * (((2048 : ℝ)⁻¹ : ℝ) : EReal) := by
  rw [len_eq]; unfold Ideal.div
  rw [if_neg (by norm_num), ← EReal.coe_inv]

/-- A row's mean square is infinite, its scale then nothing; or it is a positive number and its scale the inverse of its root. -/
theorem ms_cases (x : ℕ → EReal) : (ms x = ⊤ ∧ rs x = 0) ∨ ∃ a : ℝ, 0 < a ∧ ms x = (a : EReal) ∧ rs x = (((√a)⁻¹ : ℝ) : EReal) := by
  have hs : 0 ≤ ∑ k : Fin 2048, x k.val * x k.val := Finset.sum_nonneg fun k _ => sq_nonneg _
  obtain ⟨e, he, hee⟩ := eps_eq
  unfold rs ms
  rw [div_len, hee]
  generalize (∑ k : Fin 2048, x k.val * x k.val) = s at hs
  induction s using EReal.rec with
  | bot => exact absurd hs (by simp)
  | top =>
    left
    rw [EReal.top_mul_coe_of_pos (by norm_num), EReal.top_add_coe]
    exact ⟨rfl, rfl⟩
  | coe a =>
    right
    have ha : 0 ≤ a := by exact_mod_cast hs
    have hp : 0 < a * (2048 : ℝ)⁻¹ + e := by positivity
    refine ⟨a * (2048 : ℝ)⁻¹ + e, hp, by rw [EReal.coe_add, EReal.coe_mul], ?_⟩
    rw [← EReal.coe_mul, ← EReal.coe_add]
    show (if _ < (0 : ℝ) then (⊥ : EReal) else if _ = (0 : ℝ) then ⊤ else _) = _
    rw [if_neg (not_lt.mpr hp.le), if_neg hp.ne']

/-! ## The two forms of the derivative -/

/-- A sum of multiples by a nonnegative number. -/
theorem sum_mul_coe {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- A value and itself again. -/
theorem add_self (c : EReal) : c + c = ((2 : ℝ) : EReal) * c := by
  induction c using EReal.rec with
  | bot => rw [EReal.coe_mul_bot_of_pos (by norm_num)]; rfl
  | top => rw [EReal.coe_mul_top_of_pos (by norm_num)]; rfl
  | coe a => rw [← EReal.coe_add, ← EReal.coe_mul]; congr 1; ring

/-- The derivative as the kernel takes it is the derivative as differentiation writes it. -/
theorem dx_eq (a : EReal) (d x : ℕ → ℕ → EReal) (n k : ℕ) :
    a + dx d x n k = a + d n k * rs (x n) + x n k * dxq d x n + dxq d x n * x n k := by
  unfold dx dxq hat
  rcases ms_cases (x n) with ⟨hm, hr⟩ | ⟨m, hm0, hm, hr⟩
  · rw [hm, hr, div_len]
    have : Ideal.div (0 : EReal) ⊤ = 0 := by unfold Ideal.div; rw [if_neg (by simp), zero_mul]
    rw [this]
    simp [div_len]
  · rw [hm, hr, div_len, div_len]
    set r : ℝ := (√m)⁻¹ with hrdef
    have hr0 : 0 < r := inv_pos.mpr (Real.sqrt_pos.mpr hm0)
    have hrr : r * r * m = 1 := by
      have h1 : √m * √m = m := Real.mul_self_sqrt hm0.le
      have h2 : √m ≠ 0 := (Real.sqrt_pos.mpr hm0).ne'
      rw [hrdef]; nth_rewrite 3 [← h1]; field_simp
    have hdiv : Ideal.div (r : EReal) (m : EReal) = ((r * r * r : ℝ) : EReal) := by
      unfold Ideal.div
      rw [if_neg (by exact_mod_cast hm0.ne'), ← EReal.coe_inv, ← EReal.coe_mul]
      congr 1
      have := hm0.ne'
      calc r * m⁻¹ = r * (r * r * m) * m⁻¹ := by rw [hrr, mul_one]
        _ = r * r * r * (m * m⁻¹) := by ring
        _ = _ := by rw [mul_inv_cancel₀ this, mul_one]
    have hS : (∑ j : Fin 2048, d n j.val * (x n j.val * (r : EReal))) = (∑ j : Fin 2048, x n j.val * d n j.val) * (r : EReal) := by
      rw [← sum_mul_coe _ _ _ hr0.le]
      exact Finset.sum_congr rfl fun j _ => by rw [mul_comm (x n j.val) (d n j.val), mul_assoc]
    rw [hS, hdiv, mhalf_eq]
    generalize (∑ j : Fin 2048, x n j.val * d n j.val) = S
    rw [sub_eq_add_neg, EReal.left_distrib_of_nonneg_of_ne_top (by exact_mod_cast hr0.le) (EReal.coe_ne_top r), mul_comm (r : EReal) (d n k), add_assoc a, add_assoc a,
      add_assoc (d n k * _)]
    refine congrArg (a + ·) (congrArg (d n k * (r : EReal) + ·) ?_)
    rw [mul_comm _ (x n k), add_self]
    have e1 : ∀ p q : ℝ, (p : EReal) * (q : EReal) = ((p * q : ℝ) : EReal) := fun p q => (EReal.coe_mul p q).symm
    have l : (r : EReal) * -(x n k * (r : EReal) * (S * (r : EReal) * (((2048 : ℝ)⁻¹ : ℝ) : EReal))) = ((-(r * r * r * (2048 : ℝ)⁻¹) : ℝ) : EReal) * (x n k * S) := by
      rw [mul_neg, EReal.coe_neg, neg_mul]
      congr 1
      simp only [EReal.coe_mul]
      ac_rfl
    have u : ((2 : ℝ) : EReal) * (x n k * (S * (((-(1 / 2) : ℝ) : EReal) * ((r * r * r : ℝ) : EReal)) * (((2048 : ℝ)⁻¹ : ℝ) : EReal)))
        = ((2 * (-(1 / 2)) * (r * r * r) * (2048 : ℝ)⁻¹ : ℝ) : EReal) * (x n k * S) := by
      simp only [EReal.coe_mul]
      ac_rfl
    rw [l, u]
    congr 2
    ring

/-! ## Reading a tile -/

/-- The sums along the rows of a tile. -/
theorem rowsum_read {R : ℕ} (f : ℕ → ℕ → EReal) (v : FVec Ideal ⟨2, ![R, 2048]⟩ .f32) (hV : ∀ i, v i = f (i 0).val (i 1).val) (h : (⟨2, ![R, 2048]⟩ : Shape).Reduces [1] ⟨1, ![R]⟩)
    (hφ : FKind.Formats .f32) (ha : (0x00000000#32 : BitVec (FTy.f32).bits) = FKind.add.neutral .f32 hφ) (hc : (⟨1, ![R]⟩ : Shape).ShapeCasts ⟨2, ![R, 1]⟩)
    (y : (⟨2, ![R, 1]⟩ : Shape).Idx) :
    shapeCast ⟨2, ![R, 1]⟩ (multiReduction .add [1] ⟨1, ![R]⟩ v 0x00000000#32 h hφ ha) hc y = ∑ k : Fin 2048, f (y 0).val k.val := by
  have h0 : (y 0).val < R := (y 0).isLt
  have h1 : (y 1).val < 1 := (y 1).isLt
  rw [shapeCast_apply _ _ y (ValueIdx.ix1 ⟨(y 0).val, h0⟩) (by
    rw [rowMajor_val1, rowMajor_val2 _ _ rfl]
    show (y 0).val = (y 0).val * 1 + (y 1).val
    omega)]
  exact (Ideal.multiReduction_add_single v _ _ _ _ _).trans (Finset.sum_congr rfl fun r _ => hV _)

/-- The sums along the columns of a tile. -/
theorem colsum_read {R : ℕ} (f : ℕ → ℕ → EReal) (v : FVec Ideal ⟨2, ![R, 2048]⟩ .f32) (hV : ∀ i, v i = f (i 0).val (i 1).val) (h : (⟨2, ![R, 2048]⟩ : Shape).Reduces [0] ⟨1, ![2048]⟩)
    (hφ : FKind.Formats .f32) (ha : (0x00000000#32 : BitVec (FTy.f32).bits) = FKind.add.neutral .f32 hφ) (hc : (⟨1, ![2048]⟩ : Shape).ShapeCasts ⟨2, ![1, 2048]⟩)
    (y : (⟨2, ![1, 2048]⟩ : Shape).Idx) :
    shapeCast ⟨2, ![1, 2048]⟩ (multiReduction .add [0] ⟨1, ![2048]⟩ v 0x00000000#32 h hφ ha) hc y = ∑ r : Fin R, f r.val (y 1).val := by
  have h1 : (y 1).val < 2048 := (y 1).isLt
  have h0 : (y 0).val < 1 := (y 0).isLt
  rw [shapeCast_apply _ _ y (ValueIdx.ix1 ⟨(y 1).val, h1⟩) (by
    rw [rowMajor_val1, rowMajor_val2 _ _ rfl]
    show (y 1).val = (y 0).val * 2048 + (y 1).val
    omega)]
  exact (Ideal.multiReduction_add_single v _ _ _ _ _).trans (Finset.sum_congr rfl fun r _ => hV _)

/-- A column repeated along the rows of a tile. -/
theorem bcol_read {α : Type} (v : (⟨2, ![512, 1]⟩ : Shape).Idx → α) (h : (⟨2, ![512, 1]⟩ : Shape).Broadcasts ⟨2, ![512, 2048]⟩) (y : (⟨2, ![512, 2048]⟩ : Shape).Idx) :
    broadcastTo ⟨2, ![512, 2048]⟩ v h y = v (ValueIdx.ix2 (y 0) 0) :=
  broadcastTo_apply v h y (ValueIdx.ix2 (y 0) 0) fun a => by fin_cases a <;> rfl

/-- A row repeated along the columns of a tile. -/
theorem brow_read {α : Type} (v : (⟨2, ![1, 2048]⟩ : Shape).Idx → α) (h : (⟨2, ![1, 2048]⟩ : Shape).Broadcasts ⟨2, ![512, 2048]⟩) (y : (⟨2, ![512, 2048]⟩ : Shape).Idx) :
    broadcastTo ⟨2, ![512, 2048]⟩ v h y = v (ValueIdx.ix2 0 (y 1)) :=
  broadcastTo_apply v h y (ValueIdx.ix2 0 (y 1)) fun a => by fin_cases a <;> rfl

end Cert.Nrm
-- ==== Proof.NrmNormBwd.lean ====
/-
  A norm's derivative inside the layers: the kernel's result arrays, element by element. The kernel takes the rows in eight tiles
  and adds each tile's part of the gain's derivative to a row it keeps.
-/
module

public import proofs.«01_k».proof.Proof.NrmSpec
public import proofs.«01_k».proof.Proof.Gen.NormBwdIdeal.Value

@[expose] public section

set_option maxRecDepth 65536

noncomputable section

open Idealize.ShloMosaic Idealize.ShloMosaic.TcCoe Idealize.SL.Sem
open scoped BigOperators

namespace Cert.NormBwdIdeal.Nrm

open Cert.NormBwdIdeal Cert.NormBwdIdeal.Gen Cert.NormBwdIdeal.Value Cert.Nrm
open Cert.Mix (nat2 nat2_idx)
open Cert.Mm (same_read sum_more)

section Runs

attribute [local irreducible] View.readAt View.readCov extf truncf shapeCast constant broadcast multiReduction rsqrt divf

variable {F : FTy → Type} [FloatOps F]
variable (c : Dev nD) (i : grid0.Coords)
variable (arg1 : Memref sig .tc .vmem S512x2048 .bf16) (harg1 : arg1.IsWhole)
variable (arg2 : Memref sig .tc .vmem S512x2048 .bf16) (harg2 : arg2.IsWhole)
variable (arg3 : Memref sig .tc .vmem S1x2048 .f32) (harg3 : arg3.IsWhole)
variable (arg4 : Memref sig .tc .vmem S512x2048 .bf16) (harg4 : arg4.IsWhole)
variable (arg5 : Memref sig .tc .vmem S512x2048 .bf16) (harg5 : arg5.IsWhole)
variable (arg6 : Memref sig .tc .vmem S1x2048 .f32) (harg6 : arg6.IsWhole)
variable (x0 x1 : Vec F S512x2048 .bf16) (x2 : Vec F S1x2048 .f32) (x3 : Vec F S512x2048 .bf16) (xo5 : Vec F S1x2048 .f32)

abbrev rT : Rect S512x2048 := Rect.unit (s := S512x2048) ![0, 0] S512x2048.size inb_S512x2048_S512x2048_0_0
abbrev rG : Rect S1x2048 := Rect.unit (s := S1x2048) ![0, 0] S1x2048.size inb_S1x2048_S1x2048_0_0

/-- What the first step stores in the rows' block. -/
theorem runA4 (hc0 : cond0_0 i) (hc1 : ¬cond0_1 i) :
    (kernelRun0_A c i arg1 harg1 arg2 harg2 arg3 harg3 arg4 harg4 arg5 harg5 arg6 harg6 hc0 hc1 x0 x1 x2 x3).1 = [⟨rT, k0_pay6 (View.readAt (Elt F) arg2.view rT.toLoadRect (harg2.unread x1)) (View.readAt (Elt F) arg1.view rT.toLoadRect (harg1.unread x0))
      (View.readAt (Elt F) arg4.view rT.toLoadRect (harg4.unread x3)) (View.readAt (Elt F) arg3.view rG.toLoadRect (harg3.unread x2))⟩] := rfl

/-- What the first step stores in the gain's row. -/
theorem runA5 (hc0 : cond0_0 i) (hc1 : ¬cond0_1 i) :
    (kernelRun0_A c i arg1 harg1 arg2 harg2 arg3 harg3 arg4 harg4 arg5 harg5 arg6 harg6 hc0 hc1 x0 x1 x2 x3).2.1 = [⟨rG, k0_pay7 (View.readAt (Elt F) arg2.view rT.toLoadRect (harg2.unread x1))
      (View.readAt (Elt F) arg1.view rT.toLoadRect (harg1.unread x0))⟩] := rfl

/-- What a later step stores in the rows' block. -/
theorem runB4 (hc0 : ¬cond0_0 i) (hc1 : cond0_1 i) :
    (kernelRun0_B c i arg1 harg1 arg2 harg2 arg3 harg3 arg4 harg4 arg5 harg5 arg6 harg6 hc0 hc1 x0 x1 x2 x3 xo5).1 = [⟨rT, k0_pay6 (View.readAt (Elt F) arg2.view rT.toLoadRect (harg2.unread x1)) (View.readAt (Elt F) arg1.view rT.toLoadRect (harg1.unread x0))
      (View.readAt (Elt F) arg4.view rT.toLoadRect (harg4.unread x3)) (View.readAt (Elt F) arg3.view rG.toLoadRect (harg3.unread x2))⟩] := rfl

/-- What a later step stores in the gain's row. -/
theorem runB5 (hc0 : ¬cond0_0 i) (hc1 : cond0_1 i) :
    (kernelRun0_B c i arg1 harg1 arg2 harg2 arg3 harg3 arg4 harg4 arg5 harg5 arg6 harg6 hc0 hc1 x0 x1 x2 x3 xo5).2.1 = [⟨rG, k0_pay1 (k0_pay7 (View.readAt (Elt F) arg2.view rT.toLoadRect (harg2.unread x1))
      (View.readAt (Elt F) arg1.view rT.toLoadRect (harg1.unread x0))) (View.readAt (Elt F) arg6.view rG.toLoadRect (harg6.unread xo5))⟩] := rfl

end Runs

section Tile

variable (x0 x1 : Vec Ideal S512x2048 .bf16) (x2 : Vec Ideal S1x2048 .f32) (x3 : Vec Ideal S512x2048 .bf16) (xo5 : Vec Ideal S1x2048 .f32)
variable (d x : ℕ → ℕ → EReal) (g : ℕ → EReal)

/-- A tile of a matrix. -/
def Is (v : S512x2048.Idx → EReal) (f : ℕ → ℕ → EReal) : Prop := ∀ i, v i = f (i 0).val (i 1).val

variable (hd : Is x0 d) (hx : Is x1 x) (hg : ∀ i, x2 i = g (i 1).val)

include hx in
/-- The rows' scales. -/
theorem pay3_read (y : S512x1.Idx) : k0_pay3 (F := Ideal) x1 y = rs (x (y 0).val) :=
  congrArg (fun s => Ideal.rsqrt (Ideal.div s len + eps))
    (rowsum_read (fun n k => x n k * x n k) (mulf (k0_pay2 (F := Ideal) x1) (k0_pay2 (F := Ideal) x1)) (fun i => congrArg₂ (· * ·) (hx i) (hx i)) _ _ _ _ y)

include hx in
/-- The scaled rows. -/
theorem pay4_read (y : S512x2048.Idx) : k0_pay4 (F := Ideal) x1 y = hat x (y 0).val (y 1).val :=
  congrArg₂ (· * ·) (hx y) ((bcol_read (k0_pay3 (F := Ideal) x1) broadcasts_S512x1_S512x2048 y).trans (pay3_read x1 x hx _))

include hd hx hg in
/-- The rows' block. -/
theorem pay6_read (y : S512x2048.Idx) : k0_pay6 (F := Ideal) x1 x0 x3 x2 y = x3 y + dx (gained d g) x (y 0).val (y 1).val := by
  have hG : ∀ i : S512x2048.Idx, mulf (k0_pay5 (F := Ideal) x0) (broadcastTo S512x2048 (shapeCast S1x2048 x2 shapeCasts_S1x2048_S1x2048) broadcasts_S1x2048_S512x2048) i
      = gained d g (i 0).val (i 1).val := fun i => congrArg₂ (· * ·) (hd i) ((brow_read _ broadcasts_S1x2048_S512x2048 i).trans ((same_read x2 _ _).trans (hg _)))
  have hS : ∀ i : S512x1.Idx, _ = _ := rowsum_read (fun n k => gained d g n k * hat x n k)
    (mulf (mulf (k0_pay5 (F := Ideal) x0) (broadcastTo S512x2048 (shapeCast S1x2048 x2 shapeCasts_S1x2048_S1x2048) broadcasts_S1x2048_S512x2048)) (k0_pay4 (F := Ideal) x1))
    (fun i => congrArg₂ (· * ·) (hG i) (pay4_read x1 x hx i)) reduces_S512x2048_S512 (.inl rfl) rfl shapeCasts_S512_S512x1
  refine congrArg (x3 y + ·) (congrArg₂ (· * ·) ((bcol_read _ broadcasts_S512x1_S512x2048 y).trans (pay3_read x1 x hx _)) ?_)
  refine congrArg₂ (· - ·) (hG y) (congrArg₂ (· * ·) (pay4_read x1 x hx y) ((bcol_read _ broadcasts_S512x1_S512x2048 y).trans ?_))
  exact congrArg (fun s => Ideal.div s len) (hS (ValueIdx.ix2 (y 0) 0))

include hd hx in
/-- A tile's part of the gain's row. -/
theorem pay7_read (y : S1x2048.Idx) : k0_pay7 (F := Ideal) x1 x0 y = ∑ r : Fin 512, d r.val (y 1).val * hat x r.val (y 1).val :=
  colsum_read (fun n k => d n k * hat x n k) (mulf (k0_pay5 (F := Ideal) x0) (k0_pay4 (F := Ideal) x1))
    (fun i => congrArg₂ (· * ·) (hd i) (pay4_read x1 x hx i)) _ _ _ _ y

/-- The gain's row so far and a tile's part. -/
theorem pay1_read (v : FVec Ideal S1x2048 .f32) (y : S1x2048.Idx) : k0_pay1 (F := Ideal) v xo5 y = xo5 y + v y :=
  congrArg (· + v y) (same_read xo5 _ y)

end Tile

theorem hz2 : (![0, 0] : Fin 2 → ℕ) = fun _ => 0 := funext fun a => by fin_cases a <;> rfl

section Outs

variable (c : Dev nD) (i : grid0.Coords)
variable (arg1 : Memref sig .tc .vmem S512x2048 .bf16) (harg1 : arg1.IsWhole)
variable (arg2 : Memref sig .tc .vmem S512x2048 .bf16) (harg2 : arg2.IsWhole)
variable (arg3 : Memref sig .tc .vmem S1x2048 .f32) (harg3 : arg3.IsWhole)
variable (arg4 : Memref sig .tc .vmem S512x2048 .bf16) (harg4 : arg4.IsWhole)
variable (arg5 : Memref sig .tc .vmem S512x2048 .bf16) (harg5 : arg5.IsWhole)
variable (arg6 : Memref sig .tc .vmem S1x2048 .f32) (harg6 : arg6.IsWhole)
variable (x0 x1 : Vec Ideal S512x2048 .bf16) (x2 : Vec Ideal S1x2048 .f32) (x3 : Vec Ideal S512x2048 .bf16) (xo5 : Vec Ideal S1x2048 .f32)

theorem outA4 (hc0 : cond0_0 i) (hc1 : ¬cond0_1 i) : out0_A_4 (F := Ideal) c i arg1 harg1 arg2 harg2 arg3 harg3 arg4 harg4 arg5 harg5 arg6 harg6 hc0 hc1 x0 x1 x2 x3 = k0_pay6 x1 x0 x3 x2 := by
  unfold out0_A_4
  rw [runA4, View.read_writes_full]
  simp only [View.readAt_eq_ld, Memref.IsWhole.read_unread]
  rw [View.ld_unit_zero (S := S512x2048) hz2, View.ld_unit_zero (S := S512x2048) hz2, View.ld_unit_zero (S := S512x2048) hz2, View.ld_unit_zero (S := S1x2048) hz2]

theorem outA5 (hc0 : cond0_0 i) (hc1 : ¬cond0_1 i) : out0_A_5 (F := Ideal) c i arg1 harg1 arg2 harg2 arg3 harg3 arg4 harg4 arg5 harg5 arg6 harg6 hc0 hc1 x0 x1 x2 x3 = k0_pay7 x1 x0 := by
  unfold out0_A_5
  rw [runA5, View.read_writes_full]
  simp only [View.readAt_eq_ld, Memref.IsWhole.read_unread]
  rw [View.ld_unit_zero (S := S512x2048) hz2, View.ld_unit_zero (S := S512x2048) hz2]

theorem outB4 (hc0 : ¬cond0_0 i) (hc1 : cond0_1 i) : out0_B_4 (F := Ideal) c i arg1 harg1 arg2 harg2 arg3 harg3 arg4 harg4 arg5 harg5 arg6 harg6 hc0 hc1 x0 x1 x2 x3 xo5 = k0_pay6 x1 x0 x3 x2 := by
  unfold out0_B_4
  rw [runB4, View.read_writes_full]
  simp only [View.readAt_eq_ld, Memref.IsWhole.read_unread]
  rw [View.ld_unit_zero (S := S512x2048) hz2, View.ld_unit_zero (S := S512x2048) hz2, View.ld_unit_zero (S := S512x2048) hz2, View.ld_unit_zero (S := S1x2048) hz2]

theorem outB5 (hc0 : ¬cond0_0 i) (hc1 : cond0_1 i) : out0_B_5 (F := Ideal) c i arg1 harg1 arg2 harg2 arg3 harg3 arg4 harg4 arg5 harg5 arg6 harg6 hc0 hc1 x0 x1 x2 x3 xo5 = k0_pay1 (k0_pay7 x1 x0) xo5 := by
  unfold out0_B_5
  rw [runB5, View.read_writes_full]
  simp only [View.readAt_eq_ld, Memref.IsWhole.read_unread]
  rw [View.ld_unit_zero (S := S512x2048) hz2, View.ld_unit_zero (S := S512x2048) hz2, View.ld_unit_zero (S := S1x2048) hz2]

end Outs

variable (m : (ℓ : Loc nD τ sig) → Buf (Elt Ideal) ℓ) (ρ : Dev nD → PrngReg)

/-- The arguments as functions of natural numbers. -/
def fd (c : Dev nD) : ℕ → ℕ → EReal := nat2 (n := 4096) (m := 2048) (m ((c : Thread nD τ).loc main_arg0))
def fx (c : Dev nD) : ℕ → ℕ → EReal := nat2 (n := 4096) (m := 2048) (m ((c : Thread nD τ).loc main_arg1))
def fg (c : Dev nD) : ℕ → EReal := nat1 (n := 2048) (m ((c : Thread nD τ).loc main_arg2))
def fa (c : Dev nD) : ℕ → ℕ → EReal := nat2 (n := 4096) (m := 2048) (m ((c : Thread nD τ).loc main_arg3))

/-- The blocks the point's windows look at. -/
theorem index_of : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0 :=
  (by decide +kernel : ∀ t : Fin grid0.N, _)

theorem blk0 (c : Dev nD) (t : Fin cfg0.N) : Is (iblk m c 0 t : Vec Ideal S512x2048 .bf16) (fun r => fd m c (t.val * 512 + r)) := fun y => by
  obtain ⟨e00, e01, e10, e11, -, -, e30, e31, -, -, -, -⟩ := index_of t
  refine (nat2_idx (n := 4096) (m := 2048) (m ((c : Thread nD τ).loc main_arg0)) _ _ _ ?_ ?_).symm
  · show _ = win0_0.index t 0 * 512 + 1 * (y 0).val; rw [e00]; omega
  · show _ = win0_0.index t 1 * 2048 + 1 * (y 1).val; rw [e01]; omega

theorem blk1 (c : Dev nD) (t : Fin cfg0.N) : Is (iblk m c 1 t : Vec Ideal S512x2048 .bf16) (fun r => fx m c (t.val * 512 + r)) := fun y => by
  obtain ⟨e00, e01, e10, e11, -, -, e30, e31, -, -, -, -⟩ := index_of t
  refine (nat2_idx (n := 4096) (m := 2048) (m ((c : Thread nD τ).loc main_arg1)) _ _ _ ?_ ?_).symm
  · show _ = win0_1.index t 0 * 512 + 1 * (y 0).val; rw [e10]; omega
  · show _ = win0_1.index t 1 * 2048 + 1 * (y 1).val; rw [e11]; omega

theorem blk3 (c : Dev nD) (t : Fin cfg0.N) : Is (iblk m c 3 t : Vec Ideal S512x2048 .bf16) (fun r => fa m c (t.val * 512 + r)) := fun y => by
  obtain ⟨e00, e01, e10, e11, -, -, e30, e31, -, -, -, -⟩ := index_of t
  refine (nat2_idx (n := 4096) (m := 2048) (m ((c : Thread nD τ).loc main_arg3)) _ _ _ ?_ ?_).symm
  · show _ = win0_3.index t 0 * 512 + 1 * (y 0).val; rw [e30]; omega
  · show _ = win0_3.index t 1 * 2048 + 1 * (y 1).val; rw [e31]; omega

/-- The gain as the kernel is given it. -/
theorem V_g (c : Dev nD) : V m c main_v0 = shapeCast S1x2048 (m ((c : Thread nD τ).loc main_arg2) : S2048.Idx → EReal) shapeCasts_S2048_S1x2048 := rfl

theorem blk2 (c : Dev nD) (t : Fin cfg0.N) (y : S1x2048.Idx) : (iblk m c 2 t : Vec Ideal S1x2048 .f32) y = fg m c (y 1).val := by
  have h1 : (y 1).val < 2048 := (y 1).isLt
  have h0 : (y 0).val < 1 := (y 0).isLt
  obtain ⟨-, -, -, -, e0, e1, -⟩ := index_of t
  show V m c main_v0 _ = _
  rw [V_g, shapeCast_apply _ _ _ (ValueIdx.ix1 ⟨(y 1).val, h1⟩) (by
    rw [rowMajor_val1, rowMajor_val2 _ _ rfl]
    show (y 1).val = (win0_2.index t 0 * 1 + 1 * (y 0).val) * 2048 + (win0_2.index t 1 * 2048 + 1 * (y 1).val)
    rw [e0, e1]
    omega)]
  exact (nat1_idx (n := 2048) (m ((c : Thread nD τ).loc main_arg2)) _ _ rfl).symm

/-- The rows' block after any point. -/
theorem rows_at (c : Dev nD) (t : Fin cfg0.N) (y : S512x2048.Idx) :
    (outsAt0 m c t.val t.isLt).1 y = fa m c (t.val * 512 + (y 0).val) (y 1).val + dx (gained (fd m c) (fg m c)) (fx m c) (t.val * 512 + (y 0).val) (y 1).val := by
  have h := pay6_read (iblk m c 0 t) (iblk m c 1 t) (iblk m c 2 t) (iblk m c 3 t) _ _ _ (blk0 m c t) (blk1 m c t) (blk2 m c t) y
  rw [blk3 m c t y] at h
  have ht : t.val < 8 := t.isLt
  by_cases h0 : t.val % 8 = 0
  · rw [outsAt0_A m c t h0 (by omega)]
    dsimp only
    rw [outA4]
    exact h
  · rw [outsAt0_B m c t h0 (by omega)]
    dsimp only
    rw [outB4]
    exact h

/-- The terms of the gain's row. -/
def term (c : Dev nD) (k n : ℕ) : EReal := fd m c n k * hat (fx m c) n k

/-- A tile's part of the gain's row continues the sum. -/
theorem part_read (c : Dev nD) (t : Fin cfg0.N) (y : S1x2048.Idx) :
    ∑ n ∈ Finset.range (t.val * 512), term m c (y 1).val n + k0_pay7 (F := Ideal) (iblk m c 1 t) (iblk m c 0 t) y
      = ∑ n ∈ Finset.range ((t.val + 1) * 512), term m c (y 1).val n := by
  rw [pay7_read (iblk m c 0 t) (iblk m c 1 t) _ _ (blk0 m c t) (blk1 m c t) y, Nat.succ_mul]
  exact sum_more (t.val * 512) _ (term m c (y 1).val) fun k => rfl

/-- The gain's row after a point. -/
theorem gain_at (c : Dev nD) (y : S1x2048.Idx) : ∀ (n : ℕ) (hn : n < cfg0.N), (outsAt0 m c n hn).2 y = ∑ j ∈ Finset.range ((n + 1) * 512), term m c (y 1).val j := by
  intro n
  induction n with
  | zero =>
    intro hn
    refine Eq.trans ?_ (part_read m c ⟨0, hn⟩ y)
    rw [Nat.zero_mul, Finset.sum_range_zero, zero_add, outsAt0_A m c ⟨0, hn⟩ rfl (by dsimp only; omega)]
    dsimp only
    rw [outA5]
  | succ n ih =>
    intro hn
    have h8 : n + 1 < 8 := hn
    refine Eq.trans ?_ (part_read m c ⟨n + 1, hn⟩ y)
    rw [outsAt0_B m c ⟨n + 1, hn⟩ (by dsimp only; omega) (by dsimp only; omega)]
    dsimp only
    rw [outB5, pay1_read]
    exact congrArg (· + _) (ih (by omega))

/-- The rows' array. -/
theorem finalX (c : Dev nD) : (dats m 0 c).arrAt 4 cfg0.N
    = bwdX (m ((c : Thread nD τ).loc main_arg0)) (m ((c : Thread nD τ).loc main_arg1)) (m ((c : Thread nD τ).loc main_arg2)) (m ((c : Thread nD τ).loc main_arg3)) := by
  refine (dats m 0 c).arrAt_eq_of_cover 4 (bwdX (m ((c : Thread nD τ).loc main_arg0)) (m ((c : Thread nD τ).loc main_arg1)) (m ((c : Thread nD τ).loc main_arg2)) (m ((c : Thread nD τ).loc main_arg3)) : S4096x2048.Idx → EReal) (fun t hf => ?_) fun i => ?_
  · obtain ⟨-, -, -, -, -, -, -, -, e0, e1, -, -⟩ := index_of t
    rw [flushed4]
    funext y
    refine (rows_at m c t y).trans ?_
    have h0 : t.val * 512 + (y 0).val = win0_4.index t 0 * 512 + 1 * (y 0).val := by rw [e0]; omega
    have h1 : (y 1).val = win0_4.index t 1 * 2048 + 1 * (y 1).val := by rw [e1]; omega
    rw [h0, h1]
    rfl
  · have h0 : (i 0 : ℕ) < 4096 := (i 0).isLt
    have h1 : (i 1 : ℕ) < 2048 := (i 1).isLt
    have ht : (i 0 : ℕ) / 512 < cfg0.N := by rw [show cfg0.N = 8 from N_0]; omega
    refine ⟨⟨(i 0 : ℕ) / 512, ht⟩, flush0_4 _, ?_⟩
    obtain ⟨-, -, -, -, -, -, -, -, e0, e1, -, -⟩ := index_of ⟨(i 0 : ℕ) / 512, ht⟩
    show i ∈ ((View.whole main_v1_0).slice (win0_4.rect ⟨(i 0 : ℕ) / 512, ht⟩)).set
    rw [View.set_slice_whole, Rect.mem_set_unit]
    intro a
    fin_cases a
    · show win0_4.index _ 0 * 512 ≤ (i 0 : ℕ) ∧ (i 0 : ℕ) < win0_4.index _ 0 * 512 + 512
      rw [e0]; dsimp only; omega
    · show win0_4.index _ 1 * 2048 ≤ (i 1 : ℕ) ∧ (i 1 : ℕ) < win0_4.index _ 1 * 2048 + 2048
      rw [e1]; omega

/-- The gain's array. -/
theorem finalG (c : Dev nD) : (dats m 0 c).arrAt 5 cfg0.N = bwdG (m ((c : Thread nD τ).loc main_arg0)) (m ((c : Thread nD τ).loc main_arg1)) := by
  refine (dats m 0 c).arrAt_eq_of_cover 5 (bwdG (m ((c : Thread nD τ).loc main_arg0)) (m ((c : Thread nD τ).loc main_arg1)) : S1x2048.Idx → EReal) (fun t hf => ?_) fun i => ?_
  · have h7 := (flush0_5 t).mp hf
    have ht : t.val < 8 := t.isLt
    obtain ⟨-, -, -, -, -, -, -, -, -, -, e0, e1⟩ := index_of t
    rw [flushed5]
    funext y
    refine (gain_at m c y t.val t.isLt).trans ?_
    have h1 : (y 1).val = win0_5.index t 1 * 2048 + 1 * (y 1).val := by rw [e1]; omega
    rw [show (t.val + 1) * 512 = 4096 by omega, h1]
    rfl
  · have h0 : (i 0 : ℕ) < 1 := (i 0).isLt
    have h1 : (i 1 : ℕ) < 2048 := (i 1).isLt
    have ht : 7 < cfg0.N := by rw [show cfg0.N = 8 from N_0]; omega
    refine ⟨⟨7, ht⟩, (flush0_5 _).mpr rfl, ?_⟩
    obtain ⟨-, -, -, -, -, -, -, -, -, -, e0, e1⟩ := index_of ⟨7, ht⟩
    show i ∈ ((View.whole main_v1_1).slice (win0_5.rect ⟨7, ht⟩)).set
    rw [View.set_slice_whole, Rect.mem_set_unit]
    intro a
    fin_cases a
    · show win0_5.index _ 0 * 1 ≤ (i 0 : ℕ) ∧ (i 0 : ℕ) < win0_5.index _ 0 * 1 + 1
      rw [e0]; omega
    · show win0_5.index _ 1 * 2048 ≤ (i 1 : ℕ) ∧ (i 1 : ℕ) < win0_5.index _ 1 * 2048 + 2048
      rw [e1]; omega

/-- The kernel's run leaves those arrays and its arguments as they were. -/
theorem run : θ_run defs (onTc (τ := τ) (main (F := Ideal))) ⟨m, fun _ => 0, ρ⟩ fun r => ∀ c : Dev nD,
      r.2.mem ((c : Thread nD τ).loc main_v1_0) = bwdX (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = bwdG (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (finalX m c), (h c).2.1.trans (finalG m c), (h c).2.2⟩) (run_blocks m ρ)

end Cert.NormBwdIdeal.Nrm

end
-- ==== Proof.NrmNormBwdClaim.lean ====
/-
  The same derivative by the reference, and the claims of this call.
-/
module

public import proofs.«01_k».proof.Defs
public import proofs.«01_k».proof.Proof.NrmNormBwd
public import proofs.«01_k».proof.Proof.Gen.NormBwd.Frame
public import proofs.«01_k».proof.Proof.Gen.NormBwdRefIdeal.Read

@[expose] public section

set_option maxRecDepth 65536

noncomputable section

open Idealize.ShloMosaic Idealize.ShloMosaic.TcCoe Idealize.SL.Sem
open scoped BigOperators

namespace Cert.NormBwdRefIdeal.Nrm

open Cert.NormBwdRefIdeal Cert.NormBwdRefIdeal.Read Cert.Nrm Idealize.ShloMosaic.StableHlo
open Cert.Mix (nat2 nat2_idx)
open Cert.Mm (sum_fin)

variable (x0 x1 : S4096x2048.Idx → EReal) (x2 : S2048.Idx → EReal) (x3 : S4096x2048.Idx → EReal)

/-- The arguments as functions of natural numbers. -/
abbrev d : ℕ → ℕ → EReal := nat2 (n := 4096) (m := 2048) x0
abbrev x : ℕ → ℕ → EReal := nat2 (n := 4096) (m := 2048) x1
abbrev g : ℕ → EReal := nat1 (n := 2048) x2

theorem d_at (i : S4096x2048.Idx) : val_main_v18 (F := Ideal) x0 i = d x0 (i 0).val (i 1).val := (nat2_idx (n := 4096) (m := 2048) x0 i _ _ rfl rfl).symm
theorem x_at (i : S4096x2048.Idx) : val_main_v0 (F := Ideal) x1 i = x x1 (i 0).val (i 1).val := (nat2_idx (n := 4096) (m := 2048) x1 i _ _ rfl rfl).symm

/-- The rows' mean squares. -/
theorem ms_at (i : S4096x1.Idx) : val_main_v7 (F := Ideal) x1 i = ms (x x1 (i 0).val) := by
  rw [val_main_v7_apply, val_main_v5_apply, val_main_v3_apply, val_main_v2_apply, val_main_v4_apply, val_main_v6_apply]
  refine congrArg (fun s => Ideal.div s len + eps) ((congrArg (· + _) Ideal.ofBits_zero_f32).trans ((zero_add _).trans (Finset.sum_congr rfl fun k _ => ?_)))
  exact congrArg₂ (· * ·) (x_at x1 _) (x_at x1 _)

/-- The rows' scales. -/
theorem rs_at (i : S4096x1.Idx) : val_main_v8 (F := Ideal) x1 i = rs (x x1 (i 0).val) := by
  rw [val_main_v8_apply, ms_at]; rfl

/-- The scaled rows. -/
theorem hat_at (i : S4096x2048.Idx) : val_main_v13 (F := Ideal) x1 i = hat (x x1) (i 0).val (i 1).val := by
  rw [val_main_v13_apply, val_main_v12_apply, rs_at, x_at]; rfl

/-- The rows' cotangents, each times the gain. -/
theorem gained_at (i : S4096x2048.Idx) : val_main_v23 (F := Ideal) x0 x2 i = gained (d x0) (g x2) (i 0).val (i 1).val := by
  rw [val_main_v23_apply, d_at, val_main_v22_apply, val_main_v14_apply]
  exact congrArg (_ * ·) (nat1_idx (n := 2048) x2 _ _ rfl).symm

/-- What differentiation writes of the scale. -/
theorem q_at (i : S4096x2048.Idx) : val_main_v35 (F := Ideal) x0 x1 x2 i = dxq (gained (d x0) (g x2)) (x x1) (i 0).val := by
  rw [val_main_v35_apply, val_main_v34_apply]
  refine (congrArg (· + _) Ideal.ofBits_zero_f32).trans ((zero_add _).trans ((Fin.sum_univ_one _).trans ?_))
  rw [val_main_v33_apply, val_main_v31_apply, val_main_v27_apply, val_main_v26_apply, val_main_v11_apply, val_main_v9_apply, val_main_v10_apply, val_main_v32_apply, rs_at, ms_at]
  refine congrArg (fun s => Ideal.div (s * (mhalf * Ideal.div _ _)) len) ((congrArg (· + _) Ideal.ofBits_zero_f32).trans ((zero_add _).trans (Finset.sum_congr rfl fun k _ => ?_)))
  rw [val_main_v25_apply, x_at, gained_at]
  show x x1 ((i 0).val * 1 + 0) k.val * gained (d x0) (g x2) ((i 0).val * 1 + 0) k.val = _
  rw [Nat.mul_one, Nat.add_zero]

/-- The rows' derivative. -/
theorem rx (i : S4096x2048.Idx) : val_main_v40 (F := Ideal) x0 x1 x2 x3 i = bwdX x0 x1 x2 x3 i := by
  rw [val_main_v40_apply]
  show val_main_v39 (F := Ideal) x0 x1 x2 x3 i = _
  rw [val_main_v39_apply, val_main_v37_apply, val_main_v30_apply, val_main_v29_apply, val_main_v36_apply, val_main_v38_apply, val_main_v28_apply, rs_at, gained_at, q_at, x_at]
  unfold bwdX
  rw [dx_eq]
  exact congrArg (· + _ + _ + _) (nat2_idx (n := 4096) (m := 2048) x3 i _ _ rfl rfl).symm

/-- The gain's derivative. -/
theorem rg (i : S1x2048.Idx) : val_main_v41 (F := Ideal) x0 x1 i = bwdG x0 x1 i := by
  have h0 : (i 0).val < 1 := (i 0).isLt
  rw [val_main_v41_apply, val_main_v24_apply]
  refine (congrArg (· + _) Ideal.ofBits_zero_f32).trans ((zero_add _).trans ((Fin.sum_univ_one _).trans ?_))
  rw [val_main_v21_apply, val_main_v20_apply]
  refine (congrArg (· + _) Ideal.ofBits_zero_f32).trans ((zero_add _).trans ?_)
  unfold bwdG
  refine sum_fin _ _ fun k => ?_
  rw [val_main_v19_apply, hat_at, d_at]
  refine (mul_comm _ _).trans ?_
  have e : 0 * 2048 + ((i 0).val * 2048 + (i 1).val) = (i 1).val := by omega
  show nat2 (n := 4096) (m := 2048) x0 k.val (0 * 2048 + ((i 0).val * 2048 + (i 1).val)) * hat (nat2 (n := 4096) (m := 2048) x1) k.val (0 * 2048 + ((i 0).val * 2048 + (i 1).val)) = _
  rw [e]

variable (m : (ℓ : Loc nD τ sig) → Buf (Elt Ideal) ℓ) (ρ : Dev nD → PrngReg)

/-- The reference's run leaves those arrays and its arguments as they were. -/
theorem run : θ_run (defs (F := Ideal)) (onTc (τ := τ) (main (F := Ideal))) ⟨m, fun _ => 0, ρ⟩ fun r => ∀ c : Dev nD,
      r.2.mem ((c : Thread nD τ).loc main_v40) = bwdX (m ((c : Thread nD τ).loc main_arg0)) (m ((c : Thread nD τ).loc main_arg1)) (m ((c : Thread nD τ).loc main_arg2)) (m ((c : Thread nD τ).loc main_arg3))
      ∧ r.2.mem ((c : Thread nD τ).loc main_v41) = bwdG (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v40_eq m c)).trans (funext fun i => rx _ _ _ _ i),
      ((h c).2.1.trans (val_main_v41_eq _ _)).trans (funext fun i => rg _ _ i), (h c).2.2⟩)
    (Cert.NormBwdRefIdeal.Value.run (F := Ideal) m ρ)

end Cert.NormBwdRefIdeal.Nrm

namespace Cert.Nrm.NormBwd

/-- The kernel, at machine words, runs and leaves its arguments alone. -/
theorem frame_P : @Cert.quiescent_NormBwd Cert.NormBwd.Gen.facts := fun m g _ => Cert.NormBwd.Gen.frame m g

/-- The kernel, at extended reals, runs and leaves its arguments alone. -/
theorem frame_PI : @Cert.quiescent_NormBwdIdeal Cert.NormBwdIdeal.Gen.facts := fun m g _ => Cert.NormBwdIdeal.Gen.frame m g

/-- The reference runs and leaves its arguments alone. -/
theorem frame_RI : @Cert.quiescent_NormBwdRefIdeal Cert.NormBwdRefIdeal.Gen.facts := fun m g _ =>
  (θ_run Cert.NormBwdRefIdeal.defs _ _).mono (fun r h => ⟨fun c => (h c).2.2, sem_eq_zero_of_no_sems (by decide) r.2⟩)
    (Cert.NormBwdRefIdeal.Value.run (F := Ideal) m g)

/-- From the same arguments the kernel and the reference leave the same arrays. -/
theorem algebraic : @Cert.algebraic_NormBwdIdeal_NormBwdRefIdeal Cert.NormBwdIdeal.Gen.facts Cert.NormBwdRefIdeal.Gen.facts := by
  intro m g m' g' _ hag
  have hr := Cert.NormBwdRefIdeal.Nrm.run m' g'
  refine ⟨_, _, Cert.NormBwdIdeal.Nrm.run m g, (θ_run Cert.NormBwdRefIdeal.defs _ _).mono (fun r h c => ⟨(h c).1.trans ?_, (h c).2.1.trans ?_, (h c).2.2⟩) hr⟩
  · rw [(hag c).1, (hag c).2.1, (hag c).2.2.1, (hag c).2.2.2]
  · rw [(hag c).1, (hag c).2.1]

end Cert.Nrm.NormBwd

end
-- ==== Proof.NrmNormBwdX.lean ====
/-
  The first norm's derivative, kept at its full width: the kernel's result arrays, element by element.
-/
module

public import proofs.«01_k».proof.Proof.NrmSpec
public import proofs.«01_k».proof.Proof.Gen.NormBwdXIdeal.Value

@[expose] public section

set_option maxRecDepth 65536

noncomputable section

open Idealize.ShloMosaic Idealize.ShloMosaic.TcCoe Idealize.SL.Sem
open scoped BigOperators

namespace Cert.NormBwdXIdeal.Nrm

open Cert.NormBwdXIdeal Cert.NormBwdXIdeal.Gen Cert.NormBwdXIdeal.Value Cert.Nrm
open Cert.Mix (nat2 nat2_idx)
open Cert.Mm (same_read sum_more)

section Runs

attribute [local irreducible] View.readAt View.readCov extf truncf shapeCast constant broadcast multiReduction rsqrt divf

variable {F : FTy → Type} [FloatOps F]
variable (c : Dev nD) (i : grid0.Coords)
variable (arg1 : Memref sig .tc .vmem S512x2048 .bf16) (harg1 : arg1.IsWhole)
variable (arg2 : Memref sig .tc .vmem S512x2048 .bf16) (harg2 : arg2.IsWhole)
variable (arg3 : Memref sig .tc .vmem S1x2048 .f32) (harg3 : arg3.IsWhole)
variable (arg4 : Memref sig .tc .vmem S512x2048 .bf16) (harg4 : arg4.IsWhole)
variable (arg5 : Memref sig .tc .vmem S512x2048 .f32) (harg5 : arg5.IsWhole)
variable (arg6 : Memref sig .tc .vmem S1x2048 .f32) (harg6 : arg6.IsWhole)
variable (x0 x1 : Vec F S512x2048 .bf16) (x2 : Vec F S1x2048 .f32) (x3 : Vec F S512x2048 .bf16) (xo5 : Vec F S1x2048 .f32)

abbrev rT : Rect S512x2048 := Rect.unit (s := S512x2048) ![0, 0] S512x2048.size inb_S512x2048_S512x2048_0_0
abbrev rG : Rect S1x2048 := Rect.unit (s := S1x2048) ![0, 0] S1x2048.size inb_S1x2048_S1x2048_0_0

/-- What the first step stores in the rows' block. -/
theorem runA4 (hc0 : cond0_0 i) (hc1 : ¬cond0_1 i) :
    (kernelRun0_A c i arg1 harg1 arg2 harg2 arg3 harg3 arg4 harg4 arg5 harg5 arg6 harg6 hc0 hc1 x0 x1 x2 x3).1 = [⟨rT, k0_pay6 (View.readAt (Elt F) arg2.view rT.toLoadRect (harg2.unread x1)) (View.readAt (Elt F) arg1.view rT.toLoadRect (harg1.unread x0))
      (View.readAt (Elt F) arg4.view rT.toLoadRect (harg4.unread x3)) (View.readAt (Elt F) arg3.view rG.toLoadRect (harg3.unread x2))⟩] := rfl

/-- What the first step stores in the gain's row. -/
theorem runA5 (hc0 : cond0_0 i) (hc1 : ¬cond0_1 i) :
    (kernelRun0_A c i arg1 harg1 arg2 harg2 arg3 harg3 arg4 harg4 arg5 harg5 arg6 harg6 hc0 hc1 x0 x1 x2 x3).2.1 = [⟨rG, k0_pay7 (View.readAt (Elt F) arg2.view rT.toLoadRect (harg2.unread x1))
      (View.readAt (Elt F) arg1.view rT.toLoadRect (harg1.unread x0))⟩] := rfl

/-- What a later step stores in the rows' block. -/
theorem runB4 (hc0 : ¬cond0_0 i) (hc1 : cond0_1 i) :
    (kernelRun0_B c i arg1 harg1 arg2 harg2 arg3 harg3 arg4 harg4 arg5 harg5 arg6 harg6 hc0 hc1 x0 x1 x2 x3 xo5).1 = [⟨rT, k0_pay6 (View.readAt (Elt F) arg2.view rT.toLoadRect (harg2.unread x1)) (View.readAt (Elt F) arg1.view rT.toLoadRect (harg1.unread x0))
      (View.readAt (Elt F) arg4.view rT.toLoadRect (harg4.unread x3)) (View.readAt (Elt F) arg3.view rG.toLoadRect (harg3.unread x2))⟩] := rfl

/-- What a later step stores in the gain's row. -/
theorem runB5 (hc0 : ¬cond0_0 i) (hc1 : cond0_1 i) :
    (kernelRun0_B c i arg1 harg1 arg2 harg2 arg3 harg3 arg4 harg4 arg5 harg5 arg6 harg6 hc0 hc1 x0 x1 x2 x3 xo5).2.1 = [⟨rG, k0_pay1 (k0_pay7 (View.readAt (Elt F) arg2.view rT.toLoadRect (harg2.unread x1))
      (View.readAt (Elt F) arg1.view rT.toLoadRect (harg1.unread x0))) (View.readAt (Elt F) arg6.view rG.toLoadRect (harg6.unread xo5))⟩] := rfl

end Runs

section Tile

variable (x0 x1 : Vec Ideal S512x2048 .bf16) (x2 : Vec Ideal S1x2048 .f32) (x3 : Vec Ideal S512x2048 .bf16) (xo5 : Vec Ideal S1x2048 .f32)
variable (d x : ℕ → ℕ → EReal) (g : ℕ → EReal)

/-- A tile of a matrix. -/
def Is (v : S512x2048.Idx → EReal) (f : ℕ → ℕ → EReal) : Prop := ∀ i, v i = f (i 0).val (i 1).val

variable (hd : Is x0 d) (hx : Is x1 x) (hg : ∀ i, x2 i = g (i 1).val)

include hx in
/-- The rows' scales. -/
theorem pay3_read (y : S512x1.Idx) : k0_pay3 (F := Ideal) x1 y = rs (x (y 0).val) :=
  congrArg (fun s => Ideal.rsqrt (Ideal.div s len + eps))
    (rowsum_read (fun n k => x n k * x n k) (mulf (k0_pay2 (F := Ideal) x1) (k0_pay2 (F := Ideal) x1)) (fun i => congrArg₂ (· * ·) (hx i) (hx i)) _ _ _ _ y)

include hx in
/-- The scaled rows. -/
theorem pay4_read (y : S512x2048.Idx) : k0_pay4 (F := Ideal) x1 y = hat x (y 0).val (y 1).val :=
  congrArg₂ (· * ·) (hx y) ((bcol_read (k0_pay3 (F := Ideal) x1) broadcasts_S512x1_S512x2048 y).trans (pay3_read x1 x hx _))

include hd hx hg in
/-- The rows' block. -/
theorem pay6_read (y : S512x2048.Idx) : k0_pay6 (F := Ideal) x1 x0 x3 x2 y = x3 y + dx (gained d g) x (y 0).val (y 1).val := by
  have hG : ∀ i : S512x2048.Idx, mulf (k0_pay5 (F := Ideal) x0) (broadcastTo S512x2048 (shapeCast S1x2048 x2 shapeCasts_S1x2048_S1x2048) broadcasts_S1x2048_S512x2048) i
      = gained d g (i 0).val (i 1).val := fun i => congrArg₂ (· * ·) (hd i) ((brow_read _ broadcasts_S1x2048_S512x2048 i).trans ((same_read x2 _ _).trans (hg _)))
  have hS : ∀ i : S512x1.Idx, _ = _ := rowsum_read (fun n k => gained d g n k * hat x n k)
    (mulf (mulf (k0_pay5 (F := Ideal) x0) (broadcastTo S512x2048 (shapeCast S1x2048 x2 shapeCasts_S1x2048_S1x2048) broadcasts_S1x2048_S512x2048)) (k0_pay4 (F := Ideal) x1))
    (fun i => congrArg₂ (· * ·) (hG i) (pay4_read x1 x hx i)) reduces_S512x2048_S512 (.inl rfl) rfl shapeCasts_S512_S512x1
  refine congrArg (x3 y + ·) (congrArg₂ (· * ·) ((bcol_read _ broadcasts_S512x1_S512x2048 y).trans (pay3_read x1 x hx _)) ?_)
  refine congrArg₂ (· - ·) (hG y) (congrArg₂ (· * ·) (pay4_read x1 x hx y) ((bcol_read _ broadcasts_S512x1_S512x2048 y).trans ?_))
  exact congrArg (fun s => Ideal.div s len) (hS (ValueIdx.ix2 (y 0) 0))

include hd hx in
/-- A tile's part of the gain's row. -/
theorem pay7_read (y : S1x2048.Idx) : k0_pay7 (F := Ideal) x1 x0 y = ∑ r : Fin 512, d r.val (y 1).val * hat x r.val (y 1).val :=
  colsum_read (fun n k => d n k * hat x n k) (mulf (k0_pay5 (F := Ideal) x0) (k0_pay4 (F := Ideal) x1))
    (fun i => congrArg₂ (· * ·) (hd i) (pay4_read x1 x hx i)) _ _ _ _ y

/-- The gain's row so far and a tile's part. -/
theorem pay1_read (v : FVec Ideal S1x2048 .f32) (y : S1x2048.Idx) : k0_pay1 (F := Ideal) v xo5 y = xo5 y + v y :=
  congrArg (· + v y) (same_read xo5 _ y)

end Tile

theorem hz2 : (![0, 0] : Fin 2 → ℕ) = fun _ => 0 := funext fun a => by fin_cases a <;> rfl

section Outs

variable (c : Dev nD) (i : grid0.Coords)
variable (arg1 : Memref sig .tc .vmem S512x2048 .bf16) (harg1 : arg1.IsWhole)
variable (arg2 : Memref sig .tc .vmem S512x2048 .bf16) (harg2 : arg2.IsWhole)
variable (arg3 : Memref sig .tc .vmem S1x2048 .f32) (harg3 : arg3.IsWhole)
variable (arg4 : Memref sig .tc .vmem S512x2048 .bf16) (harg4 : arg4.IsWhole)
variable (arg5 : Memref sig .tc .vmem S512x2048 .f32) (harg5 : arg5.IsWhole)
variable (arg6 : Memref sig .tc .vmem S1x2048 .f32) (harg6 : arg6.IsWhole)
variable (x0 x1 : Vec Ideal S512x2048 .bf16) (x2 : Vec Ideal S1x2048 .f32) (x3 : Vec Ideal S512x2048 .bf16) (xo5 : Vec Ideal S1x2048 .f32)

theorem outA4 (hc0 : cond0_0 i) (hc1 : ¬cond0_1 i) : out0_A_4 (F := Ideal) c i arg1 harg1 arg2 harg2 arg3 harg3 arg4 harg4 arg5 harg5 arg6 harg6 hc0 hc1 x0 x1 x2 x3 = k0_pay6 x1 x0 x3 x2 := by
  unfold out0_A_4
  rw [runA4, View.read_writes_full]
  simp only [View.readAt_eq_ld, Memref.IsWhole.read_unread]
  rw [View.ld_unit_zero (S := S512x2048) hz2, View.ld_unit_zero (S := S512x2048) hz2, View.ld_unit_zero (S := S512x2048) hz2, View.ld_unit_zero (S := S1x2048) hz2]

theorem outA5 (hc0 : cond0_0 i) (hc1 : ¬cond0_1 i) : out0_A_5 (F := Ideal) c i arg1 harg1 arg2 harg2 arg3 harg3 arg4 harg4 arg5 harg5 arg6 harg6 hc0 hc1 x0 x1 x2 x3 = k0_pay7 x1 x0 := by
  unfold out0_A_5
  rw [runA5, View.read_writes_full]
  simp only [View.readAt_eq_ld, Memref.IsWhole.read_unread]
  rw [View.ld_unit_zero (S := S512x2048) hz2, View.ld_unit_zero (S := S512x2048) hz2]

theorem outB4 (hc0 : ¬cond0_0 i) (hc1 : cond0_1 i) : out0_B_4 (F := Ideal) c i arg1 harg1 arg2 harg2 arg3 harg3 arg4 harg4 arg5 harg5 arg6 harg6 hc0 hc1 x0 x1 x2 x3 xo5 = k0_pay6 x1 x0 x3 x2 := by
  unfold out0_B_4
  rw [runB4, View.read_writes_full]
  simp only [View.readAt_eq_ld, Memref.IsWhole.read_unread]
  rw [View.ld_unit_zero (S := S512x2048) hz2, View.ld_unit_zero (S := S512x2048) hz2, View.ld_unit_zero (S := S512x2048) hz2, View.ld_unit_zero (S := S1x2048) hz2]

theorem outB5 (hc0 : ¬cond0_0 i) (hc1 : cond0_1 i) : out0_B_5 (F := Ideal) c i arg1 harg1 arg2 harg2 arg3 harg3 arg4 harg4 arg5 harg5 arg6 harg6 hc0 hc1 x0 x1 x2 x3 xo5 = k0_pay1 (k0_pay7 x1 x0) xo5 := by
  unfold out0_B_5
  rw [runB5, View.read_writes_full]
  simp only [View.readAt_eq_ld, Memref.IsWhole.read_unread]
  rw [View.ld_unit_zero (S := S512x2048) hz2, View.ld_unit_zero (S := S512x2048) hz2, View.ld_unit_zero (S := S1x2048) hz2]

end Outs

variable (m : (ℓ : Loc nD τ sig) → Buf (Elt Ideal) ℓ) (ρ : Dev nD → PrngReg)

/-- The arguments as functions of natural numbers. -/
def fd (c : Dev nD) : ℕ → ℕ → EReal := nat2 (n := 4096) (m := 2048) (m ((c : Thread nD τ).loc main_arg0))
def fx (c : Dev nD) : ℕ → ℕ → EReal := nat2 (n := 4096) (m := 2048) (m ((c : Thread nD τ).loc main_arg1))
def fg (c : Dev nD) : ℕ → EReal := nat1 (n := 2048) (m ((c : Thread nD τ).loc main_arg2))
def fa (c : Dev nD) : ℕ → ℕ → EReal := nat2 (n := 4096) (m := 2048) (m ((c : Thread nD τ).loc main_arg3))

/-- The blocks the point's windows look at. -/
theorem index_of : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0 :=
  (by decide +kernel : ∀ t : Fin grid0.N, _)

theorem blk0 (c : Dev nD) (t : Fin cfg0.N) : Is (iblk m c 0 t : Vec Ideal S512x2048 .bf16) (fun r => fd m c (t.val * 512 + r)) := fun y => by
  obtain ⟨e00, e01, e10, e11, -, -, e30, e31, -, -, -, -⟩ := index_of t
  refine (nat2_idx (n := 4096) (m := 2048) (m ((c : Thread nD τ).loc main_arg0)) _ _ _ ?_ ?_).symm
  · show _ = win0_0.index t 0 * 512 + 1 * (y 0).val; rw [e00]; omega
  · show _ = win0_0.index t 1 * 2048 + 1 * (y 1).val; rw [e01]; omega

theorem blk1 (c : Dev nD) (t : Fin cfg0.N) : Is (iblk m c 1 t : Vec Ideal S512x2048 .bf16) (fun r => fx m c (t.val * 512 + r)) := fun y => by
  obtain ⟨e00, e01, e10, e11, -, -, e30, e31, -, -, -, -⟩ := index_of t
  refine (nat2_idx (n := 4096) (m := 2048) (m ((c : Thread nD τ).loc main_arg1)) _ _ _ ?_ ?_).symm
  · show _ = win0_1.index t 0 * 512 + 1 * (y 0).val; rw [e10]; omega
  · show _ = win0_1.index t 1 * 2048 + 1 * (y 1).val; rw [e11]; omega

theorem blk3 (c : Dev nD) (t : Fin cfg0.N) : Is (iblk m c 3 t : Vec Ideal S512x2048 .bf16) (fun r => fa m c (t.val * 512 + r)) := fun y => by
  obtain ⟨e00, e01, e10, e11, -, -, e30, e31, -, -, -, -⟩ := index_of t
  refine (nat2_idx (n := 4096) (m := 2048) (m ((c : Thread nD τ).loc main_arg3)) _ _ _ ?_ ?_).symm
  · show _ = win0_3.index t 0 * 512 + 1 * (y 0).val; rw [e30]; omega
  · show _ = win0_3.index t 1 * 2048 + 1 * (y 1).val; rw [e31]; omega

/-- The gain as the kernel is given it. -/
theorem V_g (c : Dev nD) : V m c main_v0 = shapeCast S1x2048 (m ((c : Thread nD τ).loc main_arg2) : S2048.Idx → EReal) shapeCasts_S2048_S1x2048 := rfl

theorem blk2 (c : Dev nD) (t : Fin cfg0.N) (y : S1x2048.Idx) : (iblk m c 2 t : Vec Ideal S1x2048 .f32) y = fg m c (y 1).val := by
  have h1 : (y 1).val < 2048 := (y 1).isLt
  have h0 : (y 0).val < 1 := (y 0).isLt
  obtain ⟨-, -, -, -, e0, e1, -⟩ := index_of t
  show V m c main_v0 _ = _
  rw [V_g, shapeCast_apply _ _ _ (ValueIdx.ix1 ⟨(y 1).val, h1⟩) (by
    rw [rowMajor_val1, rowMajor_val2 _ _ rfl]
    show (y 1).val = (win0_2.index t 0 * 1 + 1 * (y 0).val) * 2048 + (win0_2.index t 1 * 2048 + 1 * (y 1).val)
    rw [e0, e1]
    omega)]
  exact (nat1_idx (n := 2048) (m ((c : Thread nD τ).loc main_arg2)) _ _ rfl).symm

/-- The rows' block after any point. -/
theorem rows_at (c : Dev nD) (t : Fin cfg0.N) (y : S512x2048.Idx) :
    (outsAt0 m c t.val t.isLt).1 y = fa m c (t.val * 512 + (y 0).val) (y 1).val + dx (gained (fd m c) (fg m c)) (fx m c) (t.val * 512 + (y 0).val) (y 1).val := by
  have h := pay6_read (iblk m c 0 t) (iblk m c 1 t) (iblk m c 2 t) (iblk m c 3 t) _ _ _ (blk0 m c t) (blk1 m c t) (blk2 m c t) y
  rw [blk3 m c t y] at h
  have ht : t.val < 8 := t.isLt
  by_cases h0 : t.val % 8 = 0
  · rw [outsAt0_A m c t h0 (by omega)]
    dsimp only
    rw [outA4]
    exact h
  · rw [outsAt0_B m c t h0 (by omega)]
    dsimp only
    rw [outB4]
    exact h

/-- The terms of the gain's row. -/
def term (c : Dev nD) (k n : ℕ) : EReal := fd m c n k * hat (fx m c) n k

/-- A tile's part of the gain's row continues the sum. -/
theorem part_read (c : Dev nD) (t : Fin cfg0.N) (y : S1x2048.Idx) :
    ∑ n ∈ Finset.range (t.val * 512), term m c (y 1).val n + k0_pay7 (F := Ideal) (iblk m c 1 t) (iblk m c 0 t) y
      = ∑ n ∈ Finset.range ((t.val + 1) * 512), term m c (y 1).val n := by
  rw [pay7_read (iblk m c 0 t) (iblk m c 1 t) _ _ (blk0 m c t) (blk1 m c t) y, Nat.succ_mul]
  exact sum_more (t.val * 512) _ (term m c (y 1).val) fun k => rfl

/-- The gain's row after a point. -/
theorem gain_at (c : Dev nD) (y : S1x2048.Idx) : ∀ (n : ℕ) (hn : n < cfg0.N), (outsAt0 m c n hn).2 y = ∑ j ∈ Finset.range ((n + 1) * 512), term m c (y 1).val j := by
  intro n
  induction n with
  | zero =>
    intro hn
    refine Eq.trans ?_ (part_read m c ⟨0, hn⟩ y)
    rw [Nat.zero_mul, Finset.sum_range_zero, zero_add, outsAt0_A m c ⟨0, hn⟩ rfl (by dsimp only; omega)]
    dsimp only
    rw [outA5]
  | succ n ih =>
    intro hn
    have h8 : n + 1 < 8 := hn
    refine Eq.trans ?_ (part_read m c ⟨n + 1, hn⟩ y)
    rw [outsAt0_B m c ⟨n + 1, hn⟩ (by dsimp only; omega) (by dsimp only; omega)]
    dsimp only
    rw [outB5, pay1_read]
    exact congrArg (· + _) (ih (by omega))

/-- The rows' array. -/
theorem finalX (c : Dev nD) : (dats m 0 c).arrAt 4 cfg0.N
    = bwdX (m ((c : Thread nD τ).loc main_arg0)) (m ((c : Thread nD τ).loc main_arg1)) (m ((c : Thread nD τ).loc main_arg2)) (m ((c : Thread nD τ).loc main_arg3)) := by
  refine (dats m 0 c).arrAt_eq_of_cover 4 (bwdX (m ((c : Thread nD τ).loc main_arg0)) (m ((c : Thread nD τ).loc main_arg1)) (m ((c : Thread nD τ).loc main_arg2)) (m ((c : Thread nD τ).loc main_arg3)) : S4096x2048.Idx → EReal) (fun t hf => ?_) fun i => ?_
  · obtain ⟨-, -, -, -, -, -, -, -, e0, e1, -, -⟩ := index_of t
    rw [flushed4]
    funext y
    refine (rows_at m c t y).trans ?_
    have h0 : t.val * 512 + (y 0).val = win0_4.index t 0 * 512 + 1 * (y 0).val := by rw [e0]; omega
    have h1 : (y 1).val = win0_4.index t 1 * 2048 + 1 * (y 1).val := by rw [e1]; omega
    rw [h0, h1]
    rfl
  · have h0 : (i 0 : ℕ) < 4096 := (i 0).isLt
    have h1 : (i 1 : ℕ) < 2048 := (i 1).isLt
    have ht : (i 0 : ℕ) / 512 < cfg0.N := by rw [show cfg0.N = 8 from N_0]; omega
    refine ⟨⟨(i 0 : ℕ) / 512, ht⟩, flush0_4 _, ?_⟩
    obtain ⟨-, -, -, -, -, -, -, -, e0, e1, -, -⟩ := index_of ⟨(i 0 : ℕ) / 512, ht⟩
    show i ∈ ((View.whole main_v1_0).slice (win0_4.rect ⟨(i 0 : ℕ) / 512, ht⟩)).set
    rw [View.set_slice_whole, Rect.mem_set_unit]
    intro a
    fin_cases a
    · show win0_4.index _ 0 * 512 ≤ (i 0 : ℕ) ∧ (i 0 : ℕ) < win0_4.index _ 0 * 512 + 512
      rw [e0]; dsimp only; omega
    · show win0_4.index _ 1 * 2048 ≤ (i 1 : ℕ) ∧ (i 1 : ℕ) < win0_4.index _ 1 * 2048 + 2048
      rw [e1]; omega

/-- The gain's array. -/
theorem finalG (c : Dev nD) : (dats m 0 c).arrAt 5 cfg0.N = bwdG (m ((c : Thread nD τ).loc main_arg0)) (m ((c : Thread nD τ).loc main_arg1)) := by
  refine (dats m 0 c).arrAt_eq_of_cover 5 (bwdG (m ((c : Thread nD τ).loc main_arg0)) (m ((c : Thread nD τ).loc main_arg1)) : S1x2048.Idx → EReal) (fun t hf => ?_) fun i => ?_
  · have h7 := (flush0_5 t).mp hf
    have ht : t.val < 8 := t.isLt
    obtain ⟨-, -, -, -, -, -, -, -, -, -, e0, e1⟩ := index_of t
    rw [flushed5]
    funext y
    refine (gain_at m c y t.val t.isLt).trans ?_
    have h1 : (y 1).val = win0_5.index t 1 * 2048 + 1 * (y 1).val := by rw [e1]; omega
    rw [show (t.val + 1) * 512 = 4096 by omega, h1]
    rfl
  · have h0 : (i 0 : ℕ) < 1 := (i 0).isLt
    have h1 : (i 1 : ℕ) < 2048 := (i 1).isLt
    have ht : 7 < cfg0.N := by rw [show cfg0.N = 8 from N_0]; omega
    refine ⟨⟨7, ht⟩, (flush0_5 _).mpr rfl, ?_⟩
    obtain ⟨-, -, -, -, -, -, -, -, -, -, e0, e1⟩ := index_of ⟨7, ht⟩
    show i ∈ ((View.whole main_v1_1).slice (win0_5.rect ⟨7, ht⟩)).set
    rw [View.set_slice_whole, Rect.mem_set_unit]
    intro a
    fin_cases a
    · show win0_5.index _ 0 * 1 ≤ (i 0 : ℕ) ∧ (i 0 : ℕ) < win0_5.index _ 0 * 1 + 1
      rw [e0]; omega
    · show win0_5.index _ 1 * 2048 ≤ (i 1 : ℕ) ∧ (i 1 : ℕ) < win0_5.index _ 1 * 2048 + 2048
      rw [e1]; omega

/-- The kernel's run leaves those arrays and its arguments as they were. -/
theorem run : θ_run defs (onTc (τ := τ) (main (F := Ideal))) ⟨m, fun _ => 0, ρ⟩ fun r => ∀ c : Dev nD,
      r.2.mem ((c : Thread nD τ).loc main_v1_0) = bwdX (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = bwdG (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (finalX m c), (h c).2.1.trans (finalG m c), (h c).2.2⟩) (run_blocks m ρ)

end Cert.NormBwdXIdeal.Nrm

end
-- ==== Proof.NrmNormBwdXClaim.lean ====
/-
  The same derivative by the reference, and the claims of this call.
-/
module

public import proofs.«01_k».proof.Defs
public import proofs.«01_k».proof.Proof.NrmNormBwdX
public import proofs.«01_k».proof.Proof.Gen.NormBwdX.Frame
public import proofs.«01_k».proof.Proof.Gen.NormBwdXRefIdeal.Read

@[expose] public section

set_option maxRecDepth 65536

noncomputable section

open Idealize.ShloMosaic Idealize.ShloMosaic.TcCoe Idealize.SL.Sem
open scoped BigOperators

namespace Cert.NormBwdXRefIdeal.Nrm

open Cert.NormBwdXRefIdeal Cert.NormBwdXRefIdeal.Read Cert.Nrm Idealize.ShloMosaic.StableHlo
open Cert.Mix (nat2 nat2_idx)
open Cert.Mm (sum_fin)

variable (x0 x1 : S4096x2048.Idx → EReal) (x2 : S2048.Idx → EReal) (x3 : S4096x2048.Idx → EReal)

/-- The arguments as functions of natural numbers. -/
abbrev d : ℕ → ℕ → EReal := nat2 (n := 4096) (m := 2048) x0
abbrev x : ℕ → ℕ → EReal := nat2 (n := 4096) (m := 2048) x1
abbrev g : ℕ → EReal := nat1 (n := 2048) x2

theorem d_at (i : S4096x2048.Idx) : val_main_v18 (F := Ideal) x0 i = d x0 (i 0).val (i 1).val := (nat2_idx (n := 4096) (m := 2048) x0 i _ _ rfl rfl).symm
theorem x_at (i : S4096x2048.Idx) : val_main_v0 (F := Ideal) x1 i = x x1 (i 0).val (i 1).val := (nat2_idx (n := 4096) (m := 2048) x1 i _ _ rfl rfl).symm

/-- The rows' mean squares. -/
theorem ms_at (i : S4096x1.Idx) : val_main_v7 (F := Ideal) x1 i = ms (x x1 (i 0).val) := by
  rw [val_main_v7_apply, val_main_v5_apply, val_main_v3_apply, val_main_v2_apply, val_main_v4_apply, val_main_v6_apply]
  refine congrArg (fun s => Ideal.div s len + eps) ((congrArg (· + _) Ideal.ofBits_zero_f32).trans ((zero_add _).trans (Finset.sum_congr rfl fun k _ => ?_)))
  exact congrArg₂ (· * ·) (x_at x1 _) (x_at x1 _)

/-- The rows' scales. -/
theorem rs_at (i : S4096x1.Idx) : val_main_v8 (F := Ideal) x1 i = rs (x x1 (i 0).val) := by
  rw [val_main_v8_apply, ms_at]; rfl

/-- The scaled rows. -/
theorem hat_at (i : S4096x2048.Idx) : val_main_v13 (F := Ideal) x1 i = hat (x x1) (i 0).val (i 1).val := by
  rw [val_main_v13_apply, val_main_v12_apply, rs_at, x_at]; rfl

/-- The rows' cotangents, each times the gain. -/
theorem gained_at (i : S4096x2048.Idx) : val_main_v23 (F := Ideal) x0 x2 i = gained (d x0) (g x2) (i 0).val (i 1).val := by
  rw [val_main_v23_apply, d_at, val_main_v22_apply, val_main_v14_apply]
  exact congrArg (_ * ·) (nat1_idx (n := 2048) x2 _ _ rfl).symm

/-- What differentiation writes of the scale. -/
theorem q_at (i : S4096x2048.Idx) : val_main_v35 (F := Ideal) x0 x1 x2 i = dxq (gained (d x0) (g x2)) (x x1) (i 0).val := by
  rw [val_main_v35_apply, val_main_v34_apply]
  refine (congrArg (· + _) Ideal.ofBits_zero_f32).trans ((zero_add _).trans ((Fin.sum_univ_one _).trans ?_))
  rw [val_main_v33_apply, val_main_v31_apply, val_main_v27_apply, val_main_v26_apply, val_main_v11_apply, val_main_v9_apply, val_main_v10_apply, val_main_v32_apply, rs_at, ms_at]
  refine congrArg (fun s => Ideal.div (s * (mhalf * Ideal.div _ _)) len) ((congrArg (· + _) Ideal.ofBits_zero_f32).trans ((zero_add _).trans (Finset.sum_congr rfl fun k _ => ?_)))
  rw [val_main_v25_apply, x_at, gained_at]
  show x x1 ((i 0).val * 1 + 0) k.val * gained (d x0) (g x2) ((i 0).val * 1 + 0) k.val = _
  rw [Nat.mul_one, Nat.add_zero]

/-- The rows' derivative. -/
theorem rx (i : S4096x2048.Idx) : val_main_v39 (F := Ideal) x0 x1 x2 x3 i = bwdX x0 x1 x2 x3 i := by
  rw [val_main_v39_apply, val_main_v37_apply, val_main_v30_apply, val_main_v29_apply, val_main_v36_apply, val_main_v38_apply, val_main_v28_apply, rs_at, gained_at, q_at, x_at]
  unfold bwdX
  rw [dx_eq]
  exact congrArg (· + _ + _ + _) (nat2_idx (n := 4096) (m := 2048) x3 i _ _ rfl rfl).symm

/-- The gain's derivative. -/
theorem rg (i : S1x2048.Idx) : val_main_v40 (F := Ideal) x0 x1 i = bwdG x0 x1 i := by
  have h0 : (i 0).val < 1 := (i 0).isLt
  rw [val_main_v40_apply, val_main_v24_apply]
  refine (congrArg (· + _) Ideal.ofBits_zero_f32).trans ((zero_add _).trans ((Fin.sum_univ_one _).trans ?_))
  rw [val_main_v21_apply, val_main_v20_apply]
  refine (congrArg (· + _) Ideal.ofBits_zero_f32).trans ((zero_add _).trans ?_)
  unfold bwdG
  refine sum_fin _ _ fun k => ?_
  rw [val_main_v19_apply, hat_at, d_at]
  refine (mul_comm _ _).trans ?_
  have e : 0 * 2048 + ((i 0).val * 2048 + (i 1).val) = (i 1).val := by omega
  show nat2 (n := 4096) (m := 2048) x0 k.val (0 * 2048 + ((i 0).val * 2048 + (i 1).val)) * hat (nat2 (n := 4096) (m := 2048) x1) k.val (0 * 2048 + ((i 0).val * 2048 + (i 1).val)) = _
  rw [e]

variable (m : (ℓ : Loc nD τ sig) → Buf (Elt Ideal) ℓ) (ρ : Dev nD → PrngReg)

/-- The reference's run leaves those arrays and its arguments as they were. -/
theorem run : θ_run (defs (F := Ideal)) (onTc (τ := τ) (main (F := Ideal))) ⟨m, fun _ => 0, ρ⟩ fun r => ∀ c : Dev nD,
      r.2.mem ((c : Thread nD τ).loc main_v39) = bwdX (m ((c : Thread nD τ).loc main_arg0)) (m ((c : Thread nD τ).loc main_arg1)) (m ((c : Thread nD τ).loc main_arg2)) (m ((c : Thread nD τ).loc main_arg3))
      ∧ r.2.mem ((c : Thread nD τ).loc main_v40) = bwdG (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v39_eq m c)).trans (funext fun i => rx _ _ _ _ i),
      ((h c).2.1.trans (val_main_v40_eq _ _)).trans (funext fun i => rg _ _ i), (h c).2.2⟩)
    (Cert.NormBwdXRefIdeal.Value.run (F := Ideal) m ρ)

end Cert.NormBwdXRefIdeal.Nrm

namespace Cert.Nrm.NormBwdX

/-- The kernel, at machine words, runs and leaves its arguments alone. -/
theorem frame_P : @Cert.quiescent_NormBwdX Cert.NormBwdX.Gen.facts := fun m g _ => Cert.NormBwdX.Gen.frame m g

/-- The kernel, at extended reals, runs and leaves its arguments alone. -/
theorem frame_PI : @Cert.quiescent_NormBwdXIdeal Cert.NormBwdXIdeal.Gen.facts := fun m g _ => Cert.NormBwdXIdeal.Gen.frame m g

/-- The reference runs and leaves its arguments alone. -/
theorem frame_RI : @Cert.quiescent_NormBwdXRefIdeal Cert.NormBwdXRefIdeal.Gen.facts := fun m g _ =>
  (θ_run Cert.NormBwdXRefIdeal.defs _ _).mono (fun r h => ⟨fun c => (h c).2.2, sem_eq_zero_of_no_sems (by decide) r.2⟩)
    (Cert.NormBwdXRefIdeal.Value.run (F := Ideal) m g)

/-- From the same arguments the kernel and the reference leave the same arrays. -/
theorem algebraic : @Cert.algebraic_NormBwdXIdeal_NormBwdXRefIdeal Cert.NormBwdXIdeal.Gen.facts Cert.NormBwdXRefIdeal.Gen.facts := by
  intro m g m' g' _ hag
  have hr := Cert.NormBwdXRefIdeal.Nrm.run m' g'
  refine ⟨_, _, Cert.NormBwdXIdeal.Nrm.run m g, (θ_run Cert.NormBwdXRefIdeal.defs _ _).mono (fun r h c => ⟨(h c).1.trans ?_, (h c).2.1.trans ?_, (h c).2.2⟩) hr⟩
  · rw [(hag c).1, (hag c).2.1, (hag c).2.2.1, (hag c).2.2.2]
  · rw [(hag c).1, (hag c).2.1]

end Cert.Nrm.NormBwdX

end
-- ==== Proof.NrmNorm.lean ====
/-
  A norm of the rows: the kernel's result arrays, element by element.
-/
module

public import proofs.«01_k».proof.Proof.NrmSpec
public import proofs.«01_k».proof.Proof.Gen.NormIdeal.Value

@[expose] public section

set_option maxRecDepth 65536

noncomputable section

open Idealize.ShloMosaic Idealize.ShloMosaic.TcCoe Idealize.SL.Sem
open scoped BigOperators

namespace Cert.Nrm

open Cert.Mix (nat2 nat2_idx)

/-- The rows scaled, each times the gain. -/
def normed (x : (⟨2, ![4096, 2048]⟩ : Shape).Idx → EReal) (g : (⟨1, ![2048]⟩ : Shape).Idx → EReal) (i : (⟨2, ![4096, 2048]⟩ : Shape).Idx) : EReal :=
  hat (nat2 x) (i 0).val (i 1).val * nat1 g (i 1).val

end Cert.Nrm

namespace Cert.NormIdeal.Nrm

open Cert.NormIdeal Cert.NormIdeal.Gen Cert.NormIdeal.Value Cert.Nrm
open Cert.Mix (nat2 nat2_idx)
open Cert.Mm (same_read sum_more)

/-- A tile of a matrix. -/
def Is (v : S512x2048.Idx → EReal) (f : ℕ → ℕ → EReal) : Prop := ∀ i, v i = f (i 0).val (i 1).val

variable (x0 : Vec Ideal S512x2048 .f32) (x1 : Vec Ideal S1x2048 .f32) (x : ℕ → ℕ → EReal) (g : ℕ → EReal)

/-- A tile of the scaled rows. -/
theorem pay1_read (hx : Is x0 x) (hg : ∀ i, x1 i = g (i 1).val) (y : S512x2048.Idx) : k0_pay1 (F := Ideal) x0 x1 y = hat x (y 0).val (y 1).val * g (y 1).val := by
  refine congrArg₂ (· * ·) (congrArg₂ (· * ·) (hx y) ((bcol_read _ broadcasts_S512x1_S512x2048 y).trans ?_)) ((brow_read _ broadcasts_S1x2048_S512x2048 y).trans ((same_read x1 _ _).trans (hg _)))
  exact congrArg (fun s => Ideal.rsqrt (Ideal.div s len + eps))
    (rowsum_read (fun n k => x n k * x n k) (mulf x0 x0) (fun i => congrArg₂ (· * ·) (hx i) (hx i)) reduces_S512x2048_S512 (.inl rfl) rfl shapeCasts_S512_S512x1 _)

theorem hz2 : (![0, 0] : Fin 2 → ℕ) = fun _ => 0 := funext fun a => by fin_cases a <;> rfl

variable (m : (ℓ : Loc nD τ sig) → Buf (Elt Ideal) ℓ) (ρ : Dev nD → PrngReg)

/-- The arguments as functions of natural numbers. -/
def fx (c : Dev nD) : ℕ → ℕ → EReal := nat2 (n := 4096) (m := 2048) (m ((c : Thread nD τ).loc main_arg0))
def fg (c : Dev nD) : ℕ → EReal := nat1 (n := 2048) (m ((c : Thread nD τ).loc main_arg1))

/-- The blocks the point's windows look at. -/
theorem index_of : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 :=
  (by decide +kernel : ∀ t : Fin grid0.N, _)

theorem blk0 (c : Dev nD) (t : Fin cfg0.N) : Is (iblk m c 0 t : Vec Ideal S512x2048 .f32) (fun r => fx m c (t.val * 512 + r)) := fun y => by
  obtain ⟨e00, e01, e10, e11, e20, e21, e30, e31⟩ := index_of t
  refine (nat2_idx (n := 4096) (m := 2048) (m ((c : Thread nD τ).loc main_arg0)) _ _ _ ?_ ?_).symm
  · show _ = win0_0.index t 0 * 512 + 1 * (y 0).val; rw [e00]; omega
  · show _ = win0_0.index t 1 * 2048 + 1 * (y 1).val; rw [e01]; omega

/-- The gain as the kernel is given it. -/
theorem V_g (c : Dev nD) : V m c main_v0 = shapeCast S1x2048 (m ((c : Thread nD τ).loc main_arg1) : S2048.Idx → EReal) shapeCasts_S2048_S1x2048 := rfl

theorem blk1 (c : Dev nD) (t : Fin cfg0.N) (y : S1x2048.Idx) : (iblk m c 1 t : Vec Ideal S1x2048 .f32) y = fg m c (y 1).val := by
  have h1 : (y 1).val < 2048 := (y 1).isLt
  have h0 : (y 0).val < 1 := (y 0).isLt
  obtain ⟨e00, e01, e10, e11, e20, e21, e30, e31⟩ := index_of t
  show V m c main_v0 _ = _
  rw [V_g, shapeCast_apply _ _ _ (ValueIdx.ix1 ⟨(y 1).val, h1⟩) (by
    rw [rowMajor_val1, rowMajor_val2 _ _ rfl]
    show (y 1).val = (win0_1.index t 0 * 1 + 1 * (y 0).val) * 2048 + (win0_1.index t 1 * 2048 + 1 * (y 1).val)
    rw [e10, e11]
    omega)]
  exact (nat1_idx (n := 2048) (m ((c : Thread nD τ).loc main_arg1)) _ _ rfl).symm

/-- The scaled rows' array. -/
theorem finalN (c : Dev nD) : (dats m 0 c).arrAt 2 cfg0.N = normed (m ((c : Thread nD τ).loc main_arg0)) (m ((c : Thread nD τ).loc main_arg1)) := by
  refine (dats m 0 c).arrAt_eq_of_cover 2 (normed (m ((c : Thread nD τ).loc main_arg0)) (m ((c : Thread nD τ).loc main_arg1)) : S4096x2048.Idx → EReal) (fun t hf => ?_) fun i => ?_
  · obtain ⟨e00, e01, e10, e11, e20, e21, e30, e31⟩ := index_of t
    rw [flushed2]
    unfold out0_2
    rw [View.canon_unit_zero (S := S512x2048) hz2, View.ld_unit_zero (S := S512x2048) hz2, View.ld_unit_zero (S := S1x2048) hz2]
    funext y
    refine (pay1_read (iblk m c 0 t) (iblk m c 1 t) _ _ (blk0 m c t) (blk1 m c t) y).trans ?_
    have h0 : t.val * 512 + (y 0).val = win0_2.index t 0 * 512 + 1 * (y 0).val := by rw [e20]; omega
    have h1 : (y 1).val = win0_2.index t 1 * 2048 + 1 * (y 1).val := by rw [e21]; omega
    show hat (fx m c) (t.val * 512 + (y 0).val) (y 1).val * fg m c (y 1).val = _
    rw [h0, h1]
    rfl
  · have h0 : (i 0 : ℕ) < 4096 := (i 0).isLt
    have h1 : (i 1 : ℕ) < 2048 := (i 1).isLt
    have ht : (i 0 : ℕ) / 512 < cfg0.N := by rw [show cfg0.N = 8 from N_0]; omega
    refine ⟨⟨(i 0 : ℕ) / 512, ht⟩, flush0_2 _, ?_⟩
    obtain ⟨e00, e01, e10, e11, e20, e21, e30, e31⟩ := index_of ⟨(i 0 : ℕ) / 512, ht⟩
    show i ∈ ((View.whole main_v1_0).slice (win0_2.rect ⟨(i 0 : ℕ) / 512, ht⟩)).set
    rw [View.set_slice_whole, Rect.mem_set_unit]
    intro a
    fin_cases a
    · show win0_2.index _ 0 * 512 ≤ (i 0 : ℕ) ∧ (i 0 : ℕ) < win0_2.index _ 0 * 512 + 512
      rw [e20]; dsimp only; omega
    · show win0_2.index _ 1 * 2048 ≤ (i 1 : ℕ) ∧ (i 1 : ℕ) < win0_2.index _ 1 * 2048 + 2048
      rw [e21]; omega

/-- The rows' array. -/
theorem finalX (c : Dev nD) : (dats m 0 c).arrAt 3 cfg0.N = ((m ((c : Thread nD τ).loc main_arg0)) : S4096x2048.Idx → EReal) := by
  refine (dats m 0 c).arrAt_eq_of_cover 3 ((m ((c : Thread nD τ).loc main_arg0)) : S4096x2048.Idx → EReal) (fun t hf => ?_) fun i => ?_
  · obtain ⟨e00, e01, e10, e11, e20, e21, e30, e31⟩ := index_of t
    rw [flushed3]
    unfold out0_3
    rw [View.canon_unit_zero (S := S512x2048) hz2, View.ld_unit_zero (S := S512x2048) hz2]
    funext y
    refine (blk0 m c t y).trans ?_
    refine nat2_idx (n := 4096) (m := 2048) (m ((c : Thread nD τ).loc main_arg0)) _ _ _ ?_ ?_
    · show _ = win0_3.index t 0 * 512 + 1 * (y 0).val; rw [e30]; omega
    · show _ = win0_3.index t 1 * 2048 + 1 * (y 1).val; rw [e31]; omega
  · have h0 : (i 0 : ℕ) < 4096 := (i 0).isLt
    have h1 : (i 1 : ℕ) < 2048 := (i 1).isLt
    have ht : (i 0 : ℕ) / 512 < cfg0.N := by rw [show cfg0.N = 8 from N_0]; omega
    refine ⟨⟨(i 0 : ℕ) / 512, ht⟩, flush0_3 _, ?_⟩
    obtain ⟨e00, e01, e10, e11, e20, e21, e30, e31⟩ := index_of ⟨(i 0 : ℕ) / 512, ht⟩
    show i ∈ ((View.whole main_v1_1).slice (win0_3.rect ⟨(i 0 : ℕ) / 512, ht⟩)).set
    rw [View.set_slice_whole, Rect.mem_set_unit]
    intro a
    fin_cases a
    · show win0_3.index _ 0 * 512 ≤ (i 0 : ℕ) ∧ (i 0 : ℕ) < win0_3.index _ 0 * 512 + 512
      rw [e30]; dsimp only; omega
    · show win0_3.index _ 1 * 2048 ≤ (i 1 : ℕ) ∧ (i 1 : ℕ) < win0_3.index _ 1 * 2048 + 2048
      rw [e31]; omega

/-- The kernel's run leaves those arrays and its arguments as they were. -/
theorem run : θ_run defs (onTc (τ := τ) (main (F := Ideal))) ⟨m, fun _ => 0, ρ⟩ fun r => ∀ c : Dev nD,
      r.2.mem ((c : Thread nD τ).loc main_v1_0) = normed (m ((c : Thread nD τ).loc main_arg0)) (m ((c : Thread nD τ).loc main_arg1))
      ∧ r.2.mem ((c : Thread nD τ).loc main_v1_1) = ((m ((c : Thread nD τ).loc main_arg0)) : S4096x2048.Idx → EReal)
      ∧ r.2.mem ((c : Thread nD τ).loc main_arg0) = (m ((c : Thread nD τ).loc main_arg0))
      ∧ r.2.mem ((c : Thread nD τ).loc main_arg1) = (m ((c : Thread nD τ).loc main_arg1)) :=
  (θ_run defs _ _).mono (fun _ h c => ⟨(h c).1.trans (finalN m c), (h c).2.1.trans (finalX m c), (h c).2.2⟩) (run_blocks m ρ)

end Cert.NormIdeal.Nrm

end
-- ==== Proof.NrmNormClaim.lean ====
/-
  The same rows by the reference, and the claims of this call.
-/
module

public import proofs.«01_k».proof.Defs
public import proofs.«01_k».proof.Proof.NrmNorm
public import proofs.«01_k».proof.Proof.Gen.Norm.Frame
public import proofs.«01_k».proof.Proof.Gen.NormRefIdeal.Read

@[expose] public section

set_option maxRecDepth 65536

noncomputable section

open Idealize.ShloMosaic Idealize.ShloMosaic.TcCoe Idealize.SL.Sem
open scoped BigOperators

namespace Cert.NormRefIdeal.Nrm

open Cert.NormRefIdeal Cert.NormRefIdeal.Read Cert.Nrm Idealize.ShloMosaic.StableHlo
open Cert.Mix (nat2 nat2_idx)
open Cert.Mm (sum_fin)

variable (x0 : S4096x2048.Idx → EReal) (x1 : S2048.Idx → EReal)

/-- The scaled rows. -/
theorem rn (i : S4096x2048.Idx) : val_main_v13 (F := Ideal) x0 x1 i = normed x0 x1 i := by
  have hx : ∀ i : S4096x2048.Idx, x0 i = nat2 (n := 4096) (m := 2048) x0 (i 0).val (i 1).val := fun i => (nat2_idx (n := 4096) (m := 2048) x0 i _ _ rfl rfl).symm
  rw [val_main_v13_apply]
  show val_main_v12 (F := Ideal) x0 x1 i = _
  rw [val_main_v12_apply, val_main_v9_apply, val_main_v8_apply, val_main_v7_apply, val_main_v6_apply, val_main_v4_apply, val_main_v2_apply, val_main_v1_apply, val_main_v3_apply, val_main_v5_apply,
    val_main_v11_apply, val_main_v10_apply]
  refine congrArg₂ (· * ·) (congrArg₂ (· * ·) (hx i) ?_) (nat1_idx (n := 2048) x1 _ _ rfl).symm
  refine congrArg (fun s => Ideal.rsqrt (Ideal.div s len + eps)) ((congrArg (· + _) Ideal.ofBits_zero_f32).trans ((zero_add _).trans (Finset.sum_congr rfl fun k _ => ?_)))
  exact congrArg₂ (· * ·) (hx _) (hx _)

variable (m : (ℓ : Loc nD τ sig) → Buf (Elt Ideal) ℓ) (ρ : Dev nD → PrngReg)

/-- The reference's run leaves those arrays and its arguments as they were. -/
theorem run : θ_run (defs (F := Ideal)) (onTc (τ := τ) (main (F := Ideal))) ⟨m, fun _ => 0, ρ⟩ fun r => ∀ c : Dev nD,
      r.2.mem ((c : Thread nD τ).loc main_v13) = normed (m ((c : Thread nD τ).loc main_arg0)) (m ((c : Thread nD τ).loc main_arg1))
      ∧ r.2.mem ((c : Thread nD τ).loc main_v14) = ((m ((c : Thread nD τ).loc main_arg0)) : S4096x2048.Idx → EReal)
      ∧ r.2.mem ((c : Thread nD τ).loc main_arg0) = (m ((c : Thread nD τ).loc main_arg0))
      ∧ r.2.mem ((c : Thread nD τ).loc main_arg1) = (m ((c : Thread nD τ).loc main_arg1)) :=
  (θ_run defs _ _).mono (fun _ h c => ⟨((h c).1.trans (val_main_v13_eq _ _)).trans (funext fun i => rn _ _ i), (h c).2.1, (h c).2.2⟩)
    (Cert.NormRefIdeal.Value.run (F := Ideal) m ρ)

end Cert.NormRefIdeal.Nrm

namespace Cert.Nrm.Norm

/-- The kernel, at machine words, runs and leaves its arguments alone. -/
theorem frame_P : @Cert.quiescent_Norm Cert.Norm.Gen.facts := fun m g _ => Cert.Norm.Gen.frame m g

/-- The kernel, at extended reals, runs and leaves its arguments alone. -/
theorem frame_PI : @Cert.quiescent_NormIdeal Cert.NormIdeal.Gen.facts := fun m g _ => Cert.NormIdeal.Gen.frame m g

/-- The reference runs and leaves its arguments alone. -/
theorem frame_RI : @Cert.quiescent_NormRefIdeal Cert.NormRefIdeal.Gen.facts := fun m g _ =>
  (θ_run Cert.NormRefIdeal.defs _ _).mono (fun r h => ⟨fun c => (h c).2.2, sem_eq_zero_of_no_sems (by decide) r.2⟩)
    (Cert.NormRefIdeal.Value.run (F := Ideal) m g)

/-- From the same arguments the kernel and the reference leave the same arrays. -/
theorem algebraic : @Cert.algebraic_NormIdeal_NormRefIdeal Cert.NormIdeal.Gen.facts Cert.NormRefIdeal.Gen.facts := by
  intro m g m' g' _ hag
  have hr := Cert.NormRefIdeal.Nrm.run m' g'
  refine ⟨_, _, Cert.NormIdeal.Nrm.run m g, (θ_run Cert.NormRefIdeal.defs _ _).mono (fun r h c => ⟨(h c).1.trans ?_, (h c).2.1.trans ?_, (h c).2.2⟩) hr⟩
  · rw [(hag c).1, (hag c).2]
  · rw [(hag c).1]

end Cert.Nrm.Norm

end
-- ==== Proof.NrmLoss.lean ====
/-
  The loss and its derivative through the last norm: the kernel's result arrays, element by element. The kernel takes the rows in
  eight tiles, keeps a row of the gain's derivative and a row of squared errors, and adds up the second at the last tile.
-/
module

public import proofs.«01_k».proof.Proof.NrmSpec
public import proofs.«01_k».proof.Proof.Gen.LossIdeal.Value

@[expose] public section

set_option maxRecDepth 65536

noncomputable section

open Idealize.ShloMosaic Idealize.ShloMosaic.TcCoe Idealize.SL.Sem
open scoped BigOperators

namespace Cert.Nrm

open Cert.Mix (nat2 nat2_idx)

/-- One over twice the length of a row. -/
def share : EReal := Ideal.ofBits .f32 0x39800000#32
/-- The error of an element. -/
def err (x t : ℕ → ℕ → EReal) (g : ℕ → EReal) (n k : ℕ) : EReal := hat x n k * g k - t n k
/-- Its cotangent. -/
def cot (x t : ℕ → ℕ → EReal) (g : ℕ → EReal) (n k : ℕ) : EReal := Ideal.div (err x t g n k) len
/-- The loss. -/
def lossV (x : (⟨2, ![4096, 2048]⟩ : Shape).Idx → EReal) (g : (⟨1, ![2048]⟩ : Shape).Idx → EReal) (t : (⟨2, ![4096, 2048]⟩ : Shape).Idx → EReal) (_ : (⟨2, ![1, 1]⟩ : Shape).Idx) : EReal :=
  share * ∑ k : Fin 2048, ∑ n ∈ Finset.range 4096, err (nat2 x) (nat2 t) (nat1 g) n k.val * err (nat2 x) (nat2 t) (nat1 g) n k.val
/-- Its derivative by the rows. -/
def lossX (x : (⟨2, ![4096, 2048]⟩ : Shape).Idx → EReal) (g : (⟨1, ![2048]⟩ : Shape).Idx → EReal) (t : (⟨2, ![4096, 2048]⟩ : Shape).Idx → EReal) (i : (⟨2, ![4096, 2048]⟩ : Shape).Idx) : EReal :=
  dx (gained (cot (nat2 x) (nat2 t) (nat1 g)) (nat1 g)) (nat2 x) (i 0).val (i 1).val
/-- Its derivative by the gain. -/
def lossG (x : (⟨2, ![4096, 2048]⟩ : Shape).Idx → EReal) (g : (⟨1, ![2048]⟩ : Shape).Idx → EReal) (t : (⟨2, ![4096, 2048]⟩ : Shape).Idx → EReal) (i : (⟨2, ![1, 2048]⟩ : Shape).Idx) : EReal :=
  ∑ n ∈ Finset.range 4096, cot (nat2 x) (nat2 t) (nat1 g) n (i 1).val * hat (nat2 x) n (i 1).val

end Cert.Nrm

namespace Cert.LossIdeal.Nrm

open Cert.LossIdeal Cert.LossIdeal.Gen Cert.LossIdeal.Value Cert.Nrm
open Cert.Mix (nat2 nat2_idx)
open Cert.Mm (same_read sum_more)

section Runs

attribute [local irreducible] View.readAt View.readCov extf truncf shapeCast constant broadcast multiReduction rsqrt divf

variable {F : FTy → Type} [FloatOps F]
variable (c : Dev nD) (i : grid0.Coords)
variable (arg1 : Memref sig .tc .vmem S512x2048 .f32) (harg1 : arg1.IsWhole)
variable (arg2 : Memref sig .tc .vmem S1x2048 .f32) (harg2 : arg2.IsWhole)
variable (arg3 : Memref sig .tc .vmem S512x2048 .f32) (harg3 : arg3.IsWhole)
variable (arg4 : Memref sig .tc .vmem S1x1 .f32) (harg4 : arg4.IsWhole)
variable (arg5 : Memref sig .tc .vmem S512x2048 .bf16) (harg5 : arg5.IsWhole)
variable (arg6 : Memref sig .tc .vmem S1x2048 .f32) (harg6 : arg6.IsWhole)
variable (arg7 : Memref sig .tc .vmem S1x2048 .f32) (harg7 : arg7.IsWhole)
variable (x0 : Vec F S512x2048 .f32) (x1 : Vec F S1x2048 .f32) (x2 : Vec F S512x2048 .f32) (xo5 xs0 : Vec F S1x2048 .f32)

abbrev rT : Rect S512x2048 := Rect.unit (s := S512x2048) ![0, 0] S512x2048.size inb_S512x2048_S512x2048_0_0
abbrev rG : Rect S1x2048 := Rect.unit (s := S1x2048) ![0, 0] S1x2048.size inb_S1x2048_S1x2048_0_0
abbrev rO : Rect S1x1 := Rect.unit (s := S1x1) ![0, 0] S1x1.size inb_S1x1_S1x1_0_0

/-- What the first step stores in the rows' block. -/
theorem runA4 (hc0 : cond0_0 i) (hc1 : ¬cond0_1 i) (hc2 : ¬cond0_2 i) :
    (kernelRun0_A c i arg1 harg1 arg2 harg2 arg3 harg3 arg4 harg4 arg5 harg5 arg6 harg6 arg7 harg7 hc0 hc1 hc2 x0 x1 x2).2.1 = [⟨rT, k0_pay10 (View.readAt (Elt F) arg1.view rT.toLoadRect (harg1.unread x0)) (View.readAt (Elt F) arg2.view rG.toLoadRect (harg2.unread x1))
      (View.readAt (Elt F) arg3.view rT.toLoadRect (harg3.unread x2))⟩] := rfl

/-- What the first step stores in the gain's row. -/
theorem runA5 (hc0 : cond0_0 i) (hc1 : ¬cond0_1 i) (hc2 : ¬cond0_2 i) :
    (kernelRun0_A c i arg1 harg1 arg2 harg2 arg3 harg3 arg4 harg4 arg5 harg5 arg6 harg6 arg7 harg7 hc0 hc1 hc2 x0 x1 x2).2.2.1 = [⟨rG, k0_pay11 (View.readAt (Elt F) arg1.view rT.toLoadRect (harg1.unread x0)) (View.readAt (Elt F) arg2.view rG.toLoadRect (harg2.unread x1))
      (View.readAt (Elt F) arg3.view rT.toLoadRect (harg3.unread x2))⟩] := rfl

/-- What the first step stores in the row of squared errors. -/
theorem runA0 (hc0 : cond0_0 i) (hc1 : ¬cond0_1 i) (hc2 : ¬cond0_2 i) :
    (kernelRun0_A c i arg1 harg1 arg2 harg2 arg3 harg3 arg4 harg4 arg5 harg5 arg6 harg6 arg7 harg7 hc0 hc1 hc2 x0 x1 x2).2.2.2.1 = [⟨rG, k0_pay1 (k0_pay12 (View.readAt (Elt F) arg1.view rT.toLoadRect (harg1.unread x0)) (View.readAt (Elt F) arg2.view rG.toLoadRect (harg2.unread x1))
      (View.readAt (Elt F) arg3.view rT.toLoadRect (harg3.unread x2)))⟩] := rfl

/-- What a middle step stores in the rows' block. -/
theorem runB4 (hc0 : ¬cond0_0 i) (hc1 : cond0_1 i) (hc2 : ¬cond0_2 i) :
    (kernelRun0_B c i arg1 harg1 arg2 harg2 arg3 harg3 arg4 harg4 arg5 harg5 arg6 harg6 arg7 harg7 hc0 hc1 hc2 x0 x1 x2 xo5 xs0).2.1 = [⟨rT, k0_pay10 (View.readAt (Elt F) arg1.view rT.toLoadRect (harg1.unread x0)) (View.readAt (Elt F) arg2.view rG.toLoadRect (harg2.unread x1))
      (View.readAt (Elt F) arg3.view rT.toLoadRect (harg3.unread x2))⟩] := rfl

/-- What a middle step stores in the gain's row. -/
theorem runB5 (hc0 : ¬cond0_0 i) (hc1 : cond0_1 i) (hc2 : ¬cond0_2 i) :
    (kernelRun0_B c i arg1 harg1 arg2 harg2 arg3 harg3 arg4 harg4 arg5 harg5 arg6 harg6 arg7 harg7 hc0 hc1 hc2 x0 x1 x2 xo5 xs0).2.2.1 = [⟨rG, k0_pay2 (k0_pay11 (View.readAt (Elt F) arg1.view rT.toLoadRect (harg1.unread x0)) (View.readAt (Elt F) arg2.view rG.toLoadRect (harg2.unread x1))
      (View.readAt (Elt F) arg3.view rT.toLoadRect (harg3.unread x2))) (View.readAt (Elt F) arg6.view rG.toLoadRect (harg6.unread xo5))⟩] := rfl

/-- What a middle step stores in the row of squared errors. -/
theorem runB0 (hc0 : ¬cond0_0 i) (hc1 : cond0_1 i) (hc2 : ¬cond0_2 i) :
    (kernelRun0_B c i arg1 harg1 arg2 harg2 arg3 harg3 arg4 harg4 arg5 harg5 arg6 harg6 arg7 harg7 hc0 hc1 hc2 x0 x1 x2 xo5 xs0).2.2.2.1 = [⟨rG, k0_pay3 (k0_pay12 (View.readAt (Elt F) arg1.view rT.toLoadRect (harg1.unread x0)) (View.readAt (Elt F) arg2.view rG.toLoadRect (harg2.unread x1))
      (View.readAt (Elt F) arg3.view rT.toLoadRect (harg3.unread x2))) (View.readAt (Elt F) arg7.view rG.toLoadRect (harg7.unread xs0))⟩] := rfl

/-- What the last step stores in the rows' block. -/
theorem runC4 (hc0 : ¬cond0_0 i) (hc1 : cond0_1 i) (hc2 : cond0_2 i) :
    (kernelRun0_C c i arg1 harg1 arg2 harg2 arg3 harg3 arg4 harg4 arg5 harg5 arg6 harg6 arg7 harg7 hc0 hc1 hc2 x0 x1 x2 xo5 xs0).2.1 = [⟨rT, k0_pay10 (View.readAt (Elt F) arg1.view rT.toLoadRect (harg1.unread x0)) (View.readAt (Elt F) arg2.view rG.toLoadRect (harg2.unread x1))
      (View.readAt (Elt F) arg3.view rT.toLoadRect (harg3.unread x2))⟩] := rfl

/-- What the last step stores in the gain's row. -/
theorem runC5 (hc0 : ¬cond0_0 i) (hc1 : cond0_1 i) (hc2 : cond0_2 i) :
    (kernelRun0_C c i arg1 harg1 arg2 harg2 arg3 harg3 arg4 harg4 arg5 harg5 arg6 harg6 arg7 harg7 hc0 hc1 hc2 x0 x1 x2 xo5 xs0).2.2.1 = [⟨rG, k0_pay2 (k0_pay11 (View.readAt (Elt F) arg1.view rT.toLoadRect (harg1.unread x0)) (View.readAt (Elt F) arg2.view rG.toLoadRect (harg2.unread x1))
      (View.readAt (Elt F) arg3.view rT.toLoadRect (harg3.unread x2))) (View.readAt (Elt F) arg6.view rG.toLoadRect (harg6.unread xo5))⟩] := rfl

/-- What the last step stores in the row of squared errors. -/
theorem runC0 (hc0 : ¬cond0_0 i) (hc1 : cond0_1 i) (hc2 : cond0_2 i) :
    (kernelRun0_C c i arg1 harg1 arg2 harg2 arg3 harg3 arg4 harg4 arg5 harg5 arg6 harg6 arg7 harg7 hc0 hc1 hc2 x0 x1 x2 xo5 xs0).2.2.2.1 = [⟨rG, k0_pay3 (k0_pay12 (View.readAt (Elt F) arg1.view rT.toLoadRect (harg1.unread x0)) (View.readAt (Elt F) arg2.view rG.toLoadRect (harg2.unread x1))
      (View.readAt (Elt F) arg3.view rT.toLoadRect (harg3.unread x2))) (View.readAt (Elt F) arg7.view rG.toLoadRect (harg7.unread xs0))⟩] := rfl

/-- What the last step stores as the loss. -/
theorem runC3 (hc0 : ¬cond0_0 i) (hc1 : cond0_1 i) (hc2 : cond0_2 i) :
    (kernelRun0_C c i arg1 harg1 arg2 harg2 arg3 harg3 arg4 harg4 arg5 harg5 arg6 harg6 arg7 harg7 hc0 hc1 hc2 x0 x1 x2 xo5 xs0).1 = [⟨rO, k0_pay4 (arg7.view.readCov [⟨rG, k0_pay3 (k0_pay12 (View.readAt (Elt F) arg1.view rT.toLoadRect (harg1.unread x0)) (View.readAt (Elt F) arg2.view rG.toLoadRect (harg2.unread x1))
      (View.readAt (Elt F) arg3.view rT.toLoadRect (harg3.unread x2))) (View.readAt (Elt F) arg7.view rG.toLoadRect (harg7.unread xs0))⟩] rG.toLoadRect)⟩] := rfl

end Runs

section Tile

variable (x0 : Vec Ideal S512x2048 .f32) (x1 : Vec Ideal S1x2048 .f32) (x2 : Vec Ideal S512x2048 .f32) (xo5 xs0 : Vec Ideal S1x2048 .f32)
variable (x t : ℕ → ℕ → EReal) (g : ℕ → EReal)

/-- A tile of a matrix. -/
def Is (v : S512x2048.Idx → EReal) (f : ℕ → ℕ → EReal) : Prop := ∀ i, v i = f (i 0).val (i 1).val

variable (hx : Is x0 x) (hg : ∀ i, x1 i = g (i 1).val) (ht : Is x2 t)

include hx in
/-- The rows' scales. -/
theorem pay5_read (y : S512x1.Idx) : k0_pay5 (F := Ideal) x0 y = rs (x (y 0).val) :=
  congrArg (fun s => Ideal.rsqrt (Ideal.div s len + eps))
    (rowsum_read (fun n k => x n k * x n k) (mulf x0 x0) (fun i => congrArg₂ (· * ·) (hx i) (hx i)) _ _ _ _ y)

include hx in
/-- The scaled rows. -/
theorem pay6_read (y : S512x2048.Idx) : k0_pay6 (F := Ideal) x0 y = hat x (y 0).val (y 1).val :=
  congrArg₂ (· * ·) (hx y) ((bcol_read (k0_pay5 (F := Ideal) x0) broadcasts_S512x1_S512x2048 y).trans (pay5_read x0 x hx _))

include hg in
/-- The gain along a tile. -/
theorem gain_read (y : S512x2048.Idx) : broadcastTo S512x2048 (k0_pay7 (F := Ideal) x1) broadcasts_S1x2048_S512x2048 y = g (y 1).val :=
  (brow_read _ broadcasts_S1x2048_S512x2048 y).trans ((same_read x1 _ _).trans (hg _))

include hx hg ht

/-- The errors. -/
theorem pay8_read (y : S512x2048.Idx) : k0_pay8 (F := Ideal) x0 x1 x2 y = err x t g (y 0).val (y 1).val :=
  congrArg₂ (· - ·) (congrArg₂ (· * ·) (pay6_read x0 x hx y) (gain_read x1 g hg y)) (ht y)

/-- The cotangents. -/
theorem pay9_read (y : S512x2048.Idx) : k0_pay9 (F := Ideal) x0 x1 x2 y = cot x t g (y 0).val (y 1).val :=
  congrArg (fun s => Ideal.div s len) (pay8_read x0 x1 x2 x t g hx hg ht y)

/-- The rows' block. -/
theorem pay10_read (y : S512x2048.Idx) : k0_pay10 (F := Ideal) x0 x1 x2 y = dx (gained (cot x t g) g) x (y 0).val (y 1).val := by
  have hG : ∀ i : S512x2048.Idx, mulf (k0_pay9 (F := Ideal) x0 x1 x2) (broadcastTo S512x2048 (k0_pay7 (F := Ideal) x1) broadcasts_S1x2048_S512x2048) i
      = gained (cot x t g) g (i 0).val (i 1).val := fun i => congrArg₂ (· * ·) (pay9_read x0 x1 x2 x t g hx hg ht i) (gain_read x1 g hg i)
  have hS : ∀ i : S512x1.Idx, _ = _ := rowsum_read (fun n k => gained (cot x t g) g n k * hat x n k)
    (mulf (mulf (k0_pay9 (F := Ideal) x0 x1 x2) (broadcastTo S512x2048 (k0_pay7 (F := Ideal) x1) broadcasts_S1x2048_S512x2048)) (k0_pay6 (F := Ideal) x0))
    (fun i => congrArg₂ (· * ·) (hG i) (pay6_read x0 x hx i)) reduces_S512x2048_S512 (.inl rfl) rfl shapeCasts_S512_S512x1
  refine congrArg₂ (· * ·) ((bcol_read _ broadcasts_S512x1_S512x2048 y).trans (pay5_read x0 x hx _)) ?_
  refine congrArg₂ (· - ·) (hG y) (congrArg₂ (· * ·) (pay6_read x0 x hx y) ((bcol_read _ broadcasts_S512x1_S512x2048 y).trans ?_))
  exact congrArg (fun s => Ideal.div s len) (hS (ValueIdx.ix2 (y 0) 0))

/-- A tile's part of the gain's row. -/
theorem pay11_read (y : S1x2048.Idx) : k0_pay11 (F := Ideal) x0 x1 x2 y = ∑ r : Fin 512, cot x t g r.val (y 1).val * hat x r.val (y 1).val :=
  colsum_read (fun n k => cot x t g n k * hat x n k) (mulf (k0_pay9 (F := Ideal) x0 x1 x2) (k0_pay6 (F := Ideal) x0))
    (fun i => congrArg₂ (· * ·) (pay9_read x0 x1 x2 x t g hx hg ht i) (pay6_read x0 x hx i)) _ _ _ _ y

/-- A tile's part of the row of squared errors. -/
theorem pay12_read (y : S1x2048.Idx) : k0_pay12 (F := Ideal) x0 x1 x2 y = ∑ r : Fin 512, err x t g r.val (y 1).val * err x t g r.val (y 1).val :=
  colsum_read (fun n k => err x t g n k * err x t g n k) (mulf (k0_pay8 (F := Ideal) x0 x1 x2) (k0_pay8 (F := Ideal) x0 x1 x2))
    (fun i => congrArg₂ (· * ·) (pay8_read x0 x1 x2 x t g hx hg ht i) (pay8_read x0 x1 x2 x t g hx hg ht i)) _ _ _ _ y

omit hx hg ht

theorem pay1_read (v : FVec Ideal S1x2048 .f32) (y : S1x2048.Idx) : k0_pay1 (F := Ideal) v y = v y := same_read v _ y
theorem pay2_read (v : FVec Ideal S1x2048 .f32) (y : S1x2048.Idx) : k0_pay2 (F := Ideal) v xo5 y = xo5 y + v y :=
  congrArg (· + v y) (same_read xo5 _ y)
theorem pay3_read (v : FVec Ideal S1x2048 .f32) (y : S1x2048.Idx) : k0_pay3 (F := Ideal) v xs0 y = xs0 y + v y := same_read (addf (F := Ideal) xs0 v) _ y

/-- The loss from the row of squared errors. -/
theorem pay4_read (q : ℕ → EReal) (hq : ∀ i, xs0 i = q (i 1).val) (y : S1x1.Idx) : k0_pay4 (F := Ideal) xs0 y = share * ∑ k : Fin 2048, q k.val :=
  congrArg (share * ·) (rowsum_read (R := 1) (fun _ k => q k) xs0 hq _ _ _ _ y)

end Tile

theorem hz2 : (![0, 0] : Fin 2 → ℕ) = fun _ => 0 := funext fun a => by fin_cases a <;> rfl

section Outs

variable (c : Dev nD) (i : grid0.Coords)
variable (arg1 : Memref sig .tc .vmem S512x2048 .f32) (harg1 : arg1.IsWhole)
variable (arg2 : Memref sig .tc .vmem S1x2048 .f32) (harg2 : arg2.IsWhole)
variable (arg3 : Memref sig .tc .vmem S512x2048 .f32) (harg3 : arg3.IsWhole)
variable (arg4 : Memref sig .tc .vmem S1x1 .f32) (harg4 : arg4.IsWhole)
variable (arg5 : Memref sig .tc .vmem S512x2048 .bf16) (harg5 : arg5.IsWhole)
variable (arg6 : Memref sig .tc .vmem S1x2048 .f32) (harg6 : arg6.IsWhole)
variable (arg7 : Memref sig .tc .vmem S1x2048 .f32) (harg7 : arg7.IsWhole)
variable (x0 : Vec Ideal S512x2048 .f32) (x1 : Vec Ideal S1x2048 .f32) (x2 : Vec Ideal S512x2048 .f32) (xo5 xs0 : Vec Ideal S1x2048 .f32)

theorem outA4 (hc0 : cond0_0 i) (hc1 : ¬cond0_1 i) (hc2 : ¬cond0_2 i) : out0_A_4 (F := Ideal) c i arg1 harg1 arg2 harg2 arg3 harg3 arg4 harg4 arg5 harg5 arg6 harg6 arg7 harg7 hc0 hc1 hc2 x0 x1 x2 = k0_pay10 x0 x1 x2 := by
  unfold out0_A_4
  rw [runA4, View.read_writes_full]
  simp only [View.readAt_eq_ld, Memref.IsWhole.read_unread]
  rw [View.ld_unit_zero (S := S512x2048) hz2, View.ld_unit_zero (S := S1x2048) hz2, View.ld_unit_zero (S := S512x2048) hz2]

theorem outA5 (hc0 : cond0_0 i) (hc1 : ¬cond0_1 i) (hc2 : ¬cond0_2 i) : out0_A_5 (F := Ideal) c i arg1 harg1 arg2 harg2 arg3 harg3 arg4 harg4 arg5 harg5 arg6 harg6 arg7 harg7 hc0 hc1 hc2 x0 x1 x2 = k0_pay11 x0 x1 x2 := by
  unfold out0_A_5
  rw [runA5, View.read_writes_full]
  simp only [View.readAt_eq_ld, Memref.IsWhole.read_unread]
  rw [View.ld_unit_zero (S := S512x2048) hz2, View.ld_unit_zero (S := S1x2048) hz2, View.ld_unit_zero (S := S512x2048) hz2]

theorem outA0 (hc0 : cond0_0 i) (hc1 : ¬cond0_1 i) (hc2 : ¬cond0_2 i) : sout0_A_0 (F := Ideal) c i arg1 harg1 arg2 harg2 arg3 harg3 arg4 harg4 arg5 harg5 arg6 harg6 arg7 harg7 hc0 hc1 hc2 x0 x1 x2 = k0_pay1 (k0_pay12 x0 x1 x2) := by
  unfold sout0_A_0
  rw [runA0, View.read_writes_full]
  simp only [View.readAt_eq_ld, Memref.IsWhole.read_unread]
  rw [View.ld_unit_zero (S := S512x2048) hz2, View.ld_unit_zero (S := S1x2048) hz2, View.ld_unit_zero (S := S512x2048) hz2]

theorem outB4 (hc0 : ¬cond0_0 i) (hc1 : cond0_1 i) (hc2 : ¬cond0_2 i) : out0_B_4 (F := Ideal) c i arg1 harg1 arg2 harg2 arg3 harg3 arg4 harg4 arg5 harg5 arg6 harg6 arg7 harg7 hc0 hc1 hc2 x0 x1 x2 xo5 xs0 = k0_pay10 x0 x1 x2 := by
  unfold out0_B_4
  rw [runB4, View.read_writes_full]
  simp only [View.readAt_eq_ld, Memref.IsWhole.read_unread]
  rw [View.ld_unit_zero (S := S512x2048) hz2, View.ld_unit_zero (S := S1x2048) hz2, View.ld_unit_zero (S := S512x2048) hz2]

theorem outB5 (hc0 : ¬cond0_0 i) (hc1 : cond0_1 i) (hc2 : ¬cond0_2 i) : out0_B_5 (F := Ideal) c i arg1 harg1 arg2 harg2 arg3 harg3 arg4 harg4 arg5 harg5 arg6 harg6 arg7 harg7 hc0 hc1 hc2 x0 x1 x2 xo5 xs0 = k0_pay2 (k0_pay11 x0 x1 x2) xo5 := by
  unfold out0_B_5
  rw [runB5, View.read_writes_full]
  simp only [View.readAt_eq_ld, Memref.IsWhole.read_unread]
  rw [View.ld_unit_zero (S := S512x2048) hz2, View.ld_unit_zero (S := S1x2048) hz2, View.ld_unit_zero (S := S512x2048) hz2, View.ld_unit_zero (S := S1x2048) hz2]

theorem outB0 (hc0 : ¬cond0_0 i) (hc1 : cond0_1 i) (hc2 : ¬cond0_2 i) : sout0_B_0 (F := Ideal) c i arg1 harg1 arg2 harg2 arg3 harg3 arg4 harg4 arg5 harg5 arg6 harg6 arg7 harg7 hc0 hc1 hc2 x0 x1 x2 xo5 xs0 = k0_pay3 (k0_pay12 x0 x1 x2) xs0 := by
  unfold sout0_B_0
  rw [runB0, View.read_writes_full]
  simp only [View.readAt_eq_ld, Memref.IsWhole.read_unread]
  rw [View.ld_unit_zero (S := S512x2048) hz2, View.ld_unit_zero (S := S1x2048) hz2, View.ld_unit_zero (S := S512x2048) hz2, View.ld_unit_zero (S := S1x2048) hz2]

theorem outC4 (hc0 : ¬cond0_0 i) (hc1 : cond0_1 i) (hc2 : cond0_2 i) : out0_C_4 (F := Ideal) c i arg1 harg1 arg2 harg2 arg3 harg3 arg4 harg4 arg5 harg5 arg6 harg6 arg7 harg7 hc0 hc1 hc2 x0 x1 x2 xo5 xs0 = k0_pay10 x0 x1 x2 := by
  unfold out0_C_4
  rw [runC4, View.read_writes_full]
  simp only [View.readAt_eq_ld, Memref.IsWhole.read_unread]
  rw [View.ld_unit_zero (S := S512x2048) hz2, View.ld_unit_zero (S := S1x2048) hz2, View.ld_unit_zero (S := S512x2048) hz2]

theorem outC5 (hc0 : ¬cond0_0 i) (hc1 : cond0_1 i) (hc2 : cond0_2 i) : out0_C_5 (F := Ideal) c i arg1 harg1 arg2 harg2 arg3 harg3 arg4 harg4 arg5 harg5 arg6 harg6 arg7 harg7 hc0 hc1 hc2 x0 x1 x2 xo5 xs0 = k0_pay2 (k0_pay11 x0 x1 x2) xo5 := by
  unfold out0_C_5
  rw [runC5, View.read_writes_full]
  simp only [View.readAt_eq_ld, Memref.IsWhole.read_unread]
  rw [View.ld_unit_zero (S := S512x2048) hz2, View.ld_unit_zero (S := S1x2048) hz2, View.ld_unit_zero (S := S512x2048) hz2, View.ld_unit_zero (S := S1x2048) hz2]

theorem outC0 (hc0 : ¬cond0_0 i) (hc1 : cond0_1 i) (hc2 : cond0_2 i) : sout0_C_0 (F := Ideal) c i arg1 harg1 arg2 harg2 arg3 harg3 arg4 harg4 arg5 harg5 arg6 harg6 arg7 harg7 hc0 hc1 hc2 x0 x1 x2 xo5 xs0 = k0_pay3 (k0_pay12 x0 x1 x2) xs0 := by
  unfold sout0_C_0
  rw [runC0, View.read_writes_full]
  simp only [View.readAt_eq_ld, Memref.IsWhole.read_unread]
  rw [View.ld_unit_zero (S := S512x2048) hz2, View.ld_unit_zero (S := S1x2048) hz2, View.ld_unit_zero (S := S512x2048) hz2, View.ld_unit_zero (S := S1x2048) hz2]

theorem outC3 (hc0 : ¬cond0_0 i) (hc1 : cond0_1 i) (hc2 : cond0_2 i) : out0_C_3 (F := Ideal) c i arg1 harg1 arg2 harg2 arg3 harg3 arg4 harg4 arg5 harg5 arg6 harg6 arg7 harg7 hc0 hc1 hc2 x0 x1 x2 xo5 xs0 = k0_pay4 (k0_pay3 (k0_pay12 x0 x1 x2) xs0) := by
  unfold out0_C_3
  rw [runC3, View.read_writes_full, View.readCov_full]
  simp only [View.readAt_eq_ld, Memref.IsWhole.read_unread]
  rw [View.ld_unit_zero (S := S512x2048) hz2, View.ld_unit_zero (S := S1x2048) hz2, View.ld_unit_zero (S := S512x2048) hz2, View.ld_unit_zero (S := S1x2048) hz2]

end Outs

variable (m : (ℓ : Loc nD τ sig) → Buf (Elt Ideal) ℓ) (ρ : Dev nD → PrngReg)

/-- The arguments as functions of natural numbers. -/
def fx (c : Dev nD) : ℕ → ℕ → EReal := nat2 (n := 4096) (m := 2048) (m ((c : Thread nD τ).loc main_arg0))
def fg (c : Dev nD) : ℕ → EReal := nat1 (n := 2048) (m ((c : Thread nD τ).loc main_arg1))
def ft (c : Dev nD) : ℕ → ℕ → EReal := nat2 (n := 4096) (m := 2048) (m ((c : Thread nD τ).loc main_arg2))

/-- The blocks the point's windows look at. -/
theorem index_of : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = 0 ∧ win0_5.index t 1 = 0 :=
  (by decide +kernel : ∀ t : Fin grid0.N, _)

theorem blk0 (c : Dev nD) (t : Fin cfg0.N) : Is (iblk m c 0 t : Vec Ideal S512x2048 .f32) (fun r => fx m c (t.val * 512 + r)) := fun y => by
  obtain ⟨e00, e01, e10, e11, e20, e21, e30, e31, e40, e41, e50, e51⟩ := index_of t
  refine (nat2_idx (n := 4096) (m := 2048) (m ((c : Thread nD τ).loc main_arg0)) _ _ _ ?_ ?_).symm
  · show _ = win0_0.index t 0 * 512 + 1 * (y 0).val; rw [e00]; omega
  · show _ = win0_0.index t 1 * 2048 + 1 * (y 1).val; rw [e01]; omega

/-- The gain as the kernel is given it. -/
theorem V_g (c : Dev nD) : V m c main_v0 = shapeCast S1x2048 (m ((c : Thread nD τ).loc main_arg1) : S2048.Idx → EReal) shapeCasts_S2048_S1x2048 := rfl

theorem blk1 (c : Dev nD) (t : Fin cfg0.N) (y : S1x2048.Idx) : (iblk m c 1 t : Vec Ideal S1x2048 .f32) y = fg m c (y 1).val := by
  have h1 : (y 1).val < 2048 := (y 1).isLt
  have h0 : (y 0).val < 1 := (y 0).isLt
  obtain ⟨e00, e01, e10, e11, e20, e21, e30, e31, e40, e41, e50, e51⟩ := index_of t
  show V m c main_v0 _ = _
  rw [V_g, shapeCast_apply _ _ _ (ValueIdx.ix1 ⟨(y 1).val, h1⟩) (by
    rw [rowMajor_val1, rowMajor_val2 _ _ rfl]
    show (y 1).val = (win0_1.index t 0 * 1 + 1 * (y 0).val) * 2048 + (win0_1.index t 1 * 2048 + 1 * (y 1).val)
    rw [e10, e11]
    omega)]
  exact (nat1_idx (n := 2048) (m ((c : Thread nD τ).loc main_arg1)) _ _ rfl).symm

theorem blk2 (c : Dev nD) (t : Fin cfg0.N) : Is (iblk m c 2 t : Vec Ideal S512x2048 .f32) (fun r => ft m c (t.val * 512 + r)) := fun y => by
  obtain ⟨e00, e01, e10, e11, e20, e21, e30, e31, e40, e41, e50, e51⟩ := index_of t
  refine (nat2_idx (n := 4096) (m := 2048) (m ((c : Thread nD τ).loc main_arg2)) _ _ _ ?_ ?_).symm
  · show _ = win0_2.index t 0 * 512 + 1 * (y 0).val; rw [e20]; omega
  · show _ = win0_2.index t 1 * 2048 + 1 * (y 1).val; rw [e21]; omega

/-- The rows' block after any point. -/
theorem rows_at (c : Dev nD) (t : Fin cfg0.N) (y : S512x2048.Idx) :
    (outsAt0 m c t.val t.isLt).2.1 y = dx (gained (cot (fx m c) (ft m c) (fg m c)) (fg m c)) (fx m c) (t.val * 512 + (y 0).val) (y 1).val := by
  have h := pay10_read (iblk m c 0 t) (iblk m c 1 t) (iblk m c 2 t) _ _ _ (blk0 m c t) (blk1 m c t) (blk2 m c t) y
  have ht : t.val < 8 := t.isLt
  by_cases h0 : t.val % 8 = 0
  · rw [outsAt0_A m c t h0 (by omega) (by omega)]
    dsimp only
    rw [outA4]
    exact h
  · by_cases h2 : t.val % 8 = 7
    · rw [outsAt0_C m c t h0 (by omega) h2]
      dsimp only
      rw [outC4]
      exact h
    · rw [outsAt0_B m c t h0 (by omega) h2]
      dsimp only
      rw [outB4]
      exact h

/-- The terms of the gain's row. -/
def term (c : Dev nD) (k n : ℕ) : EReal := cot (fx m c) (ft m c) (fg m c) n k * hat (fx m c) n k
/-- The terms of the row of squared errors. -/
def sq (c : Dev nD) (k n : ℕ) : EReal := err (fx m c) (ft m c) (fg m c) n k * err (fx m c) (ft m c) (fg m c) n k

/-- A tile's part of the gain's row continues the sum. -/
theorem part_read (c : Dev nD) (t : Fin cfg0.N) (y : S1x2048.Idx) :
    ∑ n ∈ Finset.range (t.val * 512), term m c (y 1).val n + k0_pay11 (F := Ideal) (iblk m c 0 t) (iblk m c 1 t) (iblk m c 2 t) y
      = ∑ n ∈ Finset.range ((t.val + 1) * 512), term m c (y 1).val n := by
  rw [pay11_read (iblk m c 0 t) (iblk m c 1 t) (iblk m c 2 t) _ _ _ (blk0 m c t) (blk1 m c t) (blk2 m c t) y, Nat.succ_mul]
  exact sum_more (t.val * 512) _ (term m c (y 1).val) fun k => rfl

/-- A tile's part of the row of squared errors continues the sum. -/
theorem sq_read (c : Dev nD) (t : Fin cfg0.N) (y : S1x2048.Idx) :
    ∑ n ∈ Finset.range (t.val * 512), sq m c (y 1).val n + k0_pay12 (F := Ideal) (iblk m c 0 t) (iblk m c 1 t) (iblk m c 2 t) y
      = ∑ n ∈ Finset.range ((t.val + 1) * 512), sq m c (y 1).val n := by
  rw [pay12_read (iblk m c 0 t) (iblk m c 1 t) (iblk m c 2 t) _ _ _ (blk0 m c t) (blk1 m c t) (blk2 m c t) y, Nat.succ_mul]
  exact sum_more (t.val * 512) _ (sq m c (y 1).val) fun k => rfl

/-- Both rows after a point. -/
theorem kept_at (c : Dev nD) (y : S1x2048.Idx) : ∀ (n : ℕ) (hn : n < cfg0.N),
    (outsAt0 m c n hn).2.2.1 y = ∑ j ∈ Finset.range ((n + 1) * 512), term m c (y 1).val j
      ∧ (outsAt0 m c n hn).2.2.2 y = ∑ j ∈ Finset.range ((n + 1) * 512), sq m c (y 1).val j := by
  intro n
  induction n with
  | zero =>
    intro hn
    rw [outsAt0_A m c ⟨0, hn⟩ rfl (by dsimp only; omega) (by dsimp only; omega)]
    dsimp only
    rw [outA5, outA0, pay1_read]
    constructor
    · refine Eq.trans ?_ (part_read m c ⟨0, hn⟩ y)
      rw [Nat.zero_mul, Finset.sum_range_zero, zero_add]
    · refine Eq.trans ?_ (sq_read m c ⟨0, hn⟩ y)
      rw [Nat.zero_mul, Finset.sum_range_zero, zero_add]
  | succ n ih =>
    intro hn
    have h8 : n + 1 < 8 := hn
    obtain ⟨i1, i2⟩ := ih (by omega)
    have h5 := (congrArg (· + _) i1).trans (part_read m c ⟨n + 1, hn⟩ y)
    have h0 := (congrArg (· + _) i2).trans (sq_read m c ⟨n + 1, hn⟩ y)
    by_cases h2 : (n + 1) % 8 = 7
    · rw [outsAt0_C m c ⟨n + 1, hn⟩ (by dsimp only; omega) (by dsimp only; omega) h2]
      dsimp only
      rw [outC5, outC0, pay2_read, pay3_read]
      exact ⟨h5, h0⟩
    · rw [outsAt0_B m c ⟨n + 1, hn⟩ (by dsimp only; omega) (by dsimp only; omega) h2]
      dsimp only
      rw [outB5, outB0, pay2_read, pay3_read]
      exact ⟨h5, h0⟩

/-- The loss after the last point. -/
theorem loss_at (c : Dev nD) (t : Fin cfg0.N) (h2 : t.val % 8 = 7) (y : S1x1.Idx) :
    (outsAt0 m c t.val t.isLt).1 y = share * ∑ k : Fin 2048, ∑ n ∈ Finset.range 4096, sq m c k.val n := by
  have ht : t.val < 8 := t.isLt
  have hs := fun y => (kept_at m c y t.val t.isLt).2
  rw [outsAt0_C m c t (by omega) (by omega) h2] at hs ⊢
  dsimp only at hs ⊢
  rw [outC0] at hs
  rw [outC3]
  refine (pay4_read _ (fun k => ∑ j ∈ Finset.range ((t.val + 1) * 512), sq m c k j) hs y).trans ?_
  rw [show (t.val + 1) * 512 = 4096 by omega]

/-- The loss. -/
theorem finalV (c : Dev nD) : (dats m 0 c).arrAt 3 cfg0.N = lossV (m ((c : Thread nD τ).loc main_arg0)) (m ((c : Thread nD τ).loc main_arg1)) (m ((c : Thread nD τ).loc main_arg2)) := by
  refine (dats m 0 c).arrAt_eq_of_cover 3 (lossV (m ((c : Thread nD τ).loc main_arg0)) (m ((c : Thread nD τ).loc main_arg1)) (m ((c : Thread nD τ).loc main_arg2)) : S1x1.Idx → EReal) (fun t hf => ?_) fun i => ?_
  · rw [flushed3]
    funext y
    exact loss_at m c t ((flush0_3 t).mp hf) y
  · have h0 : (i 0 : ℕ) < 1 := (i 0).isLt
    have h1 : (i 1 : ℕ) < 1 := (i 1).isLt
    have ht : 7 < cfg0.N := by rw [show cfg0.N = 8 from N_0]; omega
    refine ⟨⟨7, ht⟩, (flush0_3 _).mpr rfl, ?_⟩
    obtain ⟨e00, e01, e10, e11, e20, e21, e30, e31, e40, e41, e50, e51⟩ := index_of ⟨7, ht⟩
    show i ∈ ((View.whole main_v1_0).slice (win0_3.rect ⟨7, ht⟩)).set
    rw [View.set_slice_whole, Rect.mem_set_unit]
    intro a
    fin_cases a
    · show win0_3.index _ 0 * 1 ≤ (i 0 : ℕ) ∧ (i 0 : ℕ) < win0_3.index _ 0 * 1 + 1
      rw [e30]; omega
    · show win0_3.index _ 1 * 1 ≤ (i 1 : ℕ) ∧ (i 1 : ℕ) < win0_3.index _ 1 * 1 + 1
      rw [e31]; omega

/-- The rows' array. -/
theorem finalX (c : Dev nD) : (dats m 0 c).arrAt 4 cfg0.N = lossX (m ((c : Thread nD τ).loc main_arg0)) (m ((c : Thread nD τ).loc main_arg1)) (m ((c : Thread nD τ).loc main_arg2)) := by
  refine (dats m 0 c).arrAt_eq_of_cover 4 (lossX (m ((c : Thread nD τ).loc main_arg0)) (m ((c : Thread nD τ).loc main_arg1)) (m ((c : Thread nD τ).loc main_arg2)) : S4096x2048.Idx → EReal) (fun t hf => ?_) fun i => ?_
  · obtain ⟨e00, e01, e10, e11, e20, e21, e30, e31, e40, e41, e50, e51⟩ := index_of t
    rw [flushed4]
    funext y
    refine (rows_at m c t y).trans ?_
    have h0 : t.val * 512 + (y 0).val = win0_4.index t 0 * 512 + 1 * (y 0).val := by rw [e40]; omega
    have h1 : (y 1).val = win0_4.index t 1 * 2048 + 1 * (y 1).val := by rw [e41]; omega
    rw [h0, h1]
    rfl
  · have h0 : (i 0 : ℕ) < 4096 := (i 0).isLt
    have h1 : (i 1 : ℕ) < 2048 := (i 1).isLt
    have ht : (i 0 : ℕ) / 512 < cfg0.N := by rw [show cfg0.N = 8 from N_0]; omega
    refine ⟨⟨(i 0 : ℕ) / 512, ht⟩, flush0_4 _, ?_⟩
    obtain ⟨e00, e01, e10, e11, e20, e21, e30, e31, e40, e41, e50, e51⟩ := index_of ⟨(i 0 : ℕ) / 512, ht⟩
    show i ∈ ((View.whole main_v1_1).slice (win0_4.rect ⟨(i 0 : ℕ) / 512, ht⟩)).set
    rw [View.set_slice_whole, Rect.mem_set_unit]
    intro a
    fin_cases a
    · show win0_4.index _ 0 * 512 ≤ (i 0 : ℕ) ∧ (i 0 : ℕ) < win0_4.index _ 0 * 512 + 512
      rw [e40]; dsimp only; omega
    · show win0_4.index _ 1 * 2048 ≤ (i 1 : ℕ) ∧ (i 1 : ℕ) < win0_4.index _ 1 * 2048 + 2048
      rw [e41]; omega

/-- The gain's array. -/
theorem finalG (c : Dev nD) : (dats m 0 c).arrAt 5 cfg0.N = lossG (m ((c : Thread nD τ).loc main_arg0)) (m ((c : Thread nD τ).loc main_arg1)) (m ((c : Thread nD τ).loc main_arg2)) := by
  refine (dats m 0 c).arrAt_eq_of_cover 5 (lossG (m ((c : Thread nD τ).loc main_arg0)) (m ((c : Thread nD τ).loc main_arg1)) (m ((c : Thread nD τ).loc main_arg2)) : S1x2048.Idx → EReal) (fun t hf => ?_) fun i => ?_
  · have h7 := (flush0_5 t).mp hf
    have ht : t.val < 8 := t.isLt
    obtain ⟨e00, e01, e10, e11, e20, e21, e30, e31, e40, e41, e50, e51⟩ := index_of t
    rw [flushed5]
    funext y
    refine (kept_at m c y t.val t.isLt).1.trans ?_
    have h1 : (y 1).val = win0_5.index t 1 * 2048 + 1 * (y 1).val := by rw [e51]; omega
    rw [show (t.val + 1) * 512 = 4096 by omega, h1]
    rfl
  · have h0 : (i 0 : ℕ) < 1 := (i 0).isLt
    have h1 : (i 1 : ℕ) < 2048 := (i 1).isLt
    have ht : 7 < cfg0.N := by rw [show cfg0.N = 8 from N_0]; omega
    refine ⟨⟨7, ht⟩, (flush0_5 _).mpr rfl, ?_⟩
    obtain ⟨e00, e01, e10, e11, e20, e21, e30, e31, e40, e41, e50, e51⟩ := index_of ⟨7, ht⟩
    show i ∈ ((View.whole main_v1_2).slice (win0_5.rect ⟨7, ht⟩)).set
    rw [View.set_slice_whole, Rect.mem_set_unit]
    intro a
    fin_cases a
    · show win0_5.index _ 0 * 1 ≤ (i 0 : ℕ) ∧ (i 0 : ℕ) < win0_5.index _ 0 * 1 + 1
      rw [e50]; omega
    · show win0_5.index _ 1 * 2048 ≤ (i 1 : ℕ) ∧ (i 1 : ℕ) < win0_5.index _ 1 * 2048 + 2048
      rw [e51]; omega

/-- The kernel's run leaves those arrays and its arguments as they were. -/
theorem run : θ_run defs (onTc (τ := τ) (main (F := Ideal))) ⟨m, fun _ => 0, ρ⟩ fun r => ∀ c : Dev nD,
      r.2.mem ((c : Thread nD τ).loc main_v1_0) = lossV (m ((c : Thread nD τ).loc main_arg0)) (m ((c : Thread nD τ).loc main_arg1)) (m ((c : Thread nD τ).loc main_arg2))
      ∧ r.2.mem ((c : Thread nD τ).loc main_v1_1) = lossX (m ((c : Thread nD τ).loc main_arg0)) (m ((c : Thread nD τ).loc main_arg1)) (m ((c : Thread nD τ).loc main_arg2))
      ∧ r.2.mem ((c : Thread nD τ).loc main_v1_2) = lossG (m ((c : Thread nD τ).loc main_arg0)) (m ((c : Thread nD τ).loc main_arg1)) (m ((c : Thread nD τ).loc main_arg2))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2)) :=
  (θ_run defs _ _).mono (fun _ h c => ⟨(h c).1.trans (finalV m c), (h c).2.1.trans (finalX m c), (h c).2.2.1.trans (finalG m c), (h c).2.2.2⟩) (run_blocks m ρ)

end Cert.LossIdeal.Nrm

end
-- ==== Proof.NrmLossClaim.lean ====
/-
  The same loss and derivatives by the reference, and the claims of this call.
-/
module

public import proofs.«01_k».proof.Defs
public import proofs.«01_k».proof.Proof.NrmLoss
public import proofs.«01_k».proof.Proof.Gen.Loss.Frame
public import proofs.«01_k».proof.Proof.Gen.LossRefIdeal.Read

@[expose] public section

set_option maxRecDepth 65536

noncomputable section

open Idealize.ShloMosaic Idealize.ShloMosaic.TcCoe Idealize.SL.Sem
open scoped BigOperators

namespace Cert.LossRefIdeal.Nrm

open Cert.LossRefIdeal Cert.LossRefIdeal.Read Cert.Nrm Idealize.ShloMosaic.StableHlo
open Cert.Mix (nat2 nat2_idx)
open Cert.Mm (sum_fin)

/-! ## The constants -/

theorem half_eq : (Ideal.ofBits .f32 0x3F000000#32 : EReal) = ((1 / 2 : ℝ) : EReal) := by
  simp [Ideal.ofBits, Ideal.ieee]
  norm_num
  exact (EReal.coe_mul _ _).symm.trans (congrArg _ (by norm_num))
theorem one_eq : (Ideal.ofBits .f32 0x3F800000#32 : EReal) = ((1 : ℝ) : EReal) := by
  simp [Ideal.ofBits, Ideal.ieee]
  norm_num
  exact (EReal.coe_mul _ _).symm.trans (congrArg _ (by norm_num))
theorem two_eq : (Ideal.ofBits .f32 0x40000000#32 : EReal) = ((2 : ℝ) : EReal) := by
  simp [Ideal.ofBits, Ideal.ieee]
  norm_num
  exact (EReal.coe_mul _ _).symm.trans (congrArg _ (by norm_num))
theorem share_eq : share = ((1 / 4096 : ℝ) : EReal) := by
  simp [share, Ideal.ofBits, Ideal.ieee]
  norm_num
  exact (EReal.coe_mul _ _).symm.trans (congrArg _ (by norm_num))

/-- The cotangent as differentiation writes it. -/
theorem cot_eq (e : EReal) : Ideal.div (Ideal.ofBits .f32 0x3F000000#32 * Ideal.ofBits .f32 0x3F800000#32) len * (Ideal.ofBits .f32 0x40000000#32 * e) = Ideal.div e len := by
  rw [half_eq, one_eq, two_eq, div_len, div_len, ← mul_assoc, mul_comm e, ← EReal.coe_mul, ← EReal.coe_mul, ← EReal.coe_mul]
  congr 2
  norm_num

/-- Half of the sum of the rows' means is the whole sum's share. -/
theorem loss_eq (f : ℕ → ℕ → EReal) : Ideal.ofBits .f32 0x3F000000#32 * ∑ n : Fin 4096, Ideal.div (∑ k : Fin 2048, f n.val k.val) len
    = share * ∑ k : Fin 2048, ∑ n ∈ Finset.range 4096, f n k.val := by
  have h : ∀ n : Fin 4096, Ideal.div (∑ k : Fin 2048, f n.val k.val) len = (∑ k : Fin 2048, f n.val k.val) * (((2048 : ℝ)⁻¹ : ℝ) : EReal) := fun n => div_len _
  rw [Finset.sum_congr rfl fun n _ => h n, sum_mul_coe _ _ _ (by norm_num), Finset.sum_comm, half_eq, share_eq, mul_comm _ (((2048 : ℝ)⁻¹ : ℝ) : EReal), ← mul_assoc, ← EReal.coe_mul]
  refine congrArg₂ (· * ·) (congrArg _ (by norm_num)) (Finset.sum_congr rfl fun k _ => ?_)
  exact sum_fin (fun n : Fin 4096 => f n.val k.val) (fun n => f n k.val) fun n => rfl

/-! ## The reference -/

variable (x0 : S4096x2048.Idx → EReal) (x1 : S2048.Idx → EReal) (x2 : S4096x2048.Idx → EReal)

/-- The arguments as functions of natural numbers. -/
abbrev x : ℕ → ℕ → EReal := nat2 (n := 4096) (m := 2048) x0
abbrev g : ℕ → EReal := nat1 (n := 2048) x1
abbrev t : ℕ → ℕ → EReal := nat2 (n := 4096) (m := 2048) x2

theorem x_at (i : S4096x2048.Idx) : x0 i = x x0 (i 0).val (i 1).val := (nat2_idx (n := 4096) (m := 2048) x0 i _ _ rfl rfl).symm

/-- The rows' mean squares. -/
theorem ms_at (i : S4096x1.Idx) : val_main_v6 (F := Ideal) x0 i = ms (x x0 (i 0).val) := by
  rw [val_main_v6_apply, val_main_v4_apply, val_main_v2_apply, val_main_v1_apply, val_main_v3_apply, val_main_v5_apply]
  refine congrArg (fun s => Ideal.div s len + eps) ((congrArg (· + _) Ideal.ofBits_zero_f32).trans ((zero_add _).trans (Finset.sum_congr rfl fun k _ => ?_)))
  exact congrArg₂ (· * ·) (x_at x0 _) (x_at x0 _)

/-- The rows' scales. -/
theorem rs_at (i : S4096x1.Idx) : val_main_v7 (F := Ideal) x0 i = rs (x x0 (i 0).val) := by
  rw [val_main_v7_apply, ms_at]; rfl

/-- The scaled rows. -/
theorem hat_at (i : S4096x2048.Idx) : val_main_v12 (F := Ideal) x0 i = hat (x x0) (i 0).val (i 1).val := by
  rw [val_main_v12_apply, val_main_v11_apply, rs_at, x_at x0 i]; rfl

/-- The errors. -/
theorem err_at (i : S4096x2048.Idx) : val_main_v16 (F := Ideal) x0 x1 x2 i = err (x x0) (t x2) (g x1) (i 0).val (i 1).val := by
  rw [val_main_v16_apply, val_main_v15_apply, hat_at, val_main_v14_apply, val_main_v13_apply]
  exact congrArg₂ (· - ·) (congrArg (_ * ·) (nat1_idx (n := 2048) x1 _ _ rfl).symm) (nat2_idx (n := 4096) (m := 2048) x2 i _ _ rfl rfl).symm

/-- The cotangents. -/
theorem cot_at (i : S4096x2048.Idx) : val_main_v30 (F := Ideal) x0 x1 x2 i = cot (x x0) (t x2) (g x1) (i 0).val (i 1).val := by
  rw [val_main_v30_apply, val_main_v29_apply, val_main_v28_apply, val_main_v26_apply, val_main_v27_apply, val_main_v25_apply, val_main_v19_apply, val_main_v18_apply, err_at]
  exact cot_eq _

/-- The cotangents times the gain. -/
theorem gained_at (i : S4096x2048.Idx) : val_main_v35 (F := Ideal) x0 x1 x2 i = gained (cot (x x0) (t x2) (g x1)) (g x1) (i 0).val (i 1).val := by
  rw [val_main_v35_apply, cot_at, val_main_v34_apply, val_main_v13_apply]
  exact congrArg (_ * ·) (nat1_idx (n := 2048) x1 _ _ rfl).symm

/-- What differentiation writes of the scale. -/
theorem q_at (i : S4096x2048.Idx) : val_main_v46 (F := Ideal) x0 x1 x2 i = dxq (gained (cot (x x0) (t x2) (g x1)) (g x1)) (x x0) (i 0).val := by
  rw [val_main_v46_apply, val_main_v45_apply]
  refine (congrArg (· + _) Ideal.ofBits_zero_f32).trans ((zero_add _).trans ((Fin.sum_univ_one _).trans ?_))
  rw [val_main_v44_apply, val_main_v42_apply, val_main_v39_apply, val_main_v38_apply, val_main_v10_apply, val_main_v8_apply, val_main_v9_apply, val_main_v43_apply, rs_at, ms_at]
  refine congrArg (fun s => Ideal.div (s * (mhalf * Ideal.div _ _)) len) ((congrArg (· + _) Ideal.ofBits_zero_f32).trans ((zero_add _).trans (Finset.sum_congr rfl fun k _ => ?_)))
  rw [val_main_v37_apply, x_at x0, gained_at]
  show x x0 ((i 0).val * 1 + 0) k.val * gained (cot (x x0) (t x2) (g x1)) (g x1) ((i 0).val * 1 + 0) k.val = _
  rw [Nat.mul_one, Nat.add_zero]

/-- The loss. -/
theorem rv (i : S1x1.Idx) : val_main_v51 (F := Ideal) x0 x1 x2 i = lossV x0 x1 x2 i := by
  unfold val_main_v51 shapeCast
  rw [val_main_v24_apply, val_main_v23_apply]
  refine Eq.trans ?_ (loss_eq (fun n k => err (x x0) (t x2) (g x1) n k * err (x x0) (t x2) (g x1) n k))
  refine congrArg (Ideal.ofBits .f32 0x3F000000#32 * ·) ((congrArg (· + _) Ideal.ofBits_zero_f32).trans ((zero_add _).trans ?_))
  refine Fintype.sum_equiv ⟨fun j : S4096.Idx => j 0, ValueIdx.ix1, fun j => funext fun a => by fin_cases a; rfl, fun _ => rfl⟩ _ _ fun n => ?_
  rw [val_main_v22_apply, val_main_v20_apply, val_main_v21_apply]
  refine congrArg (fun s => Ideal.div s len) ((congrArg (· + _) Ideal.ofBits_zero_f32).trans ((zero_add _).trans (Finset.sum_congr rfl fun k _ => ?_)))
  rw [val_main_v17_apply, err_at]
  rfl

/-- The rows' derivative. -/
theorem rx (i : S4096x2048.Idx) : val_main_v52 (F := Ideal) x0 x1 x2 i = lossX x0 x1 x2 i := by
  rw [val_main_v52_apply]
  show val_main_v50 (F := Ideal) x0 x1 x2 i = _
  rw [val_main_v50_apply, val_main_v48_apply, val_main_v41_apply, val_main_v47_apply, val_main_v49_apply, val_main_v40_apply, rs_at, gained_at, q_at, x_at x0 i]
  unfold lossX
  rw [← zero_add (dx _ _ _ _), dx_eq, zero_add]
  rfl

/-- The gain's derivative. -/
theorem rg (i : S1x2048.Idx) : val_main_v53 (F := Ideal) x0 x1 x2 i = lossG x0 x1 x2 i := by
  have h0 : (i 0).val < 1 := (i 0).isLt
  rw [val_main_v53_apply, val_main_v36_apply]
  refine (congrArg (· + _) Ideal.ofBits_zero_f32).trans ((zero_add _).trans ((Fin.sum_univ_one _).trans ?_))
  rw [val_main_v33_apply, val_main_v32_apply]
  refine (congrArg (· + _) Ideal.ofBits_zero_f32).trans ((zero_add _).trans ?_)
  unfold lossG
  refine sum_fin _ _ fun k => ?_
  rw [val_main_v31_apply, hat_at, cot_at]
  refine (mul_comm _ _).trans ?_
  have e : 0 * 2048 + ((i 0).val * 2048 + (i 1).val) = (i 1).val := by omega
  show cot (x x0) (t x2) (g x1) k.val (0 * 2048 + ((i 0).val * 2048 + (i 1).val)) * hat (x x0) k.val (0 * 2048 + ((i 0).val * 2048 + (i 1).val)) = _
  rw [e]

variable (m : (ℓ : Loc nD τ sig) → Buf (Elt Ideal) ℓ) (ρ : Dev nD → PrngReg)

/-- The reference's run leaves those arrays and its arguments as they were. -/
theorem run : θ_run (defs (F := Ideal)) (onTc (τ := τ) (main (F := Ideal))) ⟨m, fun _ => 0, ρ⟩ fun r => ∀ c : Dev nD,
      r.2.mem ((c : Thread nD τ).loc main_v51) = lossV (m ((c : Thread nD τ).loc main_arg0)) (m ((c : Thread nD τ).loc main_arg1)) (m ((c : Thread nD τ).loc main_arg2))
      ∧ r.2.mem ((c : Thread nD τ).loc main_v52) = lossX (m ((c : Thread nD τ).loc main_arg0)) (m ((c : Thread nD τ).loc main_arg1)) (m ((c : Thread nD τ).loc main_arg2))
      ∧ r.2.mem ((c : Thread nD τ).loc main_v53) = lossG (m ((c : Thread nD τ).loc main_arg0)) (m ((c : Thread nD τ).loc main_arg1)) (m ((c : Thread nD τ).loc main_arg2))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2)) :=
  (θ_run defs _ _).mono (fun _ h c => ⟨((h c).1.trans (val_main_v51_eq _ _ _)).trans (funext fun i => rv _ _ _ i),
      ((h c).2.1.trans (val_main_v52_eq m c)).trans (funext fun i => rx _ _ _ i),
      ((h c).2.2.1.trans (val_main_v53_eq _ _ _)).trans (funext fun i => rg _ _ _ i), (h c).2.2.2⟩)
    (Cert.LossRefIdeal.Value.run (F := Ideal) m ρ)

end Cert.LossRefIdeal.Nrm

namespace Cert.Nrm.Loss

/-- The kernel, at machine words, runs and leaves its arguments alone. -/
theorem frame_P : @Cert.quiescent_Loss Cert.Loss.Gen.facts := fun m g _ => Cert.Loss.Gen.frame m g

/-- The kernel, at extended reals, runs and leaves its arguments alone. -/
theorem frame_PI : @Cert.quiescent_LossIdeal Cert.LossIdeal.Gen.facts := fun m g _ => Cert.LossIdeal.Gen.frame m g

/-- The reference runs and leaves its arguments alone. -/
theorem frame_RI : @Cert.quiescent_LossRefIdeal Cert.LossRefIdeal.Gen.facts := fun m g _ =>
  (θ_run Cert.LossRefIdeal.defs _ _).mono (fun r h => ⟨fun c => (h c).2.2.2, sem_eq_zero_of_no_sems (by decide) r.2⟩)
    (Cert.LossRefIdeal.Value.run (F := Ideal) m g)

/-- From the same arguments the kernel and the reference leave the same arrays. -/
theorem algebraic : @Cert.algebraic_LossIdeal_LossRefIdeal Cert.LossIdeal.Gen.facts Cert.LossRefIdeal.Gen.facts := by
  intro m g m' g' _ hag
  have hr := Cert.LossRefIdeal.Nrm.run m' g'
  refine ⟨_, _, _, Cert.LossIdeal.Nrm.run m g, (θ_run Cert.LossRefIdeal.defs _ _).mono (fun r h c => ⟨(h c).1.trans ?_, (h c).2.1.trans ?_, (h c).2.2.1.trans ?_, (h c).2.2.2⟩) hr⟩
  all_goals rw [(hag c).1, (hag c).2.1, (hag c).2.2]

end Cert.Nrm.Loss

end
-- ==== Proof.MixFwdTile.lean ====
/-
  One grid point of the mixer's forward call, in the words of the backward call's: the tiles it makes are some of those the
  backward call's point makes again, with the projection itself in the place of the cotangent, and what it stores are blocks of
  one function of the call's arguments.
-/
module

public import proofs.«01_k».proof.Proof.MixTile

@[expose] public section

set_option maxRecDepth 65536

noncomputable section

open Idealize.ShloMosaic Idealize.ShloMosaic.TcCoe Idealize.SL.Sem
open scoped BigOperators

namespace Cert.Mix

/-- The forward call's arguments: the projection, the weights, the matrices, the scales. Where the backward call has the
    cotangent the projection stands, whose first columns are the factor `b` of the convolution. -/
def fwdArgs (P : (⟨2, ![4096, 4096]⟩ : Shape).Idx → EReal) (W : (⟨2, ![3, 1024]⟩ : Shape).Idx → EReal)
    (M : (⟨3, ![4, 256, 256]⟩ : Shape).Idx → EReal) (S : (⟨1, ![1024]⟩ : Shape).Idx → EReal) : Args where
  pj := nat2 P
  dy := nat2 P
  w := nat2 W
  pw := nat3 M
  ps g k := nat1 S (256 * g + k)

/-- The mixer's output: `b` times the convolution in the first 1024 columns, in the others the scaled products of the pools. -/
def Args.fwd (a : Args) (n c : ℕ) : EReal :=
  if c < 1024 then a.db n c else a.z ((c - 1024) / 256) n ((c - 1024) % 256) * a.ps ((c - 1024) / 256) ((c - 1024) % 256)

end Cert.Mix

namespace Cert.KernelIdeal.Mix

open Cert.KernelIdeal Cert.KernelIdeal.Gen Cert.Mix

section

variable {F : FTy → Type} [FloatOps F]

/-- The loads of the point's blocks; the rows after the point's, which the forward call does not load, are any. -/
def floads (nf : ℕ → Vec F S16x256 .bf16) (x0 : Vec F S512x4096 .bf16) (x1 : Vec F S16x4096 .bf16) (x2 : Vec F S3x1024 .f32)
    (x3 : Vec F S4x256x256 .bf16) (x4 : Vec F S1x1024 .f32) : Loads F where
  p lo h := View.ld x0 (rect2 0 lo 512 (by decide) h)
  q lo h := View.ld x1 (rect2 0 lo 16 (by decide) h)
  n lo _ := nf lo
  y lo h := View.ld x0 (rect2 0 lo 512 (by decide) (by omega))
  yn lo _ := nf lo
  w r lo hr h := View.ld x2 (rect2 r lo 1 hr h)
  m g h := View.ld x3 (rect3 g h)
  s lo h := View.ld x4 (rect2 0 lo 1 (by decide) h)

variable (l : Loads F) (i : grid0.Coords)

/-- The group's scaled product. -/
def pOut (w : BitVec 32) (ss : List (BitVec 32)) (g : ℕ) (hg : g + 1 ≤ 4) : FVec F S512x256 .bf16 :=
  truncf .bf16 (mulf (matmul dot_S512x256_S256x256_S512x256_1_0_0_1_n_n none (pD l i w ss g hg) (pM l g hg) (constant S512x256 .f32 0x00000000#32))
    (rows (pS l g hg))) bitsLt_bf16_f32

/-- 256 columns from column `lo` of the output. -/
def fat (lo : ℕ) (h : lo + 256 ≤ 2048) (X : FVec F S512x256 .bf16) : View.Piece (Elt F) S512x2048 .bf16 := ⟨rect2 0 lo 512 (by decide) h, X⟩

/-- The output's stores, the last first. -/
def fpieces : List (View.Piece (Elt F) S512x2048 .bf16) :=
  [fat (1024 + 256 * 3) (by decide) (pOut l i 16#32 [1#32, 2#32, 4#32, 8#32] 3 (by decide)),
   fat (1024 + 256 * 2) (by decide) (pOut l i 8#32 [1#32, 2#32, 4#32] 2 (by decide)),
   fat (1024 + 256 * 1) (by decide) (pOut l i 4#32 [1#32, 2#32] 1 (by decide)),
   fat (1024 + 256 * 0) (by decide) (pOut l i 2#32 [1#32] 0 (by decide)),
   fat 768 (by decide) (cDb l i 768 (by decide)),
   fat 512 (by decide) (cDb l i 512 (by decide)),
   fat 256 (by decide) (cDb l i 256 (by decide)),
   fat 0 (by decide) (cDb l i 0 (by decide))]

end

variable {l : Loads Ideal} {i : grid0.Coords} {t : ℕ} {a : Args}

/-- Point `t`'s block of the output. -/
def Gf (a : Args) (t : ℕ) (y : S512x2048.Idx) : EReal := a.fwd (512 * t + (y 0).val) (y 1).val

theorem pOut_read (H : Reads l i t a) {g : ℕ} (w : BitVec 32) (ss : List (BitVec 32)) (hw : w = BitVec.ofNat 32 (2 ^ (g + 1)))
    (hd : Downs 1 ss (2 ^ (g + 1))) (hg : g + 1 ≤ 4) : T (R := 512) (pOut l i w ss g hg) (512 * t) (fun n k => a.z g n k * a.ps g k) := by
  intro y
  unfold Args.z
  refine congrArg₂ (· * ·) ((dot_read none _ _ y).trans (Finset.sum_congr rfl fun k _ => ?_)) (rows_read (w := a.ps g) (pS_read H hg) y)
  exact congrArg₂ (· * ·) (pD_read H w ss hw hd hg _) (pM_read H hg _)

/-- A piece of 256 columns is a block of it. -/
theorem fat_read (lo : ℕ) (h : lo + 256 ≤ 2048) {X : FVec Ideal S512x256 .bf16} {f : ℕ → ℕ → EReal} (hX : T (R := 512) X (512 * t) f)
    (hf : ∀ n c, c < 256 → f n c = a.fwd n (lo + c)) (x : (fat lo h X).1.shape.Idx) : (fat lo h X).2 x = Gf a t ((fat lo h X).1.emb x) := by
  refine (hX x).trans ((hf _ _ (x 1).isLt).trans ?_)
  unfold Gf
  refine congrArg₂ a.fwd ?_ ?_
  · show 512 * t + (x 0).val = 512 * t + (0 + 1 * (x 0).val); omega
  · show lo + (x 1).val = lo + 1 * (x 1).val; omega

theorem fconv (lo : ℕ) (h : lo + 256 ≤ 1024) (n c : ℕ) (hc : c < 256) : a.db n (lo + c) = a.fwd n (lo + c) := by
  unfold Args.fwd; rw [if_pos (by omega)]

theorem fpool (g : ℕ) (n c : ℕ) (hc : c < 256) : a.z g n c * a.ps g c = a.fwd n (1024 + 256 * g + c) := by
  unfold Args.fwd
  rw [if_neg (by omega), show (1024 + 256 * g + c - 1024) / 256 = g by omega, show (1024 + 256 * g + c - 1024) % 256 = c by omega]

/-- The output's stores are blocks of it. -/
theorem fpieces_read (H : Reads l i t a) : View.PiecesOf (Gf a t) (fpieces l i) :=
  ⟨fat_read _ _ (pOut_read H _ _ rfl downs3 _) (fpool 3), fat_read _ _ (pOut_read H _ _ rfl downs2 _) (fpool 2),
   fat_read _ _ (pOut_read H _ _ rfl downs1 _) (fpool 1), fat_read _ _ (pOut_read H _ _ rfl downs0 _) (fpool 0),
   fat_read _ _ (cDb_read H _ _) (fconv 768 (by decide)), fat_read _ _ (cDb_read H _ _) (fconv 512 (by decide)),
   fat_read _ _ (cDb_read H _ _) (fconv 256 (by decide)), fat_read _ _ (cDb_read H _ _) (fconv 0 (by decide)), trivial⟩

/-- The blocks of point `t` are blocks of the call's arguments. -/
structure FBlocks (i : grid0.Coords) (t : ℕ) (a : Args) (x0 : Vec Ideal S512x4096 .bf16) (x1 : Vec Ideal S16x4096 .bf16)
    (x2 : Vec Ideal S3x1024 .f32) (x3 : Vec Ideal S4x256x256 .bf16) (x4 : Vec Ideal S1x1024 .f32) : Prop where
  hi : (i 0).val = t
  ht : t < 8
  hy : a.dy = a.pj
  h0 : ∀ y : S512x4096.Idx, x0 y = a.pj (512 * t + (y 0).val) (y 1).val
  h1 : t ≠ 0 → ∀ y : S16x4096.Idx, x1 y = a.pj (512 * t - 16 + (y 0).val) (y 1).val
  h2 : ∀ y : S3x1024.Idx, x2 y = a.w (y 0).val (y 1).val
  h3 : ∀ y : S4x256x256.Idx, x3 y = a.pw (y 0).val (y 1).val (y 2).val
  h4 : ∀ y : S1x1024.Idx, x4 y = a.ps ((y 1).val / 256) ((y 1).val % 256)
  pz : ∀ n c, 4096 ≤ n → a.pj n c = 0

/-- So its loads are. -/
theorem freads {x0 : Vec Ideal S512x4096 .bf16} {x1 : Vec Ideal S16x4096 .bf16} {x2 : Vec Ideal S3x1024 .f32} {x3 : Vec Ideal S4x256x256 .bf16}
    {x4 : Vec Ideal S1x1024 .f32} (B : FBlocks i t a x0 x1 x2 x3 x4) :
    Reads (floads (fun lo (y : S16x256.Idx) => a.pj (512 * t + 512 + (y 0).val) (lo + (y 1).val)) x0 x1 x2 x3 x4) i t a where
  hi := B.hi
  ht := B.ht
  p lo h y := (B.h0 _).trans (congrArg₂ a.pj
    (show 512 * t + (0 + 1 * (y 0).val) = 512 * t + (y 0).val by omega) (show lo + 1 * (y 1).val = lo + (y 1).val by omega))
  q h0 lo h y := (B.h1 h0 _).trans (congrArg₂ a.pj
    (show 512 * t - 16 + (0 + 1 * (y 0).val) = 512 * t - 16 + (y 0).val by omega) (show lo + 1 * (y 1).val = lo + (y 1).val by omega))
  n _ lo h y := rfl
  y lo h y := by
    rw [B.hy]
    exact (B.h0 _).trans (congrArg₂ a.pj
      (show 512 * t + (0 + 1 * (y 0).val) = 512 * t + (y 0).val by omega) (show lo + 1 * (y 1).val = lo + (y 1).val by omega))
  yn _ lo h y := by rw [B.hy]; rfl
  w r lo hr h y := (B.h2 _).trans (congrArg₂ a.w
    (show r + 1 * (y 0).val = r by have h0 : (y 0).val < 1 := (y 0).isLt; omega) (show lo + 1 * (y 1).val = lo + (y 1).val by omega))
  m g h y := by
    have h0 : (y 0).val < 1 := (y 0).isLt
    refine (B.h3 _).trans ?_
    exact congr (congrArg₂ a.pw (show g + 1 * (y 0).val = g by omega) (show 0 + 1 * (y 1).val = (y 1).val by omega))
      (show 0 + 1 * (y 2).val = (y 2).val by omega)
  s g h y := by
    have h1 : (y 1).val < 256 := (y 1).isLt
    refine (B.h4 _).trans ?_
    exact congrArg₂ a.ps (show (256 * g + 1 * (y 1).val) / 256 = g by omega) (show (256 * g + 1 * (y 1).val) % 256 = (y 1).val by omega)
  pz := B.pz
  yz := by rw [B.hy]; exact B.pz

end Cert.KernelIdeal.Mix

end
-- ==== Proof.MixFwdArr.lean ====
/-
  The mixer's forward call's run: from the launched arguments, what the result array ends holding, element by element, as the
  specification's function of the arguments.
-/
module

public import proofs.«01_k».proof.Proof.MixFwdTile
public import proofs.«01_k».proof.Proof.Gen.MixerFwdIdeal.Value
public import Idealize.ShloMosaic.Lib.Pipeline.Value
public import Idealize.ShloMosaic.Lib.Pipeline.ValueKit.Tiles
public import Idealize.ShloMosaic.Lib.Tactic

@[expose] public section

set_option maxRecDepth 65536

noncomputable section

open Idealize.ShloMosaic Idealize.ShloMosaic.TcCoe Idealize.SL.Sem
open Idealize.ShloMosaic.Pipeline (Dat Cfg Window)
open scoped BigOperators

namespace Cert.MixerFwdIdeal.Mix

open Cert.MixerFwdIdeal Cert.MixerFwdIdeal.Gen Cert.MixerFwdIdeal.Value Cert.Mix

section

variable {F : FTy → Type} [FloatOps F]

attribute [local irreducible] extf truncf mulf addf divf subf broadcastTo concatenate dynamicRotate extractStridedSlice shapeCast constant sitofp broadcast

/-- The body's stores are the pieces of the point. -/
theorem out_eq (nf : ℕ → Vec F S16x256 .bf16) (i : grid0.Coords) (x0 : Vec F S512x4096 .bf16) (x1 : Vec F S16x4096 .bf16) (x2 : Vec F S3x1024 .f32)
    (x3 : Vec F S4x256x256 .bf16) (x4 : Vec F S1x1024 .f32) :
    out0_5 i x0 x1 x2 x3 x4 = View.canon (Cert.KernelIdeal.Mix.fpieces (Cert.KernelIdeal.Mix.floads nf x0 x1 x2 x3 x4) i) := rfl

end

/-- They cover the block. -/
theorem cover (l : Cert.KernelIdeal.Mix.Loads Ideal) (i : grid0.Coords) (y : S512x2048.Idx) : ∃ p ∈ Cert.KernelIdeal.Mix.fpieces l i, y ∈ p.1.set :=
  View.cover_of_tiledL (Cert.KernelIdeal.Mix.fpieces l i) S512x256.size (by sl_kernel_rfl) y

/-- So at a point whose blocks are blocks of the arguments they leave a block of the output. -/
theorem out_read {i : grid0.Coords} {t : ℕ} {a : Args} {x0 : Vec Ideal S512x4096 .bf16} {x1 : Vec Ideal S16x4096 .bf16} {x2 : Vec Ideal S3x1024 .f32}
    {x3 : Vec Ideal S4x256x256 .bf16} {x4 : Vec Ideal S1x1024 .f32} (B : Cert.KernelIdeal.Mix.FBlocks i t a x0 x1 x2 x3 x4) :
    out0_5 i x0 x1 x2 x3 x4 = Cert.KernelIdeal.Mix.Gf a t := by
  rw [out_eq (fun lo (y : S16x256.Idx) => a.pj (512 * t + 512 + (y 0).val) (lo + (y 1).val))]
  funext y
  have h := View.canon_append_of_piecesOf (Cert.KernelIdeal.Mix.Gf a t) [] _ (Cert.KernelIdeal.Mix.fpieces_read (Cert.KernelIdeal.Mix.freads B)) y
    (cover _ i y)
  rwa [List.append_nil] at h

variable (m : (ℓ : Loc nD τ sig) → Buf (Elt Ideal) ℓ) (ρ : Dev nD → PrngReg)

/-- The call's arguments. -/
def args (c : Dev nD) : Args :=
  fwdArgs (m ((c : Thread nD τ).loc main_arg0)) (m ((c : Thread nD τ).loc main_arg1)) (m ((c : Thread nD τ).loc main_arg2))
    (m ((c : Thread nD τ).loc main_arg3))

/-- The scales, as the kernel is given them: one row. -/
theorem V_v1 (c : Dev nD) : V m c main_v1 = shapeCast S1x1024 (m ((c : Thread nD τ).loc main_arg3) : FVec Ideal S1024 .f32) shapeCasts_S1024_S1x1024 := rfl

/-! ## Where each point's blocks lie -/

section

variable (t : Fin cfg0.N)

theorem coord : (grid0.coords t 0).val = t.val := by rcases fin_N0 t with rfl | rfl | rfl | rfl | rfl | rfl | rfl | rfl <;> decide
theorem lt8 : t.val < 8 := lt_of_lt_of_eq t.isLt N_0
theorem ix0 : win0_0.index t 0 = t.val ∧ win0_0.index t 1 = 0 := by rcases fin_N0 t with rfl | rfl | rfl | rfl | rfl | rfl | rfl | rfl <;> decide
theorem ix1 : win0_1.index t 0 = 32 * t.val - 1 ∧ win0_1.index t 1 = 0 := by rcases fin_N0 t with rfl | rfl | rfl | rfl | rfl | rfl | rfl | rfl <;> decide
theorem ix2 : win0_2.index t 0 = 0 ∧ win0_2.index t 1 = 0 := by rcases fin_N0 t with rfl | rfl | rfl | rfl | rfl | rfl | rfl | rfl <;> decide
theorem ix3 : win0_3.index t 0 = 0 ∧ win0_3.index t 1 = 0 ∧ win0_3.index t 2 = 0 := by rcases fin_N0 t with rfl | rfl | rfl | rfl | rfl | rfl | rfl | rfl <;> decide
theorem ix4 : win0_4.index t 0 = 0 ∧ win0_4.index t 1 = 0 := by rcases fin_N0 t with rfl | rfl | rfl | rfl | rfl | rfl | rfl | rfl <;> decide
theorem ix5 : win0_5.index t 0 = t.val ∧ win0_5.index t 1 = 0 := by rcases fin_N0 t with rfl | rfl | rfl | rfl | rfl | rfl | rfl | rfl <;> decide

end

theorem blk0 (c : Dev nD) (t : Fin cfg0.N) (y : S512x4096.Idx) : (iblk m c 0 t : Vec Ideal S512x4096 .bf16) y = (args m c).pj (512 * t.val + (y 0).val) (y 1).val := by
  refine (nat2_idx (n := 4096) (m := 4096) (m ((c : Thread nD τ).loc main_arg0)) _ _ _ ?_ ?_).symm
  · show 512 * t.val + (y 0).val = win0_0.index t 0 * 512 + 1 * (y 0).val; rw [(ix0 t).1]; omega
  · show (y 1).val = win0_0.index t 1 * 4096 + 1 * (y 1).val; rw [(ix0 t).2]; omega

theorem blk1 (c : Dev nD) (t : Fin cfg0.N) (h : t.val ≠ 0) (y : S16x4096.Idx) : (iblk m c 1 t : Vec Ideal S16x4096 .bf16) y = (args m c).pj (512 * t.val - 16 + (y 0).val) (y 1).val := by
  refine (nat2_idx (n := 4096) (m := 4096) (m ((c : Thread nD τ).loc main_arg0)) _ _ _ ?_ ?_).symm
  · show 512 * t.val - 16 + (y 0).val = win0_1.index t 0 * 16 + 1 * (y 0).val; rw [(ix1 t).1]; omega
  · show (y 1).val = win0_1.index t 1 * 4096 + 1 * (y 1).val; rw [(ix1 t).2]; omega

theorem blk2 (c : Dev nD) (t : Fin cfg0.N) (y : S3x1024.Idx) : (iblk m c 2 t : Vec Ideal S3x1024 .f32) y = (args m c).w (y 0).val (y 1).val := by
  refine (nat2_idx (n := 3) (m := 1024) (m ((c : Thread nD τ).loc main_arg1)) _ _ _ ?_ ?_).symm
  · show (y 0).val = win0_2.index t 0 * 3 + 1 * (y 0).val; rw [(ix2 t).1]; omega
  · show (y 1).val = win0_2.index t 1 * 1024 + 1 * (y 1).val; rw [(ix2 t).2]; omega

theorem blk3 (c : Dev nD) (t : Fin cfg0.N) (y : S4x256x256.Idx) : (iblk m c 3 t : Vec Ideal S4x256x256 .bf16) y = (args m c).pw (y 0).val (y 1).val (y 2).val := by
  refine (nat3_idx (l := 4) (n := 256) (m := 256) (m ((c : Thread nD τ).loc main_arg2)) _ _ _ _ ?_ ?_ ?_).symm
  · show (y 0).val = win0_3.index t 0 * 4 + 1 * (y 0).val; rw [(ix3 t).1]; omega
  · show (y 1).val = win0_3.index t 1 * 256 + 1 * (y 1).val; rw [(ix3 t).2.1]; omega
  · show (y 2).val = win0_3.index t 2 * 256 + 1 * (y 2).val; rw [(ix3 t).2.2]; omega

theorem blk4 (c : Dev nD) (t : Fin cfg0.N) (y : S1x1024.Idx) : (iblk m c 4 t : Vec Ideal S1x1024 .f32) y = (args m c).ps ((y 1).val / 256) ((y 1).val % 256) := by
  have h1 : (y 1).val < 1024 := (y 1).isLt
  have h0 : (y 0).val < 1 := (y 0).isLt
  refine Eq.trans (b := V m c main_v1 (ValueIdx.ix2 (0 : Fin 1) ⟨(y 1).val, h1⟩)) ?_ ?_
  · refine congrArg (V m c main_v1) (funext fun a => Fin.ext ?_)
    fin_cases a
    · show win0_4.index t 0 * 1 + 1 * (y 0).val = 0; rw [(ix4 t).1]; omega
    · show win0_4.index t 1 * 1024 + 1 * (y 1).val = (y 1).val; rw [(ix4 t).2]; omega
  · rw [V_v1, shapeCast_apply _ _ _ (ValueIdx.ix1 ⟨(y 1).val, h1⟩) (by
      rw [rowMajor_val1, rowMajor_val2 _ 1024 (by decide)]
      show (y 1).val = 0 * 1024 + (y 1).val
      omega)]
    refine (nat1_idx (n := 1024) (m ((c : Thread nD τ).loc main_arg3)) _ _ ?_).symm
    show 256 * ((y 1).val / 256) + (y 1).val % 256 = (y 1).val
    omega

/-- The blocks of point `t`. -/
theorem blocks (c : Dev nD) (t : Fin cfg0.N) :
    Cert.KernelIdeal.Mix.FBlocks (grid0.coords t) t.val (args m c) (iblk m c 0 t) (iblk m c 1 t) (iblk m c 2 t) (iblk m c 3 t) (iblk m c 4 t) where
  hi := coord t
  ht := lt8 t
  hy := rfl
  h0 := blk0 m c t
  h1 := blk1 m c t
  h2 := blk2 m c t
  h3 := blk3 m c t
  h4 := blk4 m c t
  pz n _ h := nat2_row (n := 4096) (m := 4096) (m ((c : Thread nD τ).loc main_arg0)) n _ h

/-! ## The result array -/

/-- The output, as an array. -/
def res (a : Args) (y : S4096x2048.Idx) : EReal := a.fwd (y 0).val (y 1).val

theorem final (c : Dev nD) : (dats m 0 c).arrAt 5 cfg0.N = res (args m c) := by
  refine (dats m 0 c).arrAt_eq_of_cover 5 (res (args m c)) (fun t _ => ?_) fun i => ?_
  · rw [flushed5, out_read (blocks m c t)]
    funext y
    show (args m c).fwd (512 * t.val + (y 0).val) (y 1).val = (args m c).fwd _ _
    refine congrArg₂ (args m c).fwd ?_ ?_
    · show _ = win0_5.index t 0 * 512 + 1 * (y 0).val; rw [(ix5 t).1]; omega
    · show _ = win0_5.index t 1 * 2048 + 1 * (y 1).val; rw [(ix5 t).2]; omega
  · have h0 : (i 0 : ℕ) < 4096 := (i 0).isLt
    have h1 : (i 1 : ℕ) < 2048 := (i 1).isLt
    have ht : (i 0 : ℕ) / 512 < cfg0.N := by rw [show cfg0.N = 8 from N_0]; omega
    refine ⟨⟨(i 0 : ℕ) / 512, ht⟩, flush0_5 _, ?_⟩
    show i ∈ ((View.whole main_v2).slice (win0_5.rect ⟨(i 0 : ℕ) / 512, ht⟩)).set
    rw [View.set_slice_whole, Rect.mem_set_unit]
    intro a
    fin_cases a
    · show win0_5.index ⟨(i 0 : ℕ) / 512, ht⟩ 0 * 512 ≤ (i 0 : ℕ) ∧ (i 0 : ℕ) < win0_5.index ⟨(i 0 : ℕ) / 512, ht⟩ 0 * 512 + 512
      rw [(ix5 _).1]; dsimp only; omega
    · show win0_5.index ⟨(i 0 : ℕ) / 512, ht⟩ 1 * 2048 ≤ (i 1 : ℕ) ∧ (i 1 : ℕ) < win0_5.index ⟨(i 0 : ℕ) / 512, ht⟩ 1 * 2048 + 2048
      rw [(ix5 _).2]; omega

/-- The kernel's run leaves the output in its result array and its arguments as they were. -/
theorem run : θ_run defs (onTc (τ := τ) (main (F := Ideal))) ⟨m, fun _ => 0, ρ⟩ fun r => ∀ c : Dev nD,
      r.2.mem ((c : Thread nD τ).loc main_v2) = res (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.MixerFwdIdeal.Mix

end
-- ==== Proof.MixFwdRef.lean ====
/-
  The forward reference's stages read at an index. Up to the pools' products they are the stages the backward reference begins
  with, under other names; the rest scales the products and joins the two halves.
-/
module

public import proofs.«01_k».proof.Proof.MixFwdTile
public import proofs.«01_k».proof.Proof.MixRefPool
public import proofs.«01_k».proof.Proof.MixPre
public import proofs.«01_k».proof.Pre_values_finite
public import proofs.«01_k».proof.Proof.Gen.MixerFwdRefIdeal.Read

@[expose] public section

set_option maxRecDepth 65536

noncomputable section

open Idealize.ShloMosaic Idealize.ShloMosaic.ValueIdx
open scoped BigOperators

namespace Cert.Mix

/-- Columns joined beside columns. -/
theorem join_cols {w m n C : ℕ} (hw : w + m = C) (z : (⟨3, ![1, n, w]⟩ : Shape).Idx → EReal) (x : (⟨3, ![1, n, m]⟩ : Shape).Idx → EReal)
    (h : Shape.Concatenates [(⟨3, ![1, n, w]⟩ : Shape), ⟨3, ![1, n, m]⟩] ⟨3, ![1, n, C]⟩ 2) (f g : ℕ → ℕ → EReal)
    (hz : ∀ i, z i = f (i 1).val (i 2).val) (hx : ∀ i, x i = g (i 1).val (i 2).val) (i : (⟨3, ![1, n, C]⟩ : Shape).Idx) :
    concatenate (⟨3, ![1, n, C]⟩ : Shape) 2 [⟨(⟨3, ![1, n, w]⟩ : Shape), z⟩, ⟨(⟨3, ![1, n, m]⟩ : Shape), x⟩] h i
      = if (i 2).val < w then f (i 1).val (i 2).val else g (i 1).val ((i 2).val - w) := by
  have h2 : (i 2).val < C := (i 2).isLt
  by_cases hlt : (i 2).val < w
  · rw [if_pos hlt]
    exact (concatenate_pair_apply_left 2 z x h i rfl (ValueIdx.ix3 (i 0) (i 1) ⟨(i 2).val, hlt⟩) (fun b => by
      match b with
      | ⟨0, _⟩ => rfl
      | ⟨1, _⟩ => rfl
      | ⟨2, _⟩ => rfl)).trans (hz _)
  · rw [if_neg hlt]
    exact (concatenate_pair_apply_right 2 z x h i rfl rfl (ValueIdx.ix3 (i 0) (i 1) ⟨(i 2).val - w, by omega⟩) (fun b hb => by
      match b, hb with
      | ⟨0, _⟩, _ => rfl
      | ⟨1, _⟩, _ => rfl
      | ⟨2, _⟩, hb => exact absurd rfl hb) (by show (i 2).val - w + w = (i 2).val; omega)).trans (hx _)

end Cert.Mix

namespace Cert.MixerFwdRefIdeal.Mix

open Cert.MixerFwdRefIdeal Cert.MixerFwdRefIdeal.Gen Cert.MixerFwdRefIdeal.Read Cert.Mix

variable (x0 : (⟨S4096x4096, .bf16⟩ : BufTy).Contents (Elt Ideal)) (x1 : (⟨S3x1024, .f32⟩ : BufTy).Contents (Elt Ideal))
  (x2 : (⟨S4x256x256, .f32⟩ : BufTy).Contents (Elt Ideal)) (x3 : (⟨S1024, .f32⟩ : BufTy).Contents (Elt Ideal))

/-! ## The stages that are the backward reference's -/

theorem e2 : val_main_v2 (F := Ideal) x0 = Cert.ReferenceIdeal.Read.val_main_v4 (F := Ideal) x0 := rfl
theorem e28 : val_main_v28 (F := Ideal) x0 x1 = Cert.ReferenceIdeal.Read.val_main_v31 (F := Ideal) x0 x1 := rfl
theorem e101 : val_main_v101 (F := Ideal) x0 = Cert.ReferenceIdeal.Read.val_main_v108 (F := Ideal) x0 := rfl

/-- The arguments, with zeros in the place of those the first stages do not read. -/
abbrev Z : Args := argsOf x0 (fun _ => (0 : EReal)) x1 (fun _ => (0 : EReal)) (fun _ => (0 : EReal))

/-- The arguments. -/
abbrev A : Args := fwdArgs x0 x1 x2 x3

/-- The first half: `b` times the convolution. -/
theorem f29 (i) : val_main_v29 (F := Ideal) x0 x1 i = (A x0 x1 x2 x3).db (i 1).val (i 2).val := by
  rw [val_main_v29_apply, e2, e28]
  exact congrArg₂ (· * ·) (Cert.ReferenceIdeal.Mix.r4 x0 (fun _ => (0 : EReal)) x1 (fun _ => (0 : EReal)) (fun _ => (0 : EReal)) i)
    (Cert.ReferenceIdeal.Mix.r31 x0 (fun _ => (0 : EReal)) x1 (fun _ => (0 : EReal)) (fun _ => (0 : EReal)) i)

/-- The products with the matrices. -/
theorem f103 (h : (Z x0 x1).Numeric) (i) : val_main_v103 (F := Ideal) x0 x2 i = (A x0 x1 x2 x3).z (i 2).val (i 1).val (i 3).val := by
  rw [val_main_v103_apply, val_main_v102_apply]
  refine Finset.sum_congr rfl fun k _ => ?_
  rw [e101]
  refine (mul_comm _ _).trans (congrArg₂ (· * ·)
    (Cert.ReferenceIdeal.Mix.r108 x0 (fun _ => (0 : EReal)) x1 (fun _ => (0 : EReal)) (fun _ => (0 : EReal)) h _)
    (nat3_idx x2 _ _ _ _ rfl rfl rfl).symm)

/-- The products, the groups' columns side by side. -/
theorem f104 (h : (Z x0 x1).Numeric) (i) : val_main_v104 (F := Ideal) x0 x2 i = (A x0 x1 x2 x3).z ((i 2).val / 256) (i 1).val ((i 2).val % 256) := by
  rw [val_main_v104_apply, f103 x0 x1 x2 x3 h]
  have h0 : (i 0).val < 1 := (i 0).isLt
  have h1 : (i 1).val < 4096 := (i 1).isLt
  have h2 : (i 2).val < 1024 := (i 2).isLt
  refine congr (congr (congrArg (A x0 x1 x2 x3).z ?_) ?_) ?_
  · show (((i 0).val * 4096 + (i 1).val) * 1024 + (i 2).val) / 256 % 4 = (i 2).val / 256
    omega
  · show (((i 0).val * 4096 + (i 1).val) * 1024 + (i 2).val) / 1024 % 4096 = (i 1).val
    omega
  · show (((i 0).val * 4096 + (i 1).val) * 1024 + (i 2).val) % 256 = (i 2).val % 256
    omega

/-- The second half: the scaled products. -/
theorem f107 (h : (Z x0 x1).Numeric) (i) : val_main_v107 (F := Ideal) x0 x2 x3 i
    = (A x0 x1 x2 x3).z ((i 2).val / 256) (i 1).val ((i 2).val % 256) * (A x0 x1 x2 x3).ps ((i 2).val / 256) ((i 2).val % 256) := by
  rw [val_main_v107_apply, f104 x0 x1 x2 x3 h, val_main_v106_apply, val_main_v105_apply]
  refine congrArg (fun s : EReal => (A x0 x1 x2 x3).z ((i 2).val / 256) (i 1).val ((i 2).val % 256) * s) ((nat1_idx x3 _ _ ?_).symm)
  show 256 * ((i 2).val / 256) + (i 2).val % 256 = (i 2).val
  omega

/-- The result: the mixer's output. -/
theorem f110 (h : (Z x0 x1).Numeric) (i) : val_main_v110 (F := Ideal) x0 x1 x2 x3 i = (A x0 x1 x2 x3).fwd (i 0).val (i 1).val := by
  have h0 : (i 0).val < 4096 := (i 0).isLt
  have h1 : (i 1).val < 2048 := (i 1).isLt
  rw [val_main_v110_apply, val_main_v109_apply]
  unfold val_main_v108
  refine (join_cols (by decide) _ _ _ (A x0 x1 x2 x3).db
    (fun n c => (A x0 x1 x2 x3).z (c / 256) n (c % 256) * (A x0 x1 x2 x3).ps (c / 256) (c % 256))
    (f29 x0 x1 x2 x3) (f107 x0 x1 x2 x3 h) (idx_main_v109 i)).trans ?_
  have e1 : ((idx_main_v109 i) 1).val = (i 0).val := by
    show ((i 0).val * 2048 + (i 1).val) / 2048 % 4096 = (i 0).val
    omega
  have e2 : ((idx_main_v109 i) 2).val = (i 1).val := by
    show ((i 0).val * 2048 + (i 1).val) % 2048 = (i 1).val
    omega
  rw [e1, e2]
  rfl

/-! ## The precondition -/

/-- The side conditions of the precondition's operations: each is decided. -/
theorem preFacts : Cert.Pre_values_finite.Facts where
  slices_S4096x4096_S4096x1024_0_3072 := by decide
  bitsLt_bf16_f32 := by decide
  bcast_S_S4096x1024 := by decide

/-- Under the precondition the values the pools read are numbers. -/
theorem numeric_of_pre [hF : Cert.Pre_values_finite.Facts] (h : Cert.Pre_values_finite.fn (F := Ideal) x0 x1 x2 x3 = fun _ => 1#1) : (Z x0 x1).Numeric where
  pj n c hc := by
    show IsNum (nat2 (n := 4096) (m := 4096) x0 n c)
    unfold nat2
    split
    · next hb =>
      have := isNum_of_test _ (congrFun h (ValueIdx.ix2 ⟨n, hb.1⟩ ⟨c - 3072, by omega⟩))
      refine (congrArg IsNum ?_).mp this
      refine congrArg x0 ?_
      funext a
      fin_cases a
      · exact Fin.ext (by show 0 + n = n; exact Nat.zero_add n)
      · exact Fin.ext (by show 3072 + (c - 3072) = c; exact Nat.add_sub_of_le hc)
    · exact IsNum.zero
  dy n c _ := by
    show IsNum (nat2 (n := 4096) (m := 2048) (fun _ => (0 : EReal)) n c)
    unfold nat2
    split <;> exact IsNum.zero
  pw g c k := by
    show IsNum (nat3 (l := 4) (n := 256) (m := 256) (fun _ => (0 : EReal)) g c k)
    unfold nat3
    split <;> exact IsNum.zero
  ps g k := by
    show IsNum (nat1 (n := 1024) (fun _ => (0 : EReal)) (256 * g + k))
    unfold nat1
    split <;> exact IsNum.zero

end Cert.MixerFwdRefIdeal.Mix

end
-- ==== Proof.MixFwdClaim.lean ====
/-
  The mixer's forward call: its frames, and that its kernel computes the reference's output.
-/
module

public import proofs.«01_k».proof.Defs
public import proofs.«01_k».proof.Proof.Gen.MixerFwd.Frame
public import proofs.«01_k».proof.Proof.Gen.MixerFwdIdeal.Frame
public import proofs.«01_k».proof.Proof.MixFwdArr
public import proofs.«01_k».proof.Proof.MixFwdRef

@[expose] public section

noncomputable section

open Idealize.ShloMosaic Idealize.ShloMosaic.TcCoe Idealize.SL.Sem

namespace Cert.MixFwd

open Cert.Mix (Args fwdArgs)
open Cert.MixerFwdRefIdeal.Mix (preFacts)

/-- The kernel, at machine words, runs and leaves its arguments alone. -/
theorem frame_P : @Cert.quiescent_MixerFwd Cert.MixerFwd.Gen.facts := fun m g _ => Cert.MixerFwd.Gen.frame m g

/-- The kernel, at extended reals, runs and leaves its arguments alone. -/
theorem frame_PI : @Cert.quiescent_MixerFwdIdeal Cert.MixerFwdIdeal.Gen.facts := fun m g _ => Cert.MixerFwdIdeal.Gen.frame m g

/-- The same of the launches that meet the precondition. -/
theorem frame_PI_pre : @Cert.quiescent_MixerFwdIdeal_pre_values_finite Cert.MixerFwdIdeal.Gen.facts preFacts :=
  fun m g _ => Cert.MixerFwdIdeal.Gen.frame m g

/-- The reference runs and leaves its arguments alone. -/
theorem frame_RI : @Cert.quiescent_MixerFwdRefIdeal Cert.MixerFwdRefIdeal.Gen.facts := fun m g _ =>
  (θ_run Cert.MixerFwdRefIdeal.defs _ _).mono (fun r h => ⟨fun c => (h c).2, sem_eq_zero_of_no_sems (by decide) r.2⟩)
    (Cert.MixerFwdRefIdeal.Value.run (F := Ideal) m g)

/-- The same of the launches that meet the precondition. -/
theorem frame_RI_pre : @Cert.quiescent_MixerFwdRefIdeal_pre_values_finite Cert.MixerFwdRefIdeal.Gen.facts preFacts :=
  fun m g _ => frame_RI m g trivial

section

open Cert.MixerFwdRefIdeal Cert.MixerFwdRefIdeal.Mix Cert.MixerFwdRefIdeal.Read Idealize.ShloMosaic.StableHlo

variable (m' : (ℓ : Loc nD τ sig) → Buf (Elt Ideal) ℓ) (g' : Dev nD → PrngReg)

/-- The reference's arguments. -/
def refArgs (c : Dev nD) : Args :=
  fwdArgs (m' ((c : Thread nD τ).loc main_arg0)) (m' ((c : Thread nD τ).loc main_arg1)) (m' ((c : Thread nD τ).loc main_arg2))
    (m' ((c : Thread nD τ).loc main_arg3))

/-- The reference's run, from a projection whose pools' part is numbers, leaves the same function of its arguments. -/
theorem ref_run (hn : ∀ c : Dev nD, (Z (m' ((c : Thread nD τ).loc main_arg0)) (m' ((c : Thread nD τ).loc main_arg1))).Numeric) :
    θ_run (defs (F := Ideal)) (onTc (τ := τ) (main (F := Ideal))) ⟨m', fun _ => 0, g'⟩ fun r => ∀ c : Dev nD,
      r.2.mem ((c : Thread nD τ).loc main_v110) = Cert.MixerFwdIdeal.Mix.res (refArgs m' c)
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3) :=
  (θ_run defs _ _).mono (fun _ h c =>
    ⟨((h c).1.trans (val_main_v110_eq m' c)).trans (funext fun i => f110 _ _ _ _ (hn c) i), (h c).2⟩)
    (Cert.MixerFwdRefIdeal.Value.run (F := Ideal) m' g')

end

/-- From the same arguments, the values the pools read numbers, the kernel and the reference leave the same output. -/
theorem algebraic : @Cert.algebraic_MixerFwdIdeal_MixerFwdRefIdeal_pre_values_finite Cert.MixerFwdIdeal.Gen.facts Cert.MixerFwdRefIdeal.Gen.facts preFacts := by
  intro m g m' g' hpre hag
  have he : ∀ c, refArgs m' c = Cert.MixerFwdIdeal.Mix.args m c := fun c => by
    unfold refArgs Cert.MixerFwdIdeal.Mix.args
    rw [(hag c).1, (hag c).2.1, (hag c).2.2.1, (hag c).2.2.2]
  have hr := ref_run m' g' fun c => by
    rw [(hag c).1, (hag c).2.1]
    exact Cert.MixerFwdRefIdeal.Mix.numeric_of_pre (hF := preFacts) _ _ _ _ (hpre c)
  simp only [he] at hr
  exact ⟨fun c => Cert.MixerFwdIdeal.Mix.res (Cert.MixerFwdIdeal.Mix.args m c), Cert.MixerFwdIdeal.Mix.run m g, hr⟩

end Cert.MixFwd

end
-- ==== Proof.lean ====
/-
  The certificate: the frames of the kernels and of the references, and the equality of their results.
-/
module

public import proofs.«01_k».proof.Defs
public import proofs.«01_k».proof.Proof.MixClaim
public import proofs.«01_k».proof.Proof.MmDownDxClaim
public import proofs.«01_k».proof.Proof.MmUpDxClaim
public import proofs.«01_k».proof.Proof.MmOutDxClaim
public import proofs.«01_k».proof.Proof.MmInDxClaim
public import proofs.«01_k».proof.Proof.MmDownDwClaim
public import proofs.«01_k».proof.Proof.MmUpDwClaim
public import proofs.«01_k».proof.Proof.MmOutDwClaim
public import proofs.«01_k».proof.Proof.MmInDwClaim
public import proofs.«01_k».proof.Proof.MmInFwdClaim
public import proofs.«01_k».proof.Proof.MmOutFwdClaim
public import proofs.«01_k».proof.Proof.MmUpFwdClaim
public import proofs.«01_k».proof.Proof.MmDownFwdClaim
public import proofs.«01_k».proof.Proof.NrmNormBwdClaim
public import proofs.«01_k».proof.Proof.NrmNormBwdXClaim
public import proofs.«01_k».proof.Proof.NrmNormClaim
public import proofs.«01_k».proof.Proof.NrmLossClaim
public import proofs.«01_k».proof.Proof.MixFwdClaim

@[expose] public section

noncomputable section

namespace Cert.Proof

/-- Everything certified, put together. -/
theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.UpDx.Gen.facts, Cert.UpDxIdeal.Gen.facts, Cert.UpDxRefIdeal.Gen.facts,
    Cert.OutDx.Gen.facts, Cert.OutDxIdeal.Gen.facts, Cert.OutDxRefIdeal.Gen.facts,
    Cert.InDx.Gen.facts, Cert.InDxIdeal.Gen.facts, Cert.InDxRefIdeal.Gen.facts,
    Cert.DownDw.Gen.facts, Cert.DownDwIdeal.Gen.facts, Cert.DownDwRefIdeal.Gen.facts,
    Cert.UpDw.Gen.facts, Cert.UpDwIdeal.Gen.facts, Cert.UpDwRefIdeal.Gen.facts,
    Cert.OutDw.Gen.facts, Cert.OutDwIdeal.Gen.facts, Cert.OutDwRefIdeal.Gen.facts,
    Cert.InDw.Gen.facts, Cert.InDwIdeal.Gen.facts, Cert.InDwRefIdeal.Gen.facts,
    Cert.InFwd.Gen.facts, Cert.InFwdIdeal.Gen.facts, Cert.InFwdRefIdeal.Gen.facts,
    Cert.OutFwd.Gen.facts, Cert.OutFwdIdeal.Gen.facts, Cert.OutFwdRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.NormBwd.Gen.facts, Cert.NormBwdIdeal.Gen.facts, Cert.NormBwdRefIdeal.Gen.facts,
    Cert.NormBwdX.Gen.facts, Cert.NormBwdXIdeal.Gen.facts, Cert.NormBwdXRefIdeal.Gen.facts,
    Cert.Norm.Gen.facts, Cert.NormIdeal.Gen.facts, Cert.NormRefIdeal.Gen.facts,
    Cert.Loss.Gen.facts, Cert.LossIdeal.Gen.facts, Cert.LossRefIdeal.Gen.facts,
    Cert.MixerFwd.Gen.facts, Cert.MixerFwdIdeal.Gen.facts, Cert.MixerFwdRefIdeal.Gen.facts,
    Cert.Mix.preFacts, Cert.MixerFwdRefIdeal.Mix.preFacts,
    Cert.Mix.frame_P, Cert.Mix.frame_PI, Cert.Mix.frame_PI_pre, Cert.Mix.frame_RI, Cert.Mix.frame_RI_pre,
    Cert.Mm.DownDx.frame_P, Cert.Mm.DownDx.frame_PI, Cert.Mm.DownDx.frame_RI,
    Cert.Mm.UpDx.frame_P, Cert.Mm.UpDx.frame_PI, Cert.Mm.UpDx.frame_RI,
    Cert.Mm.OutDx.frame_P, Cert.Mm.OutDx.frame_PI, Cert.Mm.OutDx.frame_RI,
    Cert.Mm.InDx.frame_P, Cert.Mm.InDx.frame_PI, Cert.Mm.InDx.frame_RI,
    Cert.Mm.DownDw.frame_P, Cert.Mm.DownDw.frame_PI, Cert.Mm.DownDw.frame_RI,
    Cert.Mm.UpDw.frame_P, Cert.Mm.UpDw.frame_PI, Cert.Mm.UpDw.frame_RI,
    Cert.Mm.OutDw.frame_P, Cert.Mm.OutDw.frame_PI, Cert.Mm.OutDw.frame_RI,
    Cert.Mm.InDw.frame_P, Cert.Mm.InDw.frame_PI, Cert.Mm.InDw.frame_RI,
    Cert.Mm.InFwd.frame_P, Cert.Mm.InFwd.frame_PI, Cert.Mm.InFwd.frame_RI,
    Cert.Mm.OutFwd.frame_P, Cert.Mm.OutFwd.frame_PI, Cert.Mm.OutFwd.frame_RI,
    Cert.Mm.UpFwd.frame_P, Cert.Mm.UpFwd.frame_PI, Cert.Mm.UpFwd.frame_RI,
    Cert.Mm.DownFwd.frame_P, Cert.Mm.DownFwd.frame_PI, Cert.Mm.DownFwd.frame_RI,
    Cert.Nrm.NormBwd.frame_P, Cert.Nrm.NormBwd.frame_PI, Cert.Nrm.NormBwd.frame_RI,
    Cert.Nrm.NormBwdX.frame_P, Cert.Nrm.NormBwdX.frame_PI, Cert.Nrm.NormBwdX.frame_RI,
    Cert.Nrm.Norm.frame_P, Cert.Nrm.Norm.frame_PI, Cert.Nrm.Norm.frame_RI,
    Cert.Nrm.Loss.frame_P, Cert.Nrm.Loss.frame_PI, Cert.Nrm.Loss.frame_RI,
    Cert.MixFwd.frame_P, Cert.MixFwd.frame_PI, Cert.MixFwd.frame_PI_pre, Cert.MixFwd.frame_RI, Cert.MixFwd.frame_RI_pre,
    trivial, Cert.Mix.algebraic,
    trivial, Cert.Mm.DownDx.algebraic,
    trivial, Cert.Mm.UpDx.algebraic,
    trivial, Cert.Mm.OutDx.algebraic,
    trivial, Cert.Mm.InDx.algebraic,
    trivial, Cert.Mm.DownDw.algebraic,
    trivial, Cert.Mm.UpDw.algebraic,
    trivial, Cert.Mm.OutDw.algebraic,
    trivial, Cert.Mm.InDw.algebraic,
    trivial, Cert.Mm.InFwd.algebraic,
    trivial, Cert.Mm.OutFwd.algebraic,
    trivial, Cert.Mm.UpFwd.algebraic,
    trivial, Cert.Mm.DownFwd.algebraic,
    trivial, Cert.Nrm.NormBwd.algebraic,
    trivial, Cert.Nrm.NormBwdX.algebraic,
    trivial, Cert.Nrm.Norm.algebraic,
    trivial, Cert.Nrm.Loss.algebraic,
    trivial, Cert.MixFwd.algebraic⟩

end Cert.Proof

end
